-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelRefIdeal (m : (ℓ : Loc Cert.KernelRefIdeal.nD Cert.KernelRefIdeal.τ Cert.KernelRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_KvP (m : (ℓ : Loc Cert.KvP.nD Cert.KvP.τ Cert.KvP.sig) → Buf (Elt Bits) ℓ) : Prop :=
  True

def Pre_KvPIdeal (m : (ℓ : Loc Cert.KvPIdeal.nD Cert.KvPIdeal.τ Cert.KvPIdeal.sig) → Buf (Elt Ideal) ℓ) : Prop :=
  True

def Pre_KvPRefIdeal (m : (ℓ : Loc Cert.KvPRefIdeal.nD Cert.KvPRefIdeal.τ Cert.KvPRefIdeal.sig) → Buf (Elt Ideal) ℓ) : Prop :=
  True

def Pre_CmpP (m : (ℓ : Loc Cert.CmpP.nD Cert.CmpP.τ Cert.CmpP.sig) → Buf (Elt Bits) ℓ) : Prop :=
  True

def Pre_CmpPIdeal (m : (ℓ : Loc Cert.CmpPIdeal.nD Cert.CmpPIdeal.τ Cert.CmpPIdeal.sig) → Buf (Elt Ideal) ℓ) : Prop :=
  True

def Pre_CmpPIdeal_finite_rows [hPre_finite_rows : Cert.Pre_finite_rows.Facts] (m : (ℓ : Loc Cert.CmpPIdeal.nD Cert.CmpPIdeal.τ Cert.CmpPIdeal.sig) → Buf (Elt Ideal) ℓ) : Prop :=
  ∀ c : Dev Cert.CmpPIdeal.nD,
    (Cert.Pre_finite_rows.fn (F := Ideal) (m ((c.tc : Thread Cert.CmpPIdeal.nD Cert.CmpPIdeal.τ).loc Cert.CmpPIdeal.main_arg0)) (m ((c.tc : Thread Cert.CmpPIdeal.nD Cert.CmpPIdeal.τ).loc Cert.CmpPIdeal.main_arg1)) (m ((c.tc : Thread Cert.CmpPIdeal.nD Cert.CmpPIdeal.τ).loc Cert.CmpPIdeal.main_arg2)) (m ((c.tc : Thread Cert.CmpPIdeal.nD Cert.CmpPIdeal.τ).loc Cert.CmpPIdeal.main_arg3)) (m ((c.tc : Thread Cert.CmpPIdeal.nD Cert.CmpPIdeal.τ).loc Cert.CmpPIdeal.main_arg4)) (m ((c.tc : Thread Cert.CmpPIdeal.nD Cert.CmpPIdeal.τ).loc Cert.CmpPIdeal.main_arg5))) = (fun _ => 1#1)

def Pre_CmpPRefIdeal (m : (ℓ : Loc Cert.CmpPRefIdeal.nD Cert.CmpPRefIdeal.τ Cert.CmpPRefIdeal.sig) → Buf (Elt Ideal) ℓ) : Prop :=
  True

def Pre_CmpPRefIdeal_finite_rows [hPre_finite_rows : Cert.Pre_finite_rows.Facts] (m : (ℓ : Loc Cert.CmpPRefIdeal.nD Cert.CmpPRefIdeal.τ Cert.CmpPRefIdeal.sig) → Buf (Elt Ideal) ℓ) : Prop :=
  ∀ c : Dev Cert.CmpPRefIdeal.nD,
    (Cert.Pre_finite_rows.fn (F := Ideal) (m ((c.tc : Thread Cert.CmpPRefIdeal.nD Cert.CmpPRefIdeal.τ).loc Cert.CmpPRefIdeal.main_arg0)) (m ((c.tc : Thread Cert.CmpPRefIdeal.nD Cert.CmpPRefIdeal.τ).loc Cert.CmpPRefIdeal.main_arg1)) (m ((c.tc : Thread Cert.CmpPRefIdeal.nD Cert.CmpPRefIdeal.τ).loc Cert.CmpPRefIdeal.main_arg2)) (m ((c.tc : Thread Cert.CmpPRefIdeal.nD Cert.CmpPRefIdeal.τ).loc Cert.CmpPRefIdeal.main_arg3)) (m ((c.tc : Thread Cert.CmpPRefIdeal.nD Cert.CmpPRefIdeal.τ).loc Cert.CmpPRefIdeal.main_arg4)) (m ((c.tc : Thread Cert.CmpPRefIdeal.nD Cert.CmpPRefIdeal.τ).loc Cert.CmpPRefIdeal.main_arg5))) = (fun _ => 1#1)

def Pre_MergeP (m : (ℓ : Loc Cert.MergeP.nD Cert.MergeP.τ Cert.MergeP.sig) → Buf (Elt Bits) ℓ) : Prop :=
  True

def Pre_MergePIdeal (m : (ℓ : Loc Cert.MergePIdeal.nD Cert.MergePIdeal.τ Cert.MergePIdeal.sig) → Buf (Elt Ideal) ℓ) : Prop :=
  True

def Pre_MergePRefIdeal (m : (ℓ : Loc Cert.MergePRefIdeal.nD Cert.MergePRefIdeal.τ Cert.MergePRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_FfnP (m : (ℓ : Loc Cert.FfnP.nD Cert.FfnP.τ Cert.FfnP.sig) → Buf (Elt Bits) ℓ) : Prop :=
  True

def Pre_FfnPIdeal (m : (ℓ : Loc Cert.FfnPIdeal.nD Cert.FfnPIdeal.τ Cert.FfnPIdeal.sig) → Buf (Elt Ideal) ℓ) : Prop :=
  True

def Pre_FfnPRefIdeal (m : (ℓ : Loc Cert.FfnPRefIdeal.nD Cert.FfnPRefIdeal.τ Cert.FfnPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2)
      ∧ r.2.mem ((c.tc : Thread Cert.KernelRefIdeal.nD Cert.KernelRefIdeal.τ).loc Cert.KernelRefIdeal.main_arg3) = m ((c.tc : Thread Cert.KernelRefIdeal.nD Cert.KernelRefIdeal.τ).loc Cert.KernelRefIdeal.main_arg3)
      ∧ r.2.mem ((c.tc : Thread Cert.KernelRefIdeal.nD Cert.KernelRefIdeal.τ).loc Cert.KernelRefIdeal.main_arg4) = m ((c.tc : Thread Cert.KernelRefIdeal.nD Cert.KernelRefIdeal.τ).loc Cert.KernelRefIdeal.main_arg4)
      ∧ r.2.mem ((c.tc : Thread Cert.KernelRefIdeal.nD Cert.KernelRefIdeal.τ).loc Cert.KernelRefIdeal.main_arg5) = m ((c.tc : Thread Cert.KernelRefIdeal.nD Cert.KernelRefIdeal.τ).loc Cert.KernelRefIdeal.main_arg5))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3)
      ∧ r.2.mem ((c.tc : Thread Cert.InS.nD Cert.InS.τ).loc Cert.InS.main_arg4) = m ((c.tc : Thread Cert.InS.nD Cert.InS.τ).loc Cert.InS.main_arg4)
      ∧ r.2.mem ((c.tc : Thread Cert.InS.nD Cert.InS.τ).loc Cert.InS.main_arg5) = m ((c.tc : Thread Cert.InS.nD Cert.InS.τ).loc Cert.InS.main_arg5)
      ∧ r.2.mem ((c.tc : Thread Cert.InS.nD Cert.InS.τ).loc Cert.InS.main_arg6) = m ((c.tc : Thread Cert.InS.nD Cert.InS.τ).loc Cert.InS.main_arg6))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
      ∧ r.2.mem ((c.tc : Thread Cert.InSIdeal.nD Cert.InSIdeal.τ).loc Cert.InSIdeal.main_arg4) = m ((c.tc : Thread Cert.InSIdeal.nD Cert.InSIdeal.τ).loc Cert.InSIdeal.main_arg4)
      ∧ r.2.mem ((c.tc : Thread Cert.InSIdeal.nD Cert.InSIdeal.τ).loc Cert.InSIdeal.main_arg5) = m ((c.tc : Thread Cert.InSIdeal.nD Cert.InSIdeal.τ).loc Cert.InSIdeal.main_arg5)
      ∧ r.2.mem ((c.tc : Thread Cert.InSIdeal.nD Cert.InSIdeal.τ).loc Cert.InSIdeal.main_arg6) = m ((c.tc : Thread Cert.InSIdeal.nD Cert.InSIdeal.τ).loc Cert.InSIdeal.main_arg6))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3)
      ∧ r.2.mem ((c.tc : Thread Cert.InSRefIdeal.nD Cert.InSRefIdeal.τ).loc Cert.InSRefIdeal.main_arg4) = m ((c.tc : Thread Cert.InSRefIdeal.nD Cert.InSRefIdeal.τ).loc Cert.InSRefIdeal.main_arg4)
      ∧ r.2.mem ((c.tc : Thread Cert.InSRefIdeal.nD Cert.InSRefIdeal.τ).loc Cert.InSRefIdeal.main_arg5) = m ((c.tc : Thread Cert.InSRefIdeal.nD Cert.InSRefIdeal.τ).loc Cert.InSRefIdeal.main_arg5)
      ∧ r.2.mem ((c.tc : Thread Cert.InSRefIdeal.nD Cert.InSRefIdeal.τ).loc Cert.InSRefIdeal.main_arg6) = m ((c.tc : Thread Cert.InSRefIdeal.nD Cert.InSRefIdeal.τ).loc Cert.InSRefIdeal.main_arg6))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6))
      ∧ r.2.sem = fun _ => 0)

def quiescent_KvP [hKvP : Cert.KvP.Facts] : Prop :=
  ∀ (m : (ℓ : Loc Cert.KvP.nD Cert.KvP.τ Cert.KvP.sig) → Buf (Elt Bits) ℓ) (g : Dev Cert.KvP.nD → PrngReg), Pre_KvP m →
    θ_run (Cert.KvP.defs (F := Bits)) (onTc (τ := Cert.KvP.τ) (Cert.KvP.main (F := Bits))) ⟨m, fun _ => 0, g⟩ (fun r => (∀ c : Dev Cert.KvP.nD,
      r.2.mem ((c.tc : Thread Cert.KvP.nD Cert.KvP.τ).loc Cert.KvP.main_arg0) = m ((c.tc : Thread Cert.KvP.nD Cert.KvP.τ).loc Cert.KvP.main_arg0)
      ∧ r.2.mem ((c.tc : Thread Cert.KvP.nD Cert.KvP.τ).loc Cert.KvP.main_arg1) = m ((c.tc : Thread Cert.KvP.nD Cert.KvP.τ).loc Cert.KvP.main_arg1)
      ∧ r.2.mem ((c.tc : Thread Cert.KvP.nD Cert.KvP.τ).loc Cert.KvP.main_arg2) = m ((c.tc : Thread Cert.KvP.nD Cert.KvP.τ).loc Cert.KvP.main_arg2))
      ∧ r.2.sem = fun _ => 0)

def quiescent_KvPIdeal [hKvPIdeal : Cert.KvPIdeal.Facts] : Prop :=
  ∀ (m : (ℓ : Loc Cert.KvPIdeal.nD Cert.KvPIdeal.τ Cert.KvPIdeal.sig) → Buf (Elt Ideal) ℓ) (g : Dev Cert.KvPIdeal.nD → PrngReg), Pre_KvPIdeal m →
    θ_run (Cert.KvPIdeal.defs (F := Ideal)) (onTc (τ := Cert.KvPIdeal.τ) (Cert.KvPIdeal.main (F := Ideal))) ⟨m, fun _ => 0, g⟩ (fun r => (∀ c : Dev Cert.KvPIdeal.nD,
      r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
      ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
      ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2))
      ∧ r.2.sem = fun _ => 0)

def quiescent_KvPRefIdeal [hKvPRefIdeal : Cert.KvPRefIdeal.Facts] : Prop :=
  ∀ (m : (ℓ : Loc Cert.KvPRefIdeal.nD Cert.KvPRefIdeal.τ Cert.KvPRefIdeal.sig) → Buf (Elt Ideal) ℓ) (g : Dev Cert.KvPRefIdeal.nD → PrngReg), Pre_KvPRefIdeal m →
    θ_run (Cert.KvPRefIdeal.defs (F := Ideal)) (onTc (τ := Cert.KvPRefIdeal.τ) (Cert.KvPRefIdeal.main (F := Ideal))) ⟨m, fun _ => 0, g⟩ (fun r => (∀ c : Dev Cert.KvPRefIdeal.nD,
      r.2.mem ((c.tc : Thread Cert.KvPRefIdeal.nD Cert.KvPRefIdeal.τ).loc Cert.KvPRefIdeal.main_arg0) = m ((c.tc : Thread Cert.KvPRefIdeal.nD Cert.KvPRefIdeal.τ).loc Cert.KvPRefIdeal.main_arg0)
      ∧ r.2.mem ((c.tc : Thread Cert.KvPRefIdeal.nD Cert.KvPRefIdeal.τ).loc Cert.KvPRefIdeal.main_arg1) = m ((c.tc : Thread Cert.KvPRefIdeal.nD Cert.KvPRefIdeal.τ).loc Cert.KvPRefIdeal.main_arg1)
      ∧ r.2.mem ((c.tc : Thread Cert.KvPRefIdeal.nD Cert.KvPRefIdeal.τ).loc Cert.KvPRefIdeal.main_arg2) = m ((c.tc : Thread Cert.KvPRefIdeal.nD Cert.KvPRefIdeal.τ).loc Cert.KvPRefIdeal.main_arg2))
      ∧ r.2.sem = fun _ => 0)

def quiescent_CmpP [hCmpP : Cert.CmpP.Facts] : Prop :=
  ∀ (m : (ℓ : Loc Cert.CmpP.nD Cert.CmpP.τ Cert.CmpP.sig) → Buf (Elt Bits) ℓ) (g : Dev Cert.CmpP.nD → PrngReg), Pre_CmpP m →
    θ_run (Cert.CmpP.defs (F := Bits)) (onTc (τ := Cert.CmpP.τ) (Cert.CmpP.main (F := Bits))) ⟨m, fun _ => 0, g⟩ (fun r => (∀ c : Dev Cert.CmpP.nD,
      r.2.mem ((c.tc : Thread Cert.CmpP.nD Cert.CmpP.τ).loc Cert.CmpP.main_arg0) = m ((c.tc : Thread Cert.CmpP.nD Cert.CmpP.τ).loc Cert.CmpP.main_arg0)
      ∧ r.2.mem ((c.tc : Thread Cert.CmpP.nD Cert.CmpP.τ).loc Cert.CmpP.main_arg1) = m ((c.tc : Thread Cert.CmpP.nD Cert.CmpP.τ).loc Cert.CmpP.main_arg1)
      ∧ r.2.mem ((c.tc : Thread Cert.CmpP.nD Cert.CmpP.τ).loc Cert.CmpP.main_arg2) = m ((c.tc : Thread Cert.CmpP.nD Cert.CmpP.τ).loc Cert.CmpP.main_arg2)
      ∧ r.2.mem ((c.tc : Thread Cert.CmpP.nD Cert.CmpP.τ).loc Cert.CmpP.main_arg3) = m ((c.tc : Thread Cert.CmpP.nD Cert.CmpP.τ).loc Cert.CmpP.main_arg3)
      ∧ r.2.mem ((c.tc : Thread Cert.CmpP.nD Cert.CmpP.τ).loc Cert.CmpP.main_arg4) = m ((c.tc : Thread Cert.CmpP.nD Cert.CmpP.τ).loc Cert.CmpP.main_arg4)
      ∧ r.2.mem ((c.tc : Thread Cert.CmpP.nD Cert.CmpP.τ).loc Cert.CmpP.main_arg5) = m ((c.tc : Thread Cert.CmpP.nD Cert.CmpP.τ).loc Cert.CmpP.main_arg5))
      ∧ r.2.sem = fun _ => 0)

def quiescent_CmpPIdeal [hCmpPIdeal : Cert.CmpPIdeal.Facts] : Prop :=
  ∀ (m : (ℓ : Loc Cert.CmpPIdeal.nD Cert.CmpPIdeal.τ Cert.CmpPIdeal.sig) → Buf (Elt Ideal) ℓ) (g : Dev Cert.CmpPIdeal.nD → PrngReg), Pre_CmpPIdeal m →
    θ_run (Cert.CmpPIdeal.defs (F := Ideal)) (onTc (τ := Cert.CmpPIdeal.τ) (Cert.CmpPIdeal.main (F := Ideal))) ⟨m, fun _ => 0, g⟩ (fun r => (∀ c : Dev Cert.CmpPIdeal.nD,
      r.2.mem ((c.tc : Thread Cert.CmpPIdeal.nD Cert.CmpPIdeal.τ).loc Cert.CmpPIdeal.main_arg0) = m ((c.tc : Thread Cert.CmpPIdeal.nD Cert.CmpPIdeal.τ).loc Cert.CmpPIdeal.main_arg0)
      ∧ r.2.mem ((c.tc : Thread Cert.CmpPIdeal.nD Cert.CmpPIdeal.τ).loc Cert.CmpPIdeal.main_arg1) = m ((c.tc : Thread Cert.CmpPIdeal.nD Cert.CmpPIdeal.τ).loc Cert.CmpPIdeal.main_arg1)
      ∧ r.2.mem ((c.tc : Thread Cert.CmpPIdeal.nD Cert.CmpPIdeal.τ).loc Cert.CmpPIdeal.main_arg2) = m ((c.tc : Thread Cert.CmpPIdeal.nD Cert.CmpPIdeal.τ).loc Cert.CmpPIdeal.main_arg2)
      ∧ r.2.mem ((c.tc : Thread Cert.CmpPIdeal.nD Cert.CmpPIdeal.τ).loc Cert.CmpPIdeal.main_arg3) = m ((c.tc : Thread Cert.CmpPIdeal.nD Cert.CmpPIdeal.τ).loc Cert.CmpPIdeal.main_arg3)
      ∧ r.2.mem ((c.tc : Thread Cert.CmpPIdeal.nD Cert.CmpPIdeal.τ).loc Cert.CmpPIdeal.main_arg4) = m ((c.tc : Thread Cert.CmpPIdeal.nD Cert.CmpPIdeal.τ).loc Cert.CmpPIdeal.main_arg4)
      ∧ r.2.mem ((c.tc : Thread Cert.CmpPIdeal.nD Cert.CmpPIdeal.τ).loc Cert.CmpPIdeal.main_arg5) = m ((c.tc : Thread Cert.CmpPIdeal.nD Cert.CmpPIdeal.τ).loc Cert.CmpPIdeal.main_arg5))
      ∧ r.2.sem = fun _ => 0)

def quiescent_CmpPIdeal_pre_finite_rows [hCmpPIdeal : Cert.CmpPIdeal.Facts] [hPre_finite_rows : Cert.Pre_finite_rows.Facts] : Prop :=
  ∀ (m : (ℓ : Loc Cert.CmpPIdeal.nD Cert.CmpPIdeal.τ Cert.CmpPIdeal.sig) → Buf (Elt Ideal) ℓ) (g : Dev Cert.CmpPIdeal.nD → PrngReg), Pre_CmpPIdeal_finite_rows m →
    θ_run (Cert.CmpPIdeal.defs (F := Ideal)) (onTc (τ := Cert.CmpPIdeal.τ) (Cert.CmpPIdeal.main (F := Ideal))) ⟨m, fun _ => 0, g⟩ (fun r => (∀ c : Dev Cert.CmpPIdeal.nD,
      r.2.mem ((c.tc : Thread Cert.CmpPIdeal.nD Cert.CmpPIdeal.τ).loc Cert.CmpPIdeal.main_arg0) = m ((c.tc : Thread Cert.CmpPIdeal.nD Cert.CmpPIdeal.τ).loc Cert.CmpPIdeal.main_arg0)
      ∧ r.2.mem ((c.tc : Thread Cert.CmpPIdeal.nD Cert.CmpPIdeal.τ).loc Cert.CmpPIdeal.main_arg1) = m ((c.tc : Thread Cert.CmpPIdeal.nD Cert.CmpPIdeal.τ).loc Cert.CmpPIdeal.main_arg1)
      ∧ r.2.mem ((c.tc : Thread Cert.CmpPIdeal.nD Cert.CmpPIdeal.τ).loc Cert.CmpPIdeal.main_arg2) = m ((c.tc : Thread Cert.CmpPIdeal.nD Cert.CmpPIdeal.τ).loc Cert.CmpPIdeal.main_arg2)
      ∧ r.2.mem ((c.tc : Thread Cert.CmpPIdeal.nD Cert.CmpPIdeal.τ).loc Cert.CmpPIdeal.main_arg3) = m ((c.tc : Thread Cert.CmpPIdeal.nD Cert.CmpPIdeal.τ).loc Cert.CmpPIdeal.main_arg3)
      ∧ r.2.mem ((c.tc : Thread Cert.CmpPIdeal.nD Cert.CmpPIdeal.τ).loc Cert.CmpPIdeal.main_arg4) = m ((c.tc : Thread Cert.CmpPIdeal.nD Cert.CmpPIdeal.τ).loc Cert.CmpPIdeal.main_arg4)
      ∧ r.2.mem ((c.tc : Thread Cert.CmpPIdeal.nD Cert.CmpPIdeal.τ).loc Cert.CmpPIdeal.main_arg5) = m ((c.tc : Thread Cert.CmpPIdeal.nD Cert.CmpPIdeal.τ).loc Cert.CmpPIdeal.main_arg5))
      ∧ r.2.sem = fun _ => 0)

def quiescent_CmpPRefIdeal [hCmpPRefIdeal : Cert.CmpPRefIdeal.Facts] : Prop :=
  ∀ (m : (ℓ : Loc Cert.CmpPRefIdeal.nD Cert.CmpPRefIdeal.τ Cert.CmpPRefIdeal.sig) → Buf (Elt Ideal) ℓ) (g : Dev Cert.CmpPRefIdeal.nD → PrngReg), Pre_CmpPRefIdeal m →
    θ_run (Cert.CmpPRefIdeal.defs (F := Ideal)) (onTc (τ := Cert.CmpPRefIdeal.τ) (Cert.CmpPRefIdeal.main (F := Ideal))) ⟨m, fun _ => 0, g⟩ (fun r => (∀ c : Dev Cert.CmpPRefIdeal.nD,
      r.2.mem ((c.tc : Thread Cert.CmpPRefIdeal.nD Cert.CmpPRefIdeal.τ).loc Cert.CmpPRefIdeal.main_arg0) = m ((c.tc : Thread Cert.CmpPRefIdeal.nD Cert.CmpPRefIdeal.τ).loc Cert.CmpPRefIdeal.main_arg0)
      ∧ r.2.mem ((c.tc : Thread Cert.CmpPRefIdeal.nD Cert.CmpPRefIdeal.τ).loc Cert.CmpPRefIdeal.main_arg1) = m ((c.tc : Thread Cert.CmpPRefIdeal.nD Cert.CmpPRefIdeal.τ).loc Cert.CmpPRefIdeal.main_arg1)
      ∧ r.2.mem ((c.tc : Thread Cert.CmpPRefIdeal.nD Cert.CmpPRefIdeal.τ).loc Cert.CmpPRefIdeal.main_arg2) = m ((c.tc : Thread Cert.CmpPRefIdeal.nD Cert.CmpPRefIdeal.τ).loc Cert.CmpPRefIdeal.main_arg2)
      ∧ r.2.mem ((c.tc : Thread Cert.CmpPRefIdeal.nD Cert.CmpPRefIdeal.τ).loc Cert.CmpPRefIdeal.main_arg3) = m ((c.tc : Thread Cert.CmpPRefIdeal.nD Cert.CmpPRefIdeal.τ).loc Cert.CmpPRefIdeal.main_arg3)
      ∧ r.2.mem ((c.tc : Thread Cert.CmpPRefIdeal.nD Cert.CmpPRefIdeal.τ).loc Cert.CmpPRefIdeal.main_arg4) = m ((c.tc : Thread Cert.CmpPRefIdeal.nD Cert.CmpPRefIdeal.τ).loc Cert.CmpPRefIdeal.main_arg4)
      ∧ r.2.mem ((c.tc : Thread Cert.CmpPRefIdeal.nD Cert.CmpPRefIdeal.τ).loc Cert.CmpPRefIdeal.main_arg5) = m ((c.tc : Thread Cert.CmpPRefIdeal.nD Cert.CmpPRefIdeal.τ).loc Cert.CmpPRefIdeal.main_arg5))
      ∧ r.2.sem = fun _ => 0)

def quiescent_CmpPRefIdeal_pre_finite_rows [hCmpPRefIdeal : Cert.CmpPRefIdeal.Facts] [hPre_finite_rows : Cert.Pre_finite_rows.Facts] : Prop :=
  ∀ (m : (ℓ : Loc Cert.CmpPRefIdeal.nD Cert.CmpPRefIdeal.τ Cert.CmpPRefIdeal.sig) → Buf (Elt Ideal) ℓ) (g : Dev Cert.CmpPRefIdeal.nD → PrngReg), Pre_CmpPRefIdeal_finite_rows m →
    θ_run (Cert.CmpPRefIdeal.defs (F := Ideal)) (onTc (τ := Cert.CmpPRefIdeal.τ) (Cert.CmpPRefIdeal.main (F := Ideal))) ⟨m, fun _ => 0, g⟩ (fun r => (∀ c : Dev Cert.CmpPRefIdeal.nD,
      r.2.mem ((c.tc : Thread Cert.CmpPRefIdeal.nD Cert.CmpPRefIdeal.τ).loc Cert.CmpPRefIdeal.main_arg0) = m ((c.tc : Thread Cert.CmpPRefIdeal.nD Cert.CmpPRefIdeal.τ).loc Cert.CmpPRefIdeal.main_arg0)
      ∧ r.2.mem ((c.tc : Thread Cert.CmpPRefIdeal.nD Cert.CmpPRefIdeal.τ).loc Cert.CmpPRefIdeal.main_arg1) = m ((c.tc : Thread Cert.CmpPRefIdeal.nD Cert.CmpPRefIdeal.τ).loc Cert.CmpPRefIdeal.main_arg1)
      ∧ r.2.mem ((c.tc : Thread Cert.CmpPRefIdeal.nD Cert.CmpPRefIdeal.τ).loc Cert.CmpPRefIdeal.main_arg2) = m ((c.tc : Thread Cert.CmpPRefIdeal.nD Cert.CmpPRefIdeal.τ).loc Cert.CmpPRefIdeal.main_arg2)
      ∧ r.2.mem ((c.tc : Thread Cert.CmpPRefIdeal.nD Cert.CmpPRefIdeal.τ).loc Cert.CmpPRefIdeal.main_arg3) = m ((c.tc : Thread Cert.CmpPRefIdeal.nD Cert.CmpPRefIdeal.τ).loc Cert.CmpPRefIdeal.main_arg3)
      ∧ r.2.mem ((c.tc : Thread Cert.CmpPRefIdeal.nD Cert.CmpPRefIdeal.τ).loc Cert.CmpPRefIdeal.main_arg4) = m ((c.tc : Thread Cert.CmpPRefIdeal.nD Cert.CmpPRefIdeal.τ).loc Cert.CmpPRefIdeal.main_arg4)
      ∧ r.2.mem ((c.tc : Thread Cert.CmpPRefIdeal.nD Cert.CmpPRefIdeal.τ).loc Cert.CmpPRefIdeal.main_arg5) = m ((c.tc : Thread Cert.CmpPRefIdeal.nD Cert.CmpPRefIdeal.τ).loc Cert.CmpPRefIdeal.main_arg5))
      ∧ r.2.sem = fun _ => 0)

def quiescent_MergeP [hMergeP : Cert.MergeP.Facts] : Prop :=
  ∀ (m : (ℓ : Loc Cert.MergeP.nD Cert.MergeP.τ Cert.MergeP.sig) → Buf (Elt Bits) ℓ) (g : Dev Cert.MergeP.nD → PrngReg), Pre_MergeP m →
    θ_run (Cert.MergeP.defs (F := Bits)) (onTc (τ := Cert.MergeP.τ) (Cert.MergeP.main (F := Bits))) ⟨m, fun _ => 0, g⟩ (fun r => (∀ c : Dev Cert.MergeP.nD,
      r.2.mem ((c.tc : Thread Cert.MergeP.nD Cert.MergeP.τ).loc Cert.MergeP.main_arg0) = m ((c.tc : Thread Cert.MergeP.nD Cert.MergeP.τ).loc Cert.MergeP.main_arg0)
      ∧ r.2.mem ((c.tc : Thread Cert.MergeP.nD Cert.MergeP.τ).loc Cert.MergeP.main_arg1) = m ((c.tc : Thread Cert.MergeP.nD Cert.MergeP.τ).loc Cert.MergeP.main_arg1)
      ∧ r.2.mem ((c.tc : Thread Cert.MergeP.nD Cert.MergeP.τ).loc Cert.MergeP.main_arg2) = m ((c.tc : Thread Cert.MergeP.nD Cert.MergeP.τ).loc Cert.MergeP.main_arg2)
      ∧ r.2.mem ((c.tc : Thread Cert.MergeP.nD Cert.MergeP.τ).loc Cert.MergeP.main_arg3) = m ((c.tc : Thread Cert.MergeP.nD Cert.MergeP.τ).loc Cert.MergeP.main_arg3)
      ∧ r.2.mem ((c.tc : Thread Cert.MergeP.nD Cert.MergeP.τ).loc Cert.MergeP.main_arg4) = m ((c.tc : Thread Cert.MergeP.nD Cert.MergeP.τ).loc Cert.MergeP.main_arg4)
      ∧ r.2.mem ((c.tc : Thread Cert.MergeP.nD Cert.MergeP.τ).loc Cert.MergeP.main_arg5) = m ((c.tc : Thread Cert.MergeP.nD Cert.MergeP.τ).loc Cert.MergeP.main_arg5)
      ∧ r.2.mem ((c.tc : Thread Cert.MergeP.nD Cert.MergeP.τ).loc Cert.MergeP.main_arg6) = m ((c.tc : Thread Cert.MergeP.nD Cert.MergeP.τ).loc Cert.MergeP.main_arg6))
      ∧ r.2.sem = fun _ => 0)

def quiescent_MergePIdeal [hMergePIdeal : Cert.MergePIdeal.Facts] : Prop :=
  ∀ (m : (ℓ : Loc Cert.MergePIdeal.nD Cert.MergePIdeal.τ Cert.MergePIdeal.sig) → Buf (Elt Ideal) ℓ) (g : Dev Cert.MergePIdeal.nD → PrngReg), Pre_MergePIdeal m →
    θ_run (Cert.MergePIdeal.defs (F := Ideal)) (onTc (τ := Cert.MergePIdeal.τ) (Cert.MergePIdeal.main (F := Ideal))) ⟨m, fun _ => 0, g⟩ (fun r => (∀ c : Dev Cert.MergePIdeal.nD,
      r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
      ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
      ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
      ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
      ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
      ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
      ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6))
      ∧ r.2.sem = fun _ => 0)

def quiescent_MergePRefIdeal [hMergePRefIdeal : Cert.MergePRefIdeal.Facts] : Prop :=
  ∀ (m : (ℓ : Loc Cert.MergePRefIdeal.nD Cert.MergePRefIdeal.τ Cert.MergePRefIdeal.sig) → Buf (Elt Ideal) ℓ) (g : Dev Cert.MergePRefIdeal.nD → PrngReg), Pre_MergePRefIdeal m →
    θ_run (Cert.MergePRefIdeal.defs (F := Ideal)) (onTc (τ := Cert.MergePRefIdeal.τ) (Cert.MergePRefIdeal.main (F := Ideal))) ⟨m, fun _ => 0, g⟩ (fun r => (∀ c : Dev Cert.MergePRefIdeal.nD,
      r.2.mem ((c.tc : Thread Cert.MergePRefIdeal.nD Cert.MergePRefIdeal.τ).loc Cert.MergePRefIdeal.main_arg0) = m ((c.tc : Thread Cert.MergePRefIdeal.nD Cert.MergePRefIdeal.τ).loc Cert.MergePRefIdeal.main_arg0)
      ∧ r.2.mem ((c.tc : Thread Cert.MergePRefIdeal.nD Cert.MergePRefIdeal.τ).loc Cert.MergePRefIdeal.main_arg1) = m ((c.tc : Thread Cert.MergePRefIdeal.nD Cert.MergePRefIdeal.τ).loc Cert.MergePRefIdeal.main_arg1)
      ∧ r.2.mem ((c.tc : Thread Cert.MergePRefIdeal.nD Cert.MergePRefIdeal.τ).loc Cert.MergePRefIdeal.main_arg2) = m ((c.tc : Thread Cert.MergePRefIdeal.nD Cert.MergePRefIdeal.τ).loc Cert.MergePRefIdeal.main_arg2)
      ∧ r.2.mem ((c.tc : Thread Cert.MergePRefIdeal.nD Cert.MergePRefIdeal.τ).loc Cert.MergePRefIdeal.main_arg3) = m ((c.tc : Thread Cert.MergePRefIdeal.nD Cert.MergePRefIdeal.τ).loc Cert.MergePRefIdeal.main_arg3)
      ∧ r.2.mem ((c.tc : Thread Cert.MergePRefIdeal.nD Cert.MergePRefIdeal.τ).loc Cert.MergePRefIdeal.main_arg4) = m ((c.tc : Thread Cert.MergePRefIdeal.nD Cert.MergePRefIdeal.τ).loc Cert.MergePRefIdeal.main_arg4)
      ∧ r.2.mem ((c.tc : Thread Cert.MergePRefIdeal.nD Cert.MergePRefIdeal.τ).loc Cert.MergePRefIdeal.main_arg5) = m ((c.tc : Thread Cert.MergePRefIdeal.nD Cert.MergePRefIdeal.τ).loc Cert.MergePRefIdeal.main_arg5)
      ∧ r.2.mem ((c.tc : Thread Cert.MergePRefIdeal.nD Cert.MergePRefIdeal.τ).loc Cert.MergePRefIdeal.main_arg6) = m ((c.tc : Thread Cert.MergePRefIdeal.nD Cert.MergePRefIdeal.τ).loc Cert.MergePRefIdeal.main_arg6))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1)
      ∧ r.2.mem ((c.tc : Thread Cert.OutP.nD Cert.OutP.τ).loc Cert.OutP.main_arg2) = m ((c.tc : Thread Cert.OutP.nD Cert.OutP.τ).loc Cert.OutP.main_arg2)
      ∧ r.2.mem ((c.tc : Thread Cert.OutP.nD Cert.OutP.τ).loc Cert.OutP.main_arg3) = m ((c.tc : Thread Cert.OutP.nD Cert.OutP.τ).loc Cert.OutP.main_arg3))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
      ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
      ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1)
      ∧ r.2.mem ((c.tc : Thread Cert.OutPRefIdeal.nD Cert.OutPRefIdeal.τ).loc Cert.OutPRefIdeal.main_arg2) = m ((c.tc : Thread Cert.OutPRefIdeal.nD Cert.OutPRefIdeal.τ).loc Cert.OutPRefIdeal.main_arg2)
      ∧ r.2.mem ((c.tc : Thread Cert.OutPRefIdeal.nD Cert.OutPRefIdeal.τ).loc Cert.OutPRefIdeal.main_arg3) = m ((c.tc : Thread Cert.OutPRefIdeal.nD Cert.OutPRefIdeal.τ).loc Cert.OutPRefIdeal.main_arg3))
      ∧ r.2.sem = fun _ => 0)

def quiescent_FfnP [hFfnP : Cert.FfnP.Facts] : Prop :=
  ∀ (m : (ℓ : Loc Cert.FfnP.nD Cert.FfnP.τ Cert.FfnP.sig) → Buf (Elt Bits) ℓ) (g : Dev Cert.FfnP.nD → PrngReg), Pre_FfnP m →
    θ_run (Cert.FfnP.defs (F := Bits)) (onTc (τ := Cert.FfnP.τ) (Cert.FfnP.main (F := Bits))) ⟨m, fun _ => 0, g⟩ (fun r => (∀ c : Dev Cert.FfnP.nD,
      r.2.mem ((c.tc : Thread Cert.FfnP.nD Cert.FfnP.τ).loc Cert.FfnP.main_arg0) = m ((c.tc : Thread Cert.FfnP.nD Cert.FfnP.τ).loc Cert.FfnP.main_arg0)
      ∧ r.2.mem ((c.tc : Thread Cert.FfnP.nD Cert.FfnP.τ).loc Cert.FfnP.main_arg1) = m ((c.tc : Thread Cert.FfnP.nD Cert.FfnP.τ).loc Cert.FfnP.main_arg1)
      ∧ r.2.mem ((c.tc : Thread Cert.FfnP.nD Cert.FfnP.τ).loc Cert.FfnP.main_arg2) = m ((c.tc : Thread Cert.FfnP.nD Cert.FfnP.τ).loc Cert.FfnP.main_arg2)
      ∧ r.2.mem ((c.tc : Thread Cert.FfnP.nD Cert.FfnP.τ).loc Cert.FfnP.main_arg3) = m ((c.tc : Thread Cert.FfnP.nD Cert.FfnP.τ).loc Cert.FfnP.main_arg3))
      ∧ r.2.sem = fun _ => 0)

def quiescent_FfnPIdeal [hFfnPIdeal : Cert.FfnPIdeal.Facts] : Prop :=
  ∀ (m : (ℓ : Loc Cert.FfnPIdeal.nD Cert.FfnPIdeal.τ Cert.FfnPIdeal.sig) → Buf (Elt Ideal) ℓ) (g : Dev Cert.FfnPIdeal.nD → PrngReg), Pre_FfnPIdeal m →
    θ_run (Cert.FfnPIdeal.defs (F := Ideal)) (onTc (τ := Cert.FfnPIdeal.τ) (Cert.FfnPIdeal.main (F := Ideal))) ⟨m, fun _ => 0, g⟩ (fun r => (∀ c : Dev Cert.FfnPIdeal.nD,
      r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
      ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
      ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
      ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3))
      ∧ r.2.sem = fun _ => 0)

def quiescent_FfnPRefIdeal [hFfnPRefIdeal : Cert.FfnPRefIdeal.Facts] : Prop :=
  ∀ (m : (ℓ : Loc Cert.FfnPRefIdeal.nD Cert.FfnPRefIdeal.τ Cert.FfnPRefIdeal.sig) → Buf (Elt Ideal) ℓ) (g : Dev Cert.FfnPRefIdeal.nD → PrngReg), Pre_FfnPRefIdeal m →
    θ_run (Cert.FfnPRefIdeal.defs (F := Ideal)) (onTc (τ := Cert.FfnPRefIdeal.τ) (Cert.FfnPRefIdeal.main (F := Ideal))) ⟨m, fun _ => 0, g⟩ (fun r => (∀ c : Dev Cert.FfnPRefIdeal.nD,
      r.2.mem ((c.tc : Thread Cert.FfnPRefIdeal.nD Cert.FfnPRefIdeal.τ).loc Cert.FfnPRefIdeal.main_arg0) = m ((c.tc : Thread Cert.FfnPRefIdeal.nD Cert.FfnPRefIdeal.τ).loc Cert.FfnPRefIdeal.main_arg0)
      ∧ r.2.mem ((c.tc : Thread Cert.FfnPRefIdeal.nD Cert.FfnPRefIdeal.τ).loc Cert.FfnPRefIdeal.main_arg1) = m ((c.tc : Thread Cert.FfnPRefIdeal.nD Cert.FfnPRefIdeal.τ).loc Cert.FfnPRefIdeal.main_arg1)
      ∧ r.2.mem ((c.tc : Thread Cert.FfnPRefIdeal.nD Cert.FfnPRefIdeal.τ).loc Cert.FfnPRefIdeal.main_arg2) = m ((c.tc : Thread Cert.FfnPRefIdeal.nD Cert.FfnPRefIdeal.τ).loc Cert.FfnPRefIdeal.main_arg2)
      ∧ r.2.mem ((c.tc : Thread Cert.FfnPRefIdeal.nD Cert.FfnPRefIdeal.τ).loc Cert.FfnPRefIdeal.main_arg3) = m ((c.tc : Thread Cert.FfnPRefIdeal.nD Cert.FfnPRefIdeal.τ).loc Cert.FfnPRefIdeal.main_arg3))
      ∧ r.2.sem = fun _ => 0)

def preserves_Kernel_KernelIdeal : Prop :=
  True

def algebraic_KernelIdeal_KernelRefIdeal [hKernelIdeal : Cert.KernelIdeal.Facts] [hKernelRefIdeal : Cert.KernelRefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)
      ∧ m' ((c.tc : Thread Cert.KernelRefIdeal.nD Cert.KernelRefIdeal.τ).loc Cert.KernelRefIdeal.main_arg2) = m ((c.tc : Thread Cert.KernelIdeal.nD Cert.KernelIdeal.τ).loc Cert.KernelIdeal.main_arg2)
      ∧ m' ((c.tc : Thread Cert.KernelRefIdeal.nD Cert.KernelRefIdeal.τ).loc Cert.KernelRefIdeal.main_arg3) = m ((c.tc : Thread Cert.KernelIdeal.nD Cert.KernelIdeal.τ).loc Cert.KernelIdeal.main_arg3)
      ∧ m' ((c.tc : Thread Cert.KernelRefIdeal.nD Cert.KernelRefIdeal.τ).loc Cert.KernelRefIdeal.main_arg4) = m ((c.tc : Thread Cert.KernelIdeal.nD Cert.KernelIdeal.τ).loc Cert.KernelIdeal.main_arg4)
      ∧ m' ((c.tc : Thread Cert.KernelRefIdeal.nD Cert.KernelRefIdeal.τ).loc Cert.KernelRefIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v29) = v0 c
          ∧ r.2.mem ((c.tc : Thread Cert.KernelRefIdeal.nD Cert.KernelRefIdeal.τ).loc Cert.KernelRefIdeal.main_v30) = v1 c
          ∧ r.2.mem ((c.tc : Thread Cert.KernelRefIdeal.nD Cert.KernelRefIdeal.τ).loc Cert.KernelRefIdeal.main_v31) = v2 c
          ∧ r.2.mem ((c.tc : Thread Cert.KernelRefIdeal.nD Cert.KernelRefIdeal.τ).loc Cert.KernelRefIdeal.main_v32) = v3 c
          ∧ r.2.mem ((c.tc : Thread Cert.KernelRefIdeal.nD Cert.KernelRefIdeal.τ).loc Cert.KernelRefIdeal.main_v33) = v4 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1)
          ∧ r.2.mem ((c.tc : Thread Cert.KernelRefIdeal.nD Cert.KernelRefIdeal.τ).loc Cert.KernelRefIdeal.main_arg2) = m' ((c.tc : Thread Cert.KernelRefIdeal.nD Cert.KernelRefIdeal.τ).loc Cert.KernelRefIdeal.main_arg2)
          ∧ r.2.mem ((c.tc : Thread Cert.KernelRefIdeal.nD Cert.KernelRefIdeal.τ).loc Cert.KernelRefIdeal.main_arg3) = m' ((c.tc : Thread Cert.KernelRefIdeal.nD Cert.KernelRefIdeal.τ).loc Cert.KernelRefIdeal.main_arg3)
          ∧ r.2.mem ((c.tc : Thread Cert.KernelRefIdeal.nD Cert.KernelRefIdeal.τ).loc Cert.KernelRefIdeal.main_arg4) = m' ((c.tc : Thread Cert.KernelRefIdeal.nD Cert.KernelRefIdeal.τ).loc Cert.KernelRefIdeal.main_arg4)
          ∧ r.2.mem ((c.tc : Thread Cert.KernelRefIdeal.nD Cert.KernelRefIdeal.τ).loc Cert.KernelRefIdeal.main_arg5) = m' ((c.tc : Thread Cert.KernelRefIdeal.nD Cert.KernelRefIdeal.τ).loc Cert.KernelRefIdeal.main_arg5))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)) →
    ∃ (v0 : (c : Dev Cert.OutSIdeal.nD) → Buf (Elt Ideal) ((c.tc : Thread Cert.OutSIdeal.nD Cert.OutSIdeal.τ).loc Cert.OutSIdeal.main_v4_0)) (v1 : (c : Dev Cert.OutSIdeal.nD) → Buf (Elt Ideal) ((c.tc : Thread Cert.OutSIdeal.nD Cert.OutSIdeal.τ).loc Cert.OutSIdeal.main_v4_1)) (v2 : (c : Dev Cert.OutSIdeal.nD) → Buf (Elt Ideal) ((c.tc : Thread Cert.OutSIdeal.nD Cert.OutSIdeal.τ).loc Cert.OutSIdeal.main_v4_2)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v4_0) = v0 c
          ∧ r.2.mem ((c.tc : Thread Cert.OutSIdeal.nD Cert.OutSIdeal.τ).loc Cert.OutSIdeal.main_v4_1) = v1 c
          ∧ r.2.mem ((c.tc : Thread Cert.OutSIdeal.nD Cert.OutSIdeal.τ).loc Cert.OutSIdeal.main_v4_2) = v2 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v4) = v0 c
          ∧ r.2.mem ((c.tc : Thread Cert.OutSRefIdeal.nD Cert.OutSRefIdeal.τ).loc Cert.OutSRefIdeal.main_v19) = v1 c
          ∧ r.2.mem ((c.tc : Thread Cert.OutSRefIdeal.nD Cert.OutSRefIdeal.τ).loc Cert.OutSRefIdeal.main_v21) = v2 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)) →
    ∃ (v0 : (c : Dev Cert.FfnSIdeal.nD) → Buf (Elt Ideal) ((c.tc : Thread Cert.FfnSIdeal.nD Cert.FfnSIdeal.τ).loc Cert.FfnSIdeal.main_v2_0)) (v1 : (c : Dev Cert.FfnSIdeal.nD) → Buf (Elt Ideal) ((c.tc : Thread Cert.FfnSIdeal.nD Cert.FfnSIdeal.τ).loc Cert.FfnSIdeal.main_v2_1)) (v2 : (c : Dev Cert.FfnSIdeal.nD) → Buf (Elt Ideal) ((c.tc : Thread Cert.FfnSIdeal.nD Cert.FfnSIdeal.τ).loc Cert.FfnSIdeal.main_v2_2)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v2_0) = v0 c
          ∧ r.2.mem ((c.tc : Thread Cert.FfnSIdeal.nD Cert.FfnSIdeal.τ).loc Cert.FfnSIdeal.main_v2_1) = v1 c
          ∧ r.2.mem ((c.tc : Thread Cert.FfnSIdeal.nD Cert.FfnSIdeal.τ).loc Cert.FfnSIdeal.main_v2_2) = v2 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v7) = v0 c
          ∧ r.2.mem ((c.tc : Thread Cert.FfnSRefIdeal.nD Cert.FfnSRefIdeal.τ).loc Cert.FfnSRefIdeal.main_v8) = v1 c
          ∧ r.2.mem ((c.tc : Thread Cert.FfnSRefIdeal.nD Cert.FfnSRefIdeal.τ).loc Cert.FfnSRefIdeal.main_v9) = v2 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)
      ∧ m' ((c.tc : Thread Cert.InSRefIdeal.nD Cert.InSRefIdeal.τ).loc Cert.InSRefIdeal.main_arg4) = m ((c.tc : Thread Cert.InSIdeal.nD Cert.InSIdeal.τ).loc Cert.InSIdeal.main_arg4)
      ∧ m' ((c.tc : Thread Cert.InSRefIdeal.nD Cert.InSRefIdeal.τ).loc Cert.InSRefIdeal.main_arg5) = m ((c.tc : Thread Cert.InSIdeal.nD Cert.InSIdeal.τ).loc Cert.InSIdeal.main_arg5)
      ∧ m' ((c.tc : Thread Cert.InSRefIdeal.nD Cert.InSRefIdeal.τ).loc Cert.InSRefIdeal.main_arg6) = m ((c.tc : Thread Cert.InSIdeal.nD Cert.InSIdeal.τ).loc Cert.InSIdeal.main_arg6)) →
    ∃ (v0 : (c : Dev Cert.InSIdeal.nD) → Buf (Elt Ideal) ((c.tc : Thread Cert.InSIdeal.nD Cert.InSIdeal.τ).loc Cert.InSIdeal.main_v21_0)) (v1 : (c : Dev Cert.InSIdeal.nD) → Buf (Elt Ideal) ((c.tc : Thread Cert.InSIdeal.nD Cert.InSIdeal.τ).loc Cert.InSIdeal.main_v21_1)) (v2 : (c : Dev Cert.InSIdeal.nD) → Buf (Elt Ideal) ((c.tc : Thread Cert.InSIdeal.nD Cert.InSIdeal.τ).loc Cert.InSIdeal.main_v21_2)) (v3 : (c : Dev Cert.InSIdeal.nD) → Buf (Elt Ideal) ((c.tc : Thread Cert.InSIdeal.nD Cert.InSIdeal.τ).loc Cert.InSIdeal.main_v21_3)) (v4 : (c : Dev Cert.InSIdeal.nD) → Buf (Elt Ideal) ((c.tc : Thread Cert.InSIdeal.nD Cert.InSIdeal.τ).loc Cert.InSIdeal.main_v21_4)) (v5 : (c : Dev Cert.InSIdeal.nD) → Buf (Elt Ideal) ((c.tc : Thread Cert.InSIdeal.nD Cert.InSIdeal.τ).loc Cert.InSIdeal.main_v21_5)) (v6 : (c : Dev Cert.InSIdeal.nD) → Buf (Elt Ideal) ((c.tc : Thread Cert.InSIdeal.nD Cert.InSIdeal.τ).loc Cert.InSIdeal.main_v21_6)) (v7 : (c : Dev Cert.InSIdeal.nD) → Buf (Elt Ideal) ((c.tc : Thread Cert.InSIdeal.nD Cert.InSIdeal.τ).loc Cert.InSIdeal.main_v21_7)) (v8 : (c : Dev Cert.InSIdeal.nD) → Buf (Elt Ideal) ((c.tc : Thread Cert.InSIdeal.nD Cert.InSIdeal.τ).loc Cert.InSIdeal.main_v21_8)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v21_0) = v0 c
          ∧ r.2.mem ((c.tc : Thread Cert.InSIdeal.nD Cert.InSIdeal.τ).loc Cert.InSIdeal.main_v21_1) = v1 c
          ∧ r.2.mem ((c.tc : Thread Cert.InSIdeal.nD Cert.InSIdeal.τ).loc Cert.InSIdeal.main_v21_2) = v2 c
          ∧ r.2.mem ((c.tc : Thread Cert.InSIdeal.nD Cert.InSIdeal.τ).loc Cert.InSIdeal.main_v21_3) = v3 c
          ∧ r.2.mem ((c.tc : Thread Cert.InSIdeal.nD Cert.InSIdeal.τ).loc Cert.InSIdeal.main_v21_4) = v4 c
          ∧ r.2.mem ((c.tc : Thread Cert.InSIdeal.nD Cert.InSIdeal.τ).loc Cert.InSIdeal.main_v21_5) = v5 c
          ∧ r.2.mem ((c.tc : Thread Cert.InSIdeal.nD Cert.InSIdeal.τ).loc Cert.InSIdeal.main_v21_6) = v6 c
          ∧ r.2.mem ((c.tc : Thread Cert.InSIdeal.nD Cert.InSIdeal.τ).loc Cert.InSIdeal.main_v21_7) = v7 c
          ∧ r.2.mem ((c.tc : Thread Cert.InSIdeal.nD Cert.InSIdeal.τ).loc Cert.InSIdeal.main_v21_8) = v8 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
          ∧ r.2.mem ((c.tc : Thread Cert.InSIdeal.nD Cert.InSIdeal.τ).loc Cert.InSIdeal.main_arg4) = m ((c.tc : Thread Cert.InSIdeal.nD Cert.InSIdeal.τ).loc Cert.InSIdeal.main_arg4)
          ∧ r.2.mem ((c.tc : Thread Cert.InSIdeal.nD Cert.InSIdeal.τ).loc Cert.InSIdeal.main_arg5) = m ((c.tc : Thread Cert.InSIdeal.nD Cert.InSIdeal.τ).loc Cert.InSIdeal.main_arg5)
          ∧ r.2.mem ((c.tc : Thread Cert.InSIdeal.nD Cert.InSIdeal.τ).loc Cert.InSIdeal.main_arg6) = m ((c.tc : Thread Cert.InSIdeal.nD Cert.InSIdeal.τ).loc Cert.InSIdeal.main_arg6))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v88) = v0 c
          ∧ r.2.mem ((c.tc : Thread Cert.InSRefIdeal.nD Cert.InSRefIdeal.τ).loc Cert.InSRefIdeal.main_v47) = v1 c
          ∧ r.2.mem ((c.tc : Thread Cert.InSRefIdeal.nD Cert.InSRefIdeal.τ).loc Cert.InSRefIdeal.main_v89) = v2 c
          ∧ r.2.mem ((c.tc : Thread Cert.InSRefIdeal.nD Cert.InSRefIdeal.τ).loc Cert.InSRefIdeal.main_v91) = v3 c
          ∧ r.2.mem ((c.tc : Thread Cert.InSRefIdeal.nD Cert.InSRefIdeal.τ).loc Cert.InSRefIdeal.main_v93) = v4 c
          ∧ r.2.mem ((c.tc : Thread Cert.InSRefIdeal.nD Cert.InSRefIdeal.τ).loc Cert.InSRefIdeal.main_v95) = v5 c
          ∧ r.2.mem ((c.tc : Thread Cert.InSRefIdeal.nD Cert.InSRefIdeal.τ).loc Cert.InSRefIdeal.main_v97) = v6 c
          ∧ r.2.mem ((c.tc : Thread Cert.InSRefIdeal.nD Cert.InSRefIdeal.τ).loc Cert.InSRefIdeal.main_v100) = v7 c
          ∧ r.2.mem ((c.tc : Thread Cert.InSRefIdeal.nD Cert.InSRefIdeal.τ).loc Cert.InSRefIdeal.main_v104) = v8 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3)
          ∧ r.2.mem ((c.tc : Thread Cert.InSRefIdeal.nD Cert.InSRefIdeal.τ).loc Cert.InSRefIdeal.main_arg4) = m' ((c.tc : Thread Cert.InSRefIdeal.nD Cert.InSRefIdeal.τ).loc Cert.InSRefIdeal.main_arg4)
          ∧ r.2.mem ((c.tc : Thread Cert.InSRefIdeal.nD Cert.InSRefIdeal.τ).loc Cert.InSRefIdeal.main_arg5) = m' ((c.tc : Thread Cert.InSRefIdeal.nD Cert.InSRefIdeal.τ).loc Cert.InSRefIdeal.main_arg5)
          ∧ r.2.mem ((c.tc : Thread Cert.InSRefIdeal.nD Cert.InSRefIdeal.τ).loc Cert.InSRefIdeal.main_arg6) = m' ((c.tc : Thread Cert.InSRefIdeal.nD Cert.InSRefIdeal.τ).loc Cert.InSRefIdeal.main_arg6))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)
      ∧ m' ((c.tc : Thread Cert.InPRefIdeal.nD Cert.InPRefIdeal.τ).loc Cert.InPRefIdeal.main_arg5) = m ((c.tc : Thread Cert.InPIdeal.nD Cert.InPIdeal.τ).loc Cert.InPIdeal.main_arg5)
      ∧ m' ((c.tc : Thread Cert.InPRefIdeal.nD Cert.InPRefIdeal.τ).loc Cert.InPRefIdeal.main_arg6) = m ((c.tc : Thread Cert.InPIdeal.nD Cert.InPIdeal.τ).loc Cert.InPIdeal.main_arg6)) →
    ∃ (v0 : (c : Dev Cert.InPIdeal.nD) → Buf (Elt Ideal) ((c.tc : Thread Cert.InPIdeal.nD Cert.InPIdeal.τ).loc Cert.InPIdeal.main_v12_0)) (v1 : (c : Dev Cert.InPIdeal.nD) → Buf (Elt Ideal) ((c.tc : Thread Cert.InPIdeal.nD Cert.InPIdeal.τ).loc Cert.InPIdeal.main_v12_1)) (v2 : (c : Dev Cert.InPIdeal.nD) → Buf (Elt Ideal) ((c.tc : Thread Cert.InPIdeal.nD Cert.InPIdeal.τ).loc Cert.InPIdeal.main_v12_2)) (v3 : (c : Dev Cert.InPIdeal.nD) → Buf (Elt Ideal) ((c.tc : Thread Cert.InPIdeal.nD Cert.InPIdeal.τ).loc Cert.InPIdeal.main_v12_3)) (v4 : (c : Dev Cert.InPIdeal.nD) → Buf (Elt Ideal) ((c.tc : Thread Cert.InPIdeal.nD Cert.InPIdeal.τ).loc Cert.InPIdeal.main_v12_4)) (v5 : (c : Dev Cert.InPIdeal.nD) → Buf (Elt Ideal) ((c.tc : Thread Cert.InPIdeal.nD Cert.InPIdeal.τ).loc Cert.InPIdeal.main_v12_5)) (v6 : (c : Dev Cert.InPIdeal.nD) → Buf (Elt Ideal) ((c.tc : Thread Cert.InPIdeal.nD Cert.InPIdeal.τ).loc Cert.InPIdeal.main_v12_6)) (v7 : (c : Dev Cert.InPIdeal.nD) → Buf (Elt Ideal) ((c.tc : Thread Cert.InPIdeal.nD Cert.InPIdeal.τ).loc Cert.InPIdeal.main_v12_7)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v12_0) = v0 c
          ∧ r.2.mem ((c.tc : Thread Cert.InPIdeal.nD Cert.InPIdeal.τ).loc Cert.InPIdeal.main_v12_1) = v1 c
          ∧ r.2.mem ((c.tc : Thread Cert.InPIdeal.nD Cert.InPIdeal.τ).loc Cert.InPIdeal.main_v12_2) = v2 c
          ∧ r.2.mem ((c.tc : Thread Cert.InPIdeal.nD Cert.InPIdeal.τ).loc Cert.InPIdeal.main_v12_3) = v3 c
          ∧ r.2.mem ((c.tc : Thread Cert.InPIdeal.nD Cert.InPIdeal.τ).loc Cert.InPIdeal.main_v12_4) = v4 c
          ∧ r.2.mem ((c.tc : Thread Cert.InPIdeal.nD Cert.InPIdeal.τ).loc Cert.InPIdeal.main_v12_5) = v5 c
          ∧ r.2.mem ((c.tc : Thread Cert.InPIdeal.nD Cert.InPIdeal.τ).loc Cert.InPIdeal.main_v12_6) = v6 c
          ∧ r.2.mem ((c.tc : Thread Cert.InPIdeal.nD Cert.InPIdeal.τ).loc Cert.InPIdeal.main_v12_7) = v7 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v89) = v0 c
          ∧ r.2.mem ((c.tc : Thread Cert.InPRefIdeal.nD Cert.InPRefIdeal.τ).loc Cert.InPRefIdeal.main_v48) = v1 c
          ∧ r.2.mem ((c.tc : Thread Cert.InPRefIdeal.nD Cert.InPRefIdeal.τ).loc Cert.InPRefIdeal.main_v90) = v2 c
          ∧ r.2.mem ((c.tc : Thread Cert.InPRefIdeal.nD Cert.InPRefIdeal.τ).loc Cert.InPRefIdeal.main_v92) = v3 c
          ∧ r.2.mem ((c.tc : Thread Cert.InPRefIdeal.nD Cert.InPRefIdeal.τ).loc Cert.InPRefIdeal.main_v94) = v4 c
          ∧ r.2.mem ((c.tc : Thread Cert.InPRefIdeal.nD Cert.InPRefIdeal.τ).loc Cert.InPRefIdeal.main_v96) = v5 c
          ∧ r.2.mem ((c.tc : Thread Cert.InPRefIdeal.nD Cert.InPRefIdeal.τ).loc Cert.InPRefIdeal.main_v98) = v6 c
          ∧ r.2.mem ((c.tc : Thread Cert.InPRefIdeal.nD Cert.InPRefIdeal.τ).loc Cert.InPRefIdeal.main_v101) = v7 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4)
          ∧ r.2.mem ((c.tc : Thread Cert.InPRefIdeal.nD Cert.InPRefIdeal.τ).loc Cert.InPRefIdeal.main_arg5) = m' ((c.tc : Thread Cert.InPRefIdeal.nD Cert.InPRefIdeal.τ).loc Cert.InPRefIdeal.main_arg5)
          ∧ r.2.mem ((c.tc : Thread Cert.InPRefIdeal.nD Cert.InPRefIdeal.τ).loc Cert.InPRefIdeal.main_arg6) = m' ((c.tc : Thread Cert.InPRefIdeal.nD Cert.InPRefIdeal.τ).loc Cert.InPRefIdeal.main_arg6))

def preserves_KvP_KvPIdeal : Prop :=
  True

def algebraic_KvPIdeal_KvPRefIdeal [hKvPIdeal : Cert.KvPIdeal.Facts] [hKvPRefIdeal : Cert.KvPRefIdeal.Facts] : Prop :=
  ∀ (m : (ℓ : Loc Cert.KvPIdeal.nD Cert.KvPIdeal.τ Cert.KvPIdeal.sig) → Buf (Elt Ideal) ℓ) (g : Dev Cert.KvPIdeal.nD → PrngReg)
    (m' : (ℓ : Loc Cert.KvPRefIdeal.nD Cert.KvPRefIdeal.τ Cert.KvPRefIdeal.sig) → Buf (Elt Ideal) ℓ) (g' : Dev Cert.KvPRefIdeal.nD → PrngReg), Pre_KvPIdeal m →
    (∀ c : Dev Cert.KvPIdeal.nD,
      m' ((c.tc : Thread Cert.KvPRefIdeal.nD Cert.KvPRefIdeal.τ).loc Cert.KvPRefIdeal.main_arg0) = m ((c.tc : Thread Cert.KvPIdeal.nD Cert.KvPIdeal.τ).loc Cert.KvPIdeal.main_arg0)
      ∧ m' ((c.tc : Thread Cert.KvPRefIdeal.nD Cert.KvPRefIdeal.τ).loc Cert.KvPRefIdeal.main_arg1) = m ((c.tc : Thread Cert.KvPIdeal.nD Cert.KvPIdeal.τ).loc Cert.KvPIdeal.main_arg1)
      ∧ m' ((c.tc : Thread Cert.KvPRefIdeal.nD Cert.KvPRefIdeal.τ).loc Cert.KvPRefIdeal.main_arg2) = m ((c.tc : Thread Cert.KvPIdeal.nD Cert.KvPIdeal.τ).loc Cert.KvPIdeal.main_arg2)) →
    ∃ (v0 : (c : Dev Cert.KvPIdeal.nD) → Buf (Elt Ideal) ((c.tc : Thread Cert.KvPIdeal.nD Cert.KvPIdeal.τ).loc Cert.KvPIdeal.main_v3_0)) (v1 : (c : Dev Cert.KvPIdeal.nD) → Buf (Elt Ideal) ((c.tc : Thread Cert.KvPIdeal.nD Cert.KvPIdeal.τ).loc Cert.KvPIdeal.main_v3_1)) (v2 : (c : Dev Cert.KvPIdeal.nD) → Buf (Elt Ideal) ((c.tc : Thread Cert.KvPIdeal.nD Cert.KvPIdeal.τ).loc Cert.KvPIdeal.main_v3_2)) (v3 : (c : Dev Cert.KvPIdeal.nD) → Buf (Elt Ideal) ((c.tc : Thread Cert.KvPIdeal.nD Cert.KvPIdeal.τ).loc Cert.KvPIdeal.main_v3_3)),
      θ_run (Cert.KvPIdeal.defs (F := Ideal)) (onTc (τ := Cert.KvPIdeal.τ) (Cert.KvPIdeal.main (F := Ideal))) ⟨m, fun _ => 0, g⟩ (fun r => ∀ c : Dev Cert.KvPIdeal.nD,
          r.2.mem ((c.tc : Thread Cert.KvPIdeal.nD Cert.KvPIdeal.τ).loc Cert.KvPIdeal.main_v3_0) = v0 c
          ∧ r.2.mem ((c.tc : Thread Cert.KvPIdeal.nD Cert.KvPIdeal.τ).loc Cert.KvPIdeal.main_v3_1) = v1 c
          ∧ r.2.mem ((c.tc : Thread Cert.KvPIdeal.nD Cert.KvPIdeal.τ).loc Cert.KvPIdeal.main_v3_2) = v2 c
          ∧ r.2.mem ((c.tc : Thread Cert.KvPIdeal.nD Cert.KvPIdeal.τ).loc Cert.KvPIdeal.main_v3_3) = v3 c
          ∧ r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
          ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
          ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2))
      ∧ θ_run (Cert.KvPRefIdeal.defs (F := Ideal)) (onTc (τ := Cert.KvPRefIdeal.τ) (Cert.KvPRefIdeal.main (F := Ideal))) ⟨m', fun _ => 0, g'⟩ (fun r => ∀ c : Dev Cert.KvPRefIdeal.nD,
          r.2.mem ((c.tc : Thread Cert.KvPRefIdeal.nD Cert.KvPRefIdeal.τ).loc Cert.KvPRefIdeal.main_v75) = v0 c
          ∧ r.2.mem ((c.tc : Thread Cert.KvPRefIdeal.nD Cert.KvPRefIdeal.τ).loc Cert.KvPRefIdeal.main_v76) = v1 c
          ∧ r.2.mem ((c.tc : Thread Cert.KvPRefIdeal.nD Cert.KvPRefIdeal.τ).loc Cert.KvPRefIdeal.main_v77) = v2 c
          ∧ r.2.mem ((c.tc : Thread Cert.KvPRefIdeal.nD Cert.KvPRefIdeal.τ).loc Cert.KvPRefIdeal.main_v78) = v3 c
          ∧ r.2.mem ((c.tc : Thread Cert.KvPRefIdeal.nD Cert.KvPRefIdeal.τ).loc Cert.KvPRefIdeal.main_arg0) = m' ((c.tc : Thread Cert.KvPRefIdeal.nD Cert.KvPRefIdeal.τ).loc Cert.KvPRefIdeal.main_arg0)
          ∧ r.2.mem ((c.tc : Thread Cert.KvPRefIdeal.nD Cert.KvPRefIdeal.τ).loc Cert.KvPRefIdeal.main_arg1) = m' ((c.tc : Thread Cert.KvPRefIdeal.nD Cert.KvPRefIdeal.τ).loc Cert.KvPRefIdeal.main_arg1)
          ∧ r.2.mem ((c.tc : Thread Cert.KvPRefIdeal.nD Cert.KvPRefIdeal.τ).loc Cert.KvPRefIdeal.main_arg2) = m' ((c.tc : Thread Cert.KvPRefIdeal.nD Cert.KvPRefIdeal.τ).loc Cert.KvPRefIdeal.main_arg2))

def preserves_CmpP_CmpPIdeal : Prop :=
  True

def algebraic_CmpPIdeal_CmpPRefIdeal_pre_finite_rows [hCmpPIdeal : Cert.CmpPIdeal.Facts] [hCmpPRefIdeal : Cert.CmpPRefIdeal.Facts] [hPre_finite_rows : Cert.Pre_finite_rows.Facts] : Prop :=
  ∀ (m : (ℓ : Loc Cert.CmpPIdeal.nD Cert.CmpPIdeal.τ Cert.CmpPIdeal.sig) → Buf (Elt Ideal) ℓ) (g : Dev Cert.CmpPIdeal.nD → PrngReg)
    (m' : (ℓ : Loc Cert.CmpPRefIdeal.nD Cert.CmpPRefIdeal.τ Cert.CmpPRefIdeal.sig) → Buf (Elt Ideal) ℓ) (g' : Dev Cert.CmpPRefIdeal.nD → PrngReg), Pre_CmpPIdeal_finite_rows m →
    (∀ c : Dev Cert.CmpPIdeal.nD,
      m' ((c.tc : Thread Cert.CmpPRefIdeal.nD Cert.CmpPRefIdeal.τ).loc Cert.CmpPRefIdeal.main_arg0) = m ((c.tc : Thread Cert.CmpPIdeal.nD Cert.CmpPIdeal.τ).loc Cert.CmpPIdeal.main_arg0)
      ∧ m' ((c.tc : Thread Cert.CmpPRefIdeal.nD Cert.CmpPRefIdeal.τ).loc Cert.CmpPRefIdeal.main_arg1) = m ((c.tc : Thread Cert.CmpPIdeal.nD Cert.CmpPIdeal.τ).loc Cert.CmpPIdeal.main_arg1)
      ∧ m' ((c.tc : Thread Cert.CmpPRefIdeal.nD Cert.CmpPRefIdeal.τ).loc Cert.CmpPRefIdeal.main_arg2) = m ((c.tc : Thread Cert.CmpPIdeal.nD Cert.CmpPIdeal.τ).loc Cert.CmpPIdeal.main_arg2)
      ∧ m' ((c.tc : Thread Cert.CmpPRefIdeal.nD Cert.CmpPRefIdeal.τ).loc Cert.CmpPRefIdeal.main_arg3) = m ((c.tc : Thread Cert.CmpPIdeal.nD Cert.CmpPIdeal.τ).loc Cert.CmpPIdeal.main_arg3)
      ∧ m' ((c.tc : Thread Cert.CmpPRefIdeal.nD Cert.CmpPRefIdeal.τ).loc Cert.CmpPRefIdeal.main_arg4) = m ((c.tc : Thread Cert.CmpPIdeal.nD Cert.CmpPIdeal.τ).loc Cert.CmpPIdeal.main_arg4)
      ∧ m' ((c.tc : Thread Cert.CmpPRefIdeal.nD Cert.CmpPRefIdeal.τ).loc Cert.CmpPRefIdeal.main_arg5) = m ((c.tc : Thread Cert.CmpPIdeal.nD Cert.CmpPIdeal.τ).loc Cert.CmpPIdeal.main_arg5)) →
    ∃ (v0 : (c : Dev Cert.CmpPIdeal.nD) → Buf (Elt Ideal) ((c.tc : Thread Cert.CmpPIdeal.nD Cert.CmpPIdeal.τ).loc Cert.CmpPIdeal.main_v67_0)) (v1 : (c : Dev Cert.CmpPIdeal.nD) → Buf (Elt Ideal) ((c.tc : Thread Cert.CmpPIdeal.nD Cert.CmpPIdeal.τ).loc Cert.CmpPIdeal.main_v67_1)),
      θ_run (Cert.CmpPIdeal.defs (F := Ideal)) (onTc (τ := Cert.CmpPIdeal.τ) (Cert.CmpPIdeal.main (F := Ideal))) ⟨m, fun _ => 0, g⟩ (fun r => ∀ c : Dev Cert.CmpPIdeal.nD,
          r.2.mem ((c.tc : Thread Cert.CmpPIdeal.nD Cert.CmpPIdeal.τ).loc Cert.CmpPIdeal.main_v67_0) = v0 c
          ∧ r.2.mem ((c.tc : Thread Cert.CmpPIdeal.nD Cert.CmpPIdeal.τ).loc Cert.CmpPIdeal.main_v67_1) = v1 c
          ∧ r.2.mem ((c.tc : Thread Cert.CmpPIdeal.nD Cert.CmpPIdeal.τ).loc Cert.CmpPIdeal.main_arg0) = m ((c.tc : Thread Cert.CmpPIdeal.nD Cert.CmpPIdeal.τ).loc Cert.CmpPIdeal.main_arg0)
          ∧ r.2.mem ((c.tc : Thread Cert.CmpPIdeal.nD Cert.CmpPIdeal.τ).loc Cert.CmpPIdeal.main_arg1) = m ((c.tc : Thread Cert.CmpPIdeal.nD Cert.CmpPIdeal.τ).loc Cert.CmpPIdeal.main_arg1)
          ∧ r.2.mem ((c.tc : Thread Cert.CmpPIdeal.nD Cert.CmpPIdeal.τ).loc Cert.CmpPIdeal.main_arg2) = m ((c.tc : Thread Cert.CmpPIdeal.nD Cert.CmpPIdeal.τ).loc Cert.CmpPIdeal.main_arg2)
          ∧ r.2.mem ((c.tc : Thread Cert.CmpPIdeal.nD Cert.CmpPIdeal.τ).loc Cert.CmpPIdeal.main_arg3) = m ((c.tc : Thread Cert.CmpPIdeal.nD Cert.CmpPIdeal.τ).loc Cert.CmpPIdeal.main_arg3)
          ∧ r.2.mem ((c.tc : Thread Cert.CmpPIdeal.nD Cert.CmpPIdeal.τ).loc Cert.CmpPIdeal.main_arg4) = m ((c.tc : Thread Cert.CmpPIdeal.nD Cert.CmpPIdeal.τ).loc Cert.CmpPIdeal.main_arg4)
          ∧ r.2.mem ((c.tc : Thread Cert.CmpPIdeal.nD Cert.CmpPIdeal.τ).loc Cert.CmpPIdeal.main_arg5) = m ((c.tc : Thread Cert.CmpPIdeal.nD Cert.CmpPIdeal.τ).loc Cert.CmpPIdeal.main_arg5))
      ∧ θ_run (Cert.CmpPRefIdeal.defs (F := Ideal)) (onTc (τ := Cert.CmpPRefIdeal.τ) (Cert.CmpPRefIdeal.main (F := Ideal))) ⟨m', fun _ => 0, g'⟩ (fun r => ∀ c : Dev Cert.CmpPRefIdeal.nD,
          r.2.mem ((c.tc : Thread Cert.CmpPRefIdeal.nD Cert.CmpPRefIdeal.τ).loc Cert.CmpPRefIdeal.main_v106) = v0 c
          ∧ r.2.mem ((c.tc : Thread Cert.CmpPRefIdeal.nD Cert.CmpPRefIdeal.τ).loc Cert.CmpPRefIdeal.main_v109) = v1 c
          ∧ r.2.mem ((c.tc : Thread Cert.CmpPRefIdeal.nD Cert.CmpPRefIdeal.τ).loc Cert.CmpPRefIdeal.main_arg0) = m' ((c.tc : Thread Cert.CmpPRefIdeal.nD Cert.CmpPRefIdeal.τ).loc Cert.CmpPRefIdeal.main_arg0)
          ∧ r.2.mem ((c.tc : Thread Cert.CmpPRefIdeal.nD Cert.CmpPRefIdeal.τ).loc Cert.CmpPRefIdeal.main_arg1) = m' ((c.tc : Thread Cert.CmpPRefIdeal.nD Cert.CmpPRefIdeal.τ).loc Cert.CmpPRefIdeal.main_arg1)
          ∧ r.2.mem ((c.tc : Thread Cert.CmpPRefIdeal.nD Cert.CmpPRefIdeal.τ).loc Cert.CmpPRefIdeal.main_arg2) = m' ((c.tc : Thread Cert.CmpPRefIdeal.nD Cert.CmpPRefIdeal.τ).loc Cert.CmpPRefIdeal.main_arg2)
          ∧ r.2.mem ((c.tc : Thread Cert.CmpPRefIdeal.nD Cert.CmpPRefIdeal.τ).loc Cert.CmpPRefIdeal.main_arg3) = m' ((c.tc : Thread Cert.CmpPRefIdeal.nD Cert.CmpPRefIdeal.τ).loc Cert.CmpPRefIdeal.main_arg3)
          ∧ r.2.mem ((c.tc : Thread Cert.CmpPRefIdeal.nD Cert.CmpPRefIdeal.τ).loc Cert.CmpPRefIdeal.main_arg4) = m' ((c.tc : Thread Cert.CmpPRefIdeal.nD Cert.CmpPRefIdeal.τ).loc Cert.CmpPRefIdeal.main_arg4)
          ∧ r.2.mem ((c.tc : Thread Cert.CmpPRefIdeal.nD Cert.CmpPRefIdeal.τ).loc Cert.CmpPRefIdeal.main_arg5) = m' ((c.tc : Thread Cert.CmpPRefIdeal.nD Cert.CmpPRefIdeal.τ).loc Cert.CmpPRefIdeal.main_arg5))

def preserves_MergeP_MergePIdeal : Prop :=
  True

def algebraic_MergePIdeal_MergePRefIdeal [hMergePIdeal : Cert.MergePIdeal.Facts] [hMergePRefIdeal : Cert.MergePRefIdeal.Facts] : Prop :=
  ∀ (m : (ℓ : Loc Cert.MergePIdeal.nD Cert.MergePIdeal.τ Cert.MergePIdeal.sig) → Buf (Elt Ideal) ℓ) (g : Dev Cert.MergePIdeal.nD → PrngReg)
    (m' : (ℓ : Loc Cert.MergePRefIdeal.nD Cert.MergePRefIdeal.τ Cert.MergePRefIdeal.sig) → Buf (Elt Ideal) ℓ) (g' : Dev Cert.MergePRefIdeal.nD → PrngReg), Pre_MergePIdeal m →
    (∀ c : Dev Cert.MergePIdeal.nD,
      m' ((c.tc : Thread Cert.MergePRefIdeal.nD Cert.MergePRefIdeal.τ).loc Cert.MergePRefIdeal.main_arg0) = m ((c.tc : Thread Cert.MergePIdeal.nD Cert.MergePIdeal.τ).loc Cert.MergePIdeal.main_arg0)
      ∧ m' ((c.tc : Thread Cert.MergePRefIdeal.nD Cert.MergePRefIdeal.τ).loc Cert.MergePRefIdeal.main_arg1) = m ((c.tc : Thread Cert.MergePIdeal.nD Cert.MergePIdeal.τ).loc Cert.MergePIdeal.main_arg1)
      ∧ m' ((c.tc : Thread Cert.MergePRefIdeal.nD Cert.MergePRefIdeal.τ).loc Cert.MergePRefIdeal.main_arg2) = m ((c.tc : Thread Cert.MergePIdeal.nD Cert.MergePIdeal.τ).loc Cert.MergePIdeal.main_arg2)
      ∧ m' ((c.tc : Thread Cert.MergePRefIdeal.nD Cert.MergePRefIdeal.τ).loc Cert.MergePRefIdeal.main_arg3) = m ((c.tc : Thread Cert.MergePIdeal.nD Cert.MergePIdeal.τ).loc Cert.MergePIdeal.main_arg3)
      ∧ m' ((c.tc : Thread Cert.MergePRefIdeal.nD Cert.MergePRefIdeal.τ).loc Cert.MergePRefIdeal.main_arg4) = m ((c.tc : Thread Cert.MergePIdeal.nD Cert.MergePIdeal.τ).loc Cert.MergePIdeal.main_arg4)
      ∧ m' ((c.tc : Thread Cert.MergePRefIdeal.nD Cert.MergePRefIdeal.τ).loc Cert.MergePRefIdeal.main_arg5) = m ((c.tc : Thread Cert.MergePIdeal.nD Cert.MergePIdeal.τ).loc Cert.MergePIdeal.main_arg5)
      ∧ m' ((c.tc : Thread Cert.MergePRefIdeal.nD Cert.MergePRefIdeal.τ).loc Cert.MergePRefIdeal.main_arg6) = m ((c.tc : Thread Cert.MergePIdeal.nD Cert.MergePIdeal.τ).loc Cert.MergePIdeal.main_arg6)) →
    ∃ (v0 : (c : Dev Cert.MergePIdeal.nD) → Buf (Elt Ideal) ((c.tc : Thread Cert.MergePIdeal.nD Cert.MergePIdeal.τ).loc Cert.MergePIdeal.main_v1)),
      θ_run (Cert.MergePIdeal.defs (F := Ideal)) (onTc (τ := Cert.MergePIdeal.τ) (Cert.MergePIdeal.main (F := Ideal))) ⟨m, fun _ => 0, g⟩ (fun r => ∀ c : Dev Cert.MergePIdeal.nD,
          r.2.mem ((c.tc : Thread Cert.MergePIdeal.nD Cert.MergePIdeal.τ).loc Cert.MergePIdeal.main_v1) = v0 c
          ∧ r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
          ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
          ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
          ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
          ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
          ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
          ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6))
      ∧ θ_run (Cert.MergePRefIdeal.defs (F := Ideal)) (onTc (τ := Cert.MergePRefIdeal.τ) (Cert.MergePRefIdeal.main (F := Ideal))) ⟨m', fun _ => 0, g'⟩ (fun r => ∀ c : Dev Cert.MergePRefIdeal.nD,
          r.2.mem ((c.tc : Thread Cert.MergePRefIdeal.nD Cert.MergePRefIdeal.τ).loc Cert.MergePRefIdeal.main_v29) = v0 c
          ∧ r.2.mem ((c.tc : Thread Cert.MergePRefIdeal.nD Cert.MergePRefIdeal.τ).loc Cert.MergePRefIdeal.main_arg0) = m' ((c.tc : Thread Cert.MergePRefIdeal.nD Cert.MergePRefIdeal.τ).loc Cert.MergePRefIdeal.main_arg0)
          ∧ r.2.mem ((c.tc : Thread Cert.MergePRefIdeal.nD Cert.MergePRefIdeal.τ).loc Cert.MergePRefIdeal.main_arg1) = m' ((c.tc : Thread Cert.MergePRefIdeal.nD Cert.MergePRefIdeal.τ).loc Cert.MergePRefIdeal.main_arg1)
          ∧ r.2.mem ((c.tc : Thread Cert.MergePRefIdeal.nD Cert.MergePRefIdeal.τ).loc Cert.MergePRefIdeal.main_arg2) = m' ((c.tc : Thread Cert.MergePRefIdeal.nD Cert.MergePRefIdeal.τ).loc Cert.MergePRefIdeal.main_arg2)
          ∧ r.2.mem ((c.tc : Thread Cert.MergePRefIdeal.nD Cert.MergePRefIdeal.τ).loc Cert.MergePRefIdeal.main_arg3) = m' ((c.tc : Thread Cert.MergePRefIdeal.nD Cert.MergePRefIdeal.τ).loc Cert.MergePRefIdeal.main_arg3)
          ∧ r.2.mem ((c.tc : Thread Cert.MergePRefIdeal.nD Cert.MergePRefIdeal.τ).loc Cert.MergePRefIdeal.main_arg4) = m' ((c.tc : Thread Cert.MergePRefIdeal.nD Cert.MergePRefIdeal.τ).loc Cert.MergePRefIdeal.main_arg4)
          ∧ r.2.mem ((c.tc : Thread Cert.MergePRefIdeal.nD Cert.MergePRefIdeal.τ).loc Cert.MergePRefIdeal.main_arg5) = m' ((c.tc : Thread Cert.MergePRefIdeal.nD Cert.MergePRefIdeal.τ).loc Cert.MergePRefIdeal.main_arg5)
          ∧ r.2.mem ((c.tc : Thread Cert.MergePRefIdeal.nD Cert.MergePRefIdeal.τ).loc Cert.MergePRefIdeal.main_arg6) = m' ((c.tc : Thread Cert.MergePRefIdeal.nD Cert.MergePRefIdeal.τ).loc Cert.MergePRefIdeal.main_arg6))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)
      ∧ m' ((c.tc : Thread Cert.OutPRefIdeal.nD Cert.OutPRefIdeal.τ).loc Cert.OutPRefIdeal.main_arg2) = m ((c.tc : Thread Cert.OutPIdeal.nD Cert.OutPIdeal.τ).loc Cert.OutPIdeal.main_arg2)
      ∧ m' ((c.tc : Thread Cert.OutPRefIdeal.nD Cert.OutPRefIdeal.τ).loc Cert.OutPRefIdeal.main_arg3) = m ((c.tc : Thread Cert.OutPIdeal.nD Cert.OutPIdeal.τ).loc Cert.OutPIdeal.main_arg3)) →
    ∃ (v0 : (c : Dev Cert.OutPIdeal.nD) → Buf (Elt Ideal) ((c.tc : Thread Cert.OutPIdeal.nD Cert.OutPIdeal.τ).loc Cert.OutPIdeal.main_v3_0)) (v1 : (c : Dev Cert.OutPIdeal.nD) → Buf (Elt Ideal) ((c.tc : Thread Cert.OutPIdeal.nD Cert.OutPIdeal.τ).loc Cert.OutPIdeal.main_v3_1)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v3_0) = v0 c
          ∧ r.2.mem ((c.tc : Thread Cert.OutPIdeal.nD Cert.OutPIdeal.τ).loc Cert.OutPIdeal.main_v3_1) = v1 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
          ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
          ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v4) = v0 c
          ∧ r.2.mem ((c.tc : Thread Cert.OutPRefIdeal.nD Cert.OutPRefIdeal.τ).loc Cert.OutPRefIdeal.main_v19) = v1 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1)
          ∧ r.2.mem ((c.tc : Thread Cert.OutPRefIdeal.nD Cert.OutPRefIdeal.τ).loc Cert.OutPRefIdeal.main_arg2) = m' ((c.tc : Thread Cert.OutPRefIdeal.nD Cert.OutPRefIdeal.τ).loc Cert.OutPRefIdeal.main_arg2)
          ∧ r.2.mem ((c.tc : Thread Cert.OutPRefIdeal.nD Cert.OutPRefIdeal.τ).loc Cert.OutPRefIdeal.main_arg3) = m' ((c.tc : Thread Cert.OutPRefIdeal.nD Cert.OutPRefIdeal.τ).loc Cert.OutPRefIdeal.main_arg3))

def preserves_FfnP_FfnPIdeal : Prop :=
  True

def algebraic_FfnPIdeal_FfnPRefIdeal [hFfnPIdeal : Cert.FfnPIdeal.Facts] [hFfnPRefIdeal : Cert.FfnPRefIdeal.Facts] : Prop :=
  ∀ (m : (ℓ : Loc Cert.FfnPIdeal.nD Cert.FfnPIdeal.τ Cert.FfnPIdeal.sig) → Buf (Elt Ideal) ℓ) (g : Dev Cert.FfnPIdeal.nD → PrngReg)
    (m' : (ℓ : Loc Cert.FfnPRefIdeal.nD Cert.FfnPRefIdeal.τ Cert.FfnPRefIdeal.sig) → Buf (Elt Ideal) ℓ) (g' : Dev Cert.FfnPRefIdeal.nD → PrngReg), Pre_FfnPIdeal m →
    (∀ c : Dev Cert.FfnPIdeal.nD,
      m' ((c.tc : Thread Cert.FfnPRefIdeal.nD Cert.FfnPRefIdeal.τ).loc Cert.FfnPRefIdeal.main_arg0) = m ((c.tc : Thread Cert.FfnPIdeal.nD Cert.FfnPIdeal.τ).loc Cert.FfnPIdeal.main_arg0)
      ∧ m' ((c.tc : Thread Cert.FfnPRefIdeal.nD Cert.FfnPRefIdeal.τ).loc Cert.FfnPRefIdeal.main_arg1) = m ((c.tc : Thread Cert.FfnPIdeal.nD Cert.FfnPIdeal.τ).loc Cert.FfnPIdeal.main_arg1)
      ∧ m' ((c.tc : Thread Cert.FfnPRefIdeal.nD Cert.FfnPRefIdeal.τ).loc Cert.FfnPRefIdeal.main_arg2) = m ((c.tc : Thread Cert.FfnPIdeal.nD Cert.FfnPIdeal.τ).loc Cert.FfnPIdeal.main_arg2)
      ∧ m' ((c.tc : Thread Cert.FfnPRefIdeal.nD Cert.FfnPRefIdeal.τ).loc Cert.FfnPRefIdeal.main_arg3) = m ((c.tc : Thread Cert.FfnPIdeal.nD Cert.FfnPIdeal.τ).loc Cert.FfnPIdeal.main_arg3)) →
    ∃ (v0 : (c : Dev Cert.FfnPIdeal.nD) → Buf (Elt Ideal) ((c.tc : Thread Cert.FfnPIdeal.nD Cert.FfnPIdeal.τ).loc Cert.FfnPIdeal.main_v0)),
      θ_run (Cert.FfnPIdeal.defs (F := Ideal)) (onTc (τ := Cert.FfnPIdeal.τ) (Cert.FfnPIdeal.main (F := Ideal))) ⟨m, fun _ => 0, g⟩ (fun r => ∀ c : Dev Cert.FfnPIdeal.nD,
          r.2.mem ((c.tc : Thread Cert.FfnPIdeal.nD Cert.FfnPIdeal.τ).loc Cert.FfnPIdeal.main_v0) = v0 c
          ∧ r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
          ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
          ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
          ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3))
      ∧ θ_run (Cert.FfnPRefIdeal.defs (F := Ideal)) (onTc (τ := Cert.FfnPRefIdeal.τ) (Cert.FfnPRefIdeal.main (F := Ideal))) ⟨m', fun _ => 0, g'⟩ (fun r => ∀ c : Dev Cert.FfnPRefIdeal.nD,
          r.2.mem ((c.tc : Thread Cert.FfnPRefIdeal.nD Cert.FfnPRefIdeal.τ).loc Cert.FfnPRefIdeal.main_v7) = v0 c
          ∧ r.2.mem ((c.tc : Thread Cert.FfnPRefIdeal.nD Cert.FfnPRefIdeal.τ).loc Cert.FfnPRefIdeal.main_arg0) = m' ((c.tc : Thread Cert.FfnPRefIdeal.nD Cert.FfnPRefIdeal.τ).loc Cert.FfnPRefIdeal.main_arg0)
          ∧ r.2.mem ((c.tc : Thread Cert.FfnPRefIdeal.nD Cert.FfnPRefIdeal.τ).loc Cert.FfnPRefIdeal.main_arg1) = m' ((c.tc : Thread Cert.FfnPRefIdeal.nD Cert.FfnPRefIdeal.τ).loc Cert.FfnPRefIdeal.main_arg1)
          ∧ r.2.mem ((c.tc : Thread Cert.FfnPRefIdeal.nD Cert.FfnPRefIdeal.τ).loc Cert.FfnPRefIdeal.main_arg2) = m' ((c.tc : Thread Cert.FfnPRefIdeal.nD Cert.FfnPRefIdeal.τ).loc Cert.FfnPRefIdeal.main_arg2)
          ∧ r.2.mem ((c.tc : Thread Cert.FfnPRefIdeal.nD Cert.FfnPRefIdeal.τ).loc Cert.FfnPRefIdeal.main_arg3) = m' ((c.tc : Thread Cert.FfnPRefIdeal.nD Cert.FfnPRefIdeal.τ).loc Cert.FfnPRefIdeal.main_arg3))

def Claim : Prop :=
  ∃ (hKernel : Cert.Kernel.Facts) (hKernelIdeal : Cert.KernelIdeal.Facts) (hKernelRefIdeal : Cert.KernelRefIdeal.Facts) (hOutS : Cert.OutS.Facts) (hOutSIdeal : Cert.OutSIdeal.Facts) (hOutSRefIdeal : Cert.OutSRefIdeal.Facts) (hFfnS : Cert.FfnS.Facts) (hFfnSIdeal : Cert.FfnSIdeal.Facts) (hFfnSRefIdeal : Cert.FfnSRefIdeal.Facts) (hInS : Cert.InS.Facts) (hInSIdeal : Cert.InSIdeal.Facts) (hInSRefIdeal : Cert.InSRefIdeal.Facts) (hInP : Cert.InP.Facts) (hInPIdeal : Cert.InPIdeal.Facts) (hInPRefIdeal : Cert.InPRefIdeal.Facts) (hKvP : Cert.KvP.Facts) (hKvPIdeal : Cert.KvPIdeal.Facts) (hKvPRefIdeal : Cert.KvPRefIdeal.Facts) (hCmpP : Cert.CmpP.Facts) (hCmpPIdeal : Cert.CmpPIdeal.Facts) (hCmpPRefIdeal : Cert.CmpPRefIdeal.Facts) (hMergeP : Cert.MergeP.Facts) (hMergePIdeal : Cert.MergePIdeal.Facts) (hMergePRefIdeal : Cert.MergePRefIdeal.Facts) (hOutP : Cert.OutP.Facts) (hOutPIdeal : Cert.OutPIdeal.Facts) (hOutPRefIdeal : Cert.OutPRefIdeal.Facts) (hFfnP : Cert.FfnP.Facts) (hFfnPIdeal : Cert.FfnPIdeal.Facts) (hFfnPRefIdeal : Cert.FfnPRefIdeal.Facts) (hPre_finite_rows : Cert.Pre_finite_rows.Facts),
    quiescent_Kernel (hKernel := hKernel)
    ∧ quiescent_KernelIdeal (hKernelIdeal := hKernelIdeal)
    ∧ quiescent_KernelRefIdeal (hKernelRefIdeal := hKernelRefIdeal)
    ∧ quiescent_OutS (hOutS := hOutS)
    ∧ quiescent_OutSIdeal (hOutSIdeal := hOutSIdeal)
    ∧ quiescent_OutSRefIdeal (hOutSRefIdeal := hOutSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_InS (hInS := hInS)
    ∧ quiescent_InSIdeal (hInSIdeal := hInSIdeal)
    ∧ quiescent_InSRefIdeal (hInSRefIdeal := hInSRefIdeal)
    ∧ quiescent_InP (hInP := hInP)
    ∧ quiescent_InPIdeal (hInPIdeal := hInPIdeal)
    ∧ quiescent_InPRefIdeal (hInPRefIdeal := hInPRefIdeal)
    ∧ quiescent_KvP (hKvP := hKvP)
    ∧ quiescent_KvPIdeal (hKvPIdeal := hKvPIdeal)
    ∧ quiescent_KvPRefIdeal (hKvPRefIdeal := hKvPRefIdeal)
    ∧ quiescent_CmpP (hCmpP := hCmpP)
    ∧ quiescent_CmpPIdeal (hCmpPIdeal := hCmpPIdeal)
    ∧ quiescent_CmpPIdeal_pre_finite_rows (hCmpPIdeal := hCmpPIdeal) (hPre_finite_rows := hPre_finite_rows)
    ∧ quiescent_CmpPRefIdeal (hCmpPRefIdeal := hCmpPRefIdeal)
    ∧ quiescent_CmpPRefIdeal_pre_finite_rows (hCmpPRefIdeal := hCmpPRefIdeal) (hPre_finite_rows := hPre_finite_rows)
    ∧ quiescent_MergeP (hMergeP := hMergeP)
    ∧ quiescent_MergePIdeal (hMergePIdeal := hMergePIdeal)
    ∧ quiescent_MergePRefIdeal (hMergePRefIdeal := hMergePRefIdeal)
    ∧ quiescent_OutP (hOutP := hOutP)
    ∧ quiescent_OutPIdeal (hOutPIdeal := hOutPIdeal)
    ∧ quiescent_OutPRefIdeal (hOutPRefIdeal := hOutPRefIdeal)
    ∧ quiescent_FfnP (hFfnP := hFfnP)
    ∧ quiescent_FfnPIdeal (hFfnPIdeal := hFfnPIdeal)
    ∧ quiescent_FfnPRefIdeal (hFfnPRefIdeal := hFfnPRefIdeal)
    ∧ preserves_Kernel_KernelIdeal
    ∧ algebraic_KernelIdeal_KernelRefIdeal (hKernelIdeal := hKernelIdeal) (hKernelRefIdeal := hKernelRefIdeal)
    ∧ preserves_OutS_OutSIdeal
    ∧ algebraic_OutSIdeal_OutSRefIdeal (hOutSIdeal := hOutSIdeal) (hOutSRefIdeal := hOutSRefIdeal)
    ∧ preserves_FfnS_FfnSIdeal
    ∧ algebraic_FfnSIdeal_FfnSRefIdeal (hFfnSIdeal := hFfnSIdeal) (hFfnSRefIdeal := hFfnSRefIdeal)
    ∧ preserves_InS_InSIdeal
    ∧ algebraic_InSIdeal_InSRefIdeal (hInSIdeal := hInSIdeal) (hInSRefIdeal := hInSRefIdeal)
    ∧ preserves_InP_InPIdeal
    ∧ algebraic_InPIdeal_InPRefIdeal (hInPIdeal := hInPIdeal) (hInPRefIdeal := hInPRefIdeal)
    ∧ preserves_KvP_KvPIdeal
    ∧ algebraic_KvPIdeal_KvPRefIdeal (hKvPIdeal := hKvPIdeal) (hKvPRefIdeal := hKvPRefIdeal)
    ∧ preserves_CmpP_CmpPIdeal
    ∧ algebraic_CmpPIdeal_CmpPRefIdeal_pre_finite_rows (hCmpPIdeal := hCmpPIdeal) (hCmpPRefIdeal := hCmpPRefIdeal) (hPre_finite_rows := hPre_finite_rows)
    ∧ preserves_MergeP_MergePIdeal
    ∧ algebraic_MergePIdeal_MergePRefIdeal (hMergePIdeal := hMergePIdeal) (hMergePRefIdeal := hMergePRefIdeal)
    ∧ preserves_OutP_OutPIdeal
    ∧ algebraic_OutPIdeal_OutPRefIdeal (hOutPIdeal := hOutPIdeal) (hOutPRefIdeal := hOutPRefIdeal)
    ∧ preserves_FfnP_FfnPIdeal
    ∧ algebraic_FfnPIdeal_FfnPRefIdeal (hFfnPIdeal := hFfnPIdeal) (hFfnPRefIdeal := hFfnPRefIdeal)
-- ==== Pre_finite_rows.lean ====
abbrev S32768x128 : Shape := ⟨2, ![32768, 128]⟩
abbrev S1x32x128x128 : Shape := ⟨4, ![1, 32, 128, 128]⟩
abbrev S1x32x128 : Shape := ⟨3, ![1, 32, 128]⟩
abbrev S1x3x128 : Shape := ⟨3, ![1, 3, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1x32x128x128 : S_.BroadcastsInDim S1x32x128x128 (![] : Fin 0 → Fin S1x32x128x128.rank)
  reducesTo_S1x32x128x128_S_d0_1_2_3 : S1x32x128x128.ReducesTo [0, 1, 2, 3] S_
  bcast_S_S1x32x128 : S_.BroadcastsInDim S1x32x128 (![] : Fin 0 → Fin S1x32x128.rank)
  reducesTo_S1x32x128_S_d0_1_2 : S1x32x128.ReducesTo [0, 1, 2] S_

variable [Facts]

def fn_part1 {F : FTy → Type} [FloatOps F] (main_arg4 : FVec F S1x32x128 .f32) (main_v13 : IVec S_ 1) (main_v16 : IVec S1x32x128x128 1) : IVec S_ 1 :=
  let main_c_5 : IVec S_ 1 := constantI S_ 1 1#1
  let main_v17 : IVec S_ 1 := (fun x v => Host.reduce IntOp.andi x v reducesTo_S1x32x128x128_S_d0_1_2_3 h_S_) main_v16 main_c_5
  let main_v18 : IVec S_ 1 := andi main_v13 main_v17
  let main_v19 : FVec F S1x32x128 .f32 := Host.absf main_arg4
  let main_cst_6 : FVec F S_ .f32 := constant S_ .f32 0x7F800000#32
  let main_v20 : FVec F S1x32x128 .f32 := broadcastInDim S1x32x128 ![] bcast_S_S1x32x128 main_cst_6
  let main_v21 : IVec S1x32x128 1 := cmpf .olt main_v19 main_v20
  let main_c_7 : IVec S_ 1 := constantI S_ 1 1#1
  let main_v22 : IVec S_ 1 := (fun x v => Host.reduce IntOp.andi x v reducesTo_S1x32x128_S_d0_1_2 h_S_) main_v21 main_c_7
  let main_v23 : IVec S_ 1 := andi main_v18 main_v22
  main_v23

def fn {F : FTy → Type} [FloatOps F] (main_arg0 : FVec F S32768x128 .f32) (main_arg1 : FVec F S1x32x128x128 .f32) (main_arg2 : FVec F S1x32x128 .f32) (main_arg3 : FVec F S1x32x128x128 .f32) (main_arg4 : FVec F S1x32x128 .f32) (main_arg5 : FVec F S1x3x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1x32x128x128 .f32 := Host.absf main_arg1
  let main_cst_0 : FVec F S_ .f32 := constant S_ .f32 0x7F800000#32
  let main_v5 : FVec F S1x32x128x128 .f32 := broadcastInDim S1x32x128x128 ![] bcast_S_S1x32x128x128 main_cst_0
  let main_v6 : IVec S1x32x128x128 1 := cmpf .olt main_v4 main_v5
  let main_c_1 : IVec S_ 1 := constantI S_ 1 1#1
  let main_v7 : IVec S_ 1 := (fun x v => Host.reduce IntOp.andi x v reducesTo_S1x32x128x128_S_d0_1_2_3 h_S_) main_v6 main_c_1
  let main_v8 : IVec S_ 1 := andi main_v3 main_v7
  let main_v9 : FVec F S1x32x128 .f32 := Host.absf main_arg2
  let main_cst_2 : FVec F S_ .f32 := constant S_ .f32 0x7F800000#32
  let main_v10 : FVec F S1x32x128 .f32 := broadcastInDim S1x32x128 ![] bcast_S_S1x32x128 main_cst_2
  let main_v11 : IVec S1x32x128 1 := cmpf .olt main_v9 main_v10
  let main_c_3 : IVec S_ 1 := constantI S_ 1 1#1
  let main_v12 : IVec S_ 1 := (fun x v => Host.reduce IntOp.andi x v reducesTo_S1x32x128_S_d0_1_2 h_S_) main_v11 main_c_3
  let main_v13 : IVec S_ 1 := andi main_v8 main_v12
  let main_v14 : FVec F S1x32x128x128 .f32 := Host.absf main_arg3
  let main_cst_4 : FVec F S_ .f32 := constant S_ .f32 0x7F800000#32
  let main_v15 : FVec F S1x32x128x128 .f32 := broadcastInDim S1x32x128x128 ![] bcast_S_S1x32x128x128 main_cst_4
  let main_v16 : IVec S1x32x128x128 1 := cmpf .olt main_v14 main_v15
  fn_part1 (F := F) main_arg4 main_v13 main_v16
-- ==== Kernel.lean ====
abbrev S128x2048 : Shape := ⟨2, ![128, 2048]⟩
abbrev S128x1024 : Shape := ⟨2, ![128, 1024]⟩
abbrev S128x8x128 : Shape := ⟨3, ![128, 8, 128]⟩
abbrev S1x2048x8728 : Shape := ⟨3, ![1, 2048, 8728]⟩
abbrev S1x1024x2048 : Shape := ⟨3, ![1, 1024, 2048]⟩
abbrev S2048x8728 : Shape := ⟨2, ![2048, 8728]⟩
abbrev S8728x2048 : Shape := ⟨2, ![8728, 2048]⟩
abbrev S1024x2048 : Shape := ⟨2, ![1024, 2048]⟩
abbrev S2048x2048 : Shape := ⟨2, ![2048, 2048]⟩
abbrev S512x2048 : Shape := ⟨2, ![512, 2048]⟩
abbrev S1024x512 : Shape := ⟨2, ![1024, 512]⟩
abbrev S128x512 : Shape := ⟨2, ![128, 512]⟩

abbrev nBuf : Space → Nat
  | .hbm => 17
  | .vmem => 21
  | .smem => 0
  | _ => 0

abbrev bufTy : (tb : Table) → Fin (tcTables nBuf tb) → BufTy
  | .hbm, ⟨0, _⟩ => ⟨S128x2048, .bf16⟩
  | .hbm, ⟨1, _⟩ => ⟨S128x1024, .bf16⟩
  | .hbm, ⟨2, _⟩ => ⟨S128x8x128, .f32⟩
  | .hbm, ⟨3, _⟩ => ⟨S1x2048x8728, .f32⟩
  | .hbm, ⟨4, _⟩ => ⟨S1x1024x2048, .f32⟩
  | .hbm, ⟨5, _⟩ => ⟨S1x1024x2048, .f32⟩
  | .hbm, ⟨6, _⟩ => ⟨S2048x8728, .f32⟩
  | .hbm, ⟨7, _⟩ => ⟨S8728x2048, .f32⟩
  | .hbm, ⟨8, _⟩ => ⟨S128x1024, .f32⟩
  | .hbm, ⟨9, _⟩ => ⟨S128x1024, .bf16⟩
  | .hbm, ⟨10, _⟩ => ⟨S1024x2048, .f32⟩
  | .hbm, ⟨11, _⟩ => ⟨S1024x2048, .f32⟩
  | .hbm, ⟨12, _⟩ => ⟨S128x2048, .bf16⟩
  | .hbm, ⟨13, _⟩ => ⟨S2048x2048, .bf16⟩
  | .hbm, ⟨14, _⟩ => ⟨S2048x2048, .bf16⟩
  | .hbm, ⟨15, _⟩ => ⟨S1024x2048, .bf16⟩
  | .hbm, ⟨16, _⟩ => ⟨S1024x2048, .bf16⟩
  | .local _ .vmem, ⟨0, _⟩ => ⟨S128x2048, .bf16⟩
  | .local _ .vmem, ⟨1, _⟩ => ⟨S128x1024, .bf16⟩
  | .local _ .vmem, ⟨2, _⟩ => ⟨S128x1024, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S128x512, .bf16⟩
  | .local _ .vmem, ⟨12, _⟩ => ⟨S128x512, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c579_i32 : BitVec 32 := 579#32
  let v1 : BitVec 32 := Scalar.addi c579_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c835_i32 : BitVec 32 := 835#32
  let v1 : BitVec 32 := Scalar.addi c835_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== KernelRefIdeal.lean ====
abbrev S128x2048 : Shape := ⟨2, ![128, 2048]⟩
abbrev S128x1024 : Shape := ⟨2, ![128, 1024]⟩
abbrev S128x8x128 : Shape := ⟨3, ![128, 8, 128]⟩
abbrev S1x2048x8728 : Shape := ⟨3, ![1, 2048, 8728]⟩
abbrev S1x1024x2048 : Shape := ⟨3, ![1, 1024, 2048]⟩
abbrev S2048x8728 : Shape := ⟨2, ![2048, 8728]⟩
abbrev S1024x2048 : Shape := ⟨2, ![1024, 2048]⟩
abbrev S2048x2048 : Shape := ⟨2, ![2048, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x1024, .bf16⟩
  | .hbm, ⟨2, _⟩ => ⟨S128x8x128, .f32⟩
  | .hbm, ⟨3, _⟩ => ⟨S1x2048x8728, .f32⟩
  | .hbm, ⟨4, _⟩ => ⟨S1x1024x2048, .f32⟩
  | .hbm, ⟨5, _⟩ => ⟨S1x1024x2048, .f32⟩
  | .hbm, ⟨6, _⟩ => ⟨S128x2048, .f32⟩
  | .hbm, ⟨7, _⟩ => ⟨S128x1024, .f32⟩
  | .hbm, ⟨8, _⟩ => ⟨S128x1024, .f32⟩
  | .hbm, ⟨9, _⟩ => ⟨S2048x8728, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S2048x2048, .f32⟩
  | .hbm, ⟨14, _⟩ => ⟨S128x2048, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S_, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S_, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S2048x2048, .f32⟩
  | .hbm, ⟨38, _⟩ => ⟨S2048x2048, .f32⟩
  | .hbm, ⟨39, _⟩ => ⟨S128x2048, .bf16⟩
  | .hbm, ⟨40, _⟩ => ⟨S2048x2048, .bf16⟩
  | .hbm, ⟨41, _⟩ => ⟨S2048x2048, .bf16⟩
  | .hbm, ⟨42, _⟩ => ⟨S1024x2048, .bf16⟩
  | .hbm, ⟨43, _⟩ => ⟨S1024x2048, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== OutS.lean ====
abbrev S128x1x2048 : Shape := ⟨3, ![128, 1, 2048]⟩
abbrev S128x2048 : Shape := ⟨2, ![128, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S128 : Shape := ⟨1, ![128]⟩
abbrev S128x1 : Shape := ⟨2, ![128, 1]⟩

abbrev nBuf : Space → Nat
  | .hbm => 11
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S128x2048, .bf16⟩
  | .hbm, ⟨2, _⟩ => ⟨S1x2048x2048, .f32⟩
  | .hbm, ⟨3, _⟩ => ⟨S1x2048, .f32⟩
  | .hbm, ⟨4, _⟩ => ⟨S128x2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S128x2048, .f32⟩
  | .hbm, ⟨9, _⟩ => ⟨S128x2048, .bf16⟩
  | .hbm, ⟨10, _⟩ => ⟨S2048x2048, .bf16⟩
  | .local _ .vmem, ⟨0, _⟩ => ⟨S128x2048, .f32⟩
  | .local _ .vmem, ⟨1, _⟩ => ⟨S128x2048, .bf16⟩
  | .local _ .vmem, ⟨2, _⟩ => ⟨S2048x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .bf16⟩
  | .local _ .vmem, ⟨6, _⟩ => ⟨S2048x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutSRefIdeal.lean ====
abbrev S128x1x2048 : Shape := ⟨3, ![128, 1, 2048]⟩
abbrev S128x2048 : Shape := ⟨2, ![128, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S128 : Shape := ⟨1, ![128]⟩
abbrev S128x1 : Shape := ⟨2, ![128, 1]⟩

abbrev nBuf : Space → Nat
  | .hbm => 29
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x2048, .bf16⟩
  | .hbm, ⟨2, _⟩ => ⟨S1x2048x2048, .f32⟩
  | .hbm, ⟨3, _⟩ => ⟨S1x2048, .f32⟩
  | .hbm, ⟨4, _⟩ => ⟨S128x2048, .f32⟩
  | .hbm, ⟨5, _⟩ => ⟨S128x2048, .f32⟩
  | .hbm, ⟨6, _⟩ => ⟨S2048x2048, .f32⟩
  | .hbm, ⟨7, _⟩ => ⟨S128x2048, .f32⟩
  | .hbm, ⟨8, _⟩ => ⟨S128x2048, .f32⟩
  | .hbm, ⟨9, _⟩ => ⟨S2048, .f32⟩
  | .hbm, ⟨10, _⟩ => ⟨S128x2048, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x2048, .f32⟩
  | .hbm, ⟨22, _⟩ => ⟨S128x2048, .f32⟩
  | .hbm, ⟨23, _⟩ => ⟨S1x2048, .f32⟩
  | .hbm, ⟨24, _⟩ => ⟨S128x2048, .f32⟩
  | .hbm, ⟨25, _⟩ => ⟨S128x2048, .f32⟩
  | .hbm, ⟨26, _⟩ => ⟨S128x2048, .bf16⟩
  | .hbm, ⟨27, _⟩ => ⟨S2048x2048, .f32⟩
  | .hbm, ⟨28, _⟩ => ⟨S2048x2048, .bf16⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FfnS.lean ====
abbrev S128x2048 : Shape := ⟨2, ![128, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S2048x512 : Shape := ⟨2, ![2048, 512]⟩
abbrev S512x2048 : Shape := ⟨2, ![512, 2048]⟩
abbrev S128x512 : Shape := ⟨2, ![128, 512]⟩

abbrev nBuf : Space → Nat
  | .hbm => 9
  | .vmem => 11
  | .smem => 0
  | _ => 0

abbrev bufTy : (tb : Table) → Fin (tcTables nBuf tb) → BufTy
  | .hbm, ⟨0, _⟩ => ⟨S128x2048, .bf16⟩
  | .hbm, ⟨1, _⟩ => ⟨S128x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S8192x2048, .f32⟩
  | .hbm, ⟨6, _⟩ => ⟨S128x2048, .f32⟩
  | .hbm, ⟨7, _⟩ => ⟨S2048x8192, .bf16⟩
  | .hbm, ⟨8, _⟩ => ⟨S8192x2048, .bf16⟩
  | .local _ .vmem, ⟨0, _⟩ => ⟨S128x2048, .bf16⟩
  | .local _ .vmem, ⟨1, _⟩ => ⟨S128x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S128x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== FfnSRefIdeal.lean ====
abbrev S128x2048 : Shape := ⟨2, ![128, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S128x8192 : Shape := ⟨2, ![128, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S8192x2048, .f32⟩
  | .hbm, ⟨6, _⟩ => ⟨S128x2048, .f32⟩
  | .hbm, ⟨7, _⟩ => ⟨S128x8192, .f32⟩
  | .hbm, ⟨8, _⟩ => ⟨S_, .f32⟩
  | .hbm, ⟨9, _⟩ => ⟨S128x8192, .f32⟩
  | .hbm, ⟨10, _⟩ => ⟨S128x8192, .f32⟩
  | .hbm, ⟨11, _⟩ => ⟨S128x8192, .f32⟩
  | .hbm, ⟨12, _⟩ => ⟨S128x2048, .f32⟩
  | .hbm, ⟨13, _⟩ => ⟨S128x2048, .f32⟩
  | .hbm, ⟨14, _⟩ => ⟨S2048x8192, .bf16⟩
  | .hbm, ⟨15, _⟩ => ⟨S8192x2048, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== InS.lean ====
abbrev S128x1x2048 : Shape := ⟨3, ![128, 1, 2048]⟩
abbrev S1x2048 : Shape := ⟨2, ![1, 2048]⟩
abbrev S1x2048x8728 : Shape := ⟨3, ![1, 2048, 8728]⟩
abbrev S1x1024 : Shape := ⟨2, ![1, 1024]⟩
abbrev S1x8x128x128 : Shape := ⟨4, ![1, 8, 128, 128]⟩
abbrev S1x8x128 : Shape := ⟨3, ![1, 8, 128]⟩
abbrev S1x128 : Shape := ⟨2, ![1, 128]⟩
abbrev S2048x8728 : Shape := ⟨2, ![2048, 8728]⟩
abbrev S8728x2048 : Shape := ⟨2, ![8728, 2048]⟩
abbrev S2048 : Shape := ⟨1, ![2048]⟩
abbrev S1024 : Shape := ⟨1, ![1024]⟩
abbrev S128 : Shape := ⟨1, ![128]⟩
abbrev S8x128x128 : Shape := ⟨3, ![8, 128, 128]⟩
abbrev S8x1x1 : Shape := ⟨3, ![8, 1, 1]⟩
abbrev S8 : Shape := ⟨1, ![8]⟩
abbrev S8x128 : Shape := ⟨2, ![8, 128]⟩
abbrev S8x1 : Shape := ⟨2, ![8, 1]⟩
abbrev S128x2048 : Shape := ⟨2, ![128, 2048]⟩
abbrev S128x1024 : Shape := ⟨2, ![128, 1024]⟩
abbrev S512x128 : Shape := ⟨2, ![512, 128]⟩
abbrev S128x256 : Shape := ⟨2, ![128, 256]⟩
abbrev S5120x2048 : Shape := ⟨2, ![5120, 2048]⟩
abbrev S1024x2048 : Shape := ⟨2, ![1024, 2048]⟩
abbrev S128x1 : Shape := ⟨2, ![128, 1]⟩
abbrev S512x2048 : Shape := ⟨2, ![512, 2048]⟩
abbrev S128x512 : Shape := ⟨2, ![128, 512]⟩
abbrev S1x512 : Shape := ⟨2, ![1, 512]⟩
abbrev S128x128 : Shape := ⟨2, ![128, 128]⟩
abbrev S384x2048 : Shape := ⟨2, ![384, 2048]⟩

abbrev nBuf : Space → Nat
  | .hbm => 37
  | .vmem => 20
  | .smem => 0
  | _ => 0

abbrev bufTy : (tb : Table) → Fin (tcTables nBuf tb) → BufTy
  | .hbm, ⟨0, _⟩ => ⟨S128x1x2048, .f32⟩
  | .hbm, ⟨1, _⟩ => ⟨S1x2048, .f32⟩
  | .hbm, ⟨2, _⟩ => ⟨S1x2048x8728, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x128, .f32⟩
  | .hbm, ⟨7, _⟩ => ⟨S2048x8728, .f32⟩
  | .hbm, ⟨8, _⟩ => ⟨S8728x2048, .f32⟩
  | .hbm, ⟨9, _⟩ => ⟨S2048, .f32⟩
  | .hbm, ⟨10, _⟩ => ⟨S1x2048, .f32⟩
  | .hbm, ⟨11, _⟩ => ⟨S1024, .f32⟩
  | .hbm, ⟨12, _⟩ => ⟨S1x1024, .f32⟩
  | .hbm, ⟨13, _⟩ => ⟨S128, .f32⟩
  | .hbm, ⟨14, _⟩ => ⟨S1x128, .f32⟩
  | .hbm, ⟨15, _⟩ => ⟨S8x128x128, .f32⟩
  | .hbm, ⟨16, _⟩ => ⟨S8x1x1, .f32⟩
  | .hbm, ⟨17, _⟩ => ⟨S8, .f32⟩
  | .hbm, ⟨18, _⟩ => ⟨S8x128, .f32⟩
  | .hbm, ⟨19, _⟩ => ⟨S1024, .f32⟩
  | .hbm, ⟨20, _⟩ => ⟨S1x1024, .f32⟩
  | .hbm, ⟨21, _⟩ => ⟨S8x128, .f32⟩
  | .hbm, ⟨22, _⟩ => ⟨S8x1, .f32⟩
  | .hbm, ⟨23, _⟩ => ⟨S8, .f32⟩
  | .hbm, ⟨24, _⟩ => ⟨S8x128, .f32⟩
  | .hbm, ⟨25, _⟩ => ⟨S1024, .f32⟩
  | .hbm, ⟨26, _⟩ => ⟨S1x1024, .f32⟩
  | .hbm, ⟨27, _⟩ => ⟨S128x2048, .f32⟩
  | .hbm, ⟨28, _⟩ => ⟨S128x2048, .bf16⟩
  | .hbm, ⟨29, _⟩ => ⟨S128x1024, .f32⟩
  | .hbm, ⟨30, _⟩ => ⟨S128x1024, .bf16⟩
  | .hbm, ⟨31, _⟩ => ⟨S128x1024, .bf16⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S128x256, .f32⟩
  | .hbm, ⟨36, _⟩ => ⟨S5120x2048, .bf16⟩
  | .local _ .vmem, ⟨0, _⟩ => ⟨S128x2048, .f32⟩
  | .local _ .vmem, ⟨1, _⟩ => ⟨S1x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S128x2048, .bf16⟩
  | .local _ .vmem, ⟨9, _⟩ => ⟨S128x1024, .f32⟩
  | .local _ .vmem, ⟨10, _⟩ => ⟨S128x1024, .bf16⟩
  | .local _ .vmem, ⟨11, _⟩ => ⟨S128x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S128x256, .f32⟩
  | .local _ .vmem, ⟨16, _⟩ => ⟨S1024x2048, .bf16⟩
  | .local _ .vmem, ⟨17, _⟩ => ⟨S1024x2048, .bf16⟩
  | .local _ .vmem, ⟨18, _⟩ => ⟨S128x2048, .bf16⟩
  | .local _ .vmem, ⟨19, _⟩ => ⟨S128x1024, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev main_v21_6 : Ref sig .tc := ⟨.hbm, 34, rfl⟩
abbrev main_v21_7 : Ref sig .tc := ⟨.hbm, 35, rfl⟩
abbrev main_v21_8 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S1024x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]
-- ==== InSRefIdeal.lean ====
abbrev S128x1x2048 : Shape := ⟨3, ![128, 1, 2048]⟩
abbrev S1x2048 : Shape := ⟨2, ![1, 2048]⟩
abbrev S1x2048x8728 : Shape := ⟨3, ![1, 2048, 8728]⟩
abbrev S1x1024 : Shape := ⟨2, ![1, 1024]⟩
abbrev S1x8x128x128 : Shape := ⟨4, ![1, 8, 128, 128]⟩
abbrev S1x8x128 : Shape := ⟨3, ![1, 8, 128]⟩
abbrev S1x128 : Shape := ⟨2, ![1, 128]⟩
abbrev S1x2048x4736 : Shape := ⟨3, ![1, 2048, 4736]⟩
abbrev S2048x4736 : Shape := ⟨2, ![2048, 4736]⟩
abbrev S128x2048 : Shape := ⟨2, ![128, 2048]⟩
abbrev S2048 : Shape := ⟨1, ![2048]⟩
abbrev S_ : Shape := ⟨0, ![]⟩
abbrev S128 : Shape := ⟨1, ![128]⟩
abbrev S128x1 : Shape := ⟨2, ![128, 1]⟩
abbrev S128x4736 : Shape := ⟨2, ![128, 4736]⟩
abbrev S128x1024 : Shape := ⟨2, ![128, 1024]⟩
abbrev S1024 : Shape := ⟨1, ![1024]⟩
abbrev S128x8x128 : Shape := ⟨3, ![128, 8, 128]⟩
abbrev S1x8x1x1 : Shape := ⟨4, ![1, 8, 1, 1]⟩
abbrev S8 : Shape := ⟨1, ![8]⟩
abbrev S8x1 : Shape := ⟨2, ![8, 1]⟩
abbrev S1x8x1 : Shape := ⟨3, ![1, 8, 1]⟩
abbrev S128x8 : Shape := ⟨2, ![128, 8]⟩
abbrev S128x8x1 : Shape := ⟨3, ![128, 8, 1]⟩
abbrev S1x1x128 : Shape := ⟨3, ![1, 1, 128]⟩
abbrev S128x128 : Shape := ⟨2, ![128, 128]⟩
abbrev S128x512 : Shape := ⟨2, ![128, 512]⟩
abbrev S512x128 : Shape := ⟨2, ![512, 128]⟩
abbrev S128x116 : Shape := ⟨2, ![128, 116]⟩
abbrev S128x12 : Shape := ⟨2, ![128, 12]⟩
abbrev S128x256 : Shape := ⟨2, ![128, 256]⟩
abbrev S4736x2048 : Shape := ⟨2, ![4736, 2048]⟩
abbrev S384x2048 : Shape := ⟨2, ![384, 2048]⟩
abbrev S5120x2048 : Shape := ⟨2, ![5120, 2048]⟩

abbrev nBuf : Space → Nat
  | .hbm => 129
  | .vmem => 0
  | .smem => 0
  | _ => 0

abbrev hbmTy0_0 (i : Nat) : BufTy := match i % 128 with
  | 0 => ⟨S128x1x2048, .f32⟩
  | 1 => ⟨S1x2048, .f32⟩
  | 2 => ⟨S1x2048x8728, .f32⟩
  | 3 => ⟨S1x1024, .f32⟩
  | 4 => ⟨S1x8x128x128, .f32⟩
  | 5 => ⟨S1x8x128, .f32⟩
  | 6 => ⟨S1x128, .f32⟩
  | 7 => ⟨S1x2048x4736, .f32⟩
  | 8 => ⟨S2048x4736, .f32⟩
  | 9 => ⟨S128x2048, .f32⟩
  | 10 => ⟨S2048, .f32⟩
  | 11 => ⟨S128x2048, .f32⟩
  | 12 => ⟨S_, .f32⟩
  | 13 => ⟨S128, .f32⟩
  | 14 => ⟨S128x1, .f32⟩
  | 15 => ⟨S_, .f32⟩
  | 16 => ⟨S128x1, .f32⟩
  | 17 => ⟨S128x1, .f32⟩
  | 18 => ⟨S_, .f32⟩
  | 19 => ⟨S128x1, .f32⟩
  | 20 => ⟨S128x1, .f32⟩
  | 21 => ⟨S128x1, .f32⟩
  | 22 => ⟨S128x2048, .f32⟩
  | 23 => ⟨S128x2048, .f32⟩
  | 24 => ⟨S1x2048, .f32⟩
  | 25 => ⟨S128x2048, .f32⟩
  | 26 => ⟨S128x2048, .f32⟩
  | 27 => ⟨S128x4736, .f32⟩
  | 28 => ⟨S128x2048, .f32⟩
  | 29 => ⟨S128x2048, .f32⟩
  | 30 => ⟨S128x2048, .f32⟩
  | 31 => ⟨S_, .f32⟩
  | 32 => ⟨S128x2048, .f32⟩
  | 33 => ⟨S128x2048, .f32⟩
  | 34 => ⟨S128x2048, .f32⟩
  | 35 => ⟨S_, .f32⟩
  | 36 => ⟨S128x2048, .f32⟩
  | 37 => ⟨S128x2048, .f32⟩
  | 38 => ⟨S128x2048, .f32⟩
  | 39 => ⟨S_, .f32⟩
  | 40 => ⟨S128x2048, .f32⟩
  | 41 => ⟨S128x2048, .f32⟩
  | 42 => ⟨S_, .f32⟩
  | 43 => ⟨S128x2048, .f32⟩
  | 44 => ⟨S128x2048, .f32⟩
  | 45 => ⟨S128x2048, .f32⟩
  | 46 => ⟨S128x1024, .f32⟩
  | 47 => ⟨S128x1024, .f32⟩
  | 48 => ⟨S1024, .f32⟩
  | 49 => ⟨S128x1024, .f32⟩
  | 50 => ⟨S_, .f32⟩
  | 51 => ⟨S128, .f32⟩
  | 52 => ⟨S128x1, .f32⟩
  | 53 => ⟨S_, .f32⟩
  | 54 => ⟨S128x1, .f32⟩
  | 55 => ⟨S128x1, .f32⟩
  | 56 => ⟨S_, .f32⟩
  | 57 => ⟨S128x1, .f32⟩
  | 58 => ⟨S128x1, .f32⟩
  | 59 => ⟨S128x1, .f32⟩
  | 60 => ⟨S128x1024, .f32⟩
  | 61 => ⟨S128x1024, .f32⟩
  | 62 => ⟨S1x1024, .f32⟩
  | 63 => ⟨S128x1024, .f32⟩
  | 64 => ⟨S128x1024, .f32⟩
  | 65 => ⟨S128x8x128, .f32⟩
  | 66 => ⟨S1x8x1x1, .f32⟩
  | 67 => ⟨S8, .f32⟩
  | 68 => ⟨S8x1, .f32⟩
  | 69 => ⟨S1x8x1, .f32⟩
  | 70 => ⟨S128x8x128, .f32⟩
  | 71 => ⟨S128x8x128, .f32⟩
  | 72 => ⟨S1x8x1, .f32⟩
  | 73 => ⟨S8, .f32⟩
  | 74 => ⟨S8x1, .f32⟩
  | 75 => ⟨S1x8x1, .f32⟩
  | 76 => ⟨S128x8x128, .f32⟩
  | 77 => ⟨S128x8x128, .f32⟩
  | 78 => ⟨S128x1024, .f32⟩
  | 79 => ⟨S128x1024, .f32⟩
  | 80 => ⟨S128x1024, .f32⟩
  | 81 => ⟨S128x8x128, .f32⟩
  | 82 => ⟨S128, .f32⟩
  | 83 => ⟨S128x8x128, .f32⟩
  | 84 => ⟨S_, .f32⟩
  | 85 => ⟨S128x8, .f32⟩
  | 86 => ⟨S128x8x1, .f32⟩
  | 87 => ⟨S_, .f32⟩
  | 88 => ⟨S128x8x1, .f32⟩
  | 89 => ⟨S128x8x1, .f32⟩
  | 90 => ⟨S_, .f32⟩
  | 91 => ⟨S128x8x1, .f32⟩
  | 92 => ⟨S128x8x1, .f32⟩
  | 93 => ⟨S128x8x1, .f32⟩
  | 94 => ⟨S128x8x128, .f32⟩
  | 95 => ⟨S128x8x128, .f32⟩
  | 96 => ⟨S1x1x128, .f32⟩
  | 97 => ⟨S128x8x128, .f32⟩
  | 98 => ⟨S128x8x128, .f32⟩
  | 99 => ⟨S_, .f32⟩
  | 100 => ⟨S128x8x128, .f32⟩
  | 101 => ⟨S128x8x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S_, .f32⟩
  | 109 => ⟨S128x128, .f32⟩
  | 110 => ⟨S128x128, .f32⟩
  | 111 => ⟨S128x2048, .bf16⟩
  | 112 => ⟨S128x1024, .bf16⟩
  | 113 => ⟨S128x1024, .f32⟩
  | 114 => ⟨S128x1024, .bf16⟩
  | 115 => ⟨S128x512, .f32⟩
  | 116 => ⟨S512x128, .f32⟩
  | 117 => ⟨S128x512, .f32⟩
  | 118 => ⟨S512x128, .f32⟩
  | 119 => ⟨S128x512, .f32⟩
  | 120 => ⟨S512x128, .f32⟩
  | 121 => ⟨S128x116, .f32⟩
  | 122 => ⟨S128x12, .f32⟩
  | 123 => ⟨S128x256, .f32⟩
  | 124 => ⟨S4736x2048, .f32⟩
  | 125 => ⟨S4736x2048, .bf16⟩
  | 126 => ⟨S_, .bf16⟩
  | 127 => ⟨S384x2048, .bf16⟩
  | _ => ⟨S128x1x2048, .f32⟩

abbrev hbmTy0_1 (i : Nat) : BufTy := match i % 128 with
  | 0 => ⟨S5120x2048, .bf16⟩
  | _ => ⟨S128x1x2048, .f32⟩

abbrev hbmTy (i : Nat) : BufTy := match i / 128 with
  | 0 => hbmTy0_0 i
  | 1 => hbmTy0_1 i
  | _ => ⟨S128x1x2048, .f32⟩

abbrev bufTy : (tb : Table) → Fin (tcTables nBuf tb) → BufTy
  | .hbm, ⟨i, _⟩ => hbmTy i
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_15 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== InP.lean ====
abbrev S2x4096x2048 : Shape := ⟨3, ![2, 4096, 2048]⟩
abbrev S1x2048 : Shape := ⟨2, ![1, 2048]⟩
abbrev S5120x2048 : Shape := ⟨2, ![5120, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x128 : Shape := ⟨2, ![1, 128]⟩
abbrev S2048 : Shape := ⟨1, ![2048]⟩
abbrev S1024 : Shape := ⟨1, ![1024]⟩
abbrev S128 : Shape := ⟨1, ![128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8192x2048 : Shape := ⟨2, ![8192, 2048]⟩
abbrev S8x128x128 : Shape := ⟨3, ![8, 128, 128]⟩
abbrev S8192x1024 : Shape := ⟨2, ![8192, 1024]⟩
abbrev S32768x128 : Shape := ⟨2, ![32768, 128]⟩
abbrev S8192x256 : Shape := ⟨2, ![8192, 256]⟩
abbrev S512x2048 : Shape := ⟨2, ![512, 2048]⟩
abbrev S1024x2048 : Shape := ⟨2, ![1024, 2048]⟩
abbrev S512x1024 : Shape := ⟨2, ![512, 1024]⟩
abbrev S2048x128 : Shape := ⟨2, ![2048, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S128x128 : Shape := ⟨2, ![128, 128]⟩
abbrev S1x128x128 : Shape := ⟨3, ![1, 128, 128]⟩
abbrev S512x128 : Shape := ⟨2, ![512, 128]⟩
abbrev S128x2048 : Shape := ⟨2, ![128, 2048]⟩

abbrev nBuf : Space → Nat
  | .hbm => 27
  | .vmem => 27
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S5120x2048, .bf16⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x128, .f32⟩
  | .hbm, ⟨7, _⟩ => ⟨S2048, .f32⟩
  | .hbm, ⟨8, _⟩ => ⟨S1x2048, .f32⟩
  | .hbm, ⟨9, _⟩ => ⟨S1024, .f32⟩
  | .hbm, ⟨10, _⟩ => ⟨S1x1024, .f32⟩
  | .hbm, ⟨11, _⟩ => ⟨S128, .f32⟩
  | .hbm, ⟨12, _⟩ => ⟨S1x128, .f32⟩
  | .hbm, ⟨13, _⟩ => ⟨S8x128, .f32⟩
  | .hbm, ⟨14, _⟩ => ⟨S128x8, .f32⟩
  | .hbm, ⟨15, _⟩ => ⟨S128x8x128, .f32⟩
  | .hbm, ⟨16, _⟩ => ⟨S128x1024, .f32⟩
  | .hbm, ⟨17, _⟩ => ⟨S8192x2048, .f32⟩
  | .hbm, ⟨18, _⟩ => ⟨S8x128x128, .f32⟩
  | .hbm, ⟨19, _⟩ => ⟨S8192x2048, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1x1024, .f32⟩
  | .local _ .vmem, ⟨6, _⟩ => ⟨S1x128, .f32⟩
  | .local _ .vmem, ⟨7, _⟩ => ⟨S8x128x128, .f32⟩
  | .local _ .vmem, ⟨8, _⟩ => ⟨S128x1024, .f32⟩
  | .local _ .vmem, ⟨9, _⟩ => ⟨S512x2048, .bf16⟩
  | .local _ .vmem, ⟨10, _⟩ => ⟨S512x2048, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S512x256, .f32⟩
  | .local _ .vmem, ⟨24, _⟩ => ⟨S512x256, .f32⟩
  | .local _ .vmem, ⟨25, _⟩ => ⟨S512x2048, .bf16⟩
  | .local _ .vmem, ⟨26, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== InPRefIdeal.lean ====
abbrev S2x4096x2048 : Shape := ⟨3, ![2, 4096, 2048]⟩
abbrev S1x2048 : Shape := ⟨2, ![1, 2048]⟩
abbrev S5120x2048 : Shape := ⟨2, ![5120, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x128 : Shape := ⟨2, ![1, 128]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S4736x2048 : Shape := ⟨2, ![4736, 2048]⟩
abbrev S2048x4736 : Shape := ⟨2, ![2048, 4736]⟩
abbrev S8192x4736 : Shape := ⟨2, ![8192, 4736]⟩
abbrev S8192x1024 : Shape := ⟨2, ![8192, 1024]⟩
abbrev S1024 : Shape := ⟨1, ![1024]⟩
abbrev S128x128 : Shape := ⟨2, ![128, 128]⟩
abbrev S8x128x128 : Shape := ⟨3, ![8, 128, 128]⟩
abbrev S64x128x8x128 : Shape := ⟨4, ![64, 128, 8, 128]⟩
abbrev S8x64x128x128 : Shape := ⟨4, ![8, 64, 128, 128]⟩
abbrev S8x128 : Shape := ⟨2, ![8, 128]⟩
abbrev S128x8 : Shape := ⟨2, ![128, 8]⟩
abbrev S128x8x1 : Shape := ⟨3, ![128, 8, 1]⟩
abbrev S1x128x8x1 : Shape := ⟨4, ![1, 128, 8, 1]⟩
abbrev S8192x8x128 : Shape := ⟨3, ![8192, 8, 128]⟩
abbrev S128 : Shape := ⟨1, ![128]⟩
abbrev S8192x8 : Shape := ⟨2, ![8192, 8]⟩
abbrev S8192x8x1 : Shape := ⟨3, ![8192, 8, 1]⟩
abbrev S1x1x128 : Shape := ⟨3, ![1, 1, 128]⟩
abbrev S8192x128 : Shape := ⟨2, ![8192, 128]⟩
abbrev S8192x512 : Shape := ⟨2, ![8192, 512]⟩
abbrev S32768x128 : Shape := ⟨2, ![32768, 128]⟩
abbrev S8192x116 : Shape := ⟨2, ![8192, 116]⟩
abbrev S8192x12 : Shape := ⟨2, ![8192, 12]⟩
abbrev S8192x256 : Shape := ⟨2, ![8192, 256]⟩

abbrev nBuf : Space → Nat
  | .hbm => 138
  | .vmem => 0
  | .smem => 0
  | _ => 0

abbrev hbmTy0_0 (i : Nat) : BufTy := match i % 128 with
  | 0 => ⟨S2x4096x2048, .f32⟩
  | 1 => ⟨S1x2048, .f32⟩
  | 2 => ⟨S5120x2048, .bf16⟩
  | 3 => ⟨S1x1024, .f32⟩
  | 4 => ⟨S1x8x128x128, .f32⟩
  | 5 => ⟨S1x8x128, .f32⟩
  | 6 => ⟨S1x128, .f32⟩
  | 7 => ⟨S8192x2048, .f32⟩
  | 8 => ⟨S2048, .f32⟩
  | 9 => ⟨S8192x2048, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x2048, .f32⟩
  | 21 => ⟨S8192x2048, .f32⟩
  | 22 => ⟨S1x2048, .f32⟩
  | 23 => ⟨S8192x2048, .f32⟩
  | 24 => ⟨S8192x2048, .f32⟩
  | 25 => ⟨S4736x2048, .bf16⟩
  | 26 => ⟨S2048x4736, .bf16⟩
  | 27 => ⟨S2048x4736, .f32⟩
  | 28 => ⟨S8192x4736, .f32⟩
  | 29 => ⟨S8192x2048, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S8192x2048, .f32⟩
  | 47 => ⟨S8192x1024, .f32⟩
  | 48 => ⟨S8192x1024, .f32⟩
  | 49 => ⟨S1024, .f32⟩
  | 50 => ⟨S8192x1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S_, .i1⟩
  | 67 => ⟨S128x128, .i1⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .i1⟩
  | 75 => ⟨S128x128, .i1⟩
  | 76 => ⟨S128x128, .i1⟩
  | 77 => ⟨S8x128x128, .f32⟩
  | 78 => ⟨S_, .f32⟩
  | 79 => ⟨S_, .f32⟩
  | 80 => ⟨S8x128x128, .i1⟩
  | 81 => ⟨S8x128x128, .f32⟩
  | 82 => ⟨S8x128x128, .f32⟩
  | 83 => ⟨S64x128x8x128, .f32⟩
  | 84 => ⟨S8x64x128x128, .f32⟩
  | 85 => ⟨S64x128x8x128, .f32⟩
  | 86 => ⟨S8x128, .f32⟩
  | 87 => ⟨S128x8, .f32⟩
  | 88 => ⟨S128x8x1, .f32⟩
  | 89 => ⟨S1x128x8x1, .f32⟩
  | 90 => ⟨S64x128x8x128, .f32⟩
  | 91 => ⟨S64x128x8x128, .f32⟩
  | 92 => ⟨S8192x1024, .f32⟩
  | 93 => ⟨S8192x1024, .f32⟩
  | 94 => ⟨S8192x1024, .f32⟩
  | 95 => ⟨S8192x8x128, .f32⟩
  | 96 => ⟨S128, .f32⟩
  | 97 => ⟨S8192x8x128, .f32⟩
  | 98 => ⟨S_, .f32⟩
  | 99 => ⟨S8192x8, .f32⟩
  | 100 => ⟨S8192x8x1, .f32⟩
  | 101 => ⟨S_, .f32⟩
  | 102 => ⟨S8192x8x1, .f32⟩
  | 103 => ⟨S8192x8x1, .f32⟩
  | 104 => ⟨S_, .f32⟩
  | 105 => ⟨S8192x8x1, .f32⟩
  | 106 => ⟨S8192x8x1, .f32⟩
  | 107 => ⟨S8192x8x1, .f32⟩
  | 108 => ⟨S8192x8x128, .f32⟩
  | 109 => ⟨S8192x8x128, .f32⟩
  | 110 => ⟨S1x1x128, .f32⟩
  | 111 => ⟨S8192x8x128, .f32⟩
  | 112 => ⟨S8192x8x128, .f32⟩
  | 113 => ⟨S_, .f32⟩
  | 114 => ⟨S8192x8x128, .f32⟩
  | 115 => ⟨S8192x8x128, .f32⟩
  | 116 => ⟨S8192x128, .f32⟩
  | 117 => ⟨S8192x128, .f32⟩
  | 118 => ⟨S8192x128, .f32⟩
  | 119 => ⟨S_, .f32⟩
  | 120 => ⟨S8192x128, .f32⟩
  | 121 => ⟨S8192x128, .f32⟩
  | 122 => ⟨S_, .f32⟩
  | 123 => ⟨S8192x128, .f32⟩
  | 124 => ⟨S8192x128, .f32⟩
  | 125 => ⟨S8192x2048, .bf16⟩
  | 126 => ⟨S8192x1024, .bf16⟩
  | 127 => ⟨S8192x1024, .f32⟩
  | _ => ⟨S2x4096x2048, .f32⟩

abbrev hbmTy0_1 (i : Nat) : BufTy := match i % 128 with
  | 0 => ⟨S8192x1024, .bf16⟩
  | 1 => ⟨S8192x512, .f32⟩
  | 2 => ⟨S32768x128, .f32⟩
  | 3 => ⟨S8192x512, .f32⟩
  | 4 => ⟨S32768x128, .f32⟩
  | 5 => ⟨S8192x512, .f32⟩
  | 6 => ⟨S32768x128, .f32⟩
  | 7 => ⟨S8192x116, .f32⟩
  | 8 => ⟨S8192x12, .f32⟩
  | 9 => ⟨S8192x256, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c : Ref sig .tc := ⟨.hbm, 66, rfl⟩
abbrev main_v49 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]
-- ==== KvP.lean ====
abbrev S32768x128 : Shape := ⟨2, ![32768, 128]⟩
abbrev S1x3x128 : Shape := ⟨3, ![1, 3, 128]⟩
abbrev S2x16384x128 : Shape := ⟨3, ![2, 16384, 128]⟩
abbrev S3x128 : Shape := ⟨2, ![3, 128]⟩
abbrev S2x2x4608x256 : Shape := ⟨4, ![2, 2, 4608, 256]⟩
abbrev S2x2x4608x128 : Shape := ⟨4, ![2, 2, 4608, 128]⟩
abbrev S1x2048x128 : Shape := ⟨3, ![1, 2048, 128]⟩
abbrev S1x2x512x256 : Shape := ⟨4, ![1, 2, 512, 256]⟩
abbrev S1x2x512x128 : Shape := ⟨4, ![1, 2, 512, 128]⟩
abbrev S512x128 : Shape := ⟨2, ![512, 128]⟩
abbrev S512x256 : Shape := ⟨2, ![512, 256]⟩
abbrev S1x1x512x256 : Shape := ⟨4, ![1, 1, 512, 256]⟩
abbrev S1x1x512x128 : Shape := ⟨4, ![1, 1, 512, 128]⟩
abbrev S1x512x128 : Shape := ⟨3, ![1, 512, 128]⟩
abbrev S512 : Shape := ⟨1, ![512]⟩
abbrev S512x1 : Shape := ⟨2, ![512, 1]⟩
abbrev S1x128 : Shape := ⟨2, ![1, 128]⟩

abbrev nBuf : Space → Nat
  | .hbm => 10
  | .vmem => 13
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x3x128, .f32⟩
  | .hbm, ⟨3, _⟩ => ⟨S2x16384x128, .f32⟩
  | .hbm, ⟨4, _⟩ => ⟨S2x16384x128, .f32⟩
  | .hbm, ⟨5, _⟩ => ⟨S3x128, .f32⟩
  | .hbm, ⟨6, _⟩ => ⟨S2x2x4608x256, .bf16⟩
  | .hbm, ⟨7, _⟩ => ⟨S2x2x4608x128, .bf16⟩
  | .hbm, ⟨8, _⟩ => ⟨S2x2x4608x256, .bf16⟩
  | .hbm, ⟨9, _⟩ => ⟨S2x2x4608x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S3x128, .f32⟩
  | .local _ .vmem, ⟨5, _⟩ => ⟨S1x2x512x256, .bf16⟩
  | .local _ .vmem, ⟨6, _⟩ => ⟨S1x2x512x256, .bf16⟩
  | .local _ .vmem, ⟨7, _⟩ => ⟨S1x2x512x128, .bf16⟩
  | .local _ .vmem, ⟨8, _⟩ => ⟨S1x2x512x128, .bf16⟩
  | .local _ .vmem, ⟨9, _⟩ => ⟨S1x2x512x256, .bf16⟩
  | .local _ .vmem, ⟨10, _⟩ => ⟨S1x2x512x256, .bf16⟩
  | .local _ .vmem, ⟨11, _⟩ => ⟨S1x2x512x128, .bf16⟩
  | .local _ .vmem, ⟨12, _⟩ => ⟨S1x2x512x128, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KvPRefIdeal.lean ====
abbrev S32768x128 : Shape := ⟨2, ![32768, 128]⟩
abbrev S1x3x128 : Shape := ⟨3, ![1, 3, 128]⟩
abbrev S2x4096x2x2x128 : Shape := ⟨5, ![2, 4096, 2, 2, 128]⟩
abbrev S2x2x2x4096x128 : Shape := ⟨5, ![2, 2, 2, 4096, 128]⟩
abbrev S4096x128 : Shape := ⟨2, ![4096, 128]⟩
abbrev S_ : Shape := ⟨0, ![]⟩
abbrev S512x128 : Shape := ⟨2, ![512, 128]⟩
abbrev S1x2x2x4096x128 : Shape := ⟨5, ![1, 2, 2, 4096, 128]⟩
abbrev S2x2x4096x128 : Shape := ⟨4, ![2, 2, 4096, 128]⟩
abbrev S1x1x128 : Shape := ⟨3, ![1, 1, 128]⟩
abbrev S128 : Shape := ⟨1, ![128]⟩
abbrev S2x2x4096 : Shape := ⟨3, ![2, 2, 4096]⟩
abbrev S2x2x4096x1 : Shape := ⟨4, ![2, 2, 4096, 1]⟩
abbrev S1x1x1x128 : Shape := ⟨4, ![1, 1, 1, 128]⟩
abbrev S2x2x512x128 : Shape := ⟨4, ![2, 2, 512, 128]⟩
abbrev S2x2x4608x128 : Shape := ⟨4, ![2, 2, 4608, 128]⟩
abbrev S4608x128 : Shape := ⟨2, ![4608, 128]⟩
abbrev S2x2x4608x256 : Shape := ⟨4, ![2, 2, 4608, 256]⟩

abbrev nBuf : Space → Nat
  | .hbm => 105
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x3x128, .f32⟩
  | .hbm, ⟨3, _⟩ => ⟨S2x4096x2x2x128, .f32⟩
  | .hbm, ⟨4, _⟩ => ⟨S2x2x2x4096x128, .f32⟩
  | .hbm, ⟨5, _⟩ => ⟨S2x4096x2x2x128, .f32⟩
  | .hbm, ⟨6, _⟩ => ⟨S2x2x2x4096x128, .f32⟩
  | .hbm, ⟨7, _⟩ => ⟨S4096x128, .i32⟩
  | .hbm, ⟨8, _⟩ => ⟨S4096x128, .i32⟩
  | .hbm, ⟨9, _⟩ => ⟨S_, .i32⟩
  | .hbm, ⟨10, _⟩ => ⟨S4096x128, .i32⟩
  | .hbm, ⟨11, _⟩ => ⟨S4096x128, .i32⟩
  | .hbm, ⟨12, _⟩ => ⟨S4096x128, .i1⟩
  | .hbm, ⟨13, _⟩ => ⟨S_, .i32⟩
  | .hbm, ⟨14, _⟩ => ⟨S4096x128, .i32⟩
  | .hbm, ⟨15, _⟩ => ⟨S4096x128, .i32⟩
  | .hbm, ⟨16, _⟩ => ⟨S_, .i32⟩
  | .hbm, ⟨17, _⟩ => ⟨S4096x128, .i32⟩
  | .hbm, ⟨18, _⟩ => ⟨S4096x128, .i32⟩
  | .hbm, ⟨19, _⟩ => ⟨S4096x128, .i1⟩
  | .hbm, ⟨20, _⟩ => ⟨S4096x128, .i1⟩
  | .hbm, ⟨21, _⟩ => ⟨S_, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S512x128, .i32⟩
  | .hbm, ⟨27, _⟩ => ⟨S_, .i32⟩
  | .hbm, ⟨28, _⟩ => ⟨S512x128, .i32⟩
  | .hbm, ⟨29, _⟩ => ⟨S512x128, .i1⟩
  | .hbm, ⟨30, _⟩ => ⟨S_, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S1x2x2x4096x128, .f32⟩
  | .hbm, ⟨36, _⟩ => ⟨S2x2x4096x128, .f32⟩
  | .hbm, ⟨37, _⟩ => ⟨S1x1x128, .f32⟩
  | .hbm, ⟨38, _⟩ => ⟨S128, .f32⟩
  | .hbm, ⟨39, _⟩ => ⟨S2x2x4096x128, .f32⟩
  | .hbm, ⟨40, _⟩ => ⟨S_, .f32⟩
  | .hbm, ⟨41, _⟩ => ⟨S2x2x4096, .f32⟩
  | .hbm, ⟨42, _⟩ => ⟨S2x2x4096x1, .f32⟩
  | .hbm, ⟨43, _⟩ => ⟨S_, .f32⟩
  | .hbm, ⟨44, _⟩ => ⟨S2x2x4096x1, .f32⟩
  | .hbm, ⟨45, _⟩ => ⟨S2x2x4096x1, .f32⟩
  | .hbm, ⟨46, _⟩ => ⟨S_, .f32⟩
  | .hbm, ⟨47, _⟩ => ⟨S2x2x4096x1, .f32⟩
  | .hbm, ⟨48, _⟩ => ⟨S2x2x4096x1, .f32⟩
  | .hbm, ⟨49, _⟩ => ⟨S2x2x4096x1, .f32⟩
  | .hbm, ⟨50, _⟩ => ⟨S2x2x4096x128, .f32⟩
  | .hbm, ⟨51, _⟩ => ⟨S2x2x4096x128, .f32⟩
  | .hbm, ⟨52, _⟩ => ⟨S1x1x1x128, .f32⟩
  | .hbm, ⟨53, _⟩ => ⟨S2x2x4096x128, .f32⟩
  | .hbm, ⟨54, _⟩ => ⟨S2x2x4096x128, .f32⟩
  | .hbm, ⟨55, _⟩ => ⟨S_, .f32⟩
  | .hbm, ⟨56, _⟩ => ⟨S2x2x512x128, .f32⟩
  | .hbm, ⟨57, _⟩ => ⟨S2x2x4608x128, .f32⟩
  | .hbm, ⟨58, _⟩ => ⟨S4608x128, .f32⟩
  | .hbm, ⟨59, _⟩ => ⟨S2x2x4608x128, .f32⟩
  | .hbm, ⟨60, _⟩ => ⟨S2x2x4608x128, .f32⟩
  | .hbm, ⟨61, _⟩ => ⟨S2x2x4608x256, .f32⟩
  | .hbm, ⟨62, _⟩ => ⟨S1x2x2x4096x128, .f32⟩
  | .hbm, ⟨63, _⟩ => ⟨S2x2x4096x128, .f32⟩
  | .hbm, ⟨64, _⟩ => ⟨S1x1x128, .f32⟩
  | .hbm, ⟨65, _⟩ => ⟨S128, .f32⟩
  | .hbm, ⟨66, _⟩ => ⟨S2x2x4096x128, .f32⟩
  | .hbm, ⟨67, _⟩ => ⟨S_, .f32⟩
  | .hbm, ⟨68, _⟩ => ⟨S2x2x4096, .f32⟩
  | .hbm, ⟨69, _⟩ => ⟨S2x2x4096x1, .f32⟩
  | .hbm, ⟨70, _⟩ => ⟨S_, .f32⟩
  | .hbm, ⟨71, _⟩ => ⟨S2x2x4096x1, .f32⟩
  | .hbm, ⟨72, _⟩ => ⟨S2x2x4096x1, .f32⟩
  | .hbm, ⟨73, _⟩ => ⟨S_, .f32⟩
  | .hbm, ⟨74, _⟩ => ⟨S2x2x4096x1, .f32⟩
  | .hbm, ⟨75, _⟩ => ⟨S2x2x4096x1, .f32⟩
  | .hbm, ⟨76, _⟩ => ⟨S2x2x4096x1, .f32⟩
  | .hbm, ⟨77, _⟩ => ⟨S2x2x4096x128, .f32⟩
  | .hbm, ⟨78, _⟩ => ⟨S2x2x4096x128, .f32⟩
  | .hbm, ⟨79, _⟩ => ⟨S1x1x1x128, .f32⟩
  | .hbm, ⟨80, _⟩ => ⟨S2x2x4096x128, .f32⟩
  | .hbm, ⟨81, _⟩ => ⟨S2x2x4096x128, .f32⟩
  | .hbm, ⟨82, _⟩ => ⟨S_, .f32⟩
  | .hbm, ⟨83, _⟩ => ⟨S2x2x512x128, .f32⟩
  | .hbm, ⟨84, _⟩ => ⟨S2x2x4608x128, .f32⟩
  | .hbm, ⟨85, _⟩ => ⟨S_, .f32⟩
  | .hbm, ⟨86, _⟩ => ⟨S4096x128, .f32⟩
  | .hbm, ⟨87, _⟩ => ⟨S512x128, .f32⟩
  | .hbm, ⟨88, _⟩ => ⟨S4608x128, .f32⟩
  | .hbm, ⟨89, _⟩ => ⟨S2x2x4608x128, .f32⟩
  | .hbm, ⟨90, _⟩ => ⟨S2x2x4608x256, .f32⟩
  | .hbm, ⟨91, _⟩ => ⟨S1x2x2x4096x128, .f32⟩
  | .hbm, ⟨92, _⟩ => ⟨S2x2x4096x128, .f32⟩
  | .hbm, ⟨93, _⟩ => ⟨S_, .f32⟩
  | .hbm, ⟨94, _⟩ => ⟨S2x2x512x128, .f32⟩
  | .hbm, ⟨95, _⟩ => ⟨S2x2x4608x128, .f32⟩
  | .hbm, ⟨96, _⟩ => ⟨S1x2x2x4096x128, .f32⟩
  | .hbm, ⟨97, _⟩ => ⟨S2x2x4096x128, .f32⟩
  | .hbm, ⟨98, _⟩ => ⟨S_, .f32⟩
  | .hbm, ⟨99, _⟩ => ⟨S2x2x512x128, .f32⟩
  | .hbm, ⟨100, _⟩ => ⟨S2x2x4608x128, .f32⟩
  | .hbm, ⟨101, _⟩ => ⟨S2x2x4608x256, .bf16⟩
  | .hbm, ⟨102, _⟩ => ⟨S2x2x4608x128, .bf16⟩
  | .hbm, ⟨103, _⟩ => ⟨S2x2x4608x256, .bf16⟩
  | .hbm, ⟨104, _⟩ => ⟨S2x2x4608x128, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== CmpP.lean ====
abbrev S32768x128 : Shape := ⟨2, ![32768, 128]⟩
abbrev S1x32x128x128 : Shape := ⟨4, ![1, 32, 128, 128]⟩
abbrev S1x32x128 : Shape := ⟨3, ![1, 32, 128]⟩
abbrev S1x3x128 : Shape := ⟨3, ![1, 3, 128]⟩
abbrev S2x16384x128 : Shape := ⟨3, ![2, 16384, 128]⟩
abbrev S32x128x128 : Shape := ⟨3, ![32, 128, 128]⟩
abbrev S32x128 : Shape := ⟨2, ![32, 128]⟩
abbrev S2x8x2x128x128 : Shape := ⟨5, ![2, 8, 2, 128, 128]⟩
abbrev S1x8x1x128x128 : Shape := ⟨5, ![1, 8, 1, 128, 128]⟩
abbrev S8x128x128 : Shape := ⟨3, ![8, 128, 128]⟩
abbrev S8x128x256 : Shape := ⟨3, ![8, 128, 256]⟩
abbrev S8x256x256 : Shape := ⟨3, ![8, 256, 256]⟩
abbrev S2x8x2x128 : Shape := ⟨4, ![2, 8, 2, 128]⟩
abbrev S1x8x1x128 : Shape := ⟨4, ![1, 8, 1, 128]⟩
abbrev S8x128 : Shape := ⟨2, ![8, 128]⟩
abbrev S8x256 : Shape := ⟨2, ![8, 256]⟩
abbrev S8x1x256 : Shape := ⟨3, ![8, 1, 256]⟩
abbrev S_ : Shape := ⟨0, ![]⟩
abbrev S8x14x256 : Shape := ⟨3, ![8, 14, 256]⟩
abbrev S8x16x256 : Shape := ⟨3, ![8, 16, 256]⟩
abbrev S1x8x16x256 : Shape := ⟨4, ![1, 8, 16, 256]⟩
abbrev S2x8x16x256 : Shape := ⟨4, ![2, 8, 16, 256]⟩
abbrev S3x128 : Shape := ⟨2, ![3, 128]⟩
abbrev S2x2x376x256 : Shape := ⟨4, ![2, 2, 376, 256]⟩
abbrev S2x2x376x128 : Shape := ⟨4, ![2, 2, 376, 128]⟩
abbrev S1x16384x128 : Shape := ⟨3, ![1, 16384, 128]⟩
abbrev S1x2x376x256 : Shape := ⟨4, ![1, 2, 376, 256]⟩
abbrev S1x2x376x128 : Shape := ⟨4, ![1, 2, 376, 128]⟩
abbrev S528x256 : Shape := ⟨2, ![528, 256]⟩
abbrev S1x256x128 : Shape := ⟨3, ![1, 256, 128]⟩
abbrev S256x128 : Shape := ⟨2, ![256, 128]⟩
abbrev S256x256 : Shape := ⟨2, ![256, 256]⟩
abbrev S1x1x16x256 : Shape := ⟨4, ![1, 1, 16, 256]⟩
abbrev S16x256 : Shape := ⟨2, ![16, 256]⟩
abbrev S1x256x256 : Shape := ⟨3, ![1, 256, 256]⟩
abbrev S1x128 : Shape := ⟨2, ![1, 128]⟩
abbrev S16x128 : Shape := ⟨2, ![16, 128]⟩
abbrev S104x128 : Shape := ⟨2, ![104, 128]⟩
abbrev S104x256 : Shape := ⟨2, ![104, 256]⟩
abbrev S256 : Shape := ⟨1, ![256]⟩
abbrev S256x1 : Shape := ⟨2, ![256, 1]⟩
abbrev S1x1x256x256 : Shape := ⟨4, ![1, 1, 256, 256]⟩
abbrev S1x1x104x256 : Shape := ⟨4, ![1, 1, 104, 256]⟩
abbrev S1x1x16x128 : Shape := ⟨4, ![1, 1, 16, 128]⟩
abbrev S1x1x256x128 : Shape := ⟨4, ![1, 1, 256, 128]⟩
abbrev S1x1x104x128 : Shape := ⟨4, ![1, 1, 104, 128]⟩

abbrev nBuf : Space → Nat
  | .hbm => 77
  | .vmem => 10
  | .smem => 0
  | _ => 0

abbrev bufTy : (tb : Table) → Fin (tcTables nBuf tb) → BufTy
  | .hbm, ⟨0, _⟩ => ⟨S32768x128, .f32⟩
  | .hbm, ⟨1, _⟩ => ⟨S1x32x128x128, .f32⟩
  | .hbm, ⟨2, _⟩ => ⟨S1x32x128, .f32⟩
  | .hbm, ⟨3, _⟩ => ⟨S1x32x128x128, .f32⟩
  | .hbm, ⟨4, _⟩ => ⟨S1x32x128, .f32⟩
  | .hbm, ⟨5, _⟩ => ⟨S1x3x128, .f32⟩
  | .hbm, ⟨6, _⟩ => ⟨S2x16384x128, .f32⟩
  | .hbm, ⟨7, _⟩ => ⟨S32x128x128, .f32⟩
  | .hbm, ⟨8, _⟩ => ⟨S32x128, .f32⟩
  | .hbm, ⟨9, _⟩ => ⟨S2x8x2x128x128, .f32⟩
  | .hbm, ⟨10, _⟩ => ⟨S1x8x1x128x128, .f32⟩
  | .hbm, ⟨11, _⟩ => ⟨S8x128x128, .f32⟩
  | .hbm, ⟨12, _⟩ => ⟨S1x8x1x128x128, .f32⟩
  | .hbm, ⟨13, _⟩ => ⟨S8x128x128, .f32⟩
  | .hbm, ⟨14, _⟩ => ⟨S8x128x256, .f32⟩
  | .hbm, ⟨15, _⟩ => ⟨S1x8x1x128x128, .f32⟩
  | .hbm, ⟨16, _⟩ => ⟨S8x128x128, .f32⟩
  | .hbm, ⟨17, _⟩ => ⟨S1x8x1x128x128, .f32⟩
  | .hbm, ⟨18, _⟩ => ⟨S8x128x128, .f32⟩
  | .hbm, ⟨19, _⟩ => ⟨S8x128x256, .f32⟩
  | .hbm, ⟨20, _⟩ => ⟨S8x256x256, .f32⟩
  | .hbm, ⟨21, _⟩ => ⟨S8x256x256, .bf16⟩
  | .hbm, ⟨22, _⟩ => ⟨S2x8x2x128, .f32⟩
  | .hbm, ⟨23, _⟩ => ⟨S1x8x1x128, .f32⟩
  | .hbm, ⟨24, _⟩ => ⟨S8x128, .f32⟩
  | .hbm, ⟨25, _⟩ => ⟨S1x8x1x128, .f32⟩
  | .hbm, ⟨26, _⟩ => ⟨S8x128, .f32⟩
  | .hbm, ⟨27, _⟩ => ⟨S8x256, .f32⟩
  | .hbm, ⟨28, _⟩ => ⟨S1x8x1x128, .f32⟩
  | .hbm, ⟨29, _⟩ => ⟨S8x128, .f32⟩
  | .hbm, ⟨30, _⟩ => ⟨S1x8x1x128, .f32⟩
  | .hbm, ⟨31, _⟩ => ⟨S8x128, .f32⟩
  | .hbm, ⟨32, _⟩ => ⟨S8x256, .f32⟩
  | .hbm, ⟨33, _⟩ => ⟨S8x1x256, .f32⟩
  | .hbm, ⟨34, _⟩ => ⟨S8x1x256, .f32⟩
  | .hbm, ⟨35, _⟩ => ⟨S_, .f32⟩
  | .hbm, ⟨36, _⟩ => ⟨S8x14x256, .f32⟩
  | .hbm, ⟨37, _⟩ => ⟨S8x16x256, .f32⟩
  | .hbm, ⟨38, _⟩ => ⟨S8x16x256, .bf16⟩
  | .hbm, ⟨39, _⟩ => ⟨S32x128x128, .f32⟩
  | .hbm, ⟨40, _⟩ => ⟨S32x128, .f32⟩
  | .hbm, ⟨41, _⟩ => ⟨S2x8x2x128x128, .f32⟩
  | .hbm, ⟨42, _⟩ => ⟨S1x8x1x128x128, .f32⟩
  | .hbm, ⟨43, _⟩ => ⟨S8x128x128, .f32⟩
  | .hbm, ⟨44, _⟩ => ⟨S1x8x1x128x128, .f32⟩
  | .hbm, ⟨45, _⟩ => ⟨S8x128x128, .f32⟩
  | .hbm, ⟨46, _⟩ => ⟨S8x128x256, .f32⟩
  | .hbm, ⟨47, _⟩ => ⟨S1x8x1x128x128, .f32⟩
  | .hbm, ⟨48, _⟩ => ⟨S8x128x128, .f32⟩
  | .hbm, ⟨49, _⟩ => ⟨S1x8x1x128x128, .f32⟩
  | .hbm, ⟨50, _⟩ => ⟨S8x128x128, .f32⟩
  | .hbm, ⟨51, _⟩ => ⟨S8x128x256, .f32⟩
  | .hbm, ⟨52, _⟩ => ⟨S8x256x256, .f32⟩
  | .hbm, ⟨53, _⟩ => ⟨S8x256x256, .bf16⟩
  | .hbm, ⟨54, _⟩ => ⟨S2x8x2x128, .f32⟩
  | .hbm, ⟨55, _⟩ => ⟨S1x8x1x128, .f32⟩
  | .hbm, ⟨56, _⟩ => ⟨S8x128, .f32⟩
  | .hbm, ⟨57, _⟩ => ⟨S1x8x1x128, .f32⟩
  | .hbm, ⟨58, _⟩ => ⟨S8x128, .f32⟩
  | .hbm, ⟨59, _⟩ => ⟨S8x256, .f32⟩
  | .hbm, ⟨60, _⟩ => ⟨S1x8x1x128, .f32⟩
  | .hbm, ⟨61, _⟩ => ⟨S8x128, .f32⟩
  | .hbm, ⟨62, _⟩ => ⟨S1x8x1x128, .f32⟩
  | .hbm, ⟨63, _⟩ => ⟨S8x128, .f32⟩
  | .hbm, ⟨64, _⟩ => ⟨S8x256, .f32⟩
  | .hbm, ⟨65, _⟩ => ⟨S8x1x256, .f32⟩
  | .hbm, ⟨66, _⟩ => ⟨S8x1x256, .f32⟩
  | .hbm, ⟨67, _⟩ => ⟨S_, .f32⟩
  | .hbm, ⟨68, _⟩ => ⟨S8x14x256, .f32⟩
  | .hbm, ⟨69, _⟩ => ⟨S8x16x256, .f32⟩
  | .hbm, ⟨70, _⟩ => ⟨S8x16x256, .bf16⟩
  | .hbm, ⟨71, _⟩ => ⟨S1x8x16x256, .bf16⟩
  | .hbm, ⟨72, _⟩ => ⟨S1x8x16x256, .bf16⟩
  | .hbm, ⟨73, _⟩ => ⟨S2x8x16x256, .bf16⟩
  | .hbm, ⟨74, _⟩ => ⟨S3x128, .f32⟩
  | .hbm, ⟨75, _⟩ => ⟨S2x2x376x256, .f32⟩
  | .hbm, ⟨76, _⟩ => ⟨S2x2x376x128, .f32⟩
  | .local _ .vmem, ⟨0, _⟩ => ⟨S1x16384x128, .f32⟩
  | .local _ .vmem, ⟨1, _⟩ => ⟨S1x16384x128, .f32⟩
  | .local _ .vmem, ⟨2, _⟩ => ⟨S8x256x256, .bf16⟩
  | .local _ .vmem, ⟨3, _⟩ => ⟨S8x256x256, .bf16⟩
  | .local _ .vmem, ⟨4, _⟩ => ⟨S2x8x16x256, .bf16⟩
  | .local _ .vmem, ⟨5, _⟩ => ⟨S3x128, .f32⟩
  | .local _ .vmem, ⟨6, _⟩ => ⟨S1x2x376x256, .f32⟩
  | .local _ .vmem, ⟨7, _⟩ => ⟨S1x2x376x256, .f32⟩
  | .local _ .vmem, ⟨8, _⟩ => ⟨S1x2x376x128, .f32⟩
  | .local _ .vmem, ⟨9, _⟩ => ⟨S1x2x376x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_0 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67_0 : Ref sig .tc := ⟨.hbm, 75, rfl⟩
abbrev main_v67_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x16x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x376x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x376x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CmpPRefIdeal.lean ====
abbrev S32768x128 : Shape := ⟨2, ![32768, 128]⟩
abbrev S1x32x128x128 : Shape := ⟨4, ![1, 32, 128, 128]⟩
abbrev S1x32x128 : Shape := ⟨3, ![1, 32, 128]⟩
abbrev S1x3x128 : Shape := ⟨3, ![1, 3, 128]⟩
abbrev S2x4096x2x2x128 : Shape := ⟨5, ![2, 4096, 2, 2, 128]⟩
abbrev S255x128 : Shape := ⟨2, ![255, 128]⟩
abbrev S_ : Shape := ⟨0, ![]⟩
abbrev S16x128 : Shape := ⟨2, ![16, 128]⟩
abbrev S105x128 : Shape := ⟨2, ![105, 128]⟩
abbrev S376x128 : Shape := ⟨2, ![376, 128]⟩
abbrev S2x2x376x128 : Shape := ⟨4, ![2, 2, 376, 128]⟩
abbrev S2x4096x1x2x128 : Shape := ⟨5, ![2, 4096, 1, 2, 128]⟩
abbrev S2x4096x2x128 : Shape := ⟨4, ![2, 4096, 2, 128]⟩
abbrev S32x128x128 : Shape := ⟨3, ![32, 128, 128]⟩
abbrev S32x128 : Shape := ⟨2, ![32, 128]⟩
abbrev S2x256x16x2x128 : Shape := ⟨5, ![2, 256, 16, 2, 128]⟩
abbrev S2x16x128x128 : Shape := ⟨4, ![2, 16, 128, 128]⟩
abbrev S2x16x1x128 : Shape := ⟨4, ![2, 16, 1, 128]⟩
abbrev S2x255x16x2x128 : Shape := ⟨5, ![2, 255, 16, 2, 128]⟩
abbrev S1x16x1x128 : Shape := ⟨4, ![1, 16, 1, 128]⟩
abbrev S16x1x128 : Shape := ⟨3, ![16, 1, 128]⟩
abbrev S1x1x16x1x128 : Shape := ⟨5, ![1, 1, 16, 1, 128]⟩
abbrev S2x2x255x16x128 : Shape := ⟨5, ![2, 2, 255, 16, 128]⟩
abbrev S2x2x255x2048 : Shape := ⟨4, ![2, 2, 255, 2048]⟩
abbrev S1x16x128x128 : Shape := ⟨4, ![1, 16, 128, 128]⟩
abbrev S16x128x128 : Shape := ⟨3, ![16, 128, 128]⟩
abbrev S2048x128 : Shape := ⟨2, ![2048, 128]⟩
abbrev S2x2x255x128 : Shape := ⟨4, ![2, 2, 255, 128]⟩
abbrev S1x1x128 : Shape := ⟨3, ![1, 1, 128]⟩
abbrev S128 : Shape := ⟨1, ![128]⟩
abbrev S2x2x255 : Shape := ⟨3, ![2, 2, 255]⟩
abbrev S2x2x255x1 : Shape := ⟨4, ![2, 2, 255, 1]⟩
abbrev S1x1x1x128 : Shape := ⟨4, ![1, 1, 1, 128]⟩
abbrev S2x2x16x128 : Shape := ⟨4, ![2, 2, 16, 128]⟩
abbrev S2x2x105x128 : Shape := ⟨4, ![2, 2, 105, 128]⟩
abbrev S2x2x376x256 : Shape := ⟨4, ![2, 2, 376, 256]⟩

abbrev nBuf : Space → Nat
  | .hbm => 140
  | .vmem => 0
  | .smem => 0
  | _ => 0

abbrev hbmTy0_0 (i : Nat) : BufTy := match i % 128 with
  | 0 => ⟨S32768x128, .f32⟩
  | 1 => ⟨S1x32x128x128, .f32⟩
  | 2 => ⟨S1x32x128, .f32⟩
  | 3 => ⟨S1x32x128x128, .f32⟩
  | 4 => ⟨S1x32x128, .f32⟩
  | 5 => ⟨S1x3x128, .f32⟩
  | 6 => ⟨S2x4096x2x2x128, .f32⟩
  | 7 => ⟨S255x128, .i32⟩
  | 8 => ⟨S255x128, .i32⟩
  | 9 => ⟨S_, .i32⟩
  | 10 => ⟨S255x128, .i32⟩
  | 11 => ⟨S255x128, .i32⟩
  | 12 => ⟨S255x128, .i1⟩
  | 13 => ⟨S_, .i32⟩
  | 14 => ⟨S255x128, .i32⟩
  | 15 => ⟨S255x128, .i32⟩
  | 16 => ⟨S_, .i32⟩
  | 17 => ⟨S255x128, .i32⟩
  | 18 => ⟨S255x128, .i32⟩
  | 19 => ⟨S255x128, .i1⟩
  | 20 => ⟨S255x128, .i1⟩
  | 21 => ⟨S_, .f32⟩
  | 22 => ⟨S_, .f32⟩
  | 23 => ⟨S255x128, .f32⟩
  | 24 => ⟨S255x128, .f32⟩
  | 25 => ⟨S255x128, .f32⟩
  | 26 => ⟨S16x128, .i32⟩
  | 27 => ⟨S_, .i32⟩
  | 28 => ⟨S16x128, .i32⟩
  | 29 => ⟨S16x128, .i1⟩
  | 30 => ⟨S_, .f32⟩
  | 31 => ⟨S_, .f32⟩
  | 32 => ⟨S16x128, .f32⟩
  | 33 => ⟨S16x128, .f32⟩
  | 34 => ⟨S16x128, .f32⟩
  | 35 => ⟨S105x128, .i32⟩
  | 36 => ⟨S_, .i32⟩
  | 37 => ⟨S105x128, .i32⟩
  | 38 => ⟨S105x128, .i1⟩
  | 39 => ⟨S_, .f32⟩
  | 40 => ⟨S_, .f32⟩
  | 41 => ⟨S105x128, .f32⟩
  | 42 => ⟨S105x128, .f32⟩
  | 43 => ⟨S105x128, .f32⟩
  | 44 => ⟨S376x128, .f32⟩
  | 45 => ⟨S2x2x376x128, .f32⟩
  | 46 => ⟨S2x4096x1x2x128, .f32⟩
  | 47 => ⟨S2x4096x2x128, .f32⟩
  | 48 => ⟨S32x128x128, .f32⟩
  | 49 => ⟨S32x128, .f32⟩
  | 50 => ⟨S2x256x16x2x128, .f32⟩
  | 51 => ⟨S2x16x128x128, .f32⟩
  | 52 => ⟨S2x16x1x128, .f32⟩
  | 53 => ⟨S2x255x16x2x128, .f32⟩
  | 54 => ⟨S1x16x1x128, .f32⟩
  | 55 => ⟨S16x1x128, .f32⟩
  | 56 => ⟨S1x1x16x1x128, .f32⟩
  | 57 => ⟨S2x255x16x2x128, .f32⟩
  | 58 => ⟨S2x255x16x2x128, .f32⟩
  | 59 => ⟨S2x2x255x16x128, .f32⟩
  | 60 => ⟨S2x2x255x2048, .f32⟩
  | 61 => ⟨S1x16x128x128, .f32⟩
  | 62 => ⟨S16x128x128, .f32⟩
  | 63 => ⟨S2048x128, .f32⟩
  | 64 => ⟨S2x2x255x128, .f32⟩
  | 65 => ⟨S2x255x16x2x128, .f32⟩
  | 66 => ⟨S1x16x1x128, .f32⟩
  | 67 => ⟨S16x1x128, .f32⟩
  | 68 => ⟨S1x1x16x1x128, .f32⟩
  | 69 => ⟨S2x255x16x2x128, .f32⟩
  | 70 => ⟨S2x255x16x2x128, .f32⟩
  | 71 => ⟨S2x2x255x16x128, .f32⟩
  | 72 => ⟨S2x2x255x2048, .f32⟩
  | 73 => ⟨S1x16x128x128, .f32⟩
  | 74 => ⟨S16x128x128, .f32⟩
  | 75 => ⟨S2048x128, .f32⟩
  | 76 => ⟨S2x2x255x128, .f32⟩
  | 77 => ⟨S2x2x255x128, .f32⟩
  | 78 => ⟨S1x1x128, .f32⟩
  | 79 => ⟨S128, .f32⟩
  | 80 => ⟨S2x2x255x128, .f32⟩
  | 81 => ⟨S_, .f32⟩
  | 82 => ⟨S2x2x255, .f32⟩
  | 83 => ⟨S2x2x255x1, .f32⟩
  | 84 => ⟨S_, .f32⟩
  | 85 => ⟨S2x2x255x1, .f32⟩
  | 86 => ⟨S2x2x255x1, .f32⟩
  | 87 => ⟨S_, .f32⟩
  | 88 => ⟨S2x2x255x1, .f32⟩
  | 89 => ⟨S2x2x255x1, .f32⟩
  | 90 => ⟨S2x2x255x1, .f32⟩
  | 91 => ⟨S2x2x255x128, .f32⟩
  | 92 => ⟨S2x2x255x128, .f32⟩
  | 93 => ⟨S1x1x1x128, .f32⟩
  | 94 => ⟨S2x2x255x128, .f32⟩
  | 95 => ⟨S2x2x255x128, .f32⟩
  | 96 => ⟨S2x4096x1x2x128, .f32⟩
  | 97 => ⟨S2x4096x2x128, .f32⟩
  | 98 => ⟨S32x128x128, .f32⟩
  | 99 => ⟨S32x128, .f32⟩
  | 100 => ⟨S2x256x16x2x128, .f32⟩
  | 101 => ⟨S2x16x128x128, .f32⟩
  | 102 => ⟨S2x16x1x128, .f32⟩
  | 103 => ⟨S2x255x16x2x128, .f32⟩
  | 104 => ⟨S1x16x1x128, .f32⟩
  | 105 => ⟨S16x1x128, .f32⟩
  | 106 => ⟨S1x1x16x1x128, .f32⟩
  | 107 => ⟨S2x255x16x2x128, .f32⟩
  | 108 => ⟨S2x255x16x2x128, .f32⟩
  | 109 => ⟨S2x2x255x16x128, .f32⟩
  | 110 => ⟨S2x2x255x2048, .f32⟩
  | 111 => ⟨S1x16x128x128, .f32⟩
  | 112 => ⟨S16x128x128, .f32⟩
  | 113 => ⟨S2048x128, .f32⟩
  | 114 => ⟨S2x2x255x128, .f32⟩
  | 115 => ⟨S2x255x16x2x128, .f32⟩
  | 116 => ⟨S1x16x1x128, .f32⟩
  | 117 => ⟨S16x1x128, .f32⟩
  | 118 => ⟨S1x1x16x1x128, .f32⟩
  | 119 => ⟨S2x255x16x2x128, .f32⟩
  | 120 => ⟨S2x255x16x2x128, .f32⟩
  | 121 => ⟨S2x2x255x16x128, .f32⟩
  | 122 => ⟨S2x2x255x2048, .f32⟩
  | 123 => ⟨S1x16x128x128, .f32⟩
  | 124 => ⟨S16x128x128, .f32⟩
  | 125 => ⟨S2048x128, .f32⟩
  | 126 => ⟨S2x2x255x128, .f32⟩
  | 127 => ⟨S2x2x255x128, .f32⟩
  | _ => ⟨S32768x128, .f32⟩

abbrev hbmTy0_1 (i : Nat) : BufTy := match i % 128 with
  | 0 => ⟨S_, .f32⟩
  | 1 => ⟨S2x2x16x128, .f32⟩
  | 2 => ⟨S_, .f32⟩
  | 3 => ⟨S2x2x105x128, .f32⟩
  | 4 => ⟨S2x2x376x128, .f32⟩
  | 5 => ⟨S2x2x376x128, .f32⟩
  | 6 => ⟨S2x2x376x256, .f32⟩
  | 7 => ⟨S_, .f32⟩
  | 8 => ⟨S2x2x16x128, .f32⟩
  | 9 => ⟨S_, .f32⟩
  | 10 => ⟨S2x2x105x128, .f32⟩
  | 11 => ⟨S2x2x376x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_cst_8 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_12 : Ref sig .tc := ⟨.hbm, 128, rfl⟩
abbrev main_v102 : Ref sig .tc := ⟨.hbm, 129, rfl⟩
abbrev main_cst_13 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_14 : Ref sig .tc := ⟨.hbm, 135, rfl⟩
abbrev main_v107 : Ref sig .tc := ⟨.hbm, 136, rfl⟩
abbrev main_cst_15 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== MergeP.lean ====
abbrev S8192x2048 : Shape := ⟨2, ![8192, 2048]⟩
abbrev S8192x1024 : Shape := ⟨2, ![8192, 1024]⟩
abbrev S2x4096x1024 : Shape := ⟨3, ![2, 4096, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2x4096x1024, .bf16⟩
  | .hbm, ⟨3, _⟩ => ⟨S2048x2048, .bf16⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S8192x1024, .bf16⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S512x512, .bf16⟩
  | .local _ .vmem, ⟨15, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergePRefIdeal.lean ====
abbrev S8192x2048 : Shape := ⟨2, ![8192, 2048]⟩
abbrev S8192x1024 : Shape := ⟨2, ![8192, 1024]⟩
abbrev S2x4096x1024 : Shape := ⟨3, ![2, 4096, 1024]⟩
abbrev S2048x2048 : Shape := ⟨2, ![2048, 2048]⟩
abbrev S1024x2048 : Shape := ⟨2, ![1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2x4096x1024, .bf16⟩
  | .hbm, ⟨3, _⟩ => ⟨S2048x2048, .bf16⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S2048x2048, .bf16⟩
  | .hbm, ⟨9, _⟩ => ⟨S8192x2048, .f32⟩
  | .hbm, ⟨10, _⟩ => ⟨S8192x1024, .f32⟩
  | .hbm, ⟨11, _⟩ => ⟨S2x4096x1024, .f32⟩
  | .hbm, ⟨12, _⟩ => ⟨S2048x2048, .f32⟩
  | .hbm, ⟨13, _⟩ => ⟨S2048x2048, .f32⟩
  | .hbm, ⟨14, _⟩ => ⟨S1024x2048, .f32⟩
  | .hbm, ⟨15, _⟩ => ⟨S1024x2048, .f32⟩
  | .hbm, ⟨16, _⟩ => ⟨S8192x1024, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== OutP.lean ====
abbrev S2x4096x2048 : Shape := ⟨3, ![2, 4096, 2048]⟩
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutPRefIdeal.lean ====
abbrev S2x4096x2048 : Shape := ⟨3, ![2, 4096, 2048]⟩
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnP.lean ====
abbrev S8192x2048 : Shape := ⟨2, ![8192, 2048]⟩
abbrev S2048x8192 : Shape := ⟨2, ![2048, 8192]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x8192, .bf16⟩
  | .hbm, ⟨3, _⟩ => ⟨S8192x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnPRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x8192, .bf16⟩
  | .hbm, ⟨3, _⟩ => ⟨S8192x2048, .bf16⟩
  | .hbm, ⟨4, _⟩ => ⟨S8192x2048, .f32⟩
  | .hbm, ⟨5, _⟩ => ⟨S2048x8192, .f32⟩
  | .hbm, ⟨6, _⟩ => ⟨S8192x2048, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.MergeValue.lean ====
/- The gated merge: what the pallas_call leaves in each of its five result arrays, as the reference's own values of the
   argument arrays. -/
module

public import proofs.«01_k».proof.Proof.Gen.KernelIdeal
public import proofs.«01_k».proof.Proof.Gen.KernelIdeal.Frame
public import proofs.«01_k».proof.Proof.Gen.KernelRefIdeal
public import proofs.«01_k».proof.Proof.Gen.KernelRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen
open Cert.KernelRefIdeal.Read

variable (m : (ℓ : Loc nD τ sig) → Buf (Elt Ideal) ℓ)

/-- Where each window sits at point `t`: the two gate windows at element rows `4632 + 512 t` and `6680 + 512 t`,
    the others at block indices. -/
theorem idx : ∀ t : Fin cfg0.N,
    win0_0.index t = ![0, 0] ∧ win0_1.index t = ![0, 0] ∧ win0_2.index t = ![0, 0]
    ∧ win0_3.index t = ![4632 + 512 * t.val, 0] ∧ win0_4.index t = ![6680 + 512 * t.val, 0]
    ∧ win0_5.index t = ![0, t.val] ∧ win0_6.index t = ![0, t.val]
    ∧ win0_7.index t = ![0, t.val] ∧ win0_8.index t = ![t.val, 0] ∧ win0_9.index t = ![t.val, 0]
    ∧ win0_10.index t = ![0, t.val] ∧ win0_11.index t = ![0, t.val] ∧ t.val < 4 :=
  (by decide +kernel : ∀ t : Fin grid0.N, _)

/-- An element-indexed window's block: index `y` of the block is `y` past the window's offset, on each axis. -/
theorem emb3 (t : Fin cfg0.N) (y : S512x2048.Idx) (a : Fin 2) :
    ((((View.whole main_v1).slice (win0_3.rect t)).emb y a : Fin _) : ℕ) = win0_3.index t a + (y a : ℕ) :=
  ValueKit.view_emb_slice_whole_unit_val main_v1 (win0_3.index t) S512x2048.size _ y a

theorem emb4 (t : Fin cfg0.N) (y : S512x2048.Idx) (a : Fin 2) :
    ((((View.whole main_v1).slice (win0_4.rect t)).emb y a : Fin _) : ℕ) = win0_4.index t a + (y a : ℕ) :=
  ValueKit.view_emb_slice_whole_unit_val main_v1 (win0_4.index t) S512x2048.size _ y a

/-- The block of gate window 3 at point `t`: rows `4632 + 512 t …` of the transposed weights, which are columns of the
    argument. -/
theorem gate3 (c : Dev nD) (t : Fin cfg0.N) (y : S512x2048.Idx) :
    (iblk m c 3 t : Vec Ideal S512x2048 .f32) y = (m ((c : Thread nD τ).loc main_arg3) : Vec Ideal S1x2048x8728 .f32)
      (ix3 0 (y 1) ⟨4632 + (t.val * 512 + (y 0).val), by
        have := (idx t).2.2.2.2.2.2.2.2.2.2.2.2; have : (y 0).val < 512 := (y 0).isLt; omega⟩) := by
  have h := (idx t).2.2.2.1
  have e0 := emb3 t y 0
  have e1 := emb3 t y 1
  rw [h] at e0 e1
  blk_simp [iblk]
  entry_read
  pointwise
  congr 1
  funext a
  apply Fin.ext
  match a with
  | ⟨0, _⟩ => rfl
  | ⟨1, _⟩ => exact e1.trans (Nat.zero_add _)
  | ⟨2, _⟩ => exact e0.trans (by show 4632 + 512 * t.val + (y 0).val = 4632 + (t.val * 512 + (y 0).val); omega)

/-- The block of gate window 4 at point `t`: rows `6680 + 512 t …` of the transposed weights, which are columns of the
    argument. -/
theorem gate4 (c : Dev nD) (t : Fin cfg0.N) (y : S512x2048.Idx) :
    (iblk m c 4 t : Vec Ideal S512x2048 .f32) y = (m ((c : Thread nD τ).loc main_arg3) : Vec Ideal S1x2048x8728 .f32)
      (ix3 0 (y 1) ⟨6680 + (t.val * 512 + (y 0).val), by
        have := (idx t).2.2.2.2.2.2.2.2.2.2.2.2; have : (y 0).val < 512 := (y 0).isLt; omega⟩) := by
  have h := (idx t).2.2.2.2.1
  have e0 := emb4 t y 0
  have e1 := emb4 t y 1
  rw [h] at e0 e1
  blk_simp [iblk]
  entry_read
  pointwise
  congr 1
  funext a
  apply Fin.ext
  match a with
  | ⟨0, _⟩ => rfl
  | ⟨1, _⟩ => exact e1.trans (Nat.zero_add _)
  | ⟨2, _⟩ => exact e0.trans (by show 6680 + 512 * t.val + (y 0).val = 6680 + (t.val * 512 + (y 0).val); omega)

/-- The first gate's weights, transposed and narrowed. -/
theorem final8 (c : Dev nD) : (dats m 0 c).arrAt 8 (cfgs 0).N
    = val_main_v30 (F := Ideal) (m ((c : Thread nD τ).loc main_arg3)) := by
  refine (dats m 0 c).arrAt_eq_of_covers 8 _ (by decide +kernel) fun t _ y => ?_
  blk_simp
  rw [after0_8]
  frame_out
  unfold_payloads
  pointwise [gate3, val_main_v30, val_main_v27, val_main_v6, val_main_v3]
  blk_point [iblk, V, idx t]

/-- The second gate's weights, transposed and narrowed. -/
theorem final9 (c : Dev nD) : (dats m 0 c).arrAt 9 (cfgs 0).N
    = val_main_v31 (F := Ideal) (m ((c : Thread nD τ).loc main_arg3)) := by
  refine (dats m 0 c).arrAt_eq_of_covers 9 _ (by decide +kernel) fun t _ y => ?_
  blk_simp
  rw [after0_9]
  frame_out
  unfold_payloads
  pointwise [gate4, val_main_v31, val_main_v28, val_main_v7, val_main_v3]
  blk_point [iblk, V, idx t]

/-- The first branch's projection, narrowed. -/
theorem final10 (c : Dev nD) : (dats m 0 c).arrAt 10 (cfgs 0).N
    = val_main_v32 (F := Ideal) (m ((c : Thread nD τ).loc main_arg4)) := by
  refine (dats m 0 c).arrAt_eq_of_covers 10 _ (by decide +kernel) fun t _ y => ?_
  blk_simp
  rw [after0_10]
  frame_out
  unfold_payloads
  pointwise [val_main_v32, val_main_v4]
  blk_point [iblk, V, idx t]

/-- The second branch's projection, narrowed. -/
theorem final11 (c : Dev nD) : (dats m 0 c).arrAt 11 (cfgs 0).N
    = val_main_v33 (F := Ideal) (m ((c : Thread nD τ).loc main_arg5)) := by
  refine (dats m 0 c).arrAt_eq_of_covers 11 _ (by decide +kernel) fun t _ y => ?_
  blk_simp
  rw [after0_11]
  frame_out
  unfold_payloads
  pointwise [val_main_v33, val_main_v5]
  blk_point [iblk, V, idx t]

/-- The merged branches: each gate's logistic of `h` times its weights, times its branch's projection, added. -/
theorem final7 (c : Dev nD) : (dats m 0 c).arrAt 7 (cfgs 0).N
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  unfold_payloads
  pointwise [gate3, gate4, zero_sub, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  blk_point [iblk, V, idx t]

end Cert.KernelIdeal.Merge

end
-- ==== Proof.OutSample.lean ====
/- The output projection of the sample group: its three result arrays as the reference's values. -/
module

public import proofs.«01_k».proof.Proof.Gen.OutSIdeal
public import proofs.«01_k».proof.Proof.Gen.OutSIdeal.Frame
public import proofs.«01_k».proof.Proof.Gen.OutSRefIdeal
public import proofs.«01_k».proof.Proof.Gen.OutSRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutSIdeal.OutSample

open Cert.OutSIdeal Cert.OutSIdeal.Gen
open Cert.OutSRefIdeal.Read

variable (m : (ℓ : Loc nD τ sig) → Buf (Elt Ideal) ℓ)

/-- Where each window sits at point `t`. -/
theorem idx : ∀ t : Fin cfg0.N,
    win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![0, 0] ∧ t.val < 1 :=
  (by decide +kernel : ∀ t : Fin grid0.N, _)

/-- The residual stream: the input rows plus the merged branches times the output weights. -/
theorem final4 (c : Dev nD) : (dats m 0 c).arrAt 4 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  unfold_payloads
  pointwise [val_main_v21, val_main_v20, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1, val_main_v0]
  blk_point [iblk, V, idx t]

/-- Its root-mean-square normalisation, narrowed. -/
theorem final5 (c : Dev nD) : (dats m 0 c).arrAt 5 (cfgs 0).N
    = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  unfold_payloads
  pointwise [val_main_v21, val_main_v20, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1, val_main_v0]
  blk_point [iblk, V, idx t]

/-- The output weights, narrowed. -/
theorem final6 (c : Dev nD) : (dats m 0 c).arrAt 6 (cfgs 0).N
    = val_main_v21 (F := Ideal) (m ((c : Thread nD τ).loc main_arg2)) := by
  refine (dats m 0 c).arrAt_eq_of_covers 6 _ (by decide +kernel) fun t _ y => ?_
  blk_simp
  rw [after0_6]
  frame_out
  unfold_payloads
  pointwise [val_main_v21, val_main_v20, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1, val_main_v0]
  blk_point [iblk, V, idx t]

end Cert.OutSIdeal.OutSample

end
-- ==== Proof.RunSum.lean ====
/- An accumulation over runs of grid points whose first point starts from a value of its own. -/
module

public import Idealize.ShloMosaic.Lib.Pipeline.ValueKit

@[expose] public section

noncomputable section

namespace Cert.RunSum

open Idealize.ShloMosaic

/-- A recursion over points `0, 1, …` in runs of `J`: the first point of a run holds `start` plus its term, every other
    point what the one before held plus its term. At a run's last point it is the run's `start` plus its `J` terms. -/
theorem start_add_sum {M : Type*} [AddCommMonoid M] {ι : Type*} {N : ℕ} (f : (n : ℕ) → n < N → ι → M) (J : ℕ) [NeZero J]
    (start term : Fin N → ι → M)
    (h0 : ∀ t : Fin N, t.val % J = 0 → ∀ i, f t.val t.isLt i = start t i + term t i)
    (hs : ∀ t : Fin N, ¬t.val % J = 0 → ∀ i,
      f t.val t.isLt i = f (t.val - 1) (Nat.lt_of_le_of_lt (Nat.sub_le _ _) t.isLt) i + term t i)
    (t : Fin N) (hr : t.val % J = J - 1) (i : ι) :
    f t.val t.isLt i = start ⟨J * (t.val / J), Nat.lt_of_le_of_lt (Nat.mul_div_le _ _) t.isLt⟩ i
      + ∑ s : Fin J, term ⟨J * (t.val / J) + s.val, Pipeline.run_point_lt_of_flush t hr s⟩ i := by
  have key := Pipeline.eq_sum_fin_of_reset_step_apply_of_flush f J (fun _ => 0)
    (fun t i => (if t.val % J = 0 then start t i else 0) + term t i)
    (fun t h i => by rw [h0 t h i, if_pos h, zero_add])
    (fun t h i => by rw [hs t h i, if_neg h, zero_add]) t hr i
  rw [key, zero_add, Finset.sum_add_distrib]
  congr 1
  have hmod : ∀ s : Fin J, (J * (t.val / J) + s.val) % J = s.val := fun s => by
    rw [Nat.mul_add_mod, Nat.mod_eq_of_lt s.isLt]
  rw [Finset.sum_eq_single (0 : Fin J)]
  · exact (if_pos ((hmod 0).trans (Fin.val_zero J))).trans (congrArg (fun p => start p i) (Fin.ext (by
      show J * (t.val / J) + (0 : Fin J).val = J * (t.val / J)
      rw [Fin.val_zero J, Nat.add_zero])))
  · intro s _ hne
    refine if_neg fun h => hne (Fin.ext ?_)
    exact ((hmod s).symm.trans h).trans (Fin.val_zero J).symm
  · exact fun h => absurd (Finset.mem_univ _) h

end Cert.RunSum

end
-- ==== Proof.FfnSample.lean ====
/- The feed-forward block of the sample group: its three result arrays as the reference's values. -/
module

public import proofs.«01_k».proof.Proof.Gen.FfnSIdeal
public import proofs.«01_k».proof.Proof.Gen.FfnSIdeal.Frame
public import proofs.«01_k».proof.Proof.Gen.FfnSRefIdeal
public import proofs.«01_k».proof.Proof.Gen.FfnSRefIdeal.Read
public import proofs.«01_k».proof.Proof.RunSum
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnSIdeal.FfnSample

open Cert.FfnSIdeal Cert.FfnSIdeal.Gen
open Cert.FfnSRefIdeal.Read

variable (m : (ℓ : Loc nD τ sig) → Buf (Elt Ideal) ℓ)

/-- Where each window sits at point `t`. -/
theorem idx : ∀ t : Fin cfg0.N,
    win0_0.index t = ![t.val / 16, 0]
    ∧ win0_1.index t = ![t.val / 16, 0]
    ∧ win0_2.index t = ![0, t.val % 16]
    ∧ win0_3.index t = ![t.val % 16, 0]
    ∧ win0_4.index t = ![t.val / 16, 0]
    ∧ win0_5.index t = ![0, t.val % 16]
    ∧ win0_6.index t = ![t.val % 16, 0] ∧ t.val < 16 :=
  (by decide +kernel : ∀ t : Fin grid0.N, _)

/-- One point's contribution to the block of the result: 512 hidden channels, squared after clipping at zero, times
    their rows of the second weights, on top of what the block held. -/
theorem pay_at (x2 : Vec Ideal S2048x512 .f32) (x3 : Vec Ideal S512x2048 .f32) (x0 : Vec Ideal S128x2048 .bf16)
    (acc : Vec Ideal S128x2048 .f32) (j : S128x2048.Idx) :
    k0_pay3 (F := Ideal) x2 x3 x0 acc j = acc j + ∑ k : Fin 512,
      max (∑ l : Fin 2048, x0 (ix2 (j 0) l) * x2 (ix2 l k)) 0 * max (∑ l : Fin 2048, x0 (ix2 (j 0) l) * x2 (ix2 l k)) 0
        * x3 (ix2 k (j 1)) := by
  pointwise [k0_pay1, k0_pay2, k0_pay3]

/-- The residual stream plus the feed-forward block's product. -/
theorem final4 (c : Dev nD) : (dats m 0 c).arrAt 4 (cfgs 0).N
    = val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, Cert.RunSum.start_add_sum (fun n h => (outsAt0 m c n h).1) 16
    (fun t => (iblk m c 1 t : Vec Ideal S128x2048 .f32)) _
    (fun t h j => by rw [outsAt0_A m c t h]; frame_out; rw [pay_at])
    (fun t h j => by rw [outsAt0_B m c t h]; frame_out; rw [pay_at])
    t ((flush0_4 t).mp hf) _]
  pointwise [val_main_v9, val_main_v8, val_main_v7, val_main_v6, val_main_v5, val_main_v4, val_main_call0_v0, val_main_call0_cst, val_main_v3, val_main_v2, val_main_v1, val_main_v0]
  show (_ : EReal) = _
  congr 1
  · blk_point [iblk, V, idx t, idx ⟨16 * (t.val / 16), Nat.lt_of_le_of_lt (Nat.mul_div_le _ _) t.isLt⟩]
  refine Fin.sum_mul_add_congr fun s k hl => ?_
  blk_point [iblk, V, idx t, idx ⟨_, Pipeline.run_point_lt_of_flush t ((flush0_4 t).mp hf) s⟩]

/-- The first weights, narrowed. -/
theorem final5 (c : Dev nD) : (dats m 0 c).arrAt 5 (cfgs 0).N
    = val_main_v8 (F := Ideal) (m ((c : Thread nD τ).loc main_arg2)) := by
  refine (dats m 0 c).arrAt_eq_of_covers 5 _ (by decide +kernel) fun t _ y => ?_
  blk_simp
  rw [after0_5]
  by_cases h : t.val % 16 = 0
  · rw [outsAt0_A m c t h]
    frame_out
    unfold_payloads
    pointwise [val_main_v9, val_main_v8, val_main_v1, val_main_v0]
    blk_point [iblk, V, idx t]
  · rw [outsAt0_B m c t h]
    frame_out
    unfold_payloads
    pointwise [val_main_v9, val_main_v8, val_main_v1, val_main_v0]
    blk_point [iblk, V, idx t]

/-- The second weights, narrowed. -/
theorem final6 (c : Dev nD) : (dats m 0 c).arrAt 6 (cfgs 0).N
    = val_main_v9 (F := Ideal) (m ((c : Thread nD τ).loc main_arg3)) := by
  refine (dats m 0 c).arrAt_eq_of_covers 6 _ (by decide +kernel) fun t _ y => ?_
  blk_simp
  rw [after0_6]
  by_cases h : t.val % 16 = 0
  · rw [outsAt0_A m c t h]
    frame_out
    unfold_payloads
    pointwise [val_main_v9, val_main_v8, val_main_v1, val_main_v0]
    blk_point [iblk, V, idx t]
  · rw [outsAt0_B m c t h]
    frame_out
    unfold_payloads
    pointwise [val_main_v9, val_main_v8, val_main_v1, val_main_v0]
    blk_point [iblk, V, idx t]

end Cert.FfnSIdeal.FfnSample

end
-- ==== Proof.Held.lean ====
/- A row tile visited in five steps: a block written at one of the five and written back at the last holds in between
   what that step stored; and a block stored as four interleaved sets of rows is stored everywhere. -/
module

public import Idealize.ShloMosaic.Lib.Pipeline.Frame
public import Idealize.ShloMosaic.Lib.Pipeline.FrameBody

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

section Window

variable {nD : ℕ} {τ : Topo} {sig : RefSig} {F : FTy → Type} [FloatOps F] {Λ : Idealize.SL.Sem.Labels} {cfg : Cfg sig Λ} {c : Dev nD}
  (dat : Dat τ (Elt F) Unit ℕ (UR sig nD τ) ℕ cfg c)

/-- At the steps after the one that stores the block, the buffer holds what is stated of it at every step. -/
theorem before_eq (w : Fin cfg.W) (j : ℕ) (hfetch : ∀ t, (cfg.win w).fetch t = false)
    (hflush : ∀ t, (cfg.win w).flush t = true ↔ t.val % 5 = 4)
    (hidle : ∀ t, cfg.idle w (cfg.grid.coords t) = true ↔ t.val % 5 ≠ j)
    (hkept : ∀ t d, dat.kept w t d = dat.after w t)
    (hafter : ∀ t t' : Fin cfg.N, t.val / 5 = t'.val / 5 → dat.after w t = dat.after w t')
    (d : (cfg.win w).block.Idx → Elt F (cfg.win w).elt) :
    ∀ (n : ℕ) (t : Fin cfg.N), t.val = n → j < t.val % 5 → dat.before w t d = dat.after w t
  | 0, t, h, hj => by rw [h] at hj; omega
  | n + 1, t, h, hj => by
    have hf : (cfg.win w).flush ⟨t.val - 1, Nat.lt_of_le_of_lt (Nat.sub_le _ _) t.isLt⟩ = false := by
      rw [Bool.eq_false_iff, ne_eq, hflush]; simp only; omega
    rw [dat.before_of_pos w t (by omega) (hfetch t) d, hf, if_neg Bool.false_ne_true]
    unfold Dat.left
    cases hi : cfg.idle w (cfg.grid.coords ⟨t.val - 1, Nat.lt_of_le_of_lt (Nat.sub_le _ _) t.isLt⟩)
    · dsimp only
      rw [hkept]
      refine hafter _ _ ?_
      simp only; omega
    · dsimp only
      have hne := (hidle _).mp hi
      simp only at hne
      rw [before_eq w j hfetch hflush hidle hkept hafter d n ⟨t.val - 1, Nat.lt_of_le_of_lt (Nat.sub_le _ _) t.isLt⟩
        (by simp only; omega) (by simp only; omega)]
      refine hafter _ _ ?_
      simp only; omega

/-- So a step that does not store the block hands its buffer back as it was. -/
theorem leaves_idle (w : Fin cfg.W) (j : ℕ) (hj : j < 5) (hfetch : ∀ t, (cfg.win w).fetch t = false)
    (hflush : ∀ t, (cfg.win w).flush t = true ↔ t.val % 5 = 4)
    (hidle : ∀ t, cfg.idle w (cfg.grid.coords t) = true ↔ t.val % 5 ≠ j)
    (hkept : ∀ t d, dat.kept w t d = dat.after w t)
    (hafter : ∀ t t' : Fin cfg.N, t.val / 5 = t'.val / 5 → dat.after w t = dat.after w t')
    (t : Fin cfg.N) (ht : t.val % 5 ≠ j) :
    iprop(∃ d, owns (c : Thread nD τ) ((cfg.win w).stage (cfg.slots t w)) fullShare (dat.before w t d)) ⊢ dat.leavesExact w t := by
  unfold Dat.leavesExact
  rw [(hidle t).mpr ht]
  cases hf : (cfg.win w).flush t
  · exact .rfl
  · dsimp only
    have h4 := (hflush t).mp hf
    iintro ⟨%d, H⟩
    rw [before_eq dat w j hfetch hflush hidle hkept hafter d t.val t rfl (by omega)]
    iexact H

/-- The step that stores the block hands its buffer back at what is stated of it. -/
theorem leaves_live (w : Fin cfg.W) (j : ℕ)
    (hidle : ∀ t, cfg.idle w (cfg.grid.coords t) = true ↔ t.val % 5 ≠ j)
    (t : Fin cfg.N) (ht : t.val % 5 = j) :
    dat.leavesExact w t = owns (c : Thread nD τ) ((cfg.win w).stage (cfg.slots t w)) fullShare (dat.after w t) := by
  unfold Dat.leavesExact
  rw [show cfg.idle w (cfg.grid.coords t) = false by rw [Bool.eq_false_iff, ne_eq, hidle]; omega]

/-- What a list of stores that fills a buffer leaves there. -/
theorem owns_writes {sp : Space} {S : Shape} {e : EltTy} (a : Memref sig .tc sp S e) (L : List (View.Piece (Elt F) S e))
    (h : ∀ y, ∃ p ∈ L, y ∈ p.1.set) :
    iprop(∃ f, a.view.loc (c : Thread nD τ) ↦[a.view.set]{fullShare} a.view.writes (Elt F) f L)
      ⊢ (owns (c : Thread nD τ) a fullShare (View.canon L) : sProp (MT nD τ sig Unit (Elt F) ℕ (UR sig nD τ) ℕ)) := by
  iintro ⟨%f, H⟩
  unfold owns
  iexists _
  isplitr
  swap
  · iexact H
  ipureintro
  exact View.read_writes_eq_canon _ _ _ h

/-- The same for the step that stores the block. -/
theorem leaves_writes (w : Fin cfg.W) (j : ℕ)
    (hidle : ∀ t, cfg.idle w (cfg.grid.coords t) = true ↔ t.val % 5 ≠ j)
    (t : Fin cfg.N) (ht : t.val % 5 = j) (L : List (View.Piece (Elt F) (cfg.win w).block (cfg.win w).elt))
    (h : ∀ y, ∃ p ∈ L, y ∈ p.1.set) (hafter : dat.after w t = View.canon L) :
    iprop(∃ f, ((cfg.win w).stage (cfg.slots t w)).view.loc (c : Thread nD τ) ↦[((cfg.win w).stage (cfg.slots t w)).view.set]{fullShare}
      ((cfg.win w).stage (cfg.slots t w)).view.writes (Elt F) f L) ⊢ dat.leavesExact w t := by
  rw [leaves_live dat w j hidle t ht, hafter]
  exact owns_writes _ L h

/-- A window idle where a bit is not set. -/
theorem idle_of {x : BitVec 1} {P : Prop} (h : x = 1#1 ↔ P) : (!(x == 1#1)) = true ↔ ¬P := by
  rw [← h]; simp

end Window

/-- Four sets of rows, each the rows four apart from its first, cover all the rows. -/
theorem rows_cover {Val : EltTy → Type} {e : EltTy} (n k : ℕ) (L : List (View.Piece Val (⟨2, ![4 * n, k]⟩ : Shape) e))
    (h : L.map (fun p => ((p.1.off, p.1.size, p.1.stride) : (Fin 2 → ℕ) × (Fin 2 → ℕ) × (Fin 2 → ℕ)))
      = [(![3, 0], ![n, k], ![4, 1]), (![2, 0], ![n, k], ![4, 1]), (![1, 0], ![n, k], ![4, 1]), (![0, 0], ![n, k], ![4, 1])])
    (y : (⟨2, ![4 * n, k]⟩ : Shape).Idx) : ∃ p ∈ L, y ∈ p.1.set := by
  have hy0 : (y 0).val < 4 * n := (y 0).isLt
  have hy1 : (y 1).val < k := (y 1).isLt
  have hm : ((![(y 0).val % 4, 0], ![n, k], ![4, 1]) : (Fin 2 → ℕ) × (Fin 2 → ℕ) × (Fin 2 → ℕ))
      ∈ L.map (fun p => ((p.1.off, p.1.size, p.1.stride) : (Fin 2 → ℕ) × (Fin 2 → ℕ) × (Fin 2 → ℕ))) := by
    rw [h]
    have h4 : (y 0).val % 4 = 0 ∨ (y 0).val % 4 = 1 ∨ (y 0).val % 4 = 2 ∨ (y 0).val % 4 = 3 := by omega
    rcases h4 with h4 | h4 | h4 | h4 <;> rw [h4] <;> simp
  obtain ⟨p, hp, e⟩ := List.mem_map.mp hm
  refine ⟨p, hp, p.1.mem_set.mpr fun a => ?_⟩
  have e1 := congrArg Prod.fst e
  have e2 := congrArg (fun q => q.2.1) e
  have e3 := congrArg (fun q => q.2.2) e
  simp only at e1 e2 e3
  rw [e1, e2, e3]
  fin_cases a
  · exact ⟨(y 0).val / 4, by simp; omega, by simp; omega⟩
  · exact ⟨(y 1).val, by simpa using hy1, by simp⟩

end Cert.Held

end
-- ==== Proof.KvPrep.lean ====
/- The key preparation of the prompt group: its four result arrays as the reference's values. -/
module

public import proofs.«01_k».proof.Proof.Gen.KvPIdeal
public import proofs.«01_k».proof.Proof.Gen.KvPIdeal.Frame
public import proofs.«01_k».proof.Proof.Gen.KvPRefIdeal
public import proofs.«01_k».proof.Proof.Gen.KvPRefIdeal.Read
public import proofs.«01_k».proof.Proof.Held
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvPIdeal.KvPrep

open Cert.KvPIdeal Cert.KvPIdeal.Gen
open Cert.KvPRefIdeal.Read
open Idealize.ShloMosaic.WordCmp

variable (m : (ℓ : Loc nD τ sig) → Buf (Elt Ideal) ℓ)

/-- The quotient by 64 rounded down, as the body computes it. -/
def quot64 (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32))))
    (IntOp.cmpi .ne (IntOp.remsi .vector x 64#32) 0#32)) (IntOp.subi (IntOp.divsi .vector x 64#32) 1#32) (IntOp.divsi .vector x 64#32)

/-- At the positions of the sequence it is the quotient of natural numbers. -/
theorem quot64_eq : ∀ (i : Fin 8) (r : Fin 512),
    quot64 (IntOp.addi (Scalar.muli (Scalar.subi (BitVec.ofNat 32 (i.val + 1)) 1#32) 512#32) (BitVec.ofNat 32 r.val))
      = BitVec.ofNat 32 ((i.val * 512 + r.val) / 64) := by decide +kernel

/-- A choice by the equality of two small words. -/
theorem choose_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [cmpi_eq_ofNat ha hb]
  by_cases h : a = b <;> simp [h, Scalar.select]

/-- The reference's marks: position `p` marks column `p / 64`. -/
theorem own_ref (j : Cert.KvPRefIdeal.S4096x128.Idx) : val_main_v15 (F := Ideal) j = if 64 * (j 1).val ≤ (j 0).val ∧ (j 0).val < 64 * (j 1).val + 64 then 1 else 0 := by
  have h0 : (j 0).val < 4096 := (j 0).isLt
  have h1 : (j 1).val < 128 := (j 1).isLt
  pointwise [val_main_v15, val_main_call0_v1, val_main_call0_v0, val_main_cst_2, val_main_cst, val_main_v14, val_main_v13, val_main_v12, val_main_v11, val_main_c_1, val_main_v10, val_main_v9, val_main_c_0, val_main_v8, val_main_v7, val_main_v6, val_main_c, val_main_v5, val_main_v4]
  have e1 : IntOp.muli (64#32) (BitVec.ofNat 32 (j 1).val) = BitVec.ofNat 32 (64 * (j 1).val) := (BitVec.ofNat_mul _ _).symm
  have e2 : IntOp.addi (BitVec.ofNat 32 (64 * (j 1).val)) 64#32 = BitVec.ofNat 32 (64 * (j 1).val + 64) := (BitVec.ofNat_add _ _).symm
  rw [e1, e2, cmpi_sle_ofNat (by omega) (by omega), cmpi_slt_ofNat (by omega) (by omega)]
  by_cases ha : 64 * (j 1).val ≤ (j 0).val <;> by_cases hb : (j 0).val < 64 * (j 1).val + 64 <;> simp [ha, hb, Scalar.select, IntOp.andi]

/-- The reference's marks of the padding: column 64. -/
theorem none_ref (j : S512x128.Idx) : val_main_v19 (F := Ideal) j = if (j 1).val = 64 then 1 else 0 := by
  have h1 : (j 1).val < 128 := (j 1).isLt
  pointwise [val_main_v19, val_main_call1_v1, val_main_call1_v0, val_main_cst_5, val_main_cst_4, val_main_v18, val_main_v17, val_main_c_3, val_main_v16]
  exact choose_eq _ 64 (by omega) (by omega) _ _

/-- The body's marks of the padding. -/
theorem none_at (j : S512x128.Idx) : k0_pay4 (F := Ideal) (iota Kind.tc S512x128 32 [1] iota_S512x128_d1_w32) j = if (j 1).val = 64 then 1 else 0 := by
  have h1 : (j 1).val < 128 := (j 1).isLt
  pointwise [k0_pay4]
  exact choose_eq _ 64 (by omega) (by omega) _ _

/-- The body's marks of a row: the column of its block of 64 positions. -/
theorem own_at (i : ℕ) (h1 : 1 ≤ i) (h9 : i < 9) (j : S512x128.Idx) : k0_pay12 (F := Ideal) (BitVec.ofNat 32 i) (iota Kind.tc S512x128 32 [1] iota_S512x128_d1_w32)
              (iota Kind.tc S512x128 32 [0] iota_S512x128_d0_w32) j = if 64 * (j 1).val ≤ (i - 1) * 512 + (j 0).val ∧ (i - 1) * 512 + (j 0).val < 64 * (j 1).val + 64 then 1 else 0 := by
  have hj0 : (j 0).val < 512 := (j 0).isLt
  have hj1 : (j 1).val < 128 := (j 1).isLt
  unfold k0_pay12
  pointwise []
  have e := quot64_eq ⟨i - 1, by omega⟩ ⟨(j 0).val, hj0⟩
  simp only [Nat.sub_add_cancel h1] at e
  refine (congrArg (fun q => Scalar.select (IntOp.cmpi .eq (BitVec.ofNat 32 (j 1).val) q) (1 : EReal) 0) e).trans ?_
  rw [choose_eq _ _ (by omega) (by omega)]
  exact if_congr (by omega) rfl rfl

/-- Where each window sits at point `t`. -/
theorem idx : ∀ t : Fin cfg0.N,
    win0_0.index t = ![t.val / 9, t.val % 9 - 1, 0]
    ∧ win0_1.index t = ![t.val / 9, t.val % 9 - 1, 0]
    ∧ win0_2.index t = ![0, 0]
    ∧ win0_3.index t = ![t.val / 9, 0, t.val % 9, 0]
    ∧ win0_4.index t = ![t.val / 9, 0, t.val % 9, 0]
    ∧ win0_5.index t = ![t.val / 9, 0, t.val % 9, 0]
    ∧ win0_6.index t = ![t.val / 9, 0, t.val % 9, 0] ∧ (grid0.coords t 1).val = t.val % 9 ∧ t.val < 18 :=
  (by decide +kernel : ∀ t : Fin grid0.N, _)

/-- The key and value rows of the selected branch. -/
abbrev A0 (c : Dev nD) : Vec Ideal S32768x128 .f32 := m ((c : Thread nD τ).loc main_arg0)
/-- The key and value rows of the window branch. -/
abbrev A1 (c : Dev nD) : Vec Ideal S32768x128 .f32 := m ((c : Thread nD τ).loc main_arg1)
/-- The gains of the keys. -/
abbrev A2 (c : Dev nD) : Vec Ideal S1x3x128 .f32 := m ((c : Thread nD τ).loc main_arg2)

/-- Rows of an argument as its block of three axes: which row of the argument each is. -/
theorem cast_at (x : Vec Ideal S32768x128 .f32) (h) (b : Fin 2) (q : Fin 16384) (l : Fin 128) :
    (shapeCast S2x16384x128 x h : Vec Ideal S2x16384x128 .f32) (ix3 b q l) = x (ix2 ⟨b.val * 16384 + q.val, by omega⟩ l) := by
  pointwise []

/-- The block of the selected branch's rows. -/
theorem blk0 (c : Dev nD) (t : Fin cfg0.N) (y : S1x2048x128.Idx) : (iblk m c 0 t : Vec Ideal S1x2048x128 .f32) y
    = A0 m c (ix2 ⟨t.val / 9 * 16384 + ((t.val % 9 - 1) * 2048 + (y 1).val), by
        have := (idx t).2.2.2.2.2.2.2.2; have : (y 1).val < 2048 := (y 1).isLt; omega⟩ (y 2)) := by
  have h1 : (y 1).val < 2048 := (y 1).isLt
  have ht := (idx t).2.2.2.2.2.2.2.2
  refine Eq.trans ?_ (cast_at (A0 m c) shapeCasts_S32768x128_S2x16384x128 ⟨t.val / 9, by omega⟩ ⟨(t.val % 9 - 1) * 2048 + (y 1).val, by omega⟩ (y 2))
  blk_simp [iblk]
  entry_read
  show (shapeCast S2x16384x128 _ _ : Vec Ideal S2x16384x128 .f32) _ = (shapeCast S2x16384x128 _ _ : Vec Ideal S2x16384x128 .f32) _
  blk_ext [idx t]

/-- The block of the window branch's rows. -/
theorem blk1 (c : Dev nD) (t : Fin cfg0.N) (y : S1x2048x128.Idx) : (iblk m c 1 t : Vec Ideal S1x2048x128 .f32) y
    = A1 m c (ix2 ⟨t.val / 9 * 16384 + ((t.val % 9 - 1) * 2048 + (y 1).val), by
        have := (idx t).2.2.2.2.2.2.2.2; have : (y 1).val < 2048 := (y 1).isLt; omega⟩ (y 2)) := by
  have h1 : (y 1).val < 2048 := (y 1).isLt
  have ht := (idx t).2.2.2.2.2.2.2.2
  refine Eq.trans ?_ (cast_at (A1 m c) shapeCasts_S32768x128_S2x16384x128 ⟨t.val / 9, by omega⟩ ⟨(t.val % 9 - 1) * 2048 + (y 1).val, by omega⟩ (y 2))
  blk_simp [iblk]
  entry_read
  show (shapeCast S2x16384x128 _ _ : Vec Ideal S2x16384x128 .f32) _ = (shapeCast S2x16384x128 _ _ : Vec Ideal S2x16384x128 .f32) _
  blk_ext [idx t]

/-- The block of the gains. -/
theorem blk2 (c : Dev nD) (t : Fin cfg0.N) (y : S3x128.Idx) : (iblk m c 2 t : Vec Ideal S3x128 .f32) y
    = A2 m c (ix3 0 (y 0) (y 1)) := by
  have e : (shapeCast S3x128 (A2 m c) shapeCasts_S1x3x128_S3x128 : Vec Ideal S3x128 .f32) (ix2 (y 0) (y 1)) = A2 m c (ix3 0 (y 0) (y 1)) := by
    pointwise []
  refine Eq.trans ?_ e
  blk_simp [iblk]
  entry_read
  show (shapeCast S3x128 _ _ : Vec Ideal S3x128 .f32) _ = (shapeCast S3x128 _ _ : Vec Ideal S3x128 .f32) _
  blk_ext [idx t]

/-- A load of every fourth row of a block. -/
theorem rows_read {M : Memref sig .tc .vmem S1x2048x128 .f32} (hM : M.IsWhole) (x : Vec Ideal S1x2048x128 .f32) (o : ℕ) (ho : o < 4) (hb) (r : Fin 512) (k : Fin 128) :
    (View.readAt (Elt Ideal) M.view { off := ![0, o, 0], size := ![1, 512, 128], stride := ![1, 4, 1], inb := hb } (hM.unread x) : Vec Ideal S1x512x128 .f32) (ix3 0 r k)
      = x (ix3 0 ⟨o + 4 * r.val, by omega⟩ k) := by
  rw [View.readAt_apply, hM.read_unread]
  refine congrArg x (funext fun a => Fin.ext ?_)
  match a with
  | ⟨0, _⟩ => rfl
  | ⟨1, _⟩ => rfl
  | ⟨2, _⟩ => show 0 + 1 * k.val = k.val; omega

/-- One head's block of keys: the rows and, beside them, the marks. -/
theorem pay25_at (M K : FVec Ideal S512x128 .bf16) (x : S1x1x512x256.Idx) : k0_pay25 M K x
    = if h : (x 3).val < 128 then K (ix2 (x 2) ⟨(x 3).val, h⟩) else M (ix2 (x 2) ⟨(x 3).val - 128, by have : (x 3).val < 256 := (x 3).isLt; omega⟩) := by
  pointwise [k0_pay25]

/-- The numbers the layout changes compose to. -/
theorem unflat (b h : Fin 2) (q : Fin 4096) (k : Fin 128) :
    (((b.val * 2 + h.val) * 4096 + q.val) * 128 + k.val) / 1048576 % 2 = b.val
    ∧ (((b.val * 2 + h.val) * 4096 + q.val) * 128 + k.val) / 524288 % 2 = h.val
    ∧ (((b.val * 2 + h.val) * 4096 + q.val) * 128 + k.val) / 128 % 4096 = q.val
    ∧ (((b.val * 2 + h.val) * 4096 + q.val) * 128 + k.val) % 128 = k.val := by
  refine ⟨?_, ?_, ?_, ?_⟩ <;> omega

/-- A key row of the selected branch, as a row of the argument. -/
theorem v21_at (x0) (b h q k) (o : ℕ) (eo : o = 0 + h.val) : val_main_v21 (F := Ideal) x0 (ix4 b h q k) = x0 (ix2 ⟨b.val * 16384 + (q.val * 4 + o), by have := h.isLt; omega⟩ k) := by
  rw [val_main_v21_apply, val_main_v20_apply, val_main_v1_apply, val_main_v0_apply]
  obtain ⟨e1, e2, e3, e4⟩ := unflat b h q k
  refine congrArg x0 (funext fun a => Fin.ext ?_)
  match a with
  | ⟨0, _⟩ =>
    show ((((((((b.val * 2 + h.val) * 4096 + q.val) * 128 + k.val) / 1048576 % 2 * 4096 + (((b.val * 2 + h.val) * 4096 + q.val) * 128 + k.val) / 128 % 4096) * 2 + 0) * 2
      + (((b.val * 2 + h.val) * 4096 + q.val) * 128 + k.val) / 524288 % 2) * 128 + (((b.val * 2 + h.val) * 4096 + q.val) * 128 + k.val) % 128) / 128) = b.val * 16384 + (q.val * 4 + o)
    rw [e1, e2, e3, e4]; omega
  | ⟨1, _⟩ =>
    show ((((((((b.val * 2 + h.val) * 4096 + q.val) * 128 + k.val) / 1048576 % 2 * 4096 + (((b.val * 2 + h.val) * 4096 + q.val) * 128 + k.val) / 128 % 4096) * 2 + 0) * 2
      + (((b.val * 2 + h.val) * 4096 + q.val) * 128 + k.val) / 524288 % 2) * 128 + (((b.val * 2 + h.val) * 4096 + q.val) * 128 + k.val) % 128) % 128) = k.val
    rw [e1, e2, e3, e4]; omega

/-- A key row of the window branch. -/
theorem v44_at (x0) (b h q k) (o : ℕ) (eo : o = 0 + h.val) : val_main_v44 (F := Ideal) x0 (ix4 b h q k) = x0 (ix2 ⟨b.val * 16384 + (q.val * 4 + o), by have := h.isLt; omega⟩ k) := by
  rw [val_main_v44_apply, val_main_v43_apply, val_main_v3_apply, val_main_v2_apply]
  obtain ⟨e1, e2, e3, e4⟩ := unflat b h q k
  refine congrArg x0 (funext fun a => Fin.ext ?_)
  match a with
  | ⟨0, _⟩ =>
    show ((((((((b.val * 2 + h.val) * 4096 + q.val) * 128 + k.val) / 1048576 % 2 * 4096 + (((b.val * 2 + h.val) * 4096 + q.val) * 128 + k.val) / 128 % 4096) * 2 + 0) * 2
      + (((b.val * 2 + h.val) * 4096 + q.val) * 128 + k.val) / 524288 % 2) * 128 + (((b.val * 2 + h.val) * 4096 + q.val) * 128 + k.val) % 128) / 128) = b.val * 16384 + (q.val * 4 + o)
    rw [e1, e2, e3, e4]; omega
  | ⟨1, _⟩ =>
    show ((((((((b.val * 2 + h.val) * 4096 + q.val) * 128 + k.val) / 1048576 % 2 * 4096 + (((b.val * 2 + h.val) * 4096 + q.val) * 128 + k.val) / 128 % 4096) * 2 + 0) * 2
      + (((b.val * 2 + h.val) * 4096 + q.val) * 128 + k.val) / 524288 % 2) * 128 + (((b.val * 2 + h.val) * 4096 + q.val) * 128 + k.val) % 128) % 128) = k.val
    rw [e1, e2, e3, e4]; omega

/-- A value row of the selected branch. -/
theorem v68_at (x0) (b h q k) (o : ℕ) (eo : o = 2 + h.val) : val_main_v68 (F := Ideal) x0 (ix4 b h q k) = x0 (ix2 ⟨b.val * 16384 + (q.val * 4 + o), by have := h.isLt; omega⟩ k) := by
  rw [val_main_v68_apply, val_main_v67_apply, val_main_v1_apply, val_main_v0_apply]
  obtain ⟨e1, e2, e3, e4⟩ := unflat b h q k
  refine congrArg x0 (funext fun a => Fin.ext ?_)
  match a with
  | ⟨0, _⟩ =>
    show ((((((((b.val * 2 + h.val) * 4096 + q.val) * 128 + k.val) / 1048576 % 2 * 4096 + (((b.val * 2 + h.val) * 4096 + q.val) * 128 + k.val) / 128 % 4096) * 2 + (1 + 0)) * 2
      + (((b.val * 2 + h.val) * 4096 + q.val) * 128 + k.val) / 524288 % 2) * 128 + (((b.val * 2 + h.val) * 4096 + q.val) * 128 + k.val) % 128) / 128) = b.val * 16384 + (q.val * 4 + o)
    rw [e1, e2, e3, e4]; omega
  | ⟨1, _⟩ =>
    show ((((((((b.val * 2 + h.val) * 4096 + q.val) * 128 + k.val) / 1048576 % 2 * 4096 + (((b.val * 2 + h.val) * 4096 + q.val) * 128 + k.val) / 128 % 4096) * 2 + (1 + 0)) * 2
      + (((b.val * 2 + h.val) * 4096 + q.val) * 128 + k.val) / 524288 % 2) * 128 + (((b.val * 2 + h.val) * 4096 + q.val) * 128 + k.val) % 128) % 128) = k.val
    rw [e1, e2, e3, e4]; omega

/-- A value row of the window branch. -/
theorem v72_at (x0) (b h q k) (o : ℕ) (eo : o = 2 + h.val) : val_main_v72 (F := Ideal) x0 (ix4 b h q k) = x0 (ix2 ⟨b.val * 16384 + (q.val * 4 + o), by have := h.isLt; omega⟩ k) := by
  rw [val_main_v72_apply, val_main_v71_apply, val_main_v3_apply, val_main_v2_apply]
  obtain ⟨e1, e2, e3, e4⟩ := unflat b h q k
  refine congrArg x0 (funext fun a => Fin.ext ?_)
  match a with
  | ⟨0, _⟩ =>
    show ((((((((b.val * 2 + h.val) * 4096 + q.val) * 128 + k.val) / 1048576 % 2 * 4096 + (((b.val * 2 + h.val) * 4096 + q.val) * 128 + k.val) / 128 % 4096) * 2 + (1 + 0)) * 2
      + (((b.val * 2 + h.val) * 4096 + q.val) * 128 + k.val) / 524288 % 2) * 128 + (((b.val * 2 + h.val) * 4096 + q.val) * 128 + k.val) % 128) / 128) = b.val * 16384 + (q.val * 4 + o)
    rw [e1, e2, e3, e4]; omega
  | ⟨1, _⟩ =>
    show ((((((((b.val * 2 + h.val) * 4096 + q.val) * 128 + k.val) / 1048576 % 2 * 4096 + (((b.val * 2 + h.val) * 4096 + q.val) * 128 + k.val) / 128 % 4096) * 2 + (1 + 0)) * 2
      + (((b.val * 2 + h.val) * 4096 + q.val) * 128 + k.val) / 524288 % 2) * 128 + (((b.val * 2 + h.val) * 4096 + q.val) * 128 + k.val) % 128) % 128) = k.val
    rw [e1, e2, e3, e4]; omega

/-- Rows of the sequence behind 512 rows of zeros. -/
def padded (K : Cert.KvPRefIdeal.S2x2x4096x128.Idx → EReal) (b g : Fin 2) (p : Fin 4608) (l : Fin 128) : EReal :=
  if h : p.val < 512 then 0 else K (ix4 b g ⟨p.val - 512, by omega⟩ l)

/-- The sequence's marks behind 512 rows that mark column 64. -/
def marked (M : Cert.KvPRefIdeal.S4096x128.Idx → EReal) (p : Fin 4608) (l : Fin 128) : EReal :=
  if h : p.val < 512 then (if l.val = 64 then 1 else 0) else M (ix2 ⟨p.val - 512, by omega⟩ l)

/-- Padded rows with their marks beside them. -/
def keyOf (K : Cert.KvPRefIdeal.S2x2x4096x128.Idx → EReal) (M : Cert.KvPRefIdeal.S4096x128.Idx → EReal) (b g : Fin 2) (p : Fin 4608) (l : Fin 256) : EReal :=
  if h : l.val < 128 then padded K b g p ⟨l.val, h⟩ else marked M p ⟨l.val - 128, by omega⟩

/-- The reference's marks, padding and sequence. -/
theorem marks_ref (j : Cert.KvPRefIdeal.S4608x128.Idx) : val_main_v39 (F := Ideal) j = marked (val_main_v15 (F := Ideal)) (j 0) (j 1) := by
  unfold marked
  pointwise [val_main_v39, none_ref]

/-- The reference's marks of the window branch, where the sequence has none. -/
theorem nomarks_ref (j : Cert.KvPRefIdeal.S4608x128.Idx) : val_main_v64 (F := Ideal) j = marked (fun _ => 0) (j 0) (j 1) := by
  unfold marked
  pointwise [val_main_v64, val_main_v63, val_main_v62, val_main_cst_14]
  exact dite_congr rfl (fun h => none_ref _) fun _ => rfl

/-- The reference's selected keys, entry by entry. -/
theorem ks_ref (x0 x2) (y : Cert.KvPRefIdeal.S2x2x4608x256.Idx) : val_main_v75 (F := Ideal) x0 x2 y
    = keyOf (val_main_v36 (F := Ideal) x0 x2) (val_main_v15 (F := Ideal)) (y 0) (y 1) (y 2) (y 3) := by
  unfold keyOf padded
  pointwise [val_main_v75, val_main_v42, val_main_v38, val_main_v41_apply, val_main_v40_apply, marks_ref, val_main_v37, val_main_cst_9]
  exact rfl

/-- The reference's window keys, entry by entry. -/
theorem kw_ref (x1 x2) (y : Cert.KvPRefIdeal.S2x2x4608x256.Idx) : val_main_v77 (F := Ideal) x1 x2 y
    = keyOf (val_main_v59 (F := Ideal) x1 x2) (fun _ => 0) (y 0) (y 1) (y 2) (y 3) := by
  unfold keyOf padded
  pointwise [val_main_v77, val_main_v66, val_main_v61, val_main_v65_apply, nomarks_ref, val_main_v60, val_main_cst_13]
  exact rfl

/-- The reference's selected values, entry by entry. -/
theorem vs_ref (x0) (y : Cert.KvPRefIdeal.S2x2x4608x128.Idx) : val_main_v76 (F := Ideal) x0 y
    = padded (val_main_v68 (F := Ideal) x0) (y 0) (y 1) (y 2) (y 3) := by
  unfold padded
  pointwise [val_main_v76, val_main_v70, val_main_v69, val_main_cst_15]

/-- The reference's window values, entry by entry. -/
theorem vw_ref (x1) (y : Cert.KvPRefIdeal.S2x2x4608x128.Idx) : val_main_v78 (F := Ideal) x1 y
    = padded (val_main_v72 (F := Ideal) x1) (y 0) (y 1) (y 2) (y 3) := by
  unfold padded
  pointwise [val_main_v78, val_main_v74, val_main_v73, val_main_cst_16]

/-- One row of selected keys: the body's root mean square norm is the reference's. -/
theorem krow (w : Vec Ideal S1x512x128 .f32) (g : Vec Ideal S1x128 .f32) (x0 x2) (b h q r l)
    (hw : ∀ k : Fin 128, w (ix3 0 r k) = val_main_v21 (F := Ideal) x0 (ix4 b h q k)) (hg : g (ix2 0 l) = x2 (ix3 0 1 l)) :
    k0_pay22 (F := Ideal) w g (ix2 r l) = val_main_v36 (F := Ideal) x0 x2 (ix4 b h q l) := by
  pointwise [k0_pay22, hw, hg, val_main_v36, val_main_v35, val_main_v34, val_main_v33, val_main_v32, val_main_v31, val_main_v30, val_main_v29, val_main_cst_8, val_main_v28, val_main_v27, val_main_cst_7, val_main_v26, val_main_v25, val_main_cst_6, val_main_v24, val_main_v23, val_main_v22]

/-- One row of window keys: the body's root mean square norm is the reference's. -/
theorem wrow (w : Vec Ideal S1x512x128 .f32) (g : Vec Ideal S1x128 .f32) (x0 x2) (b h q r l)
    (hw : ∀ k : Fin 128, w (ix3 0 r k) = val_main_v44 (F := Ideal) x0 (ix4 b h q k)) (hg : g (ix2 0 l) = x2 (ix3 0 2 l)) :
    k0_pay22 (F := Ideal) w g (ix2 r l) = val_main_v59 (F := Ideal) x0 x2 (ix4 b h q l) := by
  pointwise [k0_pay22, hw, hg, val_main_v59, val_main_v58, val_main_v57, val_main_v56, val_main_v55, val_main_v54, val_main_v53, val_main_v52, val_main_cst_12, val_main_v51, val_main_v50, val_main_cst_11, val_main_v49, val_main_v48, val_main_cst_10, val_main_v47, val_main_v46, val_main_v45]

/-- A head's block of values is the rows loaded. -/
theorem pay27_at (w : Vec Ideal S1x512x128 .f32) (x : S1x1x512x128.Idx) : k0_pay27 (F := Ideal) w x = w (ix3 0 (x 2) (x 3)) := by
  pointwise [k0_pay27]

/-- Two heads' blocks, stored one after the other, are what each of them is. -/
theorem headsK (f : S1x2x512x256.Idx → EReal) (P1 P0 : Vec Ideal S1x1x512x256 .bf16) (i1 i0)
    (h1 : ∀ x : S1x1x512x256.Idx, P1 x = f (ix4 0 1 (x 2) (x 3))) (h0 : ∀ x : S1x1x512x256.Idx, P0 x = f (ix4 0 0 (x 2) (x 3))) (y : S1x2x512x256.Idx) :
    View.canon (Val := Elt Ideal) (s := S1x2x512x256) (e := .bf16)
      [⟨Rect.unit ![0, 1, 0, 0] ![1, 1, 512, 256] i1, P1⟩, ⟨Rect.unit ![0, 0, 0, 0] ![1, 1, 512, 256] i0, P0⟩] y = f y := by
  refine View.canon_apply_of_pieces (Val := Elt Ideal) (e := .bf16) f _
    (List.forall_mem_cons.2 ⟨fun x => ?_,
      List.forall_mem_cons.2 ⟨fun x => ?_, fun _ e => absurd e List.not_mem_nil⟩⟩) y
    (View.cover_of_tiledL _ ![1, 1, 512, 256] (by sl_kernel_rfl) y)
  · refine (h1 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show (x 2).val = 0 + 1 * (x 2).val; omega
    | ⟨3, _⟩ => show (x 3).val = 0 + 1 * (x 3).val; omega
  · refine (h0 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show (x 2).val = 0 + 1 * (x 2).val; omega
    | ⟨3, _⟩ => show (x 3).val = 0 + 1 * (x 3).val; omega

/-- Two heads' blocks, stored one after the other, are what each of them is. -/
theorem headsV (f : S1x2x512x128.Idx → EReal) (P1 P0 : Vec Ideal S1x1x512x128 .bf16) (i1 i0)
    (h1 : ∀ x : S1x1x512x128.Idx, P1 x = f (ix4 0 1 (x 2) (x 3))) (h0 : ∀ x : S1x1x512x128.Idx, P0 x = f (ix4 0 0 (x 2) (x 3))) (y : S1x2x512x128.Idx) :
    View.canon (Val := Elt Ideal) (s := S1x2x512x128) (e := .bf16)
      [⟨Rect.unit ![0, 1, 0, 0] ![1, 1, 512, 128] i1, P1⟩, ⟨Rect.unit ![0, 0, 0, 0] ![1, 1, 512, 128] i0, P0⟩] y = f y := by
  refine View.canon_apply_of_pieces (Val := Elt Ideal) (e := .bf16) f _
    (List.forall_mem_cons.2 ⟨fun x => ?_,
      List.forall_mem_cons.2 ⟨fun x => ?_, fun _ e => absurd e List.not_mem_nil⟩⟩) y
    (View.cover_of_tiledL _ ![1, 1, 512, 128] (by sl_kernel_rfl) y)
  · refine (h1 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show (x 2).val = 0 + 1 * (x 2).val; omega
    | ⟨3, _⟩ => show (x 3).val = 0 + 1 * (x 3).val; omega
  · refine (h0 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show (x 2).val = 0 + 1 * (x 2).val; omega
    | ⟨3, _⟩ => show (x 3).val = 0 + 1 * (x 3).val; omega

/-- Which sequence and which padded position the row `r` of point `t`'s blocks is. -/
abbrev seqOf (t : Fin cfg0.N) : Fin 2 := ⟨t.val / 9, by have := (idx t).2.2.2.2.2.2.2.2; omega⟩
/-- The padded position of row `r` of point `t`'s blocks. -/
abbrev posOf (t : Fin cfg0.N) (r : Fin 512) : Fin 4608 := ⟨t.val % 9 * 512 + r.val, by omega⟩

/-- At a sequence's first point the keys stored are the padding. -/
theorem padK (K M) (t : Fin cfg0.N) (h0 : t.val % 9 = 0) (g : Fin 2) (x : S1x1x512x256.Idx) :
    k0_pay25 (k0_pay4 (F := Ideal) (iota Kind.tc S512x128 32 [1] iota_S512x128_d1_w32)) k0_pay13 x = keyOf K M (seqOf t) g (posOf t (x 2)) (x 3) := by
  have h2 : (x 2).val < 512 := (x 2).isLt
  have hp : (posOf t (x 2)).val < 512 := by show t.val % 9 * 512 + (x 2).val < 512; omega
  rw [pay25_at]
  unfold keyOf padded marked
  refine dite_congr rfl (fun h => ?_) fun h => ?_
  · rw [dif_pos hp]
    pointwise [k0_pay13]
  · rw [dif_pos hp]
    exact none_at _

/-- At a sequence's first point the values stored are the padding. -/
theorem padV (K) (t : Fin cfg0.N) (h0 : t.val % 9 = 0) (g : Fin 2) (x : S1x1x512x128.Idx) :
    k0_pay8 (F := Ideal) x = padded K (seqOf t) g (posOf t (x 2)) (x 3) := by
  have h2 : (x 2).val < 512 := (x 2).isLt
  have hp : (posOf t (x 2)).val < 512 := by show t.val % 9 * 512 + (x 2).val < 512; omega
  unfold padded
  rw [dif_pos hp]
  pointwise [k0_pay8, k0_pay5]

/-- Past it the keys stored are the rows' keys with their marks beside them. -/
theorem bodyK (K : Cert.KvPRefIdeal.S2x2x4096x128.Idx → EReal) (M) (t : Fin cfg0.N) (h1 : 1 ≤ t.val % 9) (g : Fin 2) (k mk : FVec Ideal S512x128 .bf16)
    (hk : ∀ (r : Fin 512) (l : Fin 128), k (ix2 r l) = K (ix4 (seqOf t) g ⟨(t.val % 9 - 1) * 512 + r.val, by omega⟩ l))
    (hm : ∀ (r : Fin 512) (l : Fin 128), mk (ix2 r l) = M (ix2 ⟨(t.val % 9 - 1) * 512 + r.val, by omega⟩ l)) (x : S1x1x512x256.Idx) :
    k0_pay25 mk k x = keyOf K M (seqOf t) g (posOf t (x 2)) (x 3) := by
  have h2 : (x 2).val < 512 := (x 2).isLt
  have hp : ¬(posOf t (x 2)).val < 512 := by show ¬t.val % 9 * 512 + (x 2).val < 512; omega
  have e : ∀ h, (⟨(t.val % 9 - 1) * 512 + (x 2).val, by omega⟩ : Fin 4096) = ⟨(posOf t (x 2)).val - 512, h⟩ :=
    fun h => Fin.ext (by show (t.val % 9 - 1) * 512 + (x 2).val = t.val % 9 * 512 + (x 2).val - 512; omega)
  rw [pay25_at]
  unfold keyOf padded marked
  refine dite_congr rfl (fun h => ?_) fun h => ?_
  · rw [dif_neg hp]
    exact (hk (x 2) _).trans (congrArg (fun q => K (ix4 (seqOf t) g q _)) (e _))
  · rw [dif_neg hp]
    exact (hm (x 2) _).trans (congrArg (fun q => M (ix2 q _)) (e _))

/-- Past it the values stored are the rows' values. -/
theorem bodyV (K : Cert.KvPRefIdeal.S2x2x4096x128.Idx → EReal) (t : Fin cfg0.N) (h1 : 1 ≤ t.val % 9) (g : Fin 2) (w : Vec Ideal S1x512x128 .f32)
    (hk : ∀ (r : Fin 512) (l : Fin 128), w (ix3 0 r l) = K (ix4 (seqOf t) g ⟨(t.val % 9 - 1) * 512 + r.val, by omega⟩ l)) (x : S1x1x512x128.Idx) :
    k0_pay27 (F := Ideal) w x = padded K (seqOf t) g (posOf t (x 2)) (x 3) := by
  have h2 : (x 2).val < 512 := (x 2).isLt
  have hp : ¬(posOf t (x 2)).val < 512 := by show ¬t.val % 9 * 512 + (x 2).val < 512; omega
  have e : ∀ h, (⟨(t.val % 9 - 1) * 512 + (x 2).val, by omega⟩ : Fin 4096) = ⟨(posOf t (x 2)).val - 512, h⟩ :=
    fun h => Fin.ext (by show (t.val % 9 - 1) * 512 + (x 2).val = t.val % 9 * 512 + (x 2).val - 512; omega)
  rw [pay27_at]
  unfold padded
  rw [dif_neg hp]
  exact (hk (x 2) _).trans (congrArg (fun q => K (ix4 (seqOf t) g q _)) (e _))

/-- The marks of point `t`'s rows are the reference's. -/
theorem own_eq (t : Fin cfg0.N) (h1 : 1 ≤ t.val % 9) (r : Fin 512) (l : Fin 128) :
    k0_pay12 (F := Ideal) (BitVec.ofNat 32 (grid0.coords t 1).val) (iota Kind.tc S512x128 32 [1] iota_S512x128_d1_w32) (iota Kind.tc S512x128 32 [0] iota_S512x128_d0_w32) (ix2 r l)
      = val_main_v15 (F := Ideal) (ix2 ⟨(t.val % 9 - 1) * 512 + r.val, by omega⟩ l) := by
  rw [own_ref, (idx t).2.2.2.2.2.2.2.1]
  exact own_at (t.val % 9) h1 (Nat.mod_lt _ (by omega)) (ix2 r l)

/-- A row of the selected branch that a load of every fourth row takes. -/
theorem row0 (c : Dev nD) (t : Fin cfg0.N) (h1 : 1 ≤ t.val % 9) (o : ℕ) (ho : o < 4) (hb) (r : Fin 512) (k : Fin 128) :
    (View.readAt (Elt Ideal) (ms0_0 t).view { off := ![0, o, 0], size := ![1, 512, 128], stride := ![1, 4, 1], inb := hb } ((hs0_0 t).unread (iblk m c 0 t)) : Vec Ideal S1x512x128 .f32) (ix3 0 r k)
      = A0 m c (ix2 ⟨(seqOf t).val * 16384 + (((t.val % 9 - 1) * 512 + r.val) * 4 + o), by have := (seqOf t).isLt; omega⟩ k) :=
  (rows_read (hs0_0 t) (iblk m c 0 t) o ho hb r k).trans ((blk0 m c t _).trans (congrArg (A0 m c) (congrArg₂ ix2 (Fin.ext (by
    show t.val / 9 * 16384 + ((t.val % 9 - 1) * 2048 + (o + 4 * r.val)) = t.val / 9 * 16384 + (((t.val % 9 - 1) * 512 + r.val) * 4 + o); omega)) rfl)))

/-- A row of the window branch that a load of every fourth row takes. -/
theorem row1 (c : Dev nD) (t : Fin cfg0.N) (h1 : 1 ≤ t.val % 9) (o : ℕ) (ho : o < 4) (hb) (r : Fin 512) (k : Fin 128) :
    (View.readAt (Elt Ideal) (ms0_1 t).view { off := ![0, o, 0], size := ![1, 512, 128], stride := ![1, 4, 1], inb := hb } ((hs0_1 t).unread (iblk m c 1 t)) : Vec Ideal S1x512x128 .f32) (ix3 0 r k)
      = A1 m c (ix2 ⟨(seqOf t).val * 16384 + (((t.val % 9 - 1) * 512 + r.val) * 4 + o), by have := (seqOf t).isLt; omega⟩ k) :=
  (rows_read (hs0_1 t) (iblk m c 1 t) o ho hb r k).trans ((blk1 m c t _).trans (congrArg (A1 m c) (congrArg₂ ix2 (Fin.ext (by
    show t.val / 9 * 16384 + ((t.val % 9 - 1) * 2048 + (o + 4 * r.val)) = t.val / 9 * 16384 + (((t.val % 9 - 1) * 512 + r.val) * 4 + o); omega)) rfl)))

/-- A row of gains, as the body loads it. -/
theorem gain (c : Dev nD) (t : Fin cfg0.N) (q : Fin 3) (o : ℕ) (hq : o = q.val) (h) (l : Fin 128) :
    (View.ld (iblk m c 2 t : Vec Ideal S3x128 .f32) (Rect.unit (s := S3x128) ![o, 0] ![1, 128] h) : Vec Ideal S1x128 .f32) (ix2 0 l) = A2 m c (ix3 0 q l) :=
  (blk2 m c t _).trans (congrArg (A2 m c) (congrArg₂ (ix3 0) (Fin.ext hq) (Fin.ext (by show 0 + 1 * l.val = l.val; omega))))

/-- What point `t` leaves of the selected branch's keys. -/
theorem ks_at (c : Dev nD) (t : Fin cfg0.N) (y : S1x2x512x256.Idx) : (outsAt0 m c t.val t.isLt).1 y
    = val_main_v75 (F := Ideal) (A0 m c) (A2 m c) (ix4 (seqOf t) (y 1) (posOf t (y 2)) (y 3)) := by
  rw [ks_ref]
  by_cases h0 : t.val % 9 = 0
  · rw [outsAt0_A m c t h0 (by omega)]
    frame_out
    exact headsK (fun y => keyOf _ _ (seqOf t) (y 1) (posOf t (y 2)) (y 3)) _ _ _ _ (padK _ _ t h0 1) (padK _ _ t h0 0) y
  · have h1 : 1 ≤ t.val % 9 := by omega
    rw [outsAt0_B m c t h0 h1]
    frame_out
    refine headsK (fun y => keyOf _ _ (seqOf t) (y 1) (posOf t (y 2)) (y 3)) _ _ _ _ (bodyK _ _ t h1 1 _ _ (fun r l => ?_) (own_eq t h1)) (bodyK _ _ t h1 0 _ _ (fun r l => ?_) (own_eq t h1)) y
    · exact krow _ _ (A0 m c) (A2 m c) _ _ _ _ _ (fun k => (row0 m c t h1 1 (by omega) _ r k).trans (v21_at (A0 m c) (seqOf t) 1 ⟨(t.val % 9 - 1) * 512 + r.val, by omega⟩ k 1 rfl).symm) (gain m c t 1 1 rfl _ l)
    · exact krow _ _ (A0 m c) (A2 m c) _ _ _ _ _ (fun k => (row0 m c t h1 0 (by omega) _ r k).trans (v21_at (A0 m c) (seqOf t) 0 ⟨(t.val % 9 - 1) * 512 + r.val, by omega⟩ k 0 rfl).symm) (gain m c t 1 1 rfl _ l)

/-- What point `t` leaves of the selected branch's values. -/
theorem vs_at (c : Dev nD) (t : Fin cfg0.N) (y : S1x2x512x128.Idx) : (outsAt0 m c t.val t.isLt).2.1 y
    = val_main_v76 (F := Ideal) (A0 m c) (ix4 (seqOf t) (y 1) (posOf t (y 2)) (y 3)) := by
  rw [vs_ref]
  by_cases h0 : t.val % 9 = 0
  · rw [outsAt0_A m c t h0 (by omega)]
    frame_out
    exact headsV (fun y => padded _ (seqOf t) (y 1) (posOf t (y 2)) (y 3)) _ _ _ _ (padV _ t h0 1) (padV _ t h0 0) y
  · have h1 : 1 ≤ t.val % 9 := by omega
    rw [outsAt0_B m c t h0 h1]
    frame_out
    exact headsV (fun y => padded _ (seqOf t) (y 1) (posOf t (y 2)) (y 3)) _ _ _ _
      (bodyV _ t h1 1 _ fun r l => (row0 m c t h1 3 (by omega) _ r l).trans (v68_at (A0 m c) (seqOf t) 1 ⟨(t.val % 9 - 1) * 512 + r.val, by omega⟩ l 3 rfl).symm)
      (bodyV _ t h1 0 _ fun r l => (row0 m c t h1 2 (by omega) _ r l).trans (v68_at (A0 m c) (seqOf t) 0 ⟨(t.val % 9 - 1) * 512 + r.val, by omega⟩ l 2 rfl).symm) y

/-- What point `t` leaves of the window branch's keys. -/
theorem kw_at (c : Dev nD) (t : Fin cfg0.N) (y : S1x2x512x256.Idx) : (outsAt0 m c t.val t.isLt).2.2.1 y
    = val_main_v77 (F := Ideal) (A1 m c) (A2 m c) (ix4 (seqOf t) (y 1) (posOf t (y 2)) (y 3)) := by
  rw [kw_ref]
  by_cases h0 : t.val % 9 = 0
  · rw [outsAt0_A m c t h0 (by omega)]
    frame_out
    exact headsK (fun y => keyOf _ _ (seqOf t) (y 1) (posOf t (y 2)) (y 3)) _ _ _ _ (padK _ _ t h0 1) (padK _ _ t h0 0) y
  · have h1 : 1 ≤ t.val % 9 := by omega
    have hz : ∀ (r : Fin 512) (l : Fin 128), k0_pay13 (F := Ideal) (ix2 r l) = (0 : EReal) := fun r l => by pointwise [k0_pay13]
    rw [outsAt0_B m c t h0 h1]
    frame_out
    refine headsK (fun y => keyOf _ _ (seqOf t) (y 1) (posOf t (y 2)) (y 3)) _ _ _ _ (bodyK _ _ t h1 1 _ _ (fun r l => ?_) hz) (bodyK _ _ t h1 0 _ _ (fun r l => ?_) hz) y
    · exact wrow _ _ (A1 m c) (A2 m c) _ _ _ _ _ (fun k => (row1 m c t h1 1 (by omega) _ r k).trans (v44_at (A1 m c) (seqOf t) 1 ⟨(t.val % 9 - 1) * 512 + r.val, by omega⟩ k 1 rfl).symm) (gain m c t 2 2 rfl _ l)
    · exact wrow _ _ (A1 m c) (A2 m c) _ _ _ _ _ (fun k => (row1 m c t h1 0 (by omega) _ r k).trans (v44_at (A1 m c) (seqOf t) 0 ⟨(t.val % 9 - 1) * 512 + r.val, by omega⟩ k 0 rfl).symm) (gain m c t 2 2 rfl _ l)

/-- What point `t` leaves of the window branch's values. -/
theorem vw_at (c : Dev nD) (t : Fin cfg0.N) (y : S1x2x512x128.Idx) : (outsAt0 m c t.val t.isLt).2.2.2 y
    = val_main_v78 (F := Ideal) (A1 m c) (ix4 (seqOf t) (y 1) (posOf t (y 2)) (y 3)) := by
  rw [vw_ref]
  by_cases h0 : t.val % 9 = 0
  · rw [outsAt0_A m c t h0 (by omega)]
    frame_out
    exact headsV (fun y => padded _ (seqOf t) (y 1) (posOf t (y 2)) (y 3)) _ _ _ _ (padV _ t h0 1) (padV _ t h0 0) y
  · have h1 : 1 ≤ t.val % 9 := by omega
    rw [outsAt0_B m c t h0 h1]
    frame_out
    exact headsV (fun y => padded _ (seqOf t) (y 1) (posOf t (y 2)) (y 3)) _ _ _ _
      (bodyV _ t h1 1 _ fun r l => (row1 m c t h1 3 (by omega) _ r l).trans (v72_at (A1 m c) (seqOf t) 1 ⟨(t.val % 9 - 1) * 512 + r.val, by omega⟩ l 3 rfl).symm)
      (bodyV _ t h1 0 _ fun r l => (row1 m c t h1 2 (by omega) _ r l).trans (v72_at (A1 m c) (seqOf t) 0 ⟨(t.val % 9 - 1) * 512 + r.val, by omega⟩ l 2 rfl).symm) y

/-- The array of the selected branch's keys as the reference gives it. -/
theorem final3 (c : Dev nD) : (dats m 0 c).arrAt 3 (cfgs 0).N = val_main_v75 (F := Ideal) (A0 m c) (A2 m c) := by
  refine (dats m 0 c).arrAt_eq_of_covers 3 _ (by decide +kernel) fun t _ y => ?_
  blk_simp
  rw [after0_3]
  refine (ks_at m c t y).trans ?_
  generalize val_main_v75 (F := Ideal) (A0 m c) (A2 m c) = f
  blk_ext [idx t]

/-- The array of the selected branch's values as the reference gives it. -/
theorem final4 (c : Dev nD) : (dats m 0 c).arrAt 4 (cfgs 0).N = val_main_v76 (F := Ideal) (A0 m c) := by
  refine (dats m 0 c).arrAt_eq_of_covers 4 _ (by decide +kernel) fun t _ y => ?_
  blk_simp
  rw [after0_4]
  refine (vs_at m c t y).trans ?_
  generalize val_main_v76 (F := Ideal) (A0 m c) = f
  blk_ext [idx t]

/-- The array of the window branch's keys as the reference gives it. -/
theorem final5 (c : Dev nD) : (dats m 0 c).arrAt 5 (cfgs 0).N = val_main_v77 (F := Ideal) (A1 m c) (A2 m c) := by
  refine (dats m 0 c).arrAt_eq_of_covers 5 _ (by decide +kernel) fun t _ y => ?_
  blk_simp
  rw [after0_5]
  refine (kw_at m c t y).trans ?_
  generalize val_main_v77 (F := Ideal) (A1 m c) (A2 m c) = f
  blk_ext [idx t]

/-- The array of the window branch's values as the reference gives it. -/
theorem final6 (c : Dev nD) : (dats m 0 c).arrAt 6 (cfgs 0).N = val_main_v78 (F := Ideal) (A1 m c) := by
  refine (dats m 0 c).arrAt_eq_of_covers 6 _ (by decide +kernel) fun t _ y => ?_
  blk_simp
  rw [after0_6]
  refine (vw_at m c t y).trans ?_
  generalize val_main_v78 (F := Ideal) (A1 m c) = f
  blk_ext [idx t]

end Cert.KvPIdeal.KvPrep
-- ==== Proof.CmpD.lean ====
/- The compression of a block of rows as a sum over its positions and channels. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

/-- Entry `(n, s, d)` of a group of key or value rows: row `16 n + s` of sequence `b`, group `o`. -/
def rowsOf (x : S32768x128.Idx → EReal) (b : Fin 2) (o : Fin 4) (n : Fin 256) (s : Fin 16) (d : Fin 128) : EReal :=
  x (ix2 ⟨b.val * 16384 + ((n.val * 16 + s.val) * 4 + o.val), by omega⟩ d)

/-- The weights of one half of a block's positions. -/
def weightOf (w : S1x32x128x128.Idx → EReal) (q : Fin 2) (s : Fin 16) (d e : Fin 128) : EReal := w (ix4 0 ⟨q.val * 16 + s.val, by omega⟩ d e)

/-- The position rows of one half of a block's positions. -/
def posOf (p : S1x32x128.Idx → EReal) (q : Fin 2) (s : Fin 16) (d : Fin 128) : EReal := p (ix3 0 ⟨q.val * 16 + s.val, by omega⟩ d)

/-- Which position of a half entry `k` of its flattening is. -/
abbrev tapOf (k : Fin 2048) : Fin 16 := ⟨k.val / 128, by omega⟩
/-- Which channel entry `k` of a half's flattening is. -/
abbrev chanOf (k : Fin 2048) : Fin 128 := ⟨k.val % 128, by omega⟩

/-- Rows of a half, flattened, times its weights. -/
def half (x : Fin 16 → Fin 128 → EReal) (w : Fin 16 → Fin 128 → Fin 128 → EReal) (e : Fin 128) : EReal :=
  ∑ k : Fin 2048, x (tapOf k) (chanOf k) * w (tapOf k) (chanOf k) e

/-- A sum of real numbers times a real number, among the extended ones. -/
theorem add_mul_real (x p w : EReal) (hx : ∃ r : ℝ, x = r) (hp : ∃ r : ℝ, p = r) (hw : ∃ r : ℝ, w = r) : (x + p) * w = x * w + p * w := by
  obtain ⟨x, rfl⟩ := hx
  obtain ⟨p, rfl⟩ := hp
  obtain ⟨w, rfl⟩ := hw
  rw [← EReal.coe_add, ← EReal.coe_mul, ← EReal.coe_mul, ← EReal.coe_mul, ← EReal.coe_add, add_mul]

/-- A half of rows with their positions is the half of the rows and the half of the positions. -/
theorem half_add (x p : Fin 16 → Fin 128 → EReal) (w : Fin 16 → Fin 128 → Fin 128 → EReal) (e : Fin 128)
    (hx : ∀ s d, ∃ r : ℝ, x s d = r) (hp : ∀ s d, ∃ r : ℝ, p s d = r) (hw : ∀ s d e, ∃ r : ℝ, w s d e = r) :
    half (fun s d => x s d + p s d) w e = half x w e + half p w e := by
  unfold half
  rw [← Finset.sum_add_distrib]
  exact Finset.sum_congr rfl fun k _ => add_mul_real _ _ _ (hx _ _) (hp _ _) (hw _ _ _)

end Cert.CmpPIdeal.Compress
-- ==== Proof.CmpB.lean ====
/- The blocks of the compression. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit
public import proofs.«01_k».proof.Proof.CmpD

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

variable (m : (ℓ : Loc nD τ sig) → Buf (Elt Ideal) ℓ)

/-- Where each window sits at point `t`. -/
theorem idx : ∀ t : Fin cfg0.N,
    win0_0.index t = ![t.val, 0, 0]
    ∧ win0_1.index t = ![0, 0, 0]
    ∧ win0_2.index t = ![0, 0, 0]
    ∧ win0_3.index t = ![0, 0, 0, 0]
    ∧ win0_4.index t = ![0, 0]
    ∧ win0_5.index t = ![t.val, 0, 0, 0]
    ∧ win0_6.index t = ![t.val, 0, 0, 0] ∧ t.val < 2 :=
  (by decide +kernel : ∀ t : Fin grid0.N, _)

/-- The key and value rows. -/
abbrev A0 (c : Dev nD) : Vec Ideal S32768x128 .f32 := m ((c : Thread nD τ).loc main_arg0)
/-- The weights of the keys. -/
abbrev A1 (c : Dev nD) : Vec Ideal S1x32x128x128 .f32 := m ((c : Thread nD τ).loc main_arg1)
/-- The positions of the keys. -/
abbrev A2 (c : Dev nD) : Vec Ideal S1x32x128 .f32 := m ((c : Thread nD τ).loc main_arg2)
/-- The weights of the values. -/
abbrev A3 (c : Dev nD) : Vec Ideal S1x32x128x128 .f32 := m ((c : Thread nD τ).loc main_arg3)
/-- The positions of the values. -/
abbrev A4 (c : Dev nD) : Vec Ideal S1x32x128 .f32 := m ((c : Thread nD τ).loc main_arg4)
/-- The gains of the keys. -/
abbrev A5 (c : Dev nD) : Vec Ideal S1x3x128 .f32 := m ((c : Thread nD τ).loc main_arg5)

/-- Rows of an argument as its block of three axes: which row of the argument each is. -/
theorem cast_at (x : Vec Ideal S32768x128 .f32) (h) (b : Fin 2) (q : Fin 16384) (l : Fin 128) :
    (shapeCast S2x16384x128 x h : Vec Ideal S2x16384x128 .f32) (ix3 b q l) = x (ix2 ⟨b.val * 16384 + q.val, by omega⟩ l) := by
  pointwise []

/-- The block of the rows. -/
theorem blk0 (c : Dev nD) (t : Fin cfg0.N) (y : S1x16384x128.Idx) : (iblk m c 0 t : Vec Ideal S1x16384x128 .f32) y
    = A0 m c (ix2 ⟨t.val * 16384 + (y 1).val, by
        have := (idx t).2.2.2.2.2.2.2; have : (y 1).val < 16384 := (y 1).isLt; omega⟩ (y 2)) := by
  have h1 : (y 1).val < 16384 := (y 1).isLt
  have ht := (idx t).2.2.2.2.2.2.2
  refine Eq.trans ?_ (cast_at (A0 m c) shapeCasts_S32768x128_S2x16384x128 ⟨t.val, by omega⟩ ⟨(y 1).val, by omega⟩ (y 2))
  blk_simp [iblk]
  entry_read
  show (shapeCast S2x16384x128 _ _ : Vec Ideal S2x16384x128 .f32) _ = (shapeCast S2x16384x128 _ _ : Vec Ideal S2x16384x128 .f32) _
  blk_ext [idx t]

/-- The block of the gains. -/
theorem blk4 (c : Dev nD) (t : Fin cfg0.N) (y : S3x128.Idx) : (iblk m c 4 t : Vec Ideal S3x128 .f32) y
    = A5 m c (ix3 0 (y 0) (y 1)) := by
  have e : (shapeCast S3x128 (A5 m c) shapeCasts_S1x3x128_S3x128 : Vec Ideal S3x128 .f32) (ix2 (y 0) (y 1)) = A5 m c (ix3 0 (y 0) (y 1)) := by
    pointwise []
  refine Eq.trans ?_ e
  blk_simp [iblk]
  entry_read
  show (shapeCast S3x128 _ _ : Vec Ideal S3x128 .f32) _ = (shapeCast S3x128 _ _ : Vec Ideal S3x128 .f32) _
  blk_ext [idx t]

/-- The weights' tiles, as the body takes them. -/
def tiles (w : Vec Ideal S1x32x128x128 .f32) : FVec Ideal S8x256x256 .bf16 :=
  let w4 : Vec Ideal S2x8x2x128x128 .f32 := shapeCast S2x8x2x128x128 (shapeCast S32x128x128 w shapeCasts_S1x32x128x128_S32x128x128 : Vec Ideal S32x128x128 .f32) shapeCasts_S32x128x128_S2x8x2x128x128
  truncf .bf16 (concatenate S8x256x256 1
    [⟨S8x128x256, concatenate S8x128x256 2
        [⟨S8x128x128, shapeCast S8x128x128 (extractStridedSlice S1x8x1x128x128 ![0, 0, 0, 0, 0] w4 slices_S2x8x2x128x128_S1x8x1x128x128_0_0_0_0_0) shapeCasts_S1x8x1x128x128_S8x128x128⟩,
          ⟨S8x128x128, shapeCast S8x128x128 (extractStridedSlice S1x8x1x128x128 ![1, 0, 0, 0, 0] w4 slices_S2x8x2x128x128_S1x8x1x128x128_1_0_0_0_0) shapeCasts_S1x8x1x128x128_S8x128x128⟩]
        concatenates_S8x128x128_S8x128x128_S8x128x256_d2⟩,
      ⟨S8x128x256, concatenate S8x128x256 2
        [⟨S8x128x128, shapeCast S8x128x128 (extractStridedSlice S1x8x1x128x128 ![0, 0, 1, 0, 0] w4 slices_S2x8x2x128x128_S1x8x1x128x128_0_0_1_0_0) shapeCasts_S1x8x1x128x128_S8x128x128⟩,
          ⟨S8x128x128, shapeCast S8x128x128 (extractStridedSlice S1x8x1x128x128 ![1, 0, 1, 0, 0] w4 slices_S2x8x2x128x128_S1x8x1x128x128_1_0_1_0_0) shapeCasts_S1x8x1x128x128_S8x128x128⟩]
        concatenates_S8x128x128_S8x128x128_S8x128x256_d2⟩]
    concatenates_S8x128x256_S8x128x256_S8x256x256_d1 : FVec Ideal S8x256x256 .f32) bitsLt_bf16_f32

/-- One concatenated row of position rows, of one half. -/
def posPairs (p : Vec Ideal S1x32x128 .f32) : FVec Ideal S1x8x16x256 .bf16 :=
  let p4 : Vec Ideal S2x8x2x128 .f32 := shapeCast S2x8x2x128 (shapeCast S32x128 p shapeCasts_S1x32x128_S32x128 : Vec Ideal S32x128 .f32) shapeCasts_S32x128_S2x8x2x128
  let z : FVec Ideal S_ .f32 := constant S_ .f32 0x00000000#32
  broadcastInDim S1x8x16x256 ![1, 2, 3] bcast_S8x16x256_S1x8x16x256_1_2_3 (truncf .bf16 (concatenate S8x16x256 1
    [⟨S8x1x256, broadcastInDim S8x1x256 ![0, 2] bcast_S8x256_S8x1x256_0_2 (concatenate S8x256 1
        [⟨S8x128, shapeCast S8x128 (extractStridedSlice S1x8x1x128 ![0, 0, 0, 0] p4 slices_S2x8x2x128_S1x8x1x128_0_0_0_0) shapeCasts_S1x8x1x128_S8x128⟩,
          ⟨S8x128, shapeCast S8x128 (extractStridedSlice S1x8x1x128 ![0, 0, 1, 0] p4 slices_S2x8x2x128_S1x8x1x128_0_0_1_0) shapeCasts_S1x8x1x128_S8x128⟩] concatenates_S8x128_S8x128_S8x256_d1)⟩,
      ⟨S8x1x256, broadcastInDim S8x1x256 ![0, 2] bcast_S8x256_S8x1x256_0_2 (concatenate S8x256 1
        [⟨S8x128, shapeCast S8x128 (extractStridedSlice S1x8x1x128 ![1, 0, 0, 0] p4 slices_S2x8x2x128_S1x8x1x128_1_0_0_0) shapeCasts_S1x8x1x128_S8x128⟩,
          ⟨S8x128, shapeCast S8x128 (extractStridedSlice S1x8x1x128 ![1, 0, 1, 0] p4 slices_S2x8x2x128_S1x8x1x128_1_0_1_0) shapeCasts_S1x8x1x128_S8x128⟩] concatenates_S8x128_S8x128_S8x256_d1)⟩,
      ⟨S8x14x256, (broadcastInDim S8x14x256 ![] bcast_S_S8x14x256 z : FVec Ideal S8x14x256 .f32)⟩]
    concatenates_S8x1x256_S8x1x256_S8x14x256_S8x16x256_d1 : FVec Ideal S8x16x256 .f32) bitsLt_bf16_f32 : FVec Ideal S8x16x256 .bf16)

theorem tiles_at (w : Vec Ideal S1x32x128x128 .f32) (s : Fin 8) (j : Fin 256) (q : Fin 2) (e : Fin 128) (l : Fin 256) (hl : l.val = q.val * 128 + e.val) :
    tiles w (ix3 s j l) = weightOf w q ⟨s.val * 2 + j.val / 128, by omega⟩ ⟨j.val % 128, by omega⟩ e := by
  unfold weightOf
  pointwise [tiles]
  obtain ⟨q, hq⟩ := q
  dsimp only at hl
  split_ifs with h1 h2 h2 <;> refine congrArg w (congr (congrArg₂ (ix4 0) (Fin.ext ?_) (Fin.ext ?_)) (Fin.ext ?_)) <;> dsimp only <;> omega

theorem posPairs_at (p : Vec Ideal S1x32x128 .f32) (s : Fin 8) (j : Fin 256) (q : Fin 2) (r : Fin 16) (hr : r.val = q.val) :
    posPairs p (ix4 0 s r j) = posOf p q ⟨s.val * 2 + j.val / 128, by omega⟩ ⟨j.val % 128, by omega⟩ := by
  unfold posOf
  pointwise [posPairs]
  obtain ⟨q, hq⟩ := q
  dsimp only at hr
  split_ifs with h1 h2 h2 h3 <;> first | omega | (refine congrArg p (congrArg₂ (ix3 0) (Fin.ext ?_) (Fin.ext ?_)) <;> dsimp only <;> omega)

/-- The block of the keys' weights. -/
theorem blk1 (c : Dev nD) (t : Fin cfg0.N) (y : S8x256x256.Idx) : (iblk m c 1 t : Vec Ideal S8x256x256 .bf16) y = tiles (A1 m c) y := by
  refine Eq.trans ?_ (congrArg (tiles (A1 m c)) (eq_ix3 y).symm)
  blk_simp [iblk]
  entry_read
  show tiles (A1 m c) _ = tiles (A1 m c) _
  blk_ext [idx t]

/-- The block of the values' weights. -/
theorem blk2 (c : Dev nD) (t : Fin cfg0.N) (y : S8x256x256.Idx) : (iblk m c 2 t : Vec Ideal S8x256x256 .bf16) y = tiles (A3 m c) y := by
  refine Eq.trans ?_ (congrArg (tiles (A3 m c)) (eq_ix3 y).symm)
  blk_simp [iblk]
  entry_read
  show tiles (A3 m c) _ = tiles (A3 m c) _
  blk_ext [idx t]

end Cert.CmpPIdeal.Compress
-- ==== Proof.CmpE.lean ====
/- The position rows the call is given. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpB

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

/-- Operations before the call, part A. -/
abbrev opsA : List (HloOp τ sig (Elt Ideal)) :=
  ( StableHlo.reshape main_arg0 main_v0 (rfl : (.f32 : EltTy) = .f32) shapeCasts_S32768x128_S2x16384x128
  :: StableHlo.reshape main_arg1 main_v1 (rfl : (.f32 : EltTy) = .f32) shapeCasts_S1x32x128x128_S32x128x128
  :: StableHlo.reshape main_arg2 main_v2 (rfl : (.f32 : EltTy) = .f32) shapeCasts_S1x32x128_S32x128
  :: StableHlo.reshape main_v1 main_v3 (rfl : (.f32 : EltTy) = .f32) shapeCasts_S32x128x128_S2x8x2x128x128
  :: StableHlo.unary main_v3 main_v4 ((extractStridedSlice S1x8x1x128x128 ![0, 0, 0, 0, 0] · slices_S2x8x2x128x128_S1x8x1x128x128_0_0_0_0_0) : (⟨S2x8x2x128x128, .f32⟩ : BufTy).Contents (Elt Ideal) → (⟨S1x8x1x128x128, .f32⟩ : BufTy).Contents (Elt Ideal))
  :: StableHlo.reshape main_v4 main_v5 (rfl : (.f32 : EltTy) = .f32) shapeCasts_S1x8x1x128x128_S8x128x128
  :: StableHlo.unary main_v3 main_v6 ((extractStridedSlice S1x8x1x128x128 ![1, 0, 0, 0, 0] · slices_S2x8x2x128x128_S1x8x1x128x128_1_0_0_0_0) : (⟨S2x8x2x128x128, .f32⟩ : BufTy).Contents (Elt Ideal) → (⟨S1x8x1x128x128, .f32⟩ : BufTy).Contents (Elt Ideal))
  :: StableHlo.reshape main_v6 main_v7 (rfl : (.f32 : EltTy) = .f32) shapeCasts_S1x8x1x128x128_S8x128x128
  :: StableHlo.binary main_v5 main_v7 main_v8 ((fun a b => concatenate S8x128x256 2 [⟨S8x128x128, a⟩, ⟨S8x128x128, b⟩] concatenates_S8x128x128_S8x128x128_S8x128x256_d2) : (⟨S8x128x128, .f32⟩ : BufTy).Contents (Elt Ideal) → (⟨S8x128x128, .f32⟩ : BufTy).Contents (Elt Ideal) → (⟨S8x128x256, .f32⟩ : BufTy).Contents (Elt Ideal))
  :: StableHlo.unary main_v3 main_v9 ((extractStridedSlice S1x8x1x128x128 ![0, 0, 1, 0, 0] · slices_S2x8x2x128x128_S1x8x1x128x128_0_0_1_0_0) : (⟨S2x8x2x128x128, .f32⟩ : BufTy).Contents (Elt Ideal) → (⟨S1x8x1x128x128, .f32⟩ : BufTy).Contents (Elt Ideal))
  :: StableHlo.reshape main_v9 main_v10 (rfl : (.f32 : EltTy) = .f32) shapeCasts_S1x8x1x128x128_S8x128x128
  :: StableHlo.unary main_v3 main_v11 ((extractStridedSlice S1x8x1x128x128 ![1, 0, 1, 0, 0] · slices_S2x8x2x128x128_S1x8x1x128x128_1_0_1_0_0) : (⟨S2x8x2x128x128, .f32⟩ : BufTy).Contents (Elt Ideal) → (⟨S1x8x1x128x128, .f32⟩ : BufTy).Contents (Elt Ideal))
  :: StableHlo.reshape main_v11 main_v12 (rfl : (.f32 : EltTy) = .f32) shapeCasts_S1x8x1x128x128_S8x128x128
  :: StableHlo.binary main_v10 main_v12 main_v13 ((fun a b => concatenate S8x128x256 2 [⟨S8x128x128, a⟩, ⟨S8x128x128, b⟩] concatenates_S8x128x128_S8x128x128_S8x128x256_d2) : (⟨S8x128x128, .f32⟩ : BufTy).Contents (Elt Ideal) → (⟨S8x128x128, .f32⟩ : BufTy).Contents (Elt Ideal) → (⟨S8x128x256, .f32⟩ : BufTy).Contents (Elt Ideal))
  :: StableHlo.binary main_v8 main_v13 main_v14 ((fun a b => concatenate S8x256x256 1 [⟨S8x128x256, a⟩, ⟨S8x128x256, b⟩] concatenates_S8x128x256_S8x128x256_S8x256x256_d1) : (⟨S8x128x256, .f32⟩ : BufTy).Contents (Elt Ideal) → (⟨S8x128x256, .f32⟩ : BufTy).Contents (Elt Ideal) → (⟨S8x256x256, .f32⟩ : BufTy).Contents (Elt Ideal))
  :: StableHlo.unary main_v14 main_v15 ((truncf (F := Ideal) .bf16 · bitsLt_bf16_f32) : (⟨S8x256x256, .f32⟩ : BufTy).Contents (Elt Ideal) → (⟨S8x256x256, .bf16⟩ : BufTy).Contents (Elt Ideal))
  :: StableHlo.reshape main_v2 main_v16 (rfl : (.f32 : EltTy) = .f32) shapeCasts_S32x128_S2x8x2x128
  :: StableHlo.unary main_v16 main_v17 ((extractStridedSlice S1x8x1x128 ![0, 0, 0, 0] · slices_S2x8x2x128_S1x8x1x128_0_0_0_0) : (⟨S2x8x2x128, .f32⟩ : BufTy).Contents (Elt Ideal) → (⟨S1x8x1x128, .f32⟩ : BufTy).Contents (Elt Ideal))
  :: StableHlo.reshape main_v17 main_v18 (rfl : (.f32 : EltTy) = .f32) shapeCasts_S1x8x1x128_S8x128
  :: StableHlo.unary main_v16 main_v19 ((extractStridedSlice S1x8x1x128 ![0, 0, 1, 0] · slices_S2x8x2x128_S1x8x1x128_0_0_1_0) : (⟨S2x8x2x128, .f32⟩ : BufTy).Contents (Elt Ideal) → (⟨S1x8x1x128, .f32⟩ : BufTy).Contents (Elt Ideal))
  :: StableHlo.reshape main_v19 main_v20 (rfl : (.f32 : EltTy) = .f32) shapeCasts_S1x8x1x128_S8x128
  :: StableHlo.binary main_v18 main_v20 main_v21 ((fun a b => concatenate S8x256 1 [⟨S8x128, a⟩, ⟨S8x128, b⟩] concatenates_S8x128_S8x128_S8x256_d1) : (⟨S8x128, .f32⟩ : BufTy).Contents (Elt Ideal) → (⟨S8x128, .f32⟩ : BufTy).Contents (Elt Ideal) → (⟨S8x256, .f32⟩ : BufTy).Contents (Elt Ideal))
  :: StableHlo.unary main_v16 main_v22 ((extractStridedSlice S1x8x1x128 ![1, 0, 0, 0] · slices_S2x8x2x128_S1x8x1x128_1_0_0_0) : (⟨S2x8x2x128, .f32⟩ : BufTy).Contents (Elt Ideal) → (⟨S1x8x1x128, .f32⟩ : BufTy).Contents (Elt Ideal))
  :: StableHlo.reshape main_v22 main_v23 (rfl : (.f32 : EltTy) = .f32) shapeCasts_S1x8x1x128_S8x128
  :: StableHlo.unary main_v16 main_v24 ((extractStridedSlice S1x8x1x128 ![1, 0, 1, 0] · slices_S2x8x2x128_S1x8x1x128_1_0_1_0) : (⟨S2x8x2x128, .f32⟩ : BufTy).Contents (Elt Ideal) → (⟨S1x8x1x128, .f32⟩ : BufTy).Contents (Elt Ideal))
  :: StableHlo.reshape main_v24 main_v25 (rfl : (.f32 : EltTy) = .f32) shapeCasts_S1x8x1x128_S8x128
  :: StableHlo.binary main_v23 main_v25 main_v26 ((fun a b => concatenate S8x256 1 [⟨S8x128, a⟩, ⟨S8x128, b⟩] concatenates_S8x128_S8x128_S8x256_d1) : (⟨S8x128, .f32⟩ : BufTy).Contents (Elt Ideal) → (⟨S8x128, .f32⟩ : BufTy).Contents (Elt Ideal) → (⟨S8x256, .f32⟩ : BufTy).Contents (Elt Ideal))
  :: [] )

/-- Operations before the call, part B. -/
abbrev opsB : List (HloOp τ sig (Elt Ideal)) :=
  ( StableHlo.unary main_v21 main_v27 (broadcastInDim S8x1x256 ![0, 2] bcast_S8x256_S8x1x256_0_2 : (⟨S8x256, .f32⟩ : BufTy).Contents (Elt Ideal) → (⟨S8x1x256, .f32⟩ : BufTy).Contents (Elt Ideal))
  :: StableHlo.unary main_v26 main_v28 (broadcastInDim S8x1x256 ![0, 2] bcast_S8x256_S8x1x256_0_2 : (⟨S8x256, .f32⟩ : BufTy).Contents (Elt Ideal) → (⟨S8x1x256, .f32⟩ : BufTy).Contents (Elt Ideal))
  :: StableHlo.nullary main_cst (constant (F := Ideal) S_ .f32 0x00000000#32)
  :: StableHlo.unary main_cst main_v29 (broadcastInDim S8x14x256 ![] bcast_S_S8x14x256 : (⟨S_, .f32⟩ : BufTy).Contents (Elt Ideal) → (⟨S8x14x256, .f32⟩ : BufTy).Contents (Elt Ideal))
  :: StableHlo.nary ![main_v27, main_v28, main_v29] main_v30 (fun u => (concatenate S8x16x256 1 [⟨S8x1x256, (u 0 : (⟨S8x1x256, .f32⟩ : BufTy).Contents (Elt Ideal))⟩, ⟨S8x1x256, (u 1 : (⟨S8x1x256, .f32⟩ : BufTy).Contents (Elt Ideal))⟩, ⟨S8x14x256, (u 2 : (⟨S8x14x256, .f32⟩ : BufTy).Contents (Elt Ideal))⟩] concatenates_S8x1x256_S8x1x256_S8x14x256_S8x16x256_d1 : (⟨S8x16x256, .f32⟩ : BufTy).Contents (Elt Ideal)))
  :: StableHlo.unary main_v30 main_v31 ((truncf (F := Ideal) .bf16 · bitsLt_bf16_f32) : (⟨S8x16x256, .f32⟩ : BufTy).Contents (Elt Ideal) → (⟨S8x16x256, .bf16⟩ : BufTy).Contents (Elt Ideal))
  :: [] )

/-- Operations before the call, part C. -/
abbrev opsC : List (HloOp τ sig (Elt Ideal)) :=
  ( StableHlo.reshape main_arg3 main_v32 (rfl : (.f32 : EltTy) = .f32) shapeCasts_S1x32x128x128_S32x128x128
  :: StableHlo.reshape main_arg4 main_v33 (rfl : (.f32 : EltTy) = .f32) shapeCasts_S1x32x128_S32x128
  :: StableHlo.reshape main_v32 main_v34 (rfl : (.f32 : EltTy) = .f32) shapeCasts_S32x128x128_S2x8x2x128x128
  :: StableHlo.unary main_v34 main_v35 ((extractStridedSlice S1x8x1x128x128 ![0, 0, 0, 0, 0] · slices_S2x8x2x128x128_S1x8x1x128x128_0_0_0_0_0) : (⟨S2x8x2x128x128, .f32⟩ : BufTy).Contents (Elt Ideal) → (⟨S1x8x1x128x128, .f32⟩ : BufTy).Contents (Elt Ideal))
  :: StableHlo.reshape main_v35 main_v36 (rfl : (.f32 : EltTy) = .f32) shapeCasts_S1x8x1x128x128_S8x128x128
  :: StableHlo.unary main_v34 main_v37 ((extractStridedSlice S1x8x1x128x128 ![1, 0, 0, 0, 0] · slices_S2x8x2x128x128_S1x8x1x128x128_1_0_0_0_0) : (⟨S2x8x2x128x128, .f32⟩ : BufTy).Contents (Elt Ideal) → (⟨S1x8x1x128x128, .f32⟩ : BufTy).Contents (Elt Ideal))
  :: StableHlo.reshape main_v37 main_v38 (rfl : (.f32 : EltTy) = .f32) shapeCasts_S1x8x1x128x128_S8x128x128
  :: StableHlo.binary main_v36 main_v38 main_v39 ((fun a b => concatenate S8x128x256 2 [⟨S8x128x128, a⟩, ⟨S8x128x128, b⟩] concatenates_S8x128x128_S8x128x128_S8x128x256_d2) : (⟨S8x128x128, .f32⟩ : BufTy).Contents (Elt Ideal) → (⟨S8x128x128, .f32⟩ : BufTy).Contents (Elt Ideal) → (⟨S8x128x256, .f32⟩ : BufTy).Contents (Elt Ideal))
  :: StableHlo.unary main_v34 main_v40 ((extractStridedSlice S1x8x1x128x128 ![0, 0, 1, 0, 0] · slices_S2x8x2x128x128_S1x8x1x128x128_0_0_1_0_0) : (⟨S2x8x2x128x128, .f32⟩ : BufTy).Contents (Elt Ideal) → (⟨S1x8x1x128x128, .f32⟩ : BufTy).Contents (Elt Ideal))
  :: StableHlo.reshape main_v40 main_v41 (rfl : (.f32 : EltTy) = .f32) shapeCasts_S1x8x1x128x128_S8x128x128
  :: StableHlo.unary main_v34 main_v42 ((extractStridedSlice S1x8x1x128x128 ![1, 0, 1, 0, 0] · slices_S2x8x2x128x128_S1x8x1x128x128_1_0_1_0_0) : (⟨S2x8x2x128x128, .f32⟩ : BufTy).Contents (Elt Ideal) → (⟨S1x8x1x128x128, .f32⟩ : BufTy).Contents (Elt Ideal))
  :: StableHlo.reshape main_v42 main_v43 (rfl : (.f32 : EltTy) = .f32) shapeCasts_S1x8x1x128x128_S8x128x128
  :: StableHlo.binary main_v41 main_v43 main_v44 ((fun a b => concatenate S8x128x256 2 [⟨S8x128x128, a⟩, ⟨S8x128x128, b⟩] concatenates_S8x128x128_S8x128x128_S8x128x256_d2) : (⟨S8x128x128, .f32⟩ : BufTy).Contents (Elt Ideal) → (⟨S8x128x128, .f32⟩ : BufTy).Contents (Elt Ideal) → (⟨S8x128x256, .f32⟩ : BufTy).Contents (Elt Ideal))
  :: StableHlo.binary main_v39 main_v44 main_v45 ((fun a b => concatenate S8x256x256 1 [⟨S8x128x256, a⟩, ⟨S8x128x256, b⟩] concatenates_S8x128x256_S8x128x256_S8x256x256_d1) : (⟨S8x128x256, .f32⟩ : BufTy).Contents (Elt Ideal) → (⟨S8x128x256, .f32⟩ : BufTy).Contents (Elt Ideal) → (⟨S8x256x256, .f32⟩ : BufTy).Contents (Elt Ideal))
  :: StableHlo.unary main_v45 main_v46 ((truncf (F := Ideal) .bf16 · bitsLt_bf16_f32) : (⟨S8x256x256, .f32⟩ : BufTy).Contents (Elt Ideal) → (⟨S8x256x256, .bf16⟩ : BufTy).Contents (Elt Ideal))
  :: StableHlo.reshape main_v33 main_v47 (rfl : (.f32 : EltTy) = .f32) shapeCasts_S32x128_S2x8x2x128
  :: StableHlo.unary main_v47 main_v48 ((extractStridedSlice S1x8x1x128 ![0, 0, 0, 0] · slices_S2x8x2x128_S1x8x1x128_0_0_0_0) : (⟨S2x8x2x128, .f32⟩ : BufTy).Contents (Elt Ideal) → (⟨S1x8x1x128, .f32⟩ : BufTy).Contents (Elt Ideal))
  :: StableHlo.reshape main_v48 main_v49 (rfl : (.f32 : EltTy) = .f32) shapeCasts_S1x8x1x128_S8x128
  :: StableHlo.unary main_v47 main_v50 ((extractStridedSlice S1x8x1x128 ![0, 0, 1, 0] · slices_S2x8x2x128_S1x8x1x128_0_0_1_0) : (⟨S2x8x2x128, .f32⟩ : BufTy).Contents (Elt Ideal) → (⟨S1x8x1x128, .f32⟩ : BufTy).Contents (Elt Ideal))
  :: StableHlo.reshape main_v50 main_v51 (rfl : (.f32 : EltTy) = .f32) shapeCasts_S1x8x1x128_S8x128
  :: StableHlo.binary main_v49 main_v51 main_v52 ((fun a b => concatenate S8x256 1 [⟨S8x128, a⟩, ⟨S8x128, b⟩] concatenates_S8x128_S8x128_S8x256_d1) : (⟨S8x128, .f32⟩ : BufTy).Contents (Elt Ideal) → (⟨S8x128, .f32⟩ : BufTy).Contents (Elt Ideal) → (⟨S8x256, .f32⟩ : BufTy).Contents (Elt Ideal))
  :: StableHlo.unary main_v47 main_v53 ((extractStridedSlice S1x8x1x128 ![1, 0, 0, 0] · slices_S2x8x2x128_S1x8x1x128_1_0_0_0) : (⟨S2x8x2x128, .f32⟩ : BufTy).Contents (Elt Ideal) → (⟨S1x8x1x128, .f32⟩ : BufTy).Contents (Elt Ideal))
  :: StableHlo.reshape main_v53 main_v54 (rfl : (.f32 : EltTy) = .f32) shapeCasts_S1x8x1x128_S8x128
  :: StableHlo.unary main_v47 main_v55 ((extractStridedSlice S1x8x1x128 ![1, 0, 1, 0] · slices_S2x8x2x128_S1x8x1x128_1_0_1_0) : (⟨S2x8x2x128, .f32⟩ : BufTy).Contents (Elt Ideal) → (⟨S1x8x1x128, .f32⟩ : BufTy).Contents (Elt Ideal))
  :: StableHlo.reshape main_v55 main_v56 (rfl : (.f32 : EltTy) = .f32) shapeCasts_S1x8x1x128_S8x128
  :: StableHlo.binary main_v54 main_v56 main_v57 ((fun a b => concatenate S8x256 1 [⟨S8x128, a⟩, ⟨S8x128, b⟩] concatenates_S8x128_S8x128_S8x256_d1) : (⟨S8x128, .f32⟩ : BufTy).Contents (Elt Ideal) → (⟨S8x128, .f32⟩ : BufTy).Contents (Elt Ideal) → (⟨S8x256, .f32⟩ : BufTy).Contents (Elt Ideal))
  :: [] )

/-- Operations before the call, part D. -/
abbrev opsD : List (HloOp τ sig (Elt Ideal)) :=
  ( StableHlo.unary main_v52 main_v58 (broadcastInDim S8x1x256 ![0, 2] bcast_S8x256_S8x1x256_0_2 : (⟨S8x256, .f32⟩ : BufTy).Contents (Elt Ideal) → (⟨S8x1x256, .f32⟩ : BufTy).Contents (Elt Ideal))
  :: StableHlo.unary main_v57 main_v59 (broadcastInDim S8x1x256 ![0, 2] bcast_S8x256_S8x1x256_0_2 : (⟨S8x256, .f32⟩ : BufTy).Contents (Elt Ideal) → (⟨S8x1x256, .f32⟩ : BufTy).Contents (Elt Ideal))
  :: StableHlo.nullary main_cst_0 (constant (F := Ideal) S_ .f32 0x00000000#32)
  :: StableHlo.unary main_cst_0 main_v60 (broadcastInDim S8x14x256 ![] bcast_S_S8x14x256 : (⟨S_, .f32⟩ : BufTy).Contents (Elt Ideal) → (⟨S8x14x256, .f32⟩ : BufTy).Contents (Elt Ideal))
  :: StableHlo.nary ![main_v58, main_v59, main_v60] main_v61 (fun u => (concatenate S8x16x256 1 [⟨S8x1x256, (u 0 : (⟨S8x1x256, .f32⟩ : BufTy).Contents (Elt Ideal))⟩, ⟨S8x1x256, (u 1 : (⟨S8x1x256, .f32⟩ : BufTy).Contents (Elt Ideal))⟩, ⟨S8x14x256, (u 2 : (⟨S8x14x256, .f32⟩ : BufTy).Contents (Elt Ideal))⟩] concatenates_S8x1x256_S8x1x256_S8x14x256_S8x16x256_d1 : (⟨S8x16x256, .f32⟩ : BufTy).Contents (Elt Ideal)))
  :: StableHlo.unary main_v61 main_v62 ((truncf (F := Ideal) .bf16 · bitsLt_bf16_f32) : (⟨S8x16x256, .f32⟩ : BufTy).Contents (Elt Ideal) → (⟨S8x16x256, .bf16⟩ : BufTy).Contents (Elt Ideal))
  :: [] )

/-- Operations before the call, part E. -/
abbrev opsE : List (HloOp τ sig (Elt Ideal)) :=
  ( StableHlo.unary main_v31 main_v63 (broadcastInDim S1x8x16x256 ![1, 2, 3] bcast_S8x16x256_S1x8x16x256_1_2_3 : (⟨S8x16x256, .bf16⟩ : BufTy).Contents (Elt Ideal) → (⟨S1x8x16x256, .bf16⟩ : BufTy).Contents (Elt Ideal))
  :: StableHlo.unary main_v62 main_v64 (broadcastInDim S1x8x16x256 ![1, 2, 3] bcast_S8x16x256_S1x8x16x256_1_2_3 : (⟨S8x16x256, .bf16⟩ : BufTy).Contents (Elt Ideal) → (⟨S1x8x16x256, .bf16⟩ : BufTy).Contents (Elt Ideal))
  :: StableHlo.binary main_v63 main_v64 main_v65 ((fun a b => concatenate S2x8x16x256 0 [⟨S1x8x16x256, a⟩, ⟨S1x8x16x256, b⟩] concatenates_S1x8x16x256_S1x8x16x256_S2x8x16x256_d0) : (⟨S1x8x16x256, .bf16⟩ : BufTy).Contents (Elt Ideal) → (⟨S1x8x16x256, .bf16⟩ : BufTy).Contents (Elt Ideal) → (⟨S2x8x16x256, .bf16⟩ : BufTy).Contents (Elt Ideal))
  :: StableHlo.reshape main_arg5 main_v66 (rfl : (.f32 : EltTy) = .f32) shapeCasts_S1x3x128_S3x128
  :: [] )

/-- The half position rows as the call is given them. -/
def posHalf (p : Vec Ideal S1x32x128 .f32) : FVec Ideal S8x16x256 .bf16 :=
  let p4 : Vec Ideal S2x8x2x128 .f32 := shapeCast S2x8x2x128 (shapeCast S32x128 p shapeCasts_S1x32x128_S32x128 : Vec Ideal S32x128 .f32) shapeCasts_S32x128_S2x8x2x128
  let z : FVec Ideal S_ .f32 := constant S_ .f32 0x00000000#32
  truncf .bf16 (concatenate S8x16x256 1
    [⟨S8x1x256, broadcastInDim S8x1x256 ![0, 2] bcast_S8x256_S8x1x256_0_2 (concatenate S8x256 1
        [⟨S8x128, shapeCast S8x128 (extractStridedSlice S1x8x1x128 ![0, 0, 0, 0] p4 slices_S2x8x2x128_S1x8x1x128_0_0_0_0) shapeCasts_S1x8x1x128_S8x128⟩,
          ⟨S8x128, shapeCast S8x128 (extractStridedSlice S1x8x1x128 ![0, 0, 1, 0] p4 slices_S2x8x2x128_S1x8x1x128_0_0_1_0) shapeCasts_S1x8x1x128_S8x128⟩] concatenates_S8x128_S8x128_S8x256_d1)⟩,
      ⟨S8x1x256, broadcastInDim S8x1x256 ![0, 2] bcast_S8x256_S8x1x256_0_2 (concatenate S8x256 1
        [⟨S8x128, shapeCast S8x128 (extractStridedSlice S1x8x1x128 ![1, 0, 0, 0] p4 slices_S2x8x2x128_S1x8x1x128_1_0_0_0) shapeCasts_S1x8x1x128_S8x128⟩,
          ⟨S8x128, shapeCast S8x128 (extractStridedSlice S1x8x1x128 ![1, 0, 1, 0] p4 slices_S2x8x2x128_S1x8x1x128_1_0_1_0) shapeCasts_S1x8x1x128_S8x128⟩] concatenates_S8x128_S8x128_S8x256_d1)⟩,
      ⟨S8x14x256, (broadcastInDim S8x14x256 ![] bcast_S_S8x14x256 z : FVec Ideal S8x14x256 .f32)⟩]
    concatenates_S8x1x256_S8x1x256_S8x14x256_S8x16x256_d1 : FVec Ideal S8x16x256 .f32) bitsLt_bf16_f32

/-- One position row of a pair of tiles: two positions beside each other. -/
def posRow (q : Fin 2) (p : Vec Ideal S1x32x128 .f32) : FVec Ideal S8x256 .f32 :=
  let p4 : Vec Ideal S2x8x2x128 .f32 := shapeCast S2x8x2x128 (shapeCast S32x128 p shapeCasts_S1x32x128_S32x128 : Vec Ideal S32x128 .f32) shapeCasts_S32x128_S2x8x2x128
  match q with
  | 0 => concatenate S8x256 1
        [⟨S8x128, shapeCast S8x128 (extractStridedSlice S1x8x1x128 ![0, 0, 0, 0] p4 slices_S2x8x2x128_S1x8x1x128_0_0_0_0) shapeCasts_S1x8x1x128_S8x128⟩,
          ⟨S8x128, shapeCast S8x128 (extractStridedSlice S1x8x1x128 ![0, 0, 1, 0] p4 slices_S2x8x2x128_S1x8x1x128_0_0_1_0) shapeCasts_S1x8x1x128_S8x128⟩] concatenates_S8x128_S8x128_S8x256_d1
  | 1 => concatenate S8x256 1
        [⟨S8x128, shapeCast S8x128 (extractStridedSlice S1x8x1x128 ![1, 0, 0, 0] p4 slices_S2x8x2x128_S1x8x1x128_1_0_0_0) shapeCasts_S1x8x1x128_S8x128⟩,
          ⟨S8x128, shapeCast S8x128 (extractStridedSlice S1x8x1x128 ![1, 0, 1, 0] p4 slices_S2x8x2x128_S1x8x1x128_1_0_1_0) shapeCasts_S1x8x1x128_S8x128⟩] concatenates_S8x128_S8x128_S8x256_d1

/-- The two position rows over rows of zeros. -/
def posTail (a b : FVec Ideal S8x256 .f32) : FVec Ideal S8x16x256 .bf16 :=
  truncf .bf16 (concatenate S8x16x256 1
    [⟨S8x1x256, broadcastInDim S8x1x256 ![0, 2] bcast_S8x256_S8x1x256_0_2 a⟩,
      ⟨S8x1x256, broadcastInDim S8x1x256 ![0, 2] bcast_S8x256_S8x1x256_0_2 b⟩,
      ⟨S8x14x256, (broadcastInDim S8x14x256 ![] bcast_S_S8x14x256 (constant S_ .f32 0x00000000#32 : FVec Ideal S_ .f32) : FVec Ideal S8x14x256 .f32)⟩]
    concatenates_S8x1x256_S8x1x256_S8x14x256_S8x16x256_d1 : FVec Ideal S8x16x256 .f32) bitsLt_bf16_f32

theorem posHalf_eq (p : Vec Ideal S1x32x128 .f32) : posTail (posRow 0 p) (posRow 1 p) = posHalf p := rfl

/-- Both halves' position rows. -/
def posBoth (a b : FVec Ideal S8x16x256 .bf16) : FVec Ideal S2x8x16x256 .bf16 :=
  concatenate S2x8x16x256 0
      [⟨S1x8x16x256, broadcastInDim S1x8x16x256 ![1, 2, 3] bcast_S8x16x256_S1x8x16x256_1_2_3 a⟩,
        ⟨S1x8x16x256, broadcastInDim S1x8x16x256 ![1, 2, 3] bcast_S8x16x256_S1x8x16x256_1_2_3 b⟩]
      concatenates_S1x8x16x256_S1x8x16x256_S2x8x16x256_d0

set_option maxHeartbeats 2000000 in
/-- A read of the operations before the call. -/
theorem a21 (σ : Valuation τ sig (Elt Ideal)) : (StableHlo.after opsA σ main_v21 : Vec Ideal S8x256 .f32) = posRow 0 (σ main_arg2) := by
  entry_read
  try rfl

set_option maxHeartbeats 2000000 in
/-- A read of the operations before the call. -/
theorem a26 (σ : Valuation τ sig (Elt Ideal)) : (StableHlo.after opsA σ main_v26 : Vec Ideal S8x256 .f32) = posRow 1 (σ main_arg2) := by
  entry_read
  try rfl

set_option maxHeartbeats 2000000 in
/-- A read of the operations before the call. -/
theorem a4 (σ : Valuation τ sig (Elt Ideal)) : StableHlo.after opsA σ main_arg4 = σ main_arg4 := by
  entry_read
  rfl

set_option maxHeartbeats 2000000 in
/-- A read of the operations before the call. -/
theorem b31 (σ : Valuation τ sig (Elt Ideal)) : (StableHlo.after opsB σ main_v31 : Vec Ideal S8x16x256 .bf16) = posTail (σ main_v21) (σ main_v26) := by
  rfl

set_option maxHeartbeats 2000000 in
/-- A read of the operations before the call. -/
theorem b4 (σ : Valuation τ sig (Elt Ideal)) : StableHlo.after opsB σ main_arg4 = σ main_arg4 := by
  entry_read
  rfl

set_option maxHeartbeats 2000000 in
/-- A read of the operations before the call. -/
theorem c1 (σ : Valuation τ sig (Elt Ideal)) : (StableHlo.after opsC σ main_v52 : Vec Ideal S8x256 .f32) = posRow 0 (σ main_arg4) := by
  entry_read
  try rfl

set_option maxHeartbeats 2000000 in
/-- A read of the operations before the call. -/
theorem c2 (σ : Valuation τ sig (Elt Ideal)) : (StableHlo.after opsC σ main_v57 : Vec Ideal S8x256 .f32) = posRow 1 (σ main_arg4) := by
  entry_read
  try rfl

set_option maxHeartbeats 2000000 in
/-- A read of the operations before the call. -/
theorem c31 (σ : Valuation τ sig (Elt Ideal)) : StableHlo.after opsC σ main_v31 = σ main_v31 := by
  entry_read
  rfl

set_option maxHeartbeats 2000000 in
/-- A read of the operations before the call. -/
theorem d62 (σ : Valuation τ sig (Elt Ideal)) : (StableHlo.after opsD σ main_v62 : Vec Ideal S8x16x256 .bf16) = posTail (σ main_v52) (σ main_v57) := by
  rfl

set_option maxHeartbeats 2000000 in
/-- A read of the operations before the call. -/
theorem d31 (σ : Valuation τ sig (Elt Ideal)) : StableHlo.after opsD σ main_v31 = σ main_v31 := by
  entry_read
  rfl

set_option maxHeartbeats 2000000 in
/-- A read of the operations before the call. -/
theorem e65 (σ : Valuation τ sig (Elt Ideal)) : (StableHlo.after opsE σ main_v65 : Vec Ideal S2x8x16x256 .bf16) = posBoth (σ main_v31) (σ main_v62) := by
  entry_read
  try rfl

variable (m : (ℓ : Loc nD τ sig) → Buf (Elt Ideal) ℓ)

theorem v65_split (c : Dev nD) : (V m c main_v65 : Vec Ideal S2x8x16x256 .bf16) = StableHlo.after opsE (StableHlo.after opsD (StableHlo.after opsC (StableHlo.after opsB (StableHlo.after opsA (fun b => m (c, b)))))) main_v65 := rfl

theorem v65_eq (c : Dev nD) : (V m c main_v65 : Vec Ideal S2x8x16x256 .bf16) = posBoth (posHalf (A2 m c)) (posHalf (A4 m c)) := by
  rw [v65_split, e65, d62, d31, c31, c1, c2, b31, b4, a21, a26, a4, posHalf_eq, posHalf_eq]

theorem posBoth_at (a b : Vec Ideal S1x32x128 .f32) (u : Fin 2) (s : Fin 8) (r : Fin 16) (j : Fin 256) :
    posBoth (posHalf a) (posHalf b) (ix4 u s r j) = if u.val < 1 then posPairs a (ix4 0 s r j) else posPairs b (ix4 0 s r j) := by
  have h : ∀ p : Vec Ideal S1x32x128 .f32, posPairs p = broadcastInDim S1x8x16x256 ![1, 2, 3] bcast_S8x16x256_S1x8x16x256_1_2_3 (posHalf p) := fun _ => rfl
  rw [h, h]
  generalize posHalf a = a'
  generalize posHalf b = b'
  pointwise [posBoth]
  rfl

/-- The block of the position rows. -/
theorem blk3 (c : Dev nD) (t : Fin cfg0.N) (y : S2x8x16x256.Idx) : (iblk m c 3 t : Vec Ideal S2x8x16x256 .bf16) y = posBoth (posHalf (A2 m c)) (posHalf (A4 m c)) y := by
  refine Eq.trans ?_ (congrArg (posBoth (posHalf (A2 m c)) (posHalf (A4 m c))) (eq_ix4 y).symm)
  blk_simp [iblk]
  rw [v65_eq]
  blk_ext [idx t]

end Cert.CmpPIdeal.Compress
-- ==== Proof.CmpA.lean ====
/- The accumulation of the compression, step by step. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

/-- A pair of taps beside each other, as the body makes them of two loads. -/
def pairRows (a b : Vec Ideal S1x256x128 .f32) : FVec Ideal S256x256 .bf16 := k0_pay28 (F := Ideal) a b

theorem pairRows_at (a b : Vec Ideal S1x256x128 .f32) (r j : Fin 256) :
    pairRows a b (ix2 r j) = if h : j.val < 128 then a (ix3 0 r ⟨j.val, h⟩) else b (ix3 0 r ⟨j.val - 128, by omega⟩) := by
  pointwise [pairRows, k0_pay28]

/-- The rows one step of the accumulation multiplies: both heads' pairs of taps, then the position rows. -/
def stack (a0 b0 a1 b1 : Vec Ideal S1x256x128 .f32) (p : Vec Ideal S1x1x16x256 .bf16) : FVec Ideal S528x256 .bf16 :=
  concatenate S528x256 0 [⟨S256x256, pairRows a0 b0⟩, ⟨S256x256, pairRows a1 b1⟩, ⟨S16x256, (shapeCast S16x256 p shapeCasts_S1x1x16x256_S16x256 : FVec Ideal S16x256 .bf16)⟩] concatenates_S256x256_S256x256_S16x256_S528x256_d0

theorem stack_at (a0 b0 a1 b1 : Vec Ideal S1x256x128 .f32) (p : Vec Ideal S1x1x16x256 .bf16) (r : Fin 528) (j : Fin 256) :
    stack a0 b0 a1 b1 p (ix2 r j) = if h : r.val < 256 then pairRows a0 b0 (ix2 ⟨r.val, h⟩ j) else
      if h2 : r.val - 256 < 256 then pairRows a1 b1 (ix2 ⟨r.val - 256, h2⟩ j) else p (ix4 0 0 ⟨r.val - 256 - 256, by omega⟩ j) := by
  pointwise [stack]

/-- One step of the accumulation. -/
def step (v : FVec Ideal S528x256 .f32) (a0 b0 a1 b1 : Vec Ideal S1x256x128 .f32) (p : Vec Ideal S1x1x16x256 .bf16) (w : Vec Ideal S1x256x256 .bf16) : FVec Ideal S528x256 .f32 :=
  addf v (matmul dot_S528x256_S256x256_S528x256_1_0_0_1_n_n none (stack a0 b0 a1 b1 p) (shapeCast S256x256 w shapeCasts_S1x256x256_S256x256 : FVec Ideal S256x256 .bf16) (constant S528x256 .f32 0x00000000#32))

theorem step_at (v a0 b0 a1 b1 p w) (r : Fin 528) (e : Fin 256) :
    step v a0 b0 a1 b1 p w (ix2 r e) = v (ix2 r e) + ∑ j : Fin 256, stack a0 b0 a1 b1 p (ix2 r j) * w (ix3 0 j e) := by
  pointwise [step]

end Cert.CmpPIdeal.Compress
-- ==== Proof.CmpG.lean ====
/- The accumulated products of the compression. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpA
public import proofs.«01_k».proof.Proof.CmpD

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

/-- The accumulation over all pairs of taps. -/
def accum (a0 b0 a1 b1 : Fin 8 → Vec Ideal S1x256x128 .f32) (p : Fin 8 → Vec Ideal S1x1x16x256 .bf16) (w : Fin 8 → Vec Ideal S1x256x256 .bf16) : FVec Ideal S528x256 .f32 :=
  step (step (step (step (step (step (step (step (k0_pay2 (F := Ideal)) (a0 0) (b0 0) (a1 0) (b1 0) (p 0) (w 0)) (a0 1) (b0 1) (a1 1) (b1 1) (p 1) (w 1))
    (a0 2) (b0 2) (a1 2) (b1 2) (p 2) (w 2)) (a0 3) (b0 3) (a1 3) (b1 3) (p 3) (w 3)) (a0 4) (b0 4) (a1 4) (b1 4) (p 4) (w 4))
    (a0 5) (b0 5) (a1 5) (b1 5) (p 5) (w 5)) (a0 6) (b0 6) (a1 6) (b1 6) (p 6) (w 6)) (a0 7) (b0 7) (a1 7) (b1 7) (p 7) (w 7)

theorem accum_at (a0 b0 a1 b1 p w) (r : Fin 528) (e : Fin 256) :
    accum a0 b0 a1 b1 p w (ix2 r e) = ∑ s : Fin 8, ∑ j : Fin 256, stack (a0 s) (b0 s) (a1 s) (b1 s) (p s) (ix2 r j) * w s (ix3 0 j e) := by
  have hz : k0_pay2 (F := Ideal) (ix2 r e) = 0 := by pointwise [k0_pay2]
  rw [Fin.sum_univ_eight]
  unfold accum
  rw [step_at, step_at, step_at, step_at, step_at, step_at, step_at, step_at, hz, zero_add]

/-- What the accumulated products hold: both heads' halves, and the positions' on the matching half. -/
def AccOf (v : FVec Ideal S528x256 .f32) (X : Fin 2 → Fin 256 → Fin 16 → Fin 128 → EReal) (P : Fin 2 → Fin 16 → Fin 128 → EReal) (W : Fin 2 → Fin 16 → Fin 128 → Fin 128 → EReal) : Prop :=
  (∀ (h : Fin 2) (n : Fin 256) (q : Fin 2) (e : Fin 128), v (ix2 ⟨h.val * 256 + n.val, by omega⟩ ⟨q.val * 128 + e.val, by omega⟩) = half (X h n) (W q) e)
  ∧ ∀ (q : Fin 2) (e : Fin 128), v (ix2 ⟨512 + q.val, by omega⟩ ⟨q.val * 128 + e.val, by omega⟩) = half (P q) (W q) e

theorem tile_sum (F : Fin 8 → Fin 256 → EReal) (x : Fin 16 → Fin 128 → EReal) (w : Fin 16 → Fin 128 → Fin 128 → EReal) (e : Fin 128)
    (h : ∀ s j, F s j = x ⟨s.val * 2 + j.val / 128, by omega⟩ ⟨j.val % 128, by omega⟩ * w ⟨s.val * 2 + j.val / 128, by omega⟩ ⟨j.val % 128, by omega⟩ e) :
    ∑ s : Fin 8, ∑ j : Fin 256, F s j = half x w e := by
  unfold half
  refine Fin.sum_mul_add_congr (fun s j hl => (h s j).trans ?_)
  have e1 : (⟨s.val * 2 + j.val / 128, by omega⟩ : Fin 16) = tapOf ⟨s.val * 256 + j.val, hl⟩ := Fin.ext (by show s.val * 2 + j.val / 128 = (s.val * 256 + j.val) / 128; omega)
  have e2 : (⟨j.val % 128, by omega⟩ : Fin 128) = chanOf ⟨s.val * 256 + j.val, hl⟩ := Fin.ext (by show j.val % 128 = (s.val * 256 + j.val) % 128; omega)
  rw [e1, e2]

theorem pair_eq (a b : Vec Ideal S1x256x128 .f32) (x : Fin 16 → Fin 128 → EReal) (s : Fin 8) (r : Fin 256)
    (ha : ∀ k, a (ix3 0 r k) = x ⟨s.val * 2, by omega⟩ k) (hb : ∀ k, b (ix3 0 r k) = x ⟨s.val * 2 + 1, by omega⟩ k) (j : Fin 256) :
    pairRows a b (ix2 r j) = x ⟨s.val * 2 + j.val / 128, by omega⟩ ⟨j.val % 128, by omega⟩ := by
  rw [pairRows_at]
  split_ifs with h
  · rw [ha]
    exact congrArg₂ x (Fin.ext (by dsimp only; omega)) (Fin.ext (by dsimp only; omega))
  · rw [hb]
    exact congrArg₂ x (Fin.ext (by dsimp only; omega)) (Fin.ext (by dsimp only; omega))

theorem accum_of (a0 b0 a1 b1 p w) (X : Fin 2 → Fin 256 → Fin 16 → Fin 128 → EReal) (P : Fin 2 → Fin 16 → Fin 128 → EReal) (W : Fin 2 → Fin 16 → Fin 128 → Fin 128 → EReal)
    (ha0 : ∀ (s : Fin 8) r k, a0 s (ix3 0 r k) = X 0 r ⟨s.val * 2, by omega⟩ k) (hb0 : ∀ (s : Fin 8) r k, b0 s (ix3 0 r k) = X 0 r ⟨s.val * 2 + 1, by omega⟩ k)
    (ha1 : ∀ (s : Fin 8) r k, a1 s (ix3 0 r k) = X 1 r ⟨s.val * 2, by omega⟩ k) (hb1 : ∀ (s : Fin 8) r k, b1 s (ix3 0 r k) = X 1 r ⟨s.val * 2 + 1, by omega⟩ k)
    (hp : ∀ (s : Fin 8) (q : Fin 2) (j : Fin 256), p s (ix4 0 0 ⟨q.val, by omega⟩ j) = P q ⟨s.val * 2 + j.val / 128, by omega⟩ ⟨j.val % 128, by omega⟩)
    (hw : ∀ (s : Fin 8) (j : Fin 256) (q : Fin 2) (e : Fin 128), w s (ix3 0 j ⟨q.val * 128 + e.val, by omega⟩) = W q ⟨s.val * 2 + j.val / 128, by omega⟩ ⟨j.val % 128, by omega⟩ e) :
    AccOf (accum a0 b0 a1 b1 p w) X P W := by
  refine ⟨fun h n q e => ?_, fun q e => ?_⟩
  · rw [accum_at]
    refine tile_sum _ _ _ _ fun s j => ?_
    rw [hw, stack_at]
    refine congrArg (· * _) ?_
    obtain ⟨h, hh⟩ := h
    match h, hh with
    | 0, _ =>
      rw [dif_pos (by show 0 * 256 + n.val < 256; omega)]
      refine Eq.trans (congrArg (fun r => pairRows (a0 s) (b0 s) (ix2 r j)) (Fin.ext (by show 0 * 256 + n.val = n.val; omega))) (pair_eq _ _ _ s n (ha0 s n) (hb0 s n) j)
    | 1, _ =>
      rw [dif_neg (by show ¬ 1 * 256 + n.val < 256; omega), dif_pos (by show 1 * 256 + n.val - 256 < 256; omega)]
      refine Eq.trans (congrArg (fun r => pairRows (a1 s) (b1 s) (ix2 r j)) (Fin.ext (by show 1 * 256 + n.val - 256 = n.val; omega))) (pair_eq _ _ _ s n (ha1 s n) (hb1 s n) j)
  · rw [accum_at]
    refine tile_sum _ _ _ _ fun s j => ?_
    rw [hw, stack_at, dif_neg (by dsimp only; omega), dif_neg (by dsimp only; omega)]
    refine congrArg (· * _) ?_
    refine Eq.trans (congrArg (fun r => p s (ix4 0 0 r j)) (Fin.ext ?_)) (hp s q j)
    show 512 + q.val - 256 - 256 = q.val
    omega

end Cert.CmpPIdeal.Compress
-- ==== Proof.CmpH.lean ====
/- What the body of the compression loads. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpB
public import proofs.«01_k».proof.Proof.CmpE
public import proofs.«01_k».proof.Proof.CmpG

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

variable (m : (ℓ : Loc nD τ sig) → Buf (Elt Ideal) ℓ)

/-- The sequence of a point. -/
abbrev seqOf (t : Fin cfg0.N) : Fin 2 := ⟨t.val, (idx t).2.2.2.2.2.2.2⟩

/-- A load of every 64th row of a block. -/
theorem rows_read {M : Memref sig .tc .vmem S1x16384x128 .f32} (hM : M.IsWhole) (x : Vec Ideal S1x16384x128 .f32) (o : ℕ) (ho : o < 64) (hb) (r : Fin 256) (k : Fin 128) :
    (View.readAt (Elt Ideal) M.view { off := ![0, o, 0], size := ![1, 256, 128], stride := ![1, 64, 1], inb := hb } (hM.unread x) : Vec Ideal S1x256x128 .f32) (ix3 0 r k)
      = x (ix3 0 ⟨o + 64 * r.val, by omega⟩ k) := by
  rw [View.readAt_apply, hM.read_unread]
  refine congrArg x (funext fun a => Fin.ext ?_)
  match a with
  | ⟨0, _⟩ => rfl
  | ⟨1, _⟩ => rfl
  | ⟨2, _⟩ => show 0 + 1 * k.val = k.val; omega

theorem row0 (c : Dev nD) (t : Fin cfg0.N) (g : Fin 4) (s : Fin 16) (o : ℕ) (ho : o = s.val * 4 + g.val) (hb) (r : Fin 256) (k : Fin 128) :
    (View.readAt (Elt Ideal) (ms0_0 t).view { off := ![0, o, 0], size := ![1, 256, 128], stride := ![1, 64, 1], inb := hb } ((hs0_0 t).unread (iblk m c 0 t)) : Vec Ideal S1x256x128 .f32) (ix3 0 r k)
      = rowsOf (A0 m c) (seqOf t) g r s k :=
  (rows_read (hs0_0 t) (iblk m c 0 t) o (by omega) hb r k).trans ((blk0 m c t _).trans (congrArg (A0 m c) (congrArg₂ ix2 (Fin.ext (by
    show t.val * 16384 + (o + 64 * r.val) = t.val * 16384 + ((r.val * 16 + s.val) * 4 + g.val); omega)) rfl)))

theorem wload1 (c : Dev nD) (t : Fin cfg0.N) (s : Fin 8) (o : ℕ) (ho : o = s.val) (h) (j : Fin 256) (q : Fin 2) (e : Fin 128) :
    (View.ld (iblk m c 1 t : Vec Ideal S8x256x256 .bf16) (Rect.unit (s := S8x256x256) ![o, 0, 0] ![1, 256, 256] h) : Vec Ideal S1x256x256 .bf16) (ix3 0 j ⟨q.val * 128 + e.val, by omega⟩)
      = weightOf (A1 m c) q ⟨s.val * 2 + j.val / 128, by omega⟩ ⟨j.val % 128, by omega⟩ e := by
  refine (blk1 m c t _).trans (Eq.trans (congrArg (tiles (A1 m c)) (funext fun a => Fin.ext ?_)) (tiles_at (A1 m c) s j q e ⟨q.val * 128 + e.val, by omega⟩ rfl))
  match a with
  | ⟨0, _⟩ => show o + 1 * 0 = s.val; omega
  | ⟨1, _⟩ => show 0 + 1 * j.val = j.val; omega
  | ⟨2, _⟩ => show 0 + 1 * (q.val * 128 + e.val) = q.val * 128 + e.val; omega

theorem wload2 (c : Dev nD) (t : Fin cfg0.N) (s : Fin 8) (o : ℕ) (ho : o = s.val) (h) (j : Fin 256) (q : Fin 2) (e : Fin 128) :
    (View.ld (iblk m c 2 t : Vec Ideal S8x256x256 .bf16) (Rect.unit (s := S8x256x256) ![o, 0, 0] ![1, 256, 256] h) : Vec Ideal S1x256x256 .bf16) (ix3 0 j ⟨q.val * 128 + e.val, by omega⟩)
      = weightOf (A3 m c) q ⟨s.val * 2 + j.val / 128, by omega⟩ ⟨j.val % 128, by omega⟩ e := by
  refine (blk2 m c t _).trans (Eq.trans (congrArg (tiles (A3 m c)) (funext fun a => Fin.ext ?_)) (tiles_at (A3 m c) s j q e ⟨q.val * 128 + e.val, by omega⟩ rfl))
  match a with
  | ⟨0, _⟩ => show o + 1 * 0 = s.val; omega
  | ⟨1, _⟩ => show 0 + 1 * j.val = j.val; omega
  | ⟨2, _⟩ => show 0 + 1 * (q.val * 128 + e.val) = q.val * 128 + e.val; omega

theorem pload (c : Dev nD) (t : Fin cfg0.N) (u : Fin 2) (s : Fin 8) (ou o : ℕ) (hu : ou = u.val) (ho : o = s.val) (h) (q : Fin 2) (j : Fin 256) :
    (View.ld (iblk m c 3 t : Vec Ideal S2x8x16x256 .bf16) (Rect.unit (s := S2x8x16x256) ![ou, o, 0, 0] ![1, 1, 16, 256] h) : Vec Ideal S1x1x16x256 .bf16) (ix4 0 0 ⟨q.val, by omega⟩ j)
      = posOf (if u.val < 1 then A2 m c else A4 m c) q ⟨s.val * 2 + j.val / 128, by omega⟩ ⟨j.val % 128, by omega⟩ := by
  refine (blk3 m c t _).trans (Eq.trans (congrArg (posBoth (posHalf (A2 m c)) (posHalf (A4 m c))) (funext fun a => Fin.ext ?_)) ((posBoth_at (A2 m c) (A4 m c) u s ⟨q.val, by omega⟩ j).trans ?_))
  · match a with
    | ⟨0, _⟩ => show ou + 1 * 0 = u.val; omega
    | ⟨1, _⟩ => show o + 1 * 0 = s.val; omega
    | ⟨2, _⟩ => show 0 + 1 * q.val = q.val; omega
    | ⟨3, _⟩ => show 0 + 1 * j.val = j.val; omega
  · by_cases hu : u.val < 1
    · rw [if_pos hu, if_pos hu]; exact posPairs_at _ _ _ _ _ rfl
    · rw [if_neg hu, if_neg hu]; exact posPairs_at _ _ _ _ _ rfl

/-- The gains, as the body loads them. -/
theorem gain (c : Dev nD) (t : Fin cfg0.N) (h) (l : Fin 128) :
    (View.ld (iblk m c 4 t : Vec Ideal S3x128 .f32) (Rect.unit (s := S3x128) ![0, 0] ![1, 128] h) : Vec Ideal S1x128 .f32) (ix2 0 l) = A5 m c (ix3 0 0 l) :=
  (blk4 m c t _).trans (congrArg (A5 m c) (congrArg₂ (ix3 0) (Fin.ext rfl) (Fin.ext (by show 0 + 1 * l.val = l.val; omega))))

/-- The positions of the keys, as the body loads them. -/
theorem pload0 (c : Dev nD) (t : Fin cfg0.N) (s : Fin 8) (o : ℕ) (ho : o = s.val) (h) (q : Fin 2) (j : Fin 256) :
    (View.ld (iblk m c 3 t : Vec Ideal S2x8x16x256 .bf16) (Rect.unit (s := S2x8x16x256) ![0, o, 0, 0] ![1, 1, 16, 256] h) : Vec Ideal S1x1x16x256 .bf16) (ix4 0 0 ⟨q.val, by omega⟩ j)
      = posOf (A2 m c) q ⟨s.val * 2 + j.val / 128, by omega⟩ ⟨j.val % 128, by omega⟩ :=
  (pload m c t 0 s 0 o rfl ho h q j).trans (by rw [if_pos (by decide)])

/-- The positions of the values, as the body loads them. -/
theorem pload1 (c : Dev nD) (t : Fin cfg0.N) (s : Fin 8) (o : ℕ) (ho : o = s.val) (h) (q : Fin 2) (j : Fin 256) :
    (View.ld (iblk m c 3 t : Vec Ideal S2x8x16x256 .bf16) (Rect.unit (s := S2x8x16x256) ![1, o, 0, 0] ![1, 1, 16, 256] h) : Vec Ideal S1x1x16x256 .bf16) (ix4 0 0 ⟨q.val, by omega⟩ j)
      = posOf (A4 m c) q ⟨s.val * 2 + j.val / 128, by omega⟩ ⟨j.val % 128, by omega⟩ :=
  (pload m c t 1 s 1 o rfl ho h q j).trans (by rw [if_neg (by decide)])

theorem inbRows (o : ℕ) (h : o < 64) : ∀ a, S1x256x128.size a = 0 ∨ (![0, o, 0] : Fin 3 → Nat) a + (![1, 64, 1] : Fin 3 → Nat) a * (S1x256x128.size a - 1) < S1x16384x128.size a := fun a => Or.inr (match a with
  | ⟨0, _⟩ => by show 0 + 1 * 0 < 1; omega
  | ⟨1, _⟩ => by show o + 64 * 255 < 16384; omega
  | ⟨2, _⟩ => by show 0 + 1 * 127 < 128; omega)

theorem inbPos (u o : ℕ) (h : o < 8) (hu : u < 2) : ∀ a, (![u, o, 0, 0] : Fin 4 → Nat) a + S1x1x16x256.size a ≤ S2x8x16x256.size a := fun a => match a with
  | ⟨0, _⟩ => by show u + 1 ≤ 2; omega
  | ⟨1, _⟩ => by show o + 1 ≤ 8; omega
  | ⟨2, _⟩ => by show 0 + 16 ≤ 16; omega
  | ⟨3, _⟩ => by show 0 + 256 ≤ 256; omega

theorem inbTiles (o : ℕ) (h : o < 8) : ∀ a, (![o, 0, 0] : Fin 3 → Nat) a + S1x256x256.size a ≤ S8x256x256.size a := fun a => match a with
  | ⟨0, _⟩ => by show o + 1 ≤ 8; omega
  | ⟨1, _⟩ => by show 0 + 256 ≤ 256; omega
  | ⟨2, _⟩ => by show 0 + 256 ≤ 256; omega

/-- Every 64th row of a point's block, from the `o`-th. -/
def rowLd (c : Dev nD) (t : Fin cfg0.N) (o : ℕ) (h : o < 64) : Vec Ideal S1x256x128 .f32 :=
  View.readAt (Elt Ideal) (ms0_0 t).view { off := ![0, o, 0], size := S1x256x128.size, stride := ![1, 64, 1], inb := inbRows o h } ((hs0_0 t).unread (iblk m c 0 t))

/-- A load of position rows. -/
def posLd (c : Dev nD) (t : Fin cfg0.N) (u o : ℕ) (h : o < 8) (hu : u < 2) : Vec Ideal S1x1x16x256 .bf16 :=
  View.ld (iblk m c 3 t : Vec Ideal S2x8x16x256 .bf16) (Rect.unit (s := S2x8x16x256) ![u, o, 0, 0] S1x1x16x256.size (inbPos u o h hu))

/-- A load of a tile of the keys' matrix. -/
def kTile (c : Dev nD) (t : Fin cfg0.N) (o : ℕ) (h : o < 8) : Vec Ideal S1x256x256 .bf16 :=
  View.ld (iblk m c 1 t : Vec Ideal S8x256x256 .bf16) (Rect.unit (s := S8x256x256) ![o, 0, 0] S1x256x256.size (inbTiles o h))

/-- A load of a tile of the values' matrix. -/
def vTile (c : Dev nD) (t : Fin cfg0.N) (o : ℕ) (h : o < 8) : Vec Ideal S1x256x256 .bf16 :=
  View.ld (iblk m c 2 t : Vec Ideal S8x256x256 .bf16) (Rect.unit (s := S8x256x256) ![o, 0, 0] S1x256x256.size (inbTiles o h))

/-- The accumulated products of the keys. -/
theorem keysAcc (c : Dev nD) (t : Fin cfg0.N) : AccOf (accum
    (fun s => rowLd m c t (s.val * 8 + 0) (by omega)) (fun s => rowLd m c t (s.val * 8 + 4) (by omega)) (fun s => rowLd m c t (s.val * 8 + 1) (by omega)) (fun s => rowLd m c t (s.val * 8 + 5) (by omega))
    (fun s => posLd m c t 0 s.val s.isLt (by omega)) (fun s => kTile m c t s.val s.isLt))
    (fun h n => rowsOf (A0 m c) (seqOf t) ⟨0 + h.val, by omega⟩ n) (posOf (A2 m c)) (weightOf (A1 m c)) :=
  accum_of _ _ _ _ _ _ _ _ _
    (fun s r k => row0 m c t ⟨0 + 0, by omega⟩ ⟨s.val * 2, by omega⟩ (s.val * 8 + 0) (by dsimp only; omega) _ r k)
    (fun s r k => row0 m c t ⟨0 + 0, by omega⟩ ⟨s.val * 2 + 1, by omega⟩ (s.val * 8 + 4) (by dsimp only; omega) _ r k)
    (fun s r k => row0 m c t ⟨0 + 1, by omega⟩ ⟨s.val * 2, by omega⟩ (s.val * 8 + 1) (by dsimp only; omega) _ r k)
    (fun s r k => row0 m c t ⟨0 + 1, by omega⟩ ⟨s.val * 2 + 1, by omega⟩ (s.val * 8 + 5) (by dsimp only; omega) _ r k)
    (fun s q j => pload0 m c t s s.val rfl _ q j)
    (fun s j q e => wload1 m c t s s.val rfl _ j q e)

/-- The accumulated products of the values. -/
theorem valuesAcc (c : Dev nD) (t : Fin cfg0.N) : AccOf (accum
    (fun s => rowLd m c t (s.val * 8 + 2) (by omega)) (fun s => rowLd m c t (s.val * 8 + 6) (by omega)) (fun s => rowLd m c t (s.val * 8 + 3) (by omega)) (fun s => rowLd m c t (s.val * 8 + 7) (by omega))
    (fun s => posLd m c t 1 s.val s.isLt (by omega)) (fun s => vTile m c t s.val s.isLt))
    (fun h n => rowsOf (A0 m c) (seqOf t) ⟨2 + h.val, by omega⟩ n) (posOf (A4 m c)) (weightOf (A3 m c)) :=
  accum_of _ _ _ _ _ _ _ _ _
    (fun s r k => row0 m c t ⟨2 + 0, by omega⟩ ⟨s.val * 2, by omega⟩ (s.val * 8 + 2) (by dsimp only; omega) _ r k)
    (fun s r k => row0 m c t ⟨2 + 0, by omega⟩ ⟨s.val * 2 + 1, by omega⟩ (s.val * 8 + 6) (by dsimp only; omega) _ r k)
    (fun s r k => row0 m c t ⟨2 + 1, by omega⟩ ⟨s.val * 2, by omega⟩ (s.val * 8 + 3) (by dsimp only; omega) _ r k)
    (fun s r k => row0 m c t ⟨2 + 1, by omega⟩ ⟨s.val * 2 + 1, by omega⟩ (s.val * 8 + 7) (by dsimp only; omega) _ r k)
    (fun s q j => pload1 m c t s s.val rfl _ q j)
    (fun s j q e => wload2 m c t s s.val rfl _ j q e)

end Cert.CmpPIdeal.Compress
-- ==== Proof.CmpF.lean ====
/- The rows the compression stores. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpA
public import proofs.«01_k».proof.Proof.CmpD

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

/-- A row of a compressed sequence, of the accumulated products: the two halves of its block and the positions. -/
def mix (v : FVec Ideal S528x256 .f32) (o : Fin 2) (n : Fin 255) (e : Fin 128) : EReal :=
  v (ix2 ⟨o.val * 256 + n.val, by omega⟩ ⟨e.val, by omega⟩) + v (ix2 ⟨o.val * 256 + (n.val + 1), by omega⟩ ⟨128 + e.val, by omega⟩)
    + (v (ix2 ⟨512, by omega⟩ ⟨e.val, by omega⟩) + v (ix2 ⟨513, by omega⟩ ⟨128 + e.val, by omega⟩))

theorem pay35_at (v : FVec Ideal S528x256 .f32) (n : Fin 255) (e : Fin 128) : k0_pay35 v (ix2 ⟨n.val, by omega⟩ e) = mix v 0 n e := by
  pointwise [k0_pay35, k0_pay34, mix]
  have e : (n.val + 256 - 255) % 256 = n.val + 1 := by omega
  refine congrArg₂ (· + ·) (congrArg₂ (· + ·) (congrArg v ?_) (congrArg v ?_)) rfl
  · exact congrArg₂ ix2 (Fin.ext (by first | omega | (dsimp only; omega) | (simp only [Fin.val_zero, Fin.val_one]; omega))) rfl
  · exact congrArg₂ ix2 (Fin.ext (by first | omega | (dsimp only; omega) | (simp only [Fin.val_zero, Fin.val_one]; omega))) rfl

theorem pay36_at (v : FVec Ideal S528x256 .f32) (n : Fin 255) (e : Fin 128) : k0_pay36 v (ix2 ⟨n.val, by omega⟩ e) = mix v 1 n e := by
  pointwise [k0_pay36, k0_pay34, mix]
  have e : (n.val + 256 - 255) % 256 = n.val + 1 := by omega
  refine congrArg₂ (· + ·) (congrArg₂ (· + ·) (congrArg v ?_) (congrArg v ?_)) rfl
  · exact congrArg₂ ix2 (Fin.ext (by first | omega | (dsimp only; omega) | (simp only [Fin.val_zero, Fin.val_one]; omega))) rfl
  · exact congrArg₂ ix2 (Fin.ext (by first | omega | (dsimp only; omega) | (simp only [Fin.val_zero, Fin.val_one]; omega))) rfl

/-- The marks of a row. -/
def markOf (n : ℕ) (l : ℕ) : EReal := if n < 255 then (if l = n / 8 then 1 else 0) else if l = 64 then 1 else 0

/-- The quotient by 8 rounded down, as the body computes it. -/
def quot8 (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 8#32 0#32)) (Scalar.extui (Scalar.cmpi .slt 8#32 0#32))))
    (IntOp.cmpi .ne (IntOp.remsi .vector x 8#32) 0#32)) (IntOp.subi (IntOp.divsi .vector x 8#32) 1#32) (IntOp.divsi .vector x 8#32)

theorem quot8_eq : ∀ r : Fin 256, quot8 (BitVec.ofNat 32 r.val) = BitVec.ofNat 32 (r.val / 8) := by decide +kernel

theorem choose_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [cmpi_eq_ofNat ha hb]
  by_cases h : a = b <;> simp [h, Scalar.select]

theorem choose_lt {α : Type} (a : ℕ) (ha : a < 256) (x y : α) :
    Scalar.select (IntOp.cmpi .slt (BitVec.ofNat 32 a) 255#32) x y = if a < 255 then x else y := by
  rw [show (255#32) = BitVec.ofNat 32 255 from rfl, cmpi_slt_ofNat (by omega) (by omega)]
  by_cases h : a < 255 <;> simp [h, Scalar.select]

theorem pay43_at (n : Fin 256) (l : Fin 128) : k0_pay43 (F := Ideal) (ix2 n l) = markOf n.val l.val := by
  unfold k0_pay43 k0_pay42
  pointwise []
  refine (congrArg (fun q => Scalar.select (IntOp.cmpi .slt (BitVec.ofNat 32 n.val) 255#32) (Scalar.select (IntOp.cmpi .eq (BitVec.ofNat 32 l.val) q) (1 : EReal) 0) (Scalar.select (IntOp.cmpi .eq (BitVec.ofNat 32 l.val) 64#32) (1 : EReal) 0)) (quot8_eq n)).trans ?_
  rw [choose_lt _ n.isLt, choose_eq _ _ (by omega) (by omega), show (64#32) = BitVec.ofNat 32 64 from rfl, choose_eq _ _ (by omega) (by omega)]
  rfl

/-- The front rows of keys and their marks. -/
theorem pay48_at (x : S1x1x16x256.Idx) : k0_pay48 (F := Ideal) (iota Kind.tc S16x128 32 [1] iota_S16x128_d1_w32) k0_pay44 k0_pay45 x = if (x 3).val = 192 then 1 else 0 := by
  have hx : (x 3).val < 256 := (x 3).isLt
  pointwise [k0_pay48, k0_pay46, k0_pay45, k0_pay44]
  split_ifs with h h2 h2
  · omega
  · rfl
  · rw [show (64#32) = BitVec.ofNat 32 64 from rfl, choose_eq _ _ (by omega) (by omega), if_pos (by omega)]
  · rw [show (64#32) = BitVec.ofNat 32 64 from rfl, choose_eq _ _ (by omega) (by omega), if_neg (by omega)]

theorem pay50_at (x : S1x1x104x256.Idx) : k0_pay50 (F := Ideal) (k0_pay47 (iota Kind.tc S104x128 32 [1] iota_S104x128_d1_w32)) x = if (x 3).val = 192 then 1 else 0 := by
  have hx : (x 3).val < 256 := (x 3).isLt
  pointwise [k0_pay50, k0_pay47]
  split_ifs with h h2 h2
  · omega
  · rfl
  · rw [show (64#32) = BitVec.ofNat 32 64 from rfl, choose_eq _ _ (by omega) (by omega), if_pos (by omega)]
  · rw [show (64#32) = BitVec.ofNat 32 64 from rfl, choose_eq _ _ (by omega) (by omega), if_neg (by omega)]

theorem pay52_at (v : FVec Ideal S256x128 .f32) (x : S1x1x256x128.Idx) : k0_pay52 v k0_pay42 x = if (x 2).val < 255 then v (ix2 (x 2) (x 3)) else 0 := by
  have hx : (x 2).val < 256 := (x 2).isLt
  pointwise [k0_pay52, k0_pay42]
  exact choose_lt _ hx _ _

theorem pay59_at (v : FVec Ideal S256x128 .f32) (x : S1x1x256x128.Idx) : k0_pay59 v k0_pay42 x = if (x 2).val < 255 then v (ix2 (x 2) (x 3)) else 0 := by
  have hx : (x 2).val < 256 := (x 2).isLt
  pointwise [k0_pay59, k0_pay42]
  exact choose_lt _ hx _ _

/-- The root mean square norm of a row with gains. -/
def normed (v : Fin 128 → EReal) (g : Fin 128 → EReal) (l : Fin 128) : EReal :=
  v l * Ideal.rsqrt (Ideal.div (∑ k, v k * v k) (Ideal.ofBits .f32 0x43000000#32) + Ideal.ofBits .f32 0x358637BD#32) * g l

theorem pay54_at (v : FVec Ideal S256x128 .f32) (g : Vec Ideal S1x128 .f32) (n : Fin 256) (l : Fin 128) :
    k0_pay54 v k0_pay42 g (ix2 n l) = if n.val < 255 then normed (fun k => v (ix2 n k)) (fun k => g (ix2 0 k)) l else 0 := by
  unfold normed
  pointwise [k0_pay54, k0_pay42]
  exact choose_lt _ n.isLt _ _

theorem pay49_eq (v : FVec Ideal S256x128 .f32) (i : IVec S256x128 1) (mk : FVec Ideal S256x128 .f32) (g : Vec Ideal S1x128 .f32) : k0_pay49 v i mk g = k0_pay56 mk (k0_pay54 v i g) := rfl

theorem pay56_at (mk w : FVec Ideal S256x128 .f32) (x : S1x1x256x256.Idx) : k0_pay56 mk w x
    = if h : (x 3).val < 128 then w (ix2 (x 2) ⟨(x 3).val, h⟩) else mk (ix2 (x 2) ⟨(x 3).val - 128, by have : (x 3).val < 256 := (x 3).isLt; omega⟩) := by
  pointwise [k0_pay56]

/-- The reference's marks of a row of blocks. -/
theorem marks_ref (j : Cert.CmpPRefIdeal.S255x128.Idx) : val_main_v12 (F := Ideal) j = if (j 1).val = (j 0).val / 8 then 1 else 0 := by
  have h0 : (j 0).val < 255 := (j 0).isLt
  have h1 : (j 1).val < 128 := (j 1).isLt
  pointwise [val_main_v12, val_main_call0_v1, val_main_call0_v0, val_main_cst_2, val_main_cst, val_main_v11, val_main_v10, val_main_v9, val_main_c_1, val_main_v8, val_main_v7, val_main_v6, val_main_c_0, val_main_v5, val_main_v4, val_main_v3, val_main_c, val_main_v2, val_main_v1]
  have e1 : IntOp.muli (8#32) (BitVec.ofNat 32 (j 1).val) = BitVec.ofNat 32 (8 * (j 1).val) := (BitVec.ofNat_mul _ _).symm
  have e2 : IntOp.addi (BitVec.ofNat 32 (8 * (j 1).val)) 8#32 = BitVec.ofNat 32 (8 * (j 1).val + 8) := (BitVec.ofNat_add _ _).symm
  rw [e1, e2, cmpi_sle_ofNat (by omega) (by omega), cmpi_slt_ofNat (by omega) (by omega)]
  have e3 : ((j 1).val = (j 0).val / 8) ↔ (8 * (j 1).val ≤ (j 0).val ∧ (j 0).val < 8 * (j 1).val + 8) := by omega
  rw [if_congr e3 rfl rfl]
  by_cases ha : 8 * (j 1).val ≤ (j 0).val <;> by_cases hb : (j 0).val < 8 * (j 1).val + 8 <;> simp [ha, hb, Scalar.select, IntOp.andi]

theorem front_ref (j : Cert.CmpPRefIdeal.S16x128.Idx) : val_main_v16 (F := Ideal) j = if (j 1).val = 64 then 1 else 0 := by
  have h1 : (j 1).val < 128 := (j 1).isLt
  pointwise [val_main_v16, val_main_call1_v1, val_main_call1_v0, val_main_cst_5, val_main_cst_4, val_main_v15, val_main_v14, val_main_c_3, val_main_v13]
  exact choose_eq _ 64 (by omega) (by omega) _ _

theorem tail_ref (j : Cert.CmpPRefIdeal.S105x128.Idx) : val_main_v20 (F := Ideal) j = if (j 1).val = 64 then 1 else 0 := by
  have h1 : (j 1).val < 128 := (j 1).isLt
  pointwise [val_main_v20, val_main_call2_v1, val_main_call2_v0, val_main_cst_8, val_main_cst_7, val_main_v19, val_main_v18, val_main_c_6, val_main_v17]
  exact choose_eq _ 64 (by omega) (by omega) _ _

/-- Rows of blocks behind 16 rows of zeros and before 105. -/
def padded (K : Fin 255 → Fin 128 → EReal) (p : Fin 376) (l : Fin 128) : EReal :=
  if p.val < 16 then 0 else if h : p.val - 16 < 255 then K ⟨p.val - 16, h⟩ l else 0

/-- Padded rows with their marks beside them. -/
def keyOf (K : Fin 255 → Fin 128 → EReal) (p : Fin 376) (l : Fin 256) : EReal :=
  if h : l.val < 128 then padded K p ⟨l.val, h⟩ else
    if p.val < 16 then (if l.val = 192 then 1 else 0) else if p.val - 16 < 255 then (if l.val - 128 = (p.val - 16) / 8 then 1 else 0) else if l.val = 192 then 1 else 0

theorem values_ref (x0 x3 x4) (y : Cert.CmpPRefIdeal.S2x2x376x128.Idx) : val_main_v109 (F := Ideal) x0 x3 x4 y
    = padded (fun n l => val_main_v101 (F := Ideal) x0 x3 x4 (ix4 (y 0) (y 1) n l)) (y 2) (y 3) := by
  unfold padded
  pointwise [val_main_v109, val_main_v108, val_main_v107, val_main_cst_14, val_main_cst_15]
  rfl

theorem keys_ref (x0 x1 x2 x5) (y : Cert.CmpPRefIdeal.S2x2x376x256.Idx) : val_main_v106 (F := Ideal) x0 x1 x2 x5 y
    = keyOf (fun n l => val_main_v69 (F := Ideal) x0 x1 x2 x5 (ix4 (y 0) (y 1) n l)) (y 2) (y 3) := by
  have h3 : (y 3).val < 256 := (y 3).isLt
  unfold keyOf padded
  pointwise [val_main_v106, val_main_v105_apply, val_main_v22_apply, val_main_v21, val_main_v104, val_main_v103, val_main_v102, val_main_cst_12, val_main_cst_13, marks_ref, front_ref, tail_ref]
  have e : ((y 3).val = 192) ↔ ((y 3).val - 128 = 64) := by omega
  rw [if_congr e rfl rfl]
  rfl

/-- A row of the reference's keys is the norm of its two halves. -/
theorem norm_ref (x0 x1 x2 x5) (b h n l) : val_main_v69 (F := Ideal) x0 x1 x2 x5 (ix4 b h n l)
    = normed (fun k => val_main_v41 (F := Ideal) x0 x1 x2 (ix4 b h n k) + val_main_v53 (F := Ideal) x0 x1 x2 (ix4 b h n k)) (fun k => x5 (ix3 0 0 k)) l := by
  unfold normed
  pointwise [val_main_v69, val_main_v68, val_main_v67, val_main_v66, val_main_v65, val_main_v64, val_main_v63, val_main_v62, val_main_cst_11, val_main_v61, val_main_v60, val_main_cst_10, val_main_v59, val_main_v58, val_main_cst_9, val_main_v57, val_main_v56, val_main_v55, val_main_v54]

end Cert.CmpPIdeal.Compress
-- ==== Proof.CmpJ.lean ====
/- The six stores of each result of the compression. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpF

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

/-- Both heads' three stores each, one after the other, are what each of them is. -/
theorem sixK (f : S1x2x376x256.Idx → EReal) (P1272 : Vec Ideal S1x1x104x256 .f32) (P116 : Vec Ideal S1x1x256x256 .f32) (P10 : Vec Ideal S1x1x16x256 .f32) (P0272 : Vec Ideal S1x1x104x256 .f32) (P016 : Vec Ideal S1x1x256x256 .f32) (P00 : Vec Ideal S1x1x16x256 .f32) (i1272) (i116) (i10) (i0272) (i016) (i00)
    (h1272 : ∀ x : S1x1x104x256.Idx, P1272 x = f (ix4 0 1 ⟨272 + (x 2).val, by have : (x 2).val < 104 := (x 2).isLt; omega⟩ (x 3)))
    (h116 : ∀ x : S1x1x256x256.Idx, P116 x = f (ix4 0 1 ⟨16 + (x 2).val, by have : (x 2).val < 256 := (x 2).isLt; omega⟩ (x 3)))
    (h10 : ∀ x : S1x1x16x256.Idx, P10 x = f (ix4 0 1 ⟨0 + (x 2).val, by have : (x 2).val < 16 := (x 2).isLt; omega⟩ (x 3)))
    (h0272 : ∀ x : S1x1x104x256.Idx, P0272 x = f (ix4 0 0 ⟨272 + (x 2).val, by have : (x 2).val < 104 := (x 2).isLt; omega⟩ (x 3)))
    (h016 : ∀ x : S1x1x256x256.Idx, P016 x = f (ix4 0 0 ⟨16 + (x 2).val, by have : (x 2).val < 256 := (x 2).isLt; omega⟩ (x 3)))
    (h00 : ∀ x : S1x1x16x256.Idx, P00 x = f (ix4 0 0 ⟨0 + (x 2).val, by have : (x 2).val < 16 := (x 2).isLt; omega⟩ (x 3)))
    (y : S1x2x376x256.Idx) :
    View.canon (Val := Elt Ideal) (s := S1x2x376x256) (e := .f32)
      [⟨Rect.unit ![0, 1, 272, 0] ![1, 1, 104, 256] i1272, P1272⟩, ⟨Rect.unit ![0, 1, 16, 0] ![1, 1, 256, 256] i116, P116⟩, ⟨Rect.unit ![0, 1, 0, 0] ![1, 1, 16, 256] i10, P10⟩, ⟨Rect.unit ![0, 0, 272, 0] ![1, 1, 104, 256] i0272, P0272⟩, ⟨Rect.unit ![0, 0, 16, 0] ![1, 1, 256, 256] i016, P016⟩, ⟨Rect.unit ![0, 0, 0, 0] ![1, 1, 16, 256] i00, P00⟩] y = f y := by
  refine View.canon_apply_of_pieces (Val := Elt Ideal) (e := .f32) f _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩⟩⟩) y
    (View.cover_of_tiledBy _ ![1, 1, 8, 256] (by sl_kernel_rfl) y)
  · refine (h1272 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show 272 + (x 2).val = 272 + 1 * (x 2).val; omega
    | ⟨3, _⟩ => show (x 3).val = 0 + 1 * (x 3).val; omega
  · refine (h116 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show 16 + (x 2).val = 16 + 1 * (x 2).val; omega
    | ⟨3, _⟩ => show (x 3).val = 0 + 1 * (x 3).val; omega
  · refine (h10 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show 0 + (x 2).val = 0 + 1 * (x 2).val; omega
    | ⟨3, _⟩ => show (x 3).val = 0 + 1 * (x 3).val; omega
  · refine (h0272 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show 272 + (x 2).val = 272 + 1 * (x 2).val; omega
    | ⟨3, _⟩ => show (x 3).val = 0 + 1 * (x 3).val; omega
  · refine (h016 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show 16 + (x 2).val = 16 + 1 * (x 2).val; omega
    | ⟨3, _⟩ => show (x 3).val = 0 + 1 * (x 3).val; omega
  · refine (h00 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show 0 + (x 2).val = 0 + 1 * (x 2).val; omega
    | ⟨3, _⟩ => show (x 3).val = 0 + 1 * (x 3).val; omega

/-- Both heads' three stores each, one after the other, are what each of them is. -/
theorem sixV (f : S1x2x376x128.Idx → EReal) (P1272 : Vec Ideal S1x1x104x128 .f32) (P116 : Vec Ideal S1x1x256x128 .f32) (P10 : Vec Ideal S1x1x16x128 .f32) (P0272 : Vec Ideal S1x1x104x128 .f32) (P016 : Vec Ideal S1x1x256x128 .f32) (P00 : Vec Ideal S1x1x16x128 .f32) (i1272) (i116) (i10) (i0272) (i016) (i00)
    (h1272 : ∀ x : S1x1x104x128.Idx, P1272 x = f (ix4 0 1 ⟨272 + (x 2).val, by have : (x 2).val < 104 := (x 2).isLt; omega⟩ (x 3)))
    (h116 : ∀ x : S1x1x256x128.Idx, P116 x = f (ix4 0 1 ⟨16 + (x 2).val, by have : (x 2).val < 256 := (x 2).isLt; omega⟩ (x 3)))
    (h10 : ∀ x : S1x1x16x128.Idx, P10 x = f (ix4 0 1 ⟨0 + (x 2).val, by have : (x 2).val < 16 := (x 2).isLt; omega⟩ (x 3)))
    (h0272 : ∀ x : S1x1x104x128.Idx, P0272 x = f (ix4 0 0 ⟨272 + (x 2).val, by have : (x 2).val < 104 := (x 2).isLt; omega⟩ (x 3)))
    (h016 : ∀ x : S1x1x256x128.Idx, P016 x = f (ix4 0 0 ⟨16 + (x 2).val, by have : (x 2).val < 256 := (x 2).isLt; omega⟩ (x 3)))
    (h00 : ∀ x : S1x1x16x128.Idx, P00 x = f (ix4 0 0 ⟨0 + (x 2).val, by have : (x 2).val < 16 := (x 2).isLt; omega⟩ (x 3)))
    (y : S1x2x376x128.Idx) :
    View.canon (Val := Elt Ideal) (s := S1x2x376x128) (e := .f32)
      [⟨Rect.unit ![0, 1, 272, 0] ![1, 1, 104, 128] i1272, P1272⟩, ⟨Rect.unit ![0, 1, 16, 0] ![1, 1, 256, 128] i116, P116⟩, ⟨Rect.unit ![0, 1, 0, 0] ![1, 1, 16, 128] i10, P10⟩, ⟨Rect.unit ![0, 0, 272, 0] ![1, 1, 104, 128] i0272, P0272⟩, ⟨Rect.unit ![0, 0, 16, 0] ![1, 1, 256, 128] i016, P016⟩, ⟨Rect.unit ![0, 0, 0, 0] ![1, 1, 16, 128] i00, P00⟩] y = f y := by
  refine View.canon_apply_of_pieces (Val := Elt Ideal) (e := .f32) f _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩⟩⟩) y
    (View.cover_of_tiledBy _ ![1, 1, 8, 128] (by sl_kernel_rfl) y)
  · refine (h1272 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show 272 + (x 2).val = 272 + 1 * (x 2).val; omega
    | ⟨3, _⟩ => show (x 3).val = 0 + 1 * (x 3).val; omega
  · refine (h116 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show 16 + (x 2).val = 16 + 1 * (x 2).val; omega
    | ⟨3, _⟩ => show (x 3).val = 0 + 1 * (x 3).val; omega
  · refine (h10 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 1 = 1 + 1 * (x 1).val; omega
    | ⟨2, _⟩ => show 0 + (x 2).val = 0 + 1 * (x 2).val; omega
    | ⟨3, _⟩ => show (x 3).val = 0 + 1 * (x 3).val; omega
  · refine (h0272 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show 272 + (x 2).val = 272 + 1 * (x 2).val; omega
    | ⟨3, _⟩ => show (x 3).val = 0 + 1 * (x 3).val; omega
  · refine (h016 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show 16 + (x 2).val = 16 + 1 * (x 2).val; omega
    | ⟨3, _⟩ => show (x 3).val = 0 + 1 * (x 3).val; omega
  · refine (h00 x).trans (congrArg f (funext fun a => Fin.ext ?_))
    have hx : (x 0).val < 1 := (x 0).isLt
    have hx1 : (x 1).val < 1 := (x 1).isLt
    match a with
    | ⟨0, _⟩ => show 0 = 0 + 1 * (x 0).val; omega
    | ⟨1, _⟩ => show 0 = 0 + 1 * (x 1).val; omega
    | ⟨2, _⟩ => show 0 + (x 2).val = 0 + 1 * (x 2).val; omega
    | ⟨3, _⟩ => show (x 3).val = 0 + 1 * (x 3).val; omega

theorem keyOf_front (K : Fin 255 → Fin 128 → EReal) (p : Fin 376) (hp : p.val < 16) (l : Fin 256) : keyOf K p l = if l.val = 192 then 1 else 0 := by
  unfold keyOf padded
  split_ifs <;> first | rfl | omega

theorem keyOf_tail (K : Fin 255 → Fin 128 → EReal) (p : Fin 376) (hp : 271 ≤ p.val) (l : Fin 256) : keyOf K p l = if l.val = 192 then 1 else 0 := by
  unfold keyOf padded
  split_ifs <;> first | rfl | omega

theorem padded_out (K : Fin 255 → Fin 128 → EReal) (p : Fin 376) (hp : p.val < 16 ∨ 271 ≤ p.val) (l : Fin 128) : padded K p l = 0 := by
  unfold padded
  split_ifs <;> first | rfl | omega

theorem padded_mid (K : Fin 255 → Fin 128 → EReal) (p : Fin 376) (n : Fin 255) (hp : p.val = 16 + n.val) (l : Fin 128) : padded K p l = K n l := by
  unfold padded
  rw [if_neg (by omega), dif_pos (by omega)]
  exact congrArg (K · l) (Fin.ext (by show p.val - 16 = n.val; omega))

/-- A head's rows of keys with their marks. -/
theorem midK (K : Fin 255 → Fin 128 → EReal) (w : FVec Ideal S256x128 .f32)
    (hw : ∀ (n : Fin 255) (l : Fin 128), w (ix2 ⟨n.val, by omega⟩ l) = K n l) (hz : ∀ l : Fin 128, w (ix2 ⟨255, by omega⟩ l) = 0) (x : S1x1x256x256.Idx) (p : Fin 376) (hp : p.val = 16 + (x 2).val) :
    k0_pay56 k0_pay43 w x = keyOf K p (x 3) := by
  have h2 : (x 2).val < 256 := (x 2).isLt
  have h3 : (x 3).val < 256 := (x 3).isLt
  rw [pay56_at]
  unfold keyOf
  by_cases h : (x 3).val < 128
  · rw [dif_pos h, dif_pos h]
    by_cases hn : (x 2).val < 255
    · exact (hw ⟨(x 2).val, hn⟩ _).trans (padded_mid K p ⟨(x 2).val, hn⟩ hp _).symm
    · exact (Eq.trans (congrArg (fun r => w (ix2 r ⟨(x 3).val, h⟩)) (Fin.ext (by show (x 2).val = 255; omega))) (hz _)).trans (padded_out K p (Or.inr (by omega)) _).symm
  · rw [dif_neg h, dif_neg h, if_neg (by omega)]
    refine (pay43_at _ _).trans ?_
    unfold markOf
    dsimp only
    have e1 : (x 2).val = p.val - 16 := by omega
    have e2 : ((x 3).val = 192) ↔ ((x 3).val - 128 = 64) := by omega
    rw [e1, if_congr e2 rfl rfl]

theorem midV (K : Fin 255 → Fin 128 → EReal) (v : FVec Ideal S256x128 .f32) (P : Vec Ideal S1x1x256x128 .f32)
    (hP : ∀ x : S1x1x256x128.Idx, P x = if (x 2).val < 255 then v (ix2 (x 2) (x 3)) else 0)
    (hv : ∀ (n : Fin 255) (l : Fin 128), v (ix2 ⟨n.val, by omega⟩ l) = K n l) (x : S1x1x256x128.Idx) (p : Fin 376) (hp : p.val = 16 + (x 2).val) :
    P x = padded K p (x 3) := by
  have h2 : (x 2).val < 256 := (x 2).isLt
  rw [hP]
  by_cases hn : (x 2).val < 255
  · rw [if_pos hn]
    exact (hv ⟨(x 2).val, hn⟩ _).trans (padded_mid K p ⟨(x 2).val, hn⟩ hp _).symm
  · rw [if_neg hn]
    exact (padded_out K p (Or.inr (by omega)) _).symm

theorem zero16 (x : S1x1x16x128.Idx) : k0_pay51 (F := Ideal) x = 0 := by pointwise [k0_pay51]
theorem zero16' (x : S1x1x16x128.Idx) : k0_pay58 (F := Ideal) x = 0 := by pointwise [k0_pay58]
theorem zero104 (x : S1x1x104x128.Idx) : k0_pay53 (F := Ideal) x = 0 := by pointwise [k0_pay53]
theorem zero104' (x : S1x1x104x128.Idx) : k0_pay1 (F := Ideal) k0_pay60 x = 0 := by pointwise [k0_pay1, k0_pay60]

end Cert.CmpPIdeal.Compress
-- ==== Proof.CmpC.lean ====
/- The compression as the reference computes it. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit
public import proofs.«01_k».proof.Proof.CmpD

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

namespace Ref

open Cert.CmpPRefIdeal

theorem v0_at (x0) (b : Fin 2) (n : Fin 4096) (k h : Fin 2) (d : Fin 128) :
    val_main_v0 (F := Ideal) x0 (ix5 b n k h d) = x0 (ix2 ⟨b.val * 16384 + n.val * 4 + k.val * 2 + h.val, by omega⟩ d) := by
  pointwise [val_main_v0]

theorem v24_at (x0) (b : Fin 2) (n : Fin 4096) (h : Fin 2) (d : Fin 128) :
    val_main_v24 (F := Ideal) x0 (ix4 b n h d) = val_main_v0 (F := Ideal) x0 (ix5 b n 0 h d) := by
  pointwise [val_main_v24, val_main_v23]

theorem v27_via (x0) (b : Fin 2) (n : Fin 256) (s : Fin 16) (h : Fin 2) (d : Fin 128) :
    val_main_v27 (F := Ideal) x0 (ix5 b n s h d) = val_main_v24 (F := Ideal) x0 (ix4 b ⟨n.val * 16 + s.val, by omega⟩ h d) := by
  pointwise [val_main_v27]

/-- The keys' rows, as rows of the argument. -/
theorem v27_at (x0) (b : Fin 2) (n : Fin 256) (s : Fin 16) (h : Fin 2) (d : Fin 128) :
    val_main_v27 (F := Ideal) x0 (ix5 b n s h d) = rowsOf x0 b ⟨0 + h.val, by omega⟩ n s d := by
  have e : val_main_v27 (F := Ideal) x0 (ix5 b n s h d) = x0 (ix2 ⟨b.val * 16384 + (n.val * 16 + s.val) * 4 + (0 : Fin 2).val * 2 + h.val, by show b.val * 16384 + (n.val * 16 + s.val) * 4 + 0 * 2 + h.val < 32768; omega⟩ d) := by
    exact (v27_via x0 b n s h d).trans ((v24_at x0 b _ h d).trans (v0_at x0 b _ 0 h d))
  exact e.trans (congrArg x0 (congrArg₂ ix2 (Fin.ext (by show b.val * 16384 + (n.val * 16 + s.val) * 4 + 0 * 2 + h.val = _; dsimp only; omega)) rfl))

theorem v30_at (x0) (b : Fin 2) (n : Fin 255) (s : Fin 16) (h : Fin 2) (d : Fin 128) :
    val_main_v30 (F := Ideal) x0 (ix5 b n s h d) = rowsOf x0 b ⟨0 + h.val, by omega⟩ ⟨n.val + 0, by omega⟩ s d := by
  rw [← v27_at]
  pointwise [val_main_v30]

theorem v34_at (p) (b : Fin 2) (n : Fin 255) (s : Fin 16) (h : Fin 2) (d : Fin 128) :
    val_main_v34 (F := Ideal) p (ix5 b n s h d) = posOf p 0 s d := by
  unfold posOf
  pointwise [val_main_v34, val_main_v33, val_main_v32, val_main_v31, val_main_v29, val_main_v26]

theorem v40_at (w) (k : Fin 2048) (e : Fin 128) :
    val_main_v40 (F := Ideal) w (ix2 k e) = weightOf w 0 (tapOf k) (chanOf k) e := by
  unfold weightOf
  pointwise [val_main_v40, val_main_v39, val_main_v38, val_main_v28, val_main_v25]

theorem v37_at (x0 p) (b h : Fin 2) (n : Fin 255) (k : Fin 2048) :
    val_main_v37 (F := Ideal) x0 p (ix4 b h n k) = rowsOf x0 b ⟨0 + h.val, by omega⟩ ⟨n.val + 0, by omega⟩ (tapOf k) (chanOf k) + posOf p 0 (tapOf k) (chanOf k) := by
  rw [← v30_at, ← v34_at p b n _ h]
  pointwise [val_main_v37, val_main_v36, val_main_v35]

/-- The reference's half 0 of the keys. -/
theorem v41_at (x0 w p) (b h : Fin 2) (n : Fin 255) (e : Fin 128) :
    val_main_v41 (F := Ideal) x0 w p (ix4 b h n e) = half (fun s d => rowsOf x0 b ⟨0 + h.val, by omega⟩ ⟨n.val + 0, by omega⟩ s d + posOf p 0 s d) (weightOf w 0) e := by
  unfold half
  pointwise [val_main_v41, v37_at, v40_at]

theorem v42_at (x0) (b : Fin 2) (n : Fin 255) (s : Fin 16) (h : Fin 2) (d : Fin 128) :
    val_main_v42 (F := Ideal) x0 (ix5 b n s h d) = rowsOf x0 b ⟨0 + h.val, by omega⟩ ⟨n.val + 1, by omega⟩ s d := by
  rw [← v27_at]
  pointwise [val_main_v42]
  exact congrArg (fun i => val_main_v27 (F := Ideal) x0 (ix5 b i s h d)) (Fin.ext (Nat.add_comm _ _))

theorem v46_at (p) (b : Fin 2) (n : Fin 255) (s : Fin 16) (h : Fin 2) (d : Fin 128) :
    val_main_v46 (F := Ideal) p (ix5 b n s h d) = posOf p 1 s d := by
  unfold posOf
  pointwise [val_main_v46, val_main_v45, val_main_v44, val_main_v43, val_main_v29, val_main_v26]

theorem v52_at (w) (k : Fin 2048) (e : Fin 128) :
    val_main_v52 (F := Ideal) w (ix2 k e) = weightOf w 1 (tapOf k) (chanOf k) e := by
  unfold weightOf
  pointwise [val_main_v52, val_main_v51, val_main_v50, val_main_v28, val_main_v25]

theorem v49_at (x0 p) (b h : Fin 2) (n : Fin 255) (k : Fin 2048) :
    val_main_v49 (F := Ideal) x0 p (ix4 b h n k) = rowsOf x0 b ⟨0 + h.val, by omega⟩ ⟨n.val + 1, by omega⟩ (tapOf k) (chanOf k) + posOf p 1 (tapOf k) (chanOf k) := by
  rw [← v42_at, ← v46_at p b n _ h]
  pointwise [val_main_v49, val_main_v48, val_main_v47]

/-- The reference's half 1 of the keys. -/
theorem v53_at (x0 w p) (b h : Fin 2) (n : Fin 255) (e : Fin 128) :
    val_main_v53 (F := Ideal) x0 w p (ix4 b h n e) = half (fun s d => rowsOf x0 b ⟨0 + h.val, by omega⟩ ⟨n.val + 1, by omega⟩ s d + posOf p 1 s d) (weightOf w 1) e := by
  unfold half
  pointwise [val_main_v53, v49_at, v52_at]

/-- The values' rows, as rows of the argument. -/
theorem v74_at (x0) (b : Fin 2) (n : Fin 256) (s : Fin 16) (h : Fin 2) (d : Fin 128) :
    val_main_v74 (F := Ideal) x0 (ix5 b n s h d) = rowsOf x0 b ⟨2 + h.val, by omega⟩ n s d := by
  have e : val_main_v74 (F := Ideal) x0 (ix5 b n s h d) = x0 (ix2 ⟨b.val * 16384 + (n.val * 16 + s.val) * 4 + 2 + h.val, by omega⟩ d) := by
    pointwise [val_main_v74, val_main_v71, val_main_v70, val_main_v0]
  exact e.trans (congrArg x0 (congrArg₂ ix2 (Fin.ext (by dsimp only; omega)) rfl))

theorem v77_at (x0) (b : Fin 2) (n : Fin 255) (s : Fin 16) (h : Fin 2) (d : Fin 128) :
    val_main_v77 (F := Ideal) x0 (ix5 b n s h d) = rowsOf x0 b ⟨2 + h.val, by omega⟩ ⟨n.val + 0, by omega⟩ s d := by
  rw [← v74_at]
  pointwise [val_main_v77]

theorem v81_at (p) (b : Fin 2) (n : Fin 255) (s : Fin 16) (h : Fin 2) (d : Fin 128) :
    val_main_v81 (F := Ideal) p (ix5 b n s h d) = posOf p 0 s d := by
  unfold posOf
  pointwise [val_main_v81, val_main_v80, val_main_v79, val_main_v78, val_main_v76, val_main_v73]

theorem v87_at (w) (k : Fin 2048) (e : Fin 128) :
    val_main_v87 (F := Ideal) w (ix2 k e) = weightOf w 0 (tapOf k) (chanOf k) e := by
  unfold weightOf
  pointwise [val_main_v87, val_main_v86, val_main_v85, val_main_v75, val_main_v72]

theorem v84_at (x0 p) (b h : Fin 2) (n : Fin 255) (k : Fin 2048) :
    val_main_v84 (F := Ideal) x0 p (ix4 b h n k) = rowsOf x0 b ⟨2 + h.val, by omega⟩ ⟨n.val + 0, by omega⟩ (tapOf k) (chanOf k) + posOf p 0 (tapOf k) (chanOf k) := by
  rw [← v77_at, ← v81_at p b n _ h]
  pointwise [val_main_v84, val_main_v83, val_main_v82]

/-- The reference's half 0 of the values. -/
theorem v88_at (x0 w p) (b h : Fin 2) (n : Fin 255) (e : Fin 128) :
    val_main_v88 (F := Ideal) x0 w p (ix4 b h n e) = half (fun s d => rowsOf x0 b ⟨2 + h.val, by omega⟩ ⟨n.val + 0, by omega⟩ s d + posOf p 0 s d) (weightOf w 0) e := by
  unfold half
  pointwise [val_main_v88, v84_at, v87_at]

theorem v89_at (x0) (b : Fin 2) (n : Fin 255) (s : Fin 16) (h : Fin 2) (d : Fin 128) :
    val_main_v89 (F := Ideal) x0 (ix5 b n s h d) = rowsOf x0 b ⟨2 + h.val, by omega⟩ ⟨n.val + 1, by omega⟩ s d := by
  rw [← v74_at]
  pointwise [val_main_v89]
  exact congrArg (fun i => val_main_v74 (F := Ideal) x0 (ix5 b i s h d)) (Fin.ext (Nat.add_comm _ _))

theorem v93_at (p) (b : Fin 2) (n : Fin 255) (s : Fin 16) (h : Fin 2) (d : Fin 128) :
    val_main_v93 (F := Ideal) p (ix5 b n s h d) = posOf p 1 s d := by
  unfold posOf
  pointwise [val_main_v93, val_main_v92, val_main_v91, val_main_v90, val_main_v76, val_main_v73]

theorem v99_at (w) (k : Fin 2048) (e : Fin 128) :
    val_main_v99 (F := Ideal) w (ix2 k e) = weightOf w 1 (tapOf k) (chanOf k) e := by
  unfold weightOf
  pointwise [val_main_v99, val_main_v98, val_main_v97, val_main_v75, val_main_v72]

theorem v96_at (x0 p) (b h : Fin 2) (n : Fin 255) (k : Fin 2048) :
    val_main_v96 (F := Ideal) x0 p (ix4 b h n k) = rowsOf x0 b ⟨2 + h.val, by omega⟩ ⟨n.val + 1, by omega⟩ (tapOf k) (chanOf k) + posOf p 1 (tapOf k) (chanOf k) := by
  rw [← v89_at, ← v93_at p b n _ h]
  pointwise [val_main_v96, val_main_v95, val_main_v94]

/-- The reference's half 1 of the values. -/
theorem v100_at (x0 w p) (b h : Fin 2) (n : Fin 255) (e : Fin 128) :
    val_main_v100 (F := Ideal) x0 w p (ix4 b h n e) = half (fun s d => rowsOf x0 b ⟨2 + h.val, by omega⟩ ⟨n.val + 1, by omega⟩ s d + posOf p 1 s d) (weightOf w 1) e := by
  unfold half
  pointwise [val_main_v100, v96_at, v99_at]

end Ref

end Cert.CmpPIdeal.Compress
-- ==== Proof.CmpK.lean ====
/- The rows of the compression are the reference's. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpC
public import proofs.«01_k».proof.Proof.CmpF
public import proofs.«01_k».proof.Proof.CmpG

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

open Cert.CmpPIdeal.Compress.Ref

/-- What the precondition says of one array. -/
def AllReal {s : Shape} (x : s.Idx → EReal) : Prop := ∀ i, ∃ r : ℝ, x i = r

/-- The two halves and their positions, regrouped. -/
theorem mix_half (v : FVec Ideal S528x256 .f32) (X P W) (h : AccOf v X P W) (o : Fin 2) (n : Fin 255) (e : Fin 128)
    (hX : ∀ h n s d, ∃ r : ℝ, X h n s d = r) (hP : ∀ q s d, ∃ r : ℝ, P q s d = r) (hW : ∀ q s d e, ∃ r : ℝ, W q s d e = r) :
    mix v o n e = half (fun s d => X o ⟨n.val + 0, by omega⟩ s d + P 0 s d) (W 0) e + half (fun s d => X o ⟨n.val + 1, by omega⟩ s d + P 1 s d) (W 1) e := by
  rw [half_add _ _ _ _ (hX _ _) (hP _) (hW _), half_add _ _ _ _ (hX _ _) (hP _) (hW _), add_add_add_comm]
  unfold mix
  refine congrArg₂ (· + ·) (congrArg₂ (· + ·) (Eq.trans ?_ (h.1 o ⟨n.val + 0, by omega⟩ 0 e)) (Eq.trans ?_ (h.1 o ⟨n.val + 1, by omega⟩ 1 e))) (congrArg₂ (· + ·) (Eq.trans ?_ (h.2 0 e)) (Eq.trans ?_ (h.2 1 e)))
  · exact congrArg v (congrArg₂ ix2 (Fin.ext rfl) (Fin.ext (by show e.val = 0 * 128 + e.val; omega)))
  · exact congrArg v (congrArg₂ ix2 (Fin.ext rfl) (Fin.ext (by show 128 + e.val = 1 * 128 + e.val; omega)))
  · exact congrArg v (congrArg₂ ix2 (Fin.ext rfl) (Fin.ext (by show e.val = 0 * 128 + e.val; omega)))
  · exact congrArg v (congrArg₂ ix2 (Fin.ext rfl) (Fin.ext (by show 128 + e.val = 1 * 128 + e.val; omega)))

/-- A row of the keys. -/
theorem krow (v : FVec Ideal S528x256 .f32) (g : Vec Ideal S1x128 .f32) (x0 : S32768x128.Idx → EReal) (x1 : S1x32x128x128.Idx → EReal) (x2 : S1x32x128.Idx → EReal) (x5 : S1x3x128.Idx → EReal) (b o : Fin 2)
    (h : AccOf v (fun h n => rowsOf x0 b ⟨0 + h.val, by omega⟩ n) (posOf x2) (weightOf x1)) (hg : ∀ l : Fin 128, g (ix2 0 l) = x5 (ix3 0 0 l))
    (h0 : AllReal x0) (h1 : AllReal x1) (h2 : AllReal x2) (w : FVec Ideal S256x128 .f32) (hw : ∀ (n : Fin 255) (e : Fin 128), w (ix2 ⟨n.val, by omega⟩ e) = mix v o n e) (n : Fin 255) (l : Fin 128) :
    k0_pay54 w k0_pay42 g (ix2 ⟨n.val, by omega⟩ l) = val_main_v69 (F := Ideal) x0 x1 x2 x5 (ix4 b o n l) := by
  rw [pay54_at, if_pos n.isLt, norm_ref]
  refine congrArg₂ (fun a b => normed a b l) (funext fun k => ?_) (funext hg)
  rw [hw, v41_at, v53_at]
  exact mix_half v _ _ _ h o n k (fun _ _ _ _ => h0 _) (fun _ _ _ => h2 _) (fun _ _ _ _ => h1 _)

/-- A row of the values. -/
theorem vrow (v : FVec Ideal S528x256 .f32) (x0 : S32768x128.Idx → EReal) (x1 : S1x32x128x128.Idx → EReal) (x2 : S1x32x128.Idx → EReal) (b o : Fin 2)
    (h : AccOf v (fun h n => rowsOf x0 b ⟨2 + h.val, by omega⟩ n) (posOf x2) (weightOf x1))
    (h0 : AllReal x0) (h1 : AllReal x1) (h2 : AllReal x2) (w : FVec Ideal S256x128 .f32) (hw : ∀ (n : Fin 255) (e : Fin 128), w (ix2 ⟨n.val, by omega⟩ e) = mix v o n e) (n : Fin 255) (l : Fin 128) :
    w (ix2 ⟨n.val, by omega⟩ l) = val_main_v101 (F := Ideal) x0 x1 x2 (ix4 b o n l) := by
  rw [hw, val_main_v101_apply]
  show _ = val_main_v88 (F := Ideal) x0 x1 x2 (ix4 b o n l) + val_main_v100 (F := Ideal) x0 x1 x2 (ix4 b o n l)
  rw [v88_at, v100_at]
  exact mix_half v _ _ _ h o n l (fun _ _ _ _ => h0 _) (fun _ _ _ => h2 _) (fun _ _ _ _ => h1 _)

theorem zero_row (w : FVec Ideal S256x128 .f32) (g : Vec Ideal S1x128 .f32) (l : Fin 128) : k0_pay54 w k0_pay42 g (ix2 ⟨255, by omega⟩ l) = 0 := by
  rw [pay54_at, if_neg (by decide)]

theorem pay38_eq (a b c d e f g) : k0_pay38 (F := Ideal) a b c d e f g = k0_pay35 (k0_pay33 a b c d e f g) := rfl
theorem pay41_eq (a b c d e f g) : k0_pay41 (F := Ideal) (k0_pay37 a b c d e f g) (k0_pay39 a b c d e f g) (k0_pay40 a b c d e f g) = k0_pay36 (k0_pay33 a b c d e f g) := rfl

end Cert.CmpPIdeal.Compress
-- ==== Proof.Compress.lean ====
/- The compression of the key-value caches. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Proof.CmpH
public import proofs.«01_k».proof.Proof.CmpJ
public import proofs.«01_k».proof.Proof.CmpK

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

variable (m : (ℓ : Loc nD τ sig) → Buf (Elt Ideal) ℓ)

theorem ks_at (c : Dev nD) (t : Fin cfg0.N) (h0 : AllReal (A0 m c)) (h1 : AllReal (A1 m c)) (h2 : AllReal (A2 m c)) (y : S1x2x376x256.Idx) :
    (outsAt0 m c t).1 y = val_main_v106 (F := Ideal) (A0 m c) (A1 m c) (A2 m c) (A5 m c) (ix4 (seqOf t) (y 1) (y 2) (y 3)) := by
  rw [keys_ref]
  unfold outsAt0
  frame_out
  refine sixK (fun y => keyOf (fun n l => val_main_v69 (F := Ideal) (A0 m c) (A1 m c) (A2 m c) (A5 m c) (ix4 (seqOf t) (y 1) n l)) (y 2) (y 3)) _ _ _ _ _ _ _ _ _ _ _ _ (fun x => ?_) (fun x => ?_) (fun x => ?_) (fun x => ?_) (fun x => ?_) (fun x => ?_) y
  · exact (pay50_at x).trans (keyOf_tail _ _ (by show 271 ≤ 272 + (x 2).val; omega) _).symm
  · exact midK (fun n l => val_main_v69 (F := Ideal) (A0 m c) (A1 m c) (A2 m c) (A5 m c) (ix4 (seqOf t) 1 n l)) _
      (fun n l => krow _ _ _ _ _ _ (seqOf t) 1 (keysAcc m c t) (gain m c t _) h0 h1 h2 _ (fun n e => pay36_at _ _ _) n l) (zero_row _ _) x _ rfl
  · exact (pay48_at x).trans (keyOf_front _ _ (by have : (x 2).val < 16 := (x 2).isLt; show 0 + (x 2).val < 16; omega) _).symm
  · exact (pay50_at x).trans (keyOf_tail _ _ (by show 271 ≤ 272 + (x 2).val; omega) _).symm
  · exact midK (fun n l => val_main_v69 (F := Ideal) (A0 m c) (A1 m c) (A2 m c) (A5 m c) (ix4 (seqOf t) 0 n l)) _
      (fun n l => krow _ _ _ _ _ _ (seqOf t) 0 (keysAcc m c t) (gain m c t _) h0 h1 h2 _ (fun n e => pay35_at _ _ _) n l) (zero_row _ _) x _ rfl
  · exact (pay48_at x).trans (keyOf_front _ _ (by have : (x 2).val < 16 := (x 2).isLt; show 0 + (x 2).val < 16; omega) _).symm

theorem vs_at (c : Dev nD) (t : Fin cfg0.N) (h0 : AllReal (A0 m c)) (h3 : AllReal (A3 m c)) (h4 : AllReal (A4 m c)) (y : S1x2x376x128.Idx) :
    (outsAt0 m c t).2 y = val_main_v109 (F := Ideal) (A0 m c) (A3 m c) (A4 m c) (ix4 (seqOf t) (y 1) (y 2) (y 3)) := by
  rw [values_ref]
  unfold outsAt0
  frame_out
  refine sixV (fun y => padded (fun n l => val_main_v101 (F := Ideal) (A0 m c) (A3 m c) (A4 m c) (ix4 (seqOf t) (y 1) n l)) (y 2) (y 3)) _ _ _ _ _ _ _ _ _ _ _ _ (fun x => ?_) (fun x => ?_) (fun x => ?_) (fun x => ?_) (fun x => ?_) (fun x => ?_) y
  · exact (zero104' x).trans (padded_out _ _ (Or.inr (by show 271 ≤ 272 + (x 2).val; omega)) _).symm
  · rw [pay41_eq]
    exact midV (fun n l => val_main_v101 (F := Ideal) (A0 m c) (A3 m c) (A4 m c) (ix4 (seqOf t) 1 n l)) _ _ (fun x => pay59_at _ x)
      (fun n l => vrow _ _ _ _ (seqOf t) 1 (valuesAcc m c t) h0 h3 h4 _ (fun n e => pay36_at _ _ _) n l) x _ rfl
  · exact (zero16' x).trans (padded_out _ _ (Or.inl (by have : (x 2).val < 16 := (x 2).isLt; show 0 + (x 2).val < 16; omega)) _).symm
  · exact (zero104 x).trans (padded_out _ _ (Or.inr (by show 271 ≤ 272 + (x 2).val; omega)) _).symm
  · rw [pay38_eq]
    exact midV (fun n l => val_main_v101 (F := Ideal) (A0 m c) (A3 m c) (A4 m c) (ix4 (seqOf t) 0 n l)) _ _ (fun x => pay52_at _ x)
      (fun n l => vrow _ _ _ _ (seqOf t) 0 (valuesAcc m c t) h0 h3 h4 _ (fun n e => pay35_at _ _ _) n l) x _ rfl
  · exact (zero16 x).trans (padded_out _ _ (Or.inl (by have : (x 2).val < 16 := (x 2).isLt; show 0 + (x 2).val < 16; omega)) _).symm

/-- The keys the launch leaves. -/
theorem final5 (c : Dev nD) (h0 : AllReal (A0 m c)) (h1 : AllReal (A1 m c)) (h2 : AllReal (A2 m c)) :
    (dats m 0 c).arrAt 5 cfg0.N = val_main_v106 (F := Ideal) (A0 m c) (A1 m c) (A2 m c) (A5 m c) := by
  refine (dats m 0 c).arrAt_eq_of_covers 5 _ (by decide +kernel) fun t _ y => ?_
  blk_simp
  rw [after0_5]
  refine (ks_at m c t h0 h1 h2 y).trans ?_
  generalize val_main_v106 (F := Ideal) (A0 m c) (A1 m c) (A2 m c) (A5 m c) = f
  blk_ext [idx t]

/-- The values the launch leaves. -/
theorem final6 (c : Dev nD) (h0 : AllReal (A0 m c)) (h3 : AllReal (A3 m c)) (h4 : AllReal (A4 m c)) :
    (dats m 0 c).arrAt 6 cfg0.N = val_main_v109 (F := Ideal) (A0 m c) (A3 m c) (A4 m c) := by
  refine (dats m 0 c).arrAt_eq_of_covers 6 _ (by decide +kernel) fun t _ y => ?_
  blk_simp
  rw [after0_6]
  refine (vs_at m c t h0 h3 h4 y).trans ?_
  generalize val_main_v109 (F := Ideal) (A0 m c) (A3 m c) (A4 m c) = f
  blk_ext [idx t]

end Cert.CmpPIdeal.Compress
-- ==== Proof.CmpI.lean ====
/- What the precondition of the compression says of an entry. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

public import proofs.«01_k».proof.Defs
public import Idealize.ShloMosaic.Lib.ReduceAll
public import proofs.«01_k».proof.Proof.CmpD

@[expose] public section

set_option maxRecDepth 16384

noncomputable section

open Idealize.ShloMosaic Idealize.ShloMosaic.TcCoe Idealize.SL.Sem
open Idealize.ShloMosaic.Pipeline (Dat)

namespace Cert.CmpPIdeal.Compress

open Cert.CmpPIdeal Cert.CmpPIdeal.Gen
open Cert.CmpPRefIdeal.Read
open Idealize.ShloMosaic.WordCmp

instance : Subsingleton Cert.Pre_finite_rows.S_.Idx := ⟨fun a b => funext fun x => x.elim0⟩

/-- A number whose absolute value is below the infinite one is real. -/
theorem real_of_lt (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  induction x with
  | bot => exact absurd h (by simp [Ideal.cmp])
  | top => exact absurd h (by simp [Ideal.cmp])
  | coe r => exact ⟨r, rfl⟩

variable [Cert.Pre_finite_rows.Facts]

/-- What the precondition says of the arguments. -/
theorem finite_of (a0 : FVec Ideal Cert.Pre_finite_rows.S32768x128 .f32) (a1 : FVec Ideal Cert.Pre_finite_rows.S1x32x128x128 .f32) (a2 : FVec Ideal Cert.Pre_finite_rows.S1x32x128 .f32) (a3 : FVec Ideal Cert.Pre_finite_rows.S1x32x128x128 .f32) (a4 : FVec Ideal Cert.Pre_finite_rows.S1x32x128 .f32) (a5)
    (h : Cert.Pre_finite_rows.fn (F := Ideal) a0 a1 a2 a3 a4 a5 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r) := by
  have h := congrFun h (fun a => a.elim0)
  dsimp only [Cert.Pre_finite_rows.fn, Cert.Pre_finite_rows.fn_part1] at h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨fun i => real_of_lt _ (Host.reduce_andi_all _ _ _ _ _ e0 i), fun i => real_of_lt _ (Host.reduce_andi_all _ _ _ _ _ e1 i), fun i => real_of_lt _ (Host.reduce_andi_all _ _ _ _ _ e2 i),
    fun i => real_of_lt _ (Host.reduce_andi_all _ _ _ _ _ e3 i), fun i => real_of_lt _ (Host.reduce_andi_all _ _ _ _ _ e4 i)⟩

end Cert.CmpPIdeal.Compress
-- ==== Proof.CmpL.lean ====
/- The run of the reference's compression. -/
module

public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Read
public import proofs.«01_k».proof.Proof.Held
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpPRefIdeal.Claims

open Cert.CmpPRefIdeal Cert.CmpPRefIdeal.Read

/-- What the reference leaves: its results are its last stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106) = val_main_v106 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v109) = val_main_v109 (F := Ideal) (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v106_eq m c), (h c).2.1.trans (val_main_v109_eq _ _ _), (h c).2.2⟩)
    (Cert.CmpPRefIdeal.Value.run m ρ)

/-- The same, of arguments given another name. -/
theorem run_at (m : (ℓ : Loc nD τ sig) → Buf (Elt Ideal) ℓ) (ρ : Dev nD → PrngReg)
    (a0 : (c : Dev nD) → Buf (Elt Ideal) ((c.tc : Thread nD τ).loc main_arg0))
    (a1 : (c : Dev nD) → Buf (Elt Ideal) ((c.tc : Thread nD τ).loc main_arg1))
    (a2 : (c : Dev nD) → Buf (Elt Ideal) ((c.tc : Thread nD τ).loc main_arg2))
    (a3 : (c : Dev nD) → Buf (Elt Ideal) ((c.tc : Thread nD τ).loc main_arg3))
    (a4 : (c : Dev nD) → Buf (Elt Ideal) ((c.tc : Thread nD τ).loc main_arg4))
    (a5 : (c : Dev nD) → Buf (Elt Ideal) ((c.tc : Thread nD τ).loc main_arg5))
    (e : ∀ c : Dev nD, m ((c.tc : Thread nD τ).loc main_arg0) = a0 c ∧ m ((c.tc : Thread nD τ).loc main_arg1) = a1 c ∧ m ((c.tc : Thread nD τ).loc main_arg2) = a2 c ∧ m ((c.tc : Thread nD τ).loc main_arg3) = a3 c ∧ m ((c.tc : Thread nD τ).loc main_arg4) = a4 c ∧ m ((c.tc : Thread nD τ).loc main_arg5) = a5 c) :
    θ_run defs (onTc (τ := τ) (main (F := Ideal))) ⟨m, fun _ => 0, ρ⟩ fun r => ∀ c : Dev nD,
      r.2.mem ((c.tc : Thread nD τ).loc main_v106) = val_main_v106 (F := Ideal) (a0 c) (a1 c) (a2 c) (a5 c)
      ∧ r.2.mem ((c.tc : Thread nD τ).loc main_v109) = val_main_v109 (F := Ideal) (a0 c) (a3 c) (a4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨e0, e1, e2, e3, e4, e5⟩ := e c
    rw [← e0, ← e1, ← e2, ← e3, ← e4, ← e5]
    exact h c) (run m ρ)

end Cert.CmpPRefIdeal.Claims

end
-- ==== Proof.MergePrompt.lean ====
/- The gated merge of the prompt group: its result array as the reference's value. -/
module

public import proofs.«01_k».proof.Proof.Gen.MergePIdeal
public import proofs.«01_k».proof.Proof.Gen.MergePIdeal.Frame
public import proofs.«01_k».proof.Proof.Gen.MergePRefIdeal
public import proofs.«01_k».proof.Proof.Gen.MergePRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergePIdeal.MergePrompt

open Cert.MergePIdeal Cert.MergePIdeal.Gen
open Cert.MergePRefIdeal.Read

variable (m : (ℓ : Loc nD τ sig) → Buf (Elt Ideal) ℓ)

/-- Where each window sits at point `t`. -/
theorem idx : ∀ t : Fin cfg0.N,
    win0_0.index t = ![t.val / 4, 0]
    ∧ win0_1.index t = ![t.val / 4, 0]
    ∧ win0_2.index t = ![t.val / 4, 0]
    ∧ win0_3.index t = ![t.val % 4, 0]
    ∧ win0_4.index t = ![t.val % 4, 0]
    ∧ win0_5.index t = ![0, t.val % 4]
    ∧ win0_6.index t = ![0, t.val % 4]
    ∧ win0_7.index t = ![t.val / 4, t.val % 4] ∧ t.val < 64 :=
  (by decide +kernel : ∀ t : Fin grid0.N, _)

/-- The block of the second branch's rows at point `t`, read off the flattened argument. -/
theorem rows (c : Dev nD) (t : Fin cfg0.N) (y : S512x1024.Idx) :
    (iblk m c 2 t : Vec Ideal S512x1024 .bf16) y = val_main_v9 (F := Ideal) (m ((c : Thread nD τ).loc main_arg2))
      (ix2 ⟨t.val / 4 * 512 + (y 0).val, by
        have := (idx t).2.2.2.2.2.2.2.2; have : (y 0).val < 512 := (y 0).isLt; omega⟩ (y 1)) := by
  blk_simp [iblk]
  entry_read
  show (shapeCast S8192x1024 _ _ : Vec Ideal S8192x1024 .bf16) _ = (shapeCast S8192x1024 _ _ : Vec Ideal S8192x1024 .bf16) _
  blk_ext [idx t]

/-- The merged branches: each gate's logistic of `h` times its weights, times its branch's projection, added. -/
theorem final7 (c : Dev nD) : (dats m 0 c).arrAt 7 (cfgs 0).N
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  unfold_payloads
  pointwise [rows, zero_sub, val_main_v29, val_main_v28, val_main_v27, val_main_v26, val_main_v25, val_main_v24, val_main_cst_2, val_main_v23, val_main_v22, val_main_cst_1, val_main_v21, val_main_v20, val_main_v19, val_main_v18, val_main_v17, val_main_v16, val_main_v15, val_main_cst_0, val_main_v14, val_main_v13, val_main_cst, val_main_v12, val_main_v11, val_main_v10, val_main_v8, val_main_v7, val_main_v6, val_main_v5, val_main_v3, val_main_v2, val_main_v1, val_main_v0]
  blk_point [iblk, V, idx t]

end Cert.MergePIdeal.MergePrompt

end
-- ==== Proof.OutPrompt.lean ====
/- The output projection of the prompt group: its two result arrays as the reference's values. -/
module

public import proofs.«01_k».proof.Proof.Gen.OutPIdeal
public import proofs.«01_k».proof.Proof.Gen.OutPIdeal.Frame
public import proofs.«01_k».proof.Proof.Gen.OutPRefIdeal
public import proofs.«01_k».proof.Proof.Gen.OutPRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutPIdeal.OutPrompt

open Cert.OutPIdeal Cert.OutPIdeal.Gen
open Cert.OutPRefIdeal.Read

variable (m : (ℓ : Loc nD τ sig) → Buf (Elt Ideal) ℓ)

/-- Where each window sits at point `t`. -/
theorem idx : ∀ t : Fin cfg0.N,
    win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] ∧ t.val < 16 :=
  (by decide +kernel : ∀ t : Fin grid0.N, _)

/-- The block of the input rows at point `t`, read off the flattened argument. -/
theorem rows (c : Dev nD) (t : Fin cfg0.N) (y : S512x2048.Idx) :
    (iblk m c 0 t : Vec Ideal S512x2048 .f32) y = val_main_v0 (F := Ideal) (m ((c : Thread nD τ).loc main_arg0))
      (ix2 ⟨t.val * 512 + (y 0).val, by
        have := (idx t).2.2.2.2.2.2; have : (y 0).val < 512 := (y 0).isLt; omega⟩ (y 1)) := by
  blk_simp [iblk]
  entry_read
  blk_ext [idx t]

/-- The residual stream: the input rows plus the merged branches times the output weights. -/
theorem final4 (c : Dev nD) : (dats m 0 c).arrAt 4 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  unfold_payloads
  pointwise [rows, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1]
  blk_point [iblk, V, idx t]

/-- Its root-mean-square normalisation, narrowed. -/
theorem final5 (c : Dev nD) : (dats m 0 c).arrAt 5 (cfgs 0).N
    = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  unfold_payloads
  pointwise [rows, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1]
  blk_point [iblk, V, idx t]

end Cert.OutPIdeal.OutPrompt

end
-- ==== Proof.FfnPrompt.lean ====
/- The feed-forward block of the prompt group: its result array as the reference's value. -/
module

public import proofs.«01_k».proof.Proof.Gen.FfnPIdeal
public import proofs.«01_k».proof.Proof.Gen.FfnPIdeal.Frame
public import proofs.«01_k».proof.Proof.Gen.FfnPRefIdeal
public import proofs.«01_k».proof.Proof.Gen.FfnPRefIdeal.Read
public import proofs.«01_k».proof.Proof.RunSum
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnPIdeal.FfnPrompt

open Cert.FfnPIdeal Cert.FfnPIdeal.Gen
open Cert.FfnPRefIdeal.Read

variable (m : (ℓ : Loc nD τ sig) → Buf (Elt Ideal) ℓ)

/-- Where each window sits at point `t`. -/
theorem idx : ∀ t : Fin cfg0.N,
    win0_0.index t = ![t.val / 8, 0]
    ∧ win0_1.index t = ![t.val / 8, 0]
    ∧ win0_2.index t = ![0, t.val % 8]
    ∧ win0_3.index t = ![t.val % 8, 0]
    ∧ win0_4.index t = ![t.val / 8, 0] ∧ t.val < 128 :=
  (by decide +kernel : ∀ t : Fin grid0.N, _)

/-- One point's contribution to the block of the result: 1024 hidden channels, squared after clipping at zero, times
    their rows of the second weights, on top of what the block held. -/
theorem pay_at (x2 : Vec Ideal S2048x1024 .bf16) (x3 : Vec Ideal S1024x2048 .bf16) (x0 : Vec Ideal S512x2048 .bf16)
    (acc : Vec Ideal S512x2048 .f32) (j : S512x2048.Idx) :
    k0_pay1 (F := Ideal) x2 x3 x0 acc j = acc j + ∑ k : Fin 1024,
      max (∑ l : Fin 2048, x0 (ix2 (j 0) l) * x2 (ix2 l k)) 0 * max (∑ l : Fin 2048, x0 (ix2 (j 0) l) * x2 (ix2 l k)) 0
        * x3 (ix2 k (j 1)) := by
  pointwise [k0_pay1]

/-- The residual stream plus the feed-forward block's product. -/
theorem final4 (c : Dev nD) : (dats m 0 c).arrAt 4 (cfgs 0).N
    = val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, Cert.RunSum.start_add_sum (fun n h => outsAt0 m c n h) 8
    (fun t => (iblk m c 1 t : Vec Ideal S512x2048 .f32)) _
    (fun t h j => by rw [outsAt0_A m c t h]; frame_out; rw [pay_at])
    (fun t h j => by rw [outsAt0_B m c t h]; frame_out; rw [pay_at])
    t ((flush0_4 t).mp hf) _]
  pointwise [val_main_v7, val_main_v6, val_main_v5, val_main_v4, val_main_call0_v0, val_main_call0_cst, val_main_v3, val_main_v2, val_main_v1, val_main_v0]
  show (_ : EReal) = _
  congr 1
  · blk_point [iblk, V, idx t, idx ⟨8 * (t.val / 8), Nat.lt_of_le_of_lt (Nat.mul_div_le _ _) t.isLt⟩]
  refine Fin.sum_mul_add_congr fun s k hl => ?_
  blk_point [iblk, V, idx t, idx ⟨_, Pipeline.run_point_lt_of_flush t ((flush0_4 t).mp hf) s⟩]

end Cert.FfnPIdeal.FfnPrompt

end
-- ==== Proof.InSRun0.lean ====
/- The input projection of the sample rows: its body at the first column tile: the row statistics, the normalised rows kept for the later tiles, and the first half of the gated units, and the tile of weights cast. -/
module

public import proofs.«01_k».proof.InSIdeal
public import proofs.«01_k».proof.Proof.Gen.InSIdeal.Frame
public import proofs.«01_k».proof.Proof.Gen.InSIdeal.Skeleton

@[expose] public section

set_option maxRecDepth 16384

noncomputable section

namespace Cert.InSIdeal.Body

open Idealize.ShloMosaic Idealize.ShloMosaic.TcCoe Idealize.ShloMosaic.Tactic
open Cert.InSIdeal Cert.InSIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first column tile: the row statistics, the normalised rows kept for the later tiles, and the first half of the gated units, and the tile of weights cast: what its stores leave in each buffer it writes, as
    pieces (last first), with the proof that it runs to the continuation holding what it read as it was. -/
noncomputable def run0 (c : Dev nD) (i : grid0.Coords) (arg2 : Memref sig .tc .vmem S128x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x2048 .bf16) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S128x256 .f32) (harg16 : arg16.IsWhole) (arg17 : Memref sig .tc .vmem S1024x2048 .bf16) (harg17 : arg17.IsWhole) (arg18 : Memref sig .tc .vmem S128x2048 .bf16) (harg18 : arg18.IsWhole) (arg19 : Memref sig .tc .vmem S128x1024 .f32) (harg19 : arg19.IsWhole)
    (hc0 : k0_cond1 i = 1#1) (hc1 : ¬ k0_cond2 i = 1#1) (hc2 : ¬ k0_cond3 i = 1#1) (hc3 : ¬ k0_cond4 i = 1#1) (hc4 : ¬ k0_cond5 i = 1#1)
    (x2 : Vec F S128x2048 .f32) (x3 : Vec F S1x2048 .f32) (x4 : Vec F S1024x2048 .f32) :
    Σ' (L9 : List (View.Piece (Elt F) S128x2048 .bf16)), Σ' (L17 : List (View.Piece (Elt F) S1024x2048 .bf16)), Σ' (L18 : List (View.Piece (Elt F) S128x2048 .bf16)), { L19 : List (View.Piece (Elt F) S128x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg9 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ (∃ f, arg9.view.loc (c : Thread nD τ) ↦[arg9.view.set]{fullShare} arg9.view.writes (Elt F) f L9) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0_inproj_eq_skeleton]; unfold cc0_inproj_skel
    unfold owns
    iintro ⟨⟨%f2, %hf2, H2⟩, ⟨%f3, %hf3, H3⟩, ⟨%f4, %hf4, H4⟩, ⟨%d9, %f9, -, H9⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H9]; · iexists _; iexact H9
    isplitl [H17]; · iexists _; iexact H17
    isplitl [H18]; · iexists _; iexact H18
    iexists _; iexact H19

end Cert.InSIdeal.Body

end
-- ==== Proof.InSRun1.lean ====
/- The input projection of the sample rows: its body at the second column tile: the second half of the gated units, normalised, and their affine mix, and the tile of weights cast. -/
module

public import proofs.«01_k».proof.InSIdeal
public import proofs.«01_k».proof.Proof.Gen.InSIdeal.Frame
public import proofs.«01_k».proof.Proof.Gen.InSIdeal.Skeleton

@[expose] public section

set_option maxRecDepth 16384

noncomputable section

namespace Cert.InSIdeal.Body

open Idealize.ShloMosaic Idealize.ShloMosaic.TcCoe Idealize.ShloMosaic.Tactic
open Cert.InSIdeal Cert.InSIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second column tile: the second half of the gated units, normalised, and their affine mix, and the tile of weights cast: what its stores leave in each buffer it writes, as
    pieces (last first), with the proof that it runs to the continuation holding what it read as it was. -/
noncomputable def run1 (c : Dev nD) (i : grid0.Coords) (arg2 : Memref sig .tc .vmem S128x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x2048 .bf16) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S128x256 .f32) (harg16 : arg16.IsWhole) (arg17 : Memref sig .tc .vmem S1024x2048 .bf16) (harg17 : arg17.IsWhole) (arg18 : Memref sig .tc .vmem S128x2048 .bf16) (harg18 : arg18.IsWhole) (arg19 : Memref sig .tc .vmem S128x1024 .f32) (harg19 : arg19.IsWhole)
    (hc0 : ¬ k0_cond1 i = 1#1) (hc1 : k0_cond2 i = 1#1) (hc2 : ¬ k0_cond3 i = 1#1) (hc3 : ¬ k0_cond4 i = 1#1) (hc4 : ¬ k0_cond5 i = 1#1)
    (x4 : Vec F S1024x2048 .f32) (x5 : Vec F S1x1024 .f32) (x7 : Vec F S1x1024 .f32) (x8 : Vec F S1x1024 .f32) (x18 : Vec F S128x2048 .bf16) (x19 : Vec F S128x1024 .f32) :
    Σ' (L10 : List (View.Piece (Elt F) S128x1024 .f32)), Σ' (L11 : List (View.Piece (Elt F) S128x1024 .bf16)), { L17 : List (View.Piece (Elt F) S1024x2048 .bf16) //
      ∀ (E : Set ℕ) (K : PUnit → sProp 𝕄),
        iprop(owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg18 fullShare x18 ∗ owns (c : Thread nD τ) arg19 fullShare x19 ∗ (∃ d, owns (c : Thread nD τ) arg10 fullShare d) ∗ (∃ d, owns (c : Thread nD τ) arg11 fullShare d) ∗ (∃ d, owns (c : Thread nD τ) arg17 fullShare d)
            ∗ (iprop(owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg18 fullShare x18 ∗ owns (c : Thread nD τ) arg19 fullShare x19 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg17.view.loc (c : Thread nD τ) ↦[arg17.view.set]{fullShare} arg17.view.writes (Elt F) f L17)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_inproj_eq_skeleton]; unfold cc0_inproj_skel
    unfold owns
    iintro ⟨⟨%f4, %hf4, H4⟩, ⟨%f5, %hf5, H5⟩, ⟨%f7, %hf7, H7⟩, ⟨%f8, %hf8, H8⟩, ⟨%f18, %hf18, H18⟩, ⟨%f19, %hf19, H19⟩, ⟨%d10, %f10, -, H10⟩, ⟨%d11, %f11, -, H11⟩, ⟨%d17, %f17, -, H17⟩, Hk⟩
    obtain rfl := harg4.eq_unread hf4; obtain rfl := harg5.eq_unread hf5; obtain rfl := harg7.eq_unread hf7; obtain rfl := harg8.eq_unread hf8; obtain rfl := harg18.eq_unread hf18; obtain rfl := harg19.eq_unread hf19
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H18]
    · iexists _; isplitr; · ipureintro; exact harg18.read_unread _
      iexact H18
    isplitl [H19]
    · iexists _; isplitr; · ipureintro; exact harg19.read_unread _
      iexact H19
    isplitl [H10]; · iexists _; iexact H10
    isplitl [H11]; · iexists _; iexact H11
    iexists _; iexact H17

end Cert.InSIdeal.Body

end
-- ==== Proof.InSRun2.lean ====
/- The input projection of the sample rows: its body at the third column tile: the query heads, and the tile of weights cast. -/
module

public import proofs.«01_k».proof.InSIdeal
public import proofs.«01_k».proof.Proof.Gen.InSIdeal.Frame
public import proofs.«01_k».proof.Proof.Gen.InSIdeal.Skeleton

@[expose] public section

set_option maxRecDepth 16384

noncomputable section

namespace Cert.InSIdeal.Body

open Idealize.ShloMosaic Idealize.ShloMosaic.TcCoe Idealize.ShloMosaic.Tactic
open Cert.InSIdeal Cert.InSIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the third column tile: the query heads, and the tile of weights cast: what its stores leave in each buffer it writes, as
    pieces (last first), with the proof that it runs to the continuation holding what it read as it was. -/
noncomputable def run2 (c : Dev nD) (i : grid0.Coords) (arg2 : Memref sig .tc .vmem S128x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x2048 .bf16) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S128x256 .f32) (harg16 : arg16.IsWhole) (arg17 : Memref sig .tc .vmem S1024x2048 .bf16) (harg17 : arg17.IsWhole) (arg18 : Memref sig .tc .vmem S128x2048 .bf16) (harg18 : arg18.IsWhole) (arg19 : Memref sig .tc .vmem S128x1024 .f32) (harg19 : arg19.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (x4 : Vec F S1024x2048 .f32) (x6 : Vec F S1x128 .f32) (x18 : Vec F S128x2048 .bf16) :
    Σ' (L12 : List (View.Piece (Elt F) S128x1024 .bf16)), { L17 : List (View.Piece (Elt F) S1024x2048 .bf16) //
      ∀ (E : Set ℕ) (K : PUnit → sProp 𝕄),
        iprop(owns (c : Thread nD τ) arg4 fullShare x4 ∗ owns (c : Thread nD τ) arg6 fullShare x6 ∗ owns (c : Thread nD τ) arg18 fullShare x18 ∗ (∃ d, owns (c : Thread nD τ) arg12 fullShare d) ∗ (∃ d, owns (c : Thread nD τ) arg17 fullShare d)
            ∗ (iprop(owns (c : Thread nD τ) arg4 fullShare x4 ∗ owns (c : Thread nD τ) arg6 fullShare x6 ∗ owns (c : Thread nD τ) arg18 fullShare x18 ∗ (∃ f, arg12.view.loc (c : Thread nD τ) ↦[arg12.view.set]{fullShare} arg12.view.writes (Elt F) f L12) ∗ (∃ f, arg17.view.loc (c : Thread nD τ) ↦[arg17.view.set]{fullShare} arg17.view.writes (Elt F) f L17)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_inproj_eq_skeleton]; unfold cc0_inproj_skel
    unfold owns
    iintro ⟨⟨%f4, %hf4, H4⟩, ⟨%f6, %hf6, H6⟩, ⟨%f18, %hf18, H18⟩, ⟨%d12, %f12, -, H12⟩, ⟨%d17, %f17, -, H17⟩, Hk⟩
    obtain rfl := harg4.eq_unread hf4; obtain rfl := harg6.eq_unread hf6; obtain rfl := harg18.eq_unread hf18
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H6]
    · iexists _; isplitr; · ipureintro; exact harg6.read_unread _
      iexact H6
    isplitl [H18]
    · iexists _; isplitr; · ipureintro; exact harg18.read_unread _
      iexact H18
    isplitl [H12]; · iexists _; iexact H12
    iexists _; iexact H17

end Cert.InSIdeal.Body

end
-- ==== Proof.InSRun3.lean ====
/- The input projection of the sample rows: its body at the fourth column tile: two of the three stores of keys and values, and the tile of weights cast. -/
module

public import proofs.«01_k».proof.InSIdeal
public import proofs.«01_k».proof.Proof.Gen.InSIdeal.Frame
public import proofs.«01_k».proof.Proof.Gen.InSIdeal.Skeleton

@[expose] public section

set_option maxRecDepth 16384

noncomputable section

namespace Cert.InSIdeal.Body

open Idealize.ShloMosaic Idealize.ShloMosaic.TcCoe Idealize.ShloMosaic.Tactic
open Cert.InSIdeal Cert.InSIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the fourth column tile: two of the three stores of keys and values, and the tile of weights cast: what its stores leave in each buffer it writes, as
    pieces (last first), with the proof that it runs to the continuation holding what it read as it was. -/
noncomputable def run3 (c : Dev nD) (i : grid0.Coords) (arg2 : Memref sig .tc .vmem S128x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x2048 .bf16) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S128x256 .f32) (harg16 : arg16.IsWhole) (arg17 : Memref sig .tc .vmem S1024x2048 .bf16) (harg17 : arg17.IsWhole) (arg18 : Memref sig .tc .vmem S128x2048 .bf16) (harg18 : arg18.IsWhole) (arg19 : Memref sig .tc .vmem S128x1024 .f32) (harg19 : arg19.IsWhole)
    (hc0 : ¬ k0_cond1 i = 1#1) (hc1 : ¬ k0_cond2 i = 1#1) (hc2 : ¬ k0_cond3 i = 1#1) (hc3 : k0_cond4 i = 1#1) (hc4 : ¬ k0_cond5 i = 1#1)
    (x4 : Vec F S1024x2048 .f32) (x18 : Vec F S128x2048 .bf16) :
    Σ' (L13 : List (View.Piece (Elt F) S512x128 .f32)), Σ' (L14 : List (View.Piece (Elt F) S512x128 .f32)), { L17 : List (View.Piece (Elt F) S1024x2048 .bf16) //
      ∀ (E : Set ℕ) (K : PUnit → sProp 𝕄),
        iprop(owns (c : Thread nD τ) arg4 fullShare x4 ∗ owns (c : Thread nD τ) arg18 fullShare x18 ∗ (∃ d, owns (c : Thread nD τ) arg13 fullShare d) ∗ (∃ d, owns (c : Thread nD τ) arg14 fullShare d) ∗ (∃ d, owns (c : Thread nD τ) arg17 fullShare d)
            ∗ (iprop(owns (c : Thread nD τ) arg4 fullShare x4 ∗ owns (c : Thread nD τ) arg18 fullShare x18 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg17.view.loc (c : Thread nD τ) ↦[arg17.view.set]{fullShare} arg17.view.writes (Elt F) f L17)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_inproj_eq_skeleton]; unfold cc0_inproj_skel
    unfold owns
    iintro ⟨⟨%f4, %hf4, H4⟩, ⟨%f18, %hf18, H18⟩, ⟨%d13, %f13, -, H13⟩, ⟨%d14, %f14, -, H14⟩, ⟨%d17, %f17, -, H17⟩, Hk⟩
    obtain rfl := harg4.eq_unread hf4; obtain rfl := harg18.eq_unread hf18
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H18]
    · iexists _; isplitr; · ipureintro; exact harg18.read_unread _
      iexact H18
    isplitl [H13]; · iexists _; iexact H13
    isplitl [H14]; · iexists _; iexact H14
    iexists _; iexact H17

end Cert.InSIdeal.Body

end
-- ==== Proof.InSRun4.lean ====
/- The input projection of the sample rows: its body at the last column tile: the third store of keys and values, and the gates, and the tile of weights cast. -/
module

public import proofs.«01_k».proof.InSIdeal
public import proofs.«01_k».proof.Proof.Gen.InSIdeal.Frame
public import proofs.«01_k».proof.Proof.Gen.InSIdeal.Skeleton

@[expose] public section

set_option maxRecDepth 16384

noncomputable section

namespace Cert.InSIdeal.Body

open Idealize.ShloMosaic Idealize.ShloMosaic.TcCoe Idealize.ShloMosaic.Tactic
open Cert.InSIdeal Cert.InSIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column tile: the third store of keys and values, and the gates, and the tile of weights cast: what its stores leave in each buffer it writes, as
    pieces (last first), with the proof that it runs to the continuation holding what it read as it was. -/
noncomputable def run4 (c : Dev nD) (i : grid0.Coords) (arg2 : Memref sig .tc .vmem S128x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x2048 .bf16) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S128x256 .f32) (harg16 : arg16.IsWhole) (arg17 : Memref sig .tc .vmem S1024x2048 .bf16) (harg17 : arg17.IsWhole) (arg18 : Memref sig .tc .vmem S128x2048 .bf16) (harg18 : arg18.IsWhole) (arg19 : Memref sig .tc .vmem S128x1024 .f32) (harg19 : arg19.IsWhole)
    (hc0 : ¬ k0_cond1 i = 1#1) (hc1 : ¬ k0_cond2 i = 1#1) (hc2 : ¬ k0_cond3 i = 1#1) (hc3 : ¬ k0_cond4 i = 1#1) (hc4 : k0_cond5 i = 1#1)
    (x4 : Vec F S1024x2048 .f32) (x18 : Vec F S128x2048 .bf16) :
    Σ' (L15 : List (View.Piece (Elt F) S512x128 .f32)), Σ' (L16 : List (View.Piece (Elt F) S128x256 .f32)), { L17 : List (View.Piece (Elt F) S1024x2048 .bf16) //
      ∀ (E : Set ℕ) (K : PUnit → sProp 𝕄),
        iprop(owns (c : Thread nD τ) arg4 fullShare x4 ∗ owns (c : Thread nD τ) arg18 fullShare x18 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg4 fullShare x4 ∗ owns (c : Thread nD τ) arg18 fullShare x18 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_inproj_eq_skeleton]; unfold cc0_inproj_skel
    unfold owns
    iintro ⟨⟨%f4, %hf4, H4⟩, ⟨%f18, %hf18, H18⟩, ⟨%d15, %f15, -, H15⟩, ⟨%d16, %f16, -, H16⟩, ⟨%d17, %f17, -, H17⟩, Hk⟩
    obtain rfl := harg4.eq_unread hf4; obtain rfl := harg18.eq_unread hf18
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H18]
    · iexists _; isplitr; · ipureintro; exact harg18.read_unread _
      iexact H18
    isplitl [H15]; · iexists _; iexact H15
    isplitl [H16]; · iexists _; iexact H16
    iexists _; iexact H17

end Cert.InSIdeal.Body

end
-- ==== Proof.InSBody.lean ====
/- The input projection of the sample rows: its five steps put together, every run of it, and its frame. -/
module

public import proofs.«01_k».proof.Proof.Held
public import proofs.«01_k».proof.Proof.InSRun0
public import proofs.«01_k».proof.Proof.InSRun1
public import proofs.«01_k».proof.Proof.InSRun2
public import proofs.«01_k».proof.Proof.InSRun3
public import proofs.«01_k».proof.Proof.InSRun4
public import Idealize.ShloMosaic.Lib.Claim

@[expose] public section

set_option maxRecDepth 16384

noncomputable section

namespace Cert.InSIdeal.Body

open Idealize.ShloMosaic Idealize.ShloMosaic.TcCoe Idealize.ShloMosaic.Tactic
open Cert.InSIdeal Cert.InSIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x2048 .bf16 := win0_15.stage (cfg0.slots t 15)
abbrev hs0_15 (t : Fin cfg0.N) : (ms0_15 t).IsWhole := hstage0_15 ((cfg0.slots t 15).cast nbuf0_15)
abbrev sc0 : Memref sig .tc .vmem S128x2048 .bf16 := Memref.whole cc0_scratch0
abbrev sc1 : Memref sig .tc .vmem S128x1024 .f32 := Memref.whole cc0_scratch1

/-- Step `j` of the row tile point `t` is in. -/
abbrev tile (t : Fin cfg0.N) (j : ℕ) (hj : j < 5) : Fin cfg0.N :=
  ⟨5 * (t.val / 5) + j, by have h : t.val < 5 := Nat.lt_of_lt_of_eq t.isLt N_0; show _ < grid0.N; rw [N_0]; omega⟩

theorem tile_mod (t : Fin cfg0.N) (j : ℕ) (hj : j < 5) : (tile t j hj).val % 5 = j := by simp only; omega

theorem tile_self (t : Fin cfg0.N) (j : ℕ) (hj : j < 5) (h : t.val % 5 = j) : tile t j hj = t := Fin.ext (by simp only; omega)

theorem at_congr {α : Sort _} {j : ℕ} (f : (p : Fin cfg0.N) → p.val % 5 = j → α) {p q : Fin cfg0.N} (e : p = q)
    (hp : p.val % 5 = j) (hq : q.val % 5 = j) : f p hp = f q hq := by subst e; rfl

theorem at_tile {α : Sort _} {j : ℕ} (hj : j < 5) (f : (p : Fin cfg0.N) → p.val % 5 = j → α) (t : Fin cfg0.N) (h : t.val % 5 = j) :
    f (tile t j hj) (tile_mod t j hj) = f t h := at_congr f (tile_self t j hj h) _ _

theorem cond0 (t : Fin cfg0.N) : k0_cond1 (grid0.coords t) = 1#1 ↔ t.val % 5 = 0 := by
  have ht := Nat.lt_of_lt_of_eq t.isLt N_0
  have e1 : (grid0.coords t 1).val = t.val / 1 % 5 := Pipeline.Grid.coords_val t 1 (by decide) rfl
  simp only [k0_cond1, e1]
  word_cmp

theorem cond1 (t : Fin cfg0.N) : k0_cond2 (grid0.coords t) = 1#1 ↔ t.val % 5 = 1 := by
  have ht := Nat.lt_of_lt_of_eq t.isLt N_0
  have e1 : (grid0.coords t 1).val = t.val / 1 % 5 := Pipeline.Grid.coords_val t 1 (by decide) rfl
  simp only [k0_cond2, e1]
  word_cmp

theorem cond2 (t : Fin cfg0.N) : k0_cond3 (grid0.coords t) = 1#1 ↔ t.val % 5 = 2 := by
  have ht := Nat.lt_of_lt_of_eq t.isLt N_0
  have e1 : (grid0.coords t 1).val = t.val / 1 % 5 := Pipeline.Grid.coords_val t 1 (by decide) rfl
  simp only [k0_cond3, e1]
  word_cmp

theorem cond3 (t : Fin cfg0.N) : k0_cond4 (grid0.coords t) = 1#1 ↔ t.val % 5 = 3 := by
  have ht := Nat.lt_of_lt_of_eq t.isLt N_0
  have e1 : (grid0.coords t 1).val = t.val / 1 % 5 := Pipeline.Grid.coords_val t 1 (by decide) rfl
  simp only [k0_cond4, e1]
  word_cmp

theorem cond4 (t : Fin cfg0.N) : k0_cond5 (grid0.coords t) = 1#1 ↔ t.val % 5 = 4 := by
  have ht := Nat.lt_of_lt_of_eq t.isLt N_0
  have e1 : (grid0.coords t 1).val = t.val / 1 % 5 := Pipeline.Grid.coords_val t 1 (by decide) rfl
  simp only [k0_cond5, e1]
  word_cmp

/-- Step 0 at its point, on what it finds there. -/
abbrev R0 (c : Dev nD) (t : Fin cfg0.N) (h : t.val % 5 = 0) :=
  run0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) sc0 (Memref.isWhole_whole _) sc1 (Memref.isWhole_whole _)
    ((cond0 t).mpr h) (fun e => absurd ((cond1 t).mp e) (by omega)) (fun e => absurd ((cond2 t).mp e) (by omega)) (fun e => absurd ((cond3 t).mp e) (by omega)) (fun e => absurd ((cond4 t).mp e) (by omega))
    (iblk m c 0 t) (iblk m c 1 t) (X0_2 m c t)

theorem hOut_cover (c : Dev nD) (t : Fin cfg0.N) (h : t.val % 5 = 0) (y : S128x2048.Idx) :
    ∃ p ∈ (R0 m c t h).1, y ∈ p.1.set :=
  View.cover_of_tiledL _ (![128, 2048]) (by sl_kernel_rfl) y

/-- The normalised rows, as a result. -/
def hOut (c : Dev nD) (t : Fin cfg0.N) (h : t.val % 5 = 0) : Vec F S128x2048 .bf16 := View.canon (R0 m c t h).1

theorem wTile0_cover (c : Dev nD) (t : Fin cfg0.N) (h : t.val % 5 = 0) (y : S1024x2048.Idx) :
    ∃ p ∈ (R0 m c t h).2.1, y ∈ p.1.set :=
  View.cover_of_tiledL _ (![512, 2048]) (by sl_kernel_rfl) y

/-- The tile of weights, cast. -/
def wTile0 (c : Dev nD) (t : Fin cfg0.N) (h : t.val % 5 = 0) : Vec F S1024x2048 .bf16 := View.canon (R0 m c t h).2.1

theorem hTile_cover (c : Dev nD) (t : Fin cfg0.N) (h : t.val % 5 = 0) (y : S128x2048.Idx) :
    ∃ p ∈ (R0 m c t h).2.2.1, y ∈ p.1.set :=
  View.cover_of_tiledL _ (![128, 2048]) (by sl_kernel_rfl) y

/-- The normalised rows, kept for the later steps. -/
def hTile (c : Dev nD) (t : Fin cfg0.N) (h : t.val % 5 = 0) : Vec F S128x2048 .bf16 := View.canon (R0 m c t h).2.2.1

theorem uTile_cover (c : Dev nD) (t : Fin cfg0.N) (h : t.val % 5 = 0) (y : S128x1024.Idx) :
    ∃ p ∈ (R0 m c t h).2.2.2.1, y ∈ p.1.set :=
  View.cover_of_tiledL _ (![128, 512]) (by sl_kernel_rfl) y

/-- The first half of the gated units, kept for the next step. -/
def uTile (c : Dev nD) (t : Fin cfg0.N) (h : t.val % 5 = 0) : Vec F S128x1024 .f32 := View.canon (R0 m c t h).2.2.2.1

/-- Step 1 at its point, on what it finds there. -/
abbrev R1 (c : Dev nD) (t : Fin cfg0.N) (h : t.val % 5 = 1) :=
  run1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) sc0 (Memref.isWhole_whole _) sc1 (Memref.isWhole_whole _)
    (fun e => absurd ((cond0 t).mp e) (by omega)) ((cond1 t).mpr h) (fun e => absurd ((cond2 t).mp e) (by omega)) (fun e => absurd ((cond3 t).mp e) (by omega)) (fun e => absurd ((cond4 t).mp e) (by omega))
    (X0_2 m c t) (iblk m c 3 t) (iblk m c 5 t) (iblk m c 6 t) (hTile m c (tile t 0 (by decide)) (tile_mod t 0 (by decide))) (uTile m c (tile t 0 (by decide)) (tile_mod t 0 (by decide)))

theorem vOut_cover (c : Dev nD) (t : Fin cfg0.N) (h : t.val % 5 = 1) (y : S128x1024.Idx) :
    ∃ p ∈ (R1 m c t h).1, y ∈ p.1.set :=
  View.cover_of_tiledL _ (![128, 512]) (by sl_kernel_rfl) y

/-- The second half of the gated units, normalised. -/
def vOut (c : Dev nD) (t : Fin cfg0.N) (h : t.val % 5 = 1) : Vec F S128x1024 .f32 := View.canon (R1 m c t h).1

theorem oaOut_cover (c : Dev nD) (t : Fin cfg0.N) (h : t.val % 5 = 1) (y : S128x1024.Idx) :
    ∃ p ∈ (R1 m c t h).2.1, y ∈ p.1.set :=
  View.cover_of_tiledL _ (![128, 512]) (by sl_kernel_rfl) y

/-- The two halves mixed. -/
def oaOut (c : Dev nD) (t : Fin cfg0.N) (h : t.val % 5 = 1) : Vec F S128x1024 .bf16 := View.canon (R1 m c t h).2.1

theorem wTile1_cover (c : Dev nD) (t : Fin cfg0.N) (h : t.val % 5 = 1) (y : S1024x2048.Idx) :
    ∃ p ∈ (R1 m c t h).2.2.1, y ∈ p.1.set :=
  View.cover_of_tiledL _ (![512, 2048]) (by sl_kernel_rfl) y

/-- The tile of weights, cast. -/
def wTile1 (c : Dev nD) (t : Fin cfg0.N) (h : t.val % 5 = 1) : Vec F S1024x2048 .bf16 := View.canon (R1 m c t h).2.2.1

/-- Step 2 at its point, on what it finds there. -/
abbrev R2 (c : Dev nD) (t : Fin cfg0.N) (h : t.val % 5 = 2) :=
  run2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) sc0 (Memref.isWhole_whole _) sc1 (Memref.isWhole_whole _)
    (fun e => absurd ((cond0 t).mp e) (by omega)) (fun e => absurd ((cond1 t).mp e) (by omega)) ((cond2 t).mpr h) (fun e => absurd ((cond3 t).mp e) (by omega)) (fun e => absurd ((cond4 t).mp e) (by omega))
    (X0_2 m c t) (iblk m c 4 t) (hTile m c (tile t 0 (by decide)) (tile_mod t 0 (by decide)))

theorem qOut_cover (c : Dev nD) (t : Fin cfg0.N) (h : t.val % 5 = 2) (y : S128x1024.Idx) :
    ∃ p ∈ (R2 m c t h).1, y ∈ p.1.set :=
  View.cover_of_tiledL _ (![128, 128]) (by sl_kernel_rfl) y

/-- The query heads. -/
def qOut (c : Dev nD) (t : Fin cfg0.N) (h : t.val % 5 = 2) : Vec F S128x1024 .bf16 := View.canon (R2 m c t h).1

theorem wTile2_cover (c : Dev nD) (t : Fin cfg0.N) (h : t.val % 5 = 2) (y : S1024x2048.Idx) :
    ∃ p ∈ (R2 m c t h).2.1, y ∈ p.1.set :=
  View.cover_of_tiledL _ (![512, 2048]) (by sl_kernel_rfl) y

/-- The tile of weights, cast. -/
def wTile2 (c : Dev nD) (t : Fin cfg0.N) (h : t.val % 5 = 2) : Vec F S1024x2048 .bf16 := View.canon (R2 m c t h).2.1

/-- Step 3 at its point, on what it finds there. -/
abbrev R3 (c : Dev nD) (t : Fin cfg0.N) (h : t.val % 5 = 3) :=
  run3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) sc0 (Memref.isWhole_whole _) sc1 (Memref.isWhole_whole _)
    (fun e => absurd ((cond0 t).mp e) (by omega)) (fun e => absurd ((cond1 t).mp e) (by omega)) (fun e => absurd ((cond2 t).mp e) (by omega)) ((cond3 t).mpr h) (fun e => absurd ((cond4 t).mp e) (by omega))
    (X0_2 m c t) (hTile m c (tile t 0 (by decide)) (tile_mod t 0 (by decide)))

theorem kcOut_cover (c : Dev nD) (t : Fin cfg0.N) (h : t.val % 5 = 3) (y : S512x128.Idx) :
    ∃ p ∈ (R3 m c t h).1, y ∈ p.1.set :=
  Cert.Held.rows_cover 128 128 _ rfl y

/-- Keys and values of the compressed branch. -/
def kcOut (c : Dev nD) (t : Fin cfg0.N) (h : t.val % 5 = 3) : Vec F S512x128 .f32 := View.canon (R3 m c t h).1

theorem ksOut_cover (c : Dev nD) (t : Fin cfg0.N) (h : t.val % 5 = 3) (y : S512x128.Idx) :
    ∃ p ∈ (R3 m c t h).2.1, y ∈ p.1.set :=
  Cert.Held.rows_cover 128 128 _ rfl y

/-- Keys and values of the selected branch. -/
def ksOut (c : Dev nD) (t : Fin cfg0.N) (h : t.val % 5 = 3) : Vec F S512x128 .f32 := View.canon (R3 m c t h).2.1

theorem wTile3_cover (c : Dev nD) (t : Fin cfg0.N) (h : t.val % 5 = 3) (y : S1024x2048.Idx) :
    ∃ p ∈ (R3 m c t h).2.2.1, y ∈ p.1.set :=
  View.cover_of_tiledL _ (![512, 2048]) (by sl_kernel_rfl) y

/-- The tile of weights, cast. -/
def wTile3 (c : Dev nD) (t : Fin cfg0.N) (h : t.val % 5 = 3) : Vec F S1024x2048 .bf16 := View.canon (R3 m c t h).2.2.1

/-- Step 4 at its point, on what it finds there. -/
abbrev R4 (c : Dev nD) (t : Fin cfg0.N) (h : t.val % 5 = 4) :=
  run4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) sc0 (Memref.isWhole_whole _) sc1 (Memref.isWhole_whole _)
    (fun e => absurd ((cond0 t).mp e) (by omega)) (fun e => absurd ((cond1 t).mp e) (by omega)) (fun e => absurd ((cond2 t).mp e) (by omega)) (fun e => absurd ((cond3 t).mp e) (by omega)) ((cond4 t).mpr h)
    (X0_2 m c t) (hTile m c (tile t 0 (by decide)) (tile_mod t 0 (by decide)))

theorem kwOut_cover (c : Dev nD) (t : Fin cfg0.N) (h : t.val % 5 = 4) (y : S512x128.Idx) :
    ∃ p ∈ (R4 m c t h).1, y ∈ p.1.set :=
  Cert.Held.rows_cover 128 128 _ rfl y

/-- Keys and values of the window branch. -/
def kwOut (c : Dev nD) (t : Fin cfg0.N) (h : t.val % 5 = 4) : Vec F S512x128 .f32 := View.canon (R4 m c t h).1

theorem gateOut_cover (c : Dev nD) (t : Fin cfg0.N) (h : t.val % 5 = 4) (y : S128x256.Idx) :
    ∃ p ∈ (R4 m c t h).2.1, y ∈ p.1.set :=
  View.cover_of_tiledL _ (![128, 128]) (by sl_kernel_rfl) y

/-- The gates. -/
def gateOut (c : Dev nD) (t : Fin cfg0.N) (h : t.val % 5 = 4) : Vec F S128x256 .f32 := View.canon (R4 m c t h).2.1

theorem wTile4_cover (c : Dev nD) (t : Fin cfg0.N) (h : t.val % 5 = 4) (y : S1024x2048.Idx) :
    ∃ p ∈ (R4 m c t h).2.2.1, y ∈ p.1.set :=
  View.cover_of_tiledBy _ (![128, 2048]) (by sl_kernel_rfl) y

/-- The tile of weights, cast. -/
def wTile4 (c : Dev nD) (t : Fin cfg0.N) (h : t.val % 5 = 4) : Vec F S1024x2048 .bf16 := View.canon (R4 m c t h).2.2.1

/-- What point `t` leaves of the weights it was given, cast. -/
def wOut (c : Dev nD) (t : Fin cfg0.N) : Vec F S1024x2048 .bf16 :=
  if h : t.val % 5 = 0 then wTile0 m c t h else if h : t.val % 5 = 1 then wTile1 m c t h
  else if h : t.val % 5 = 2 then wTile2 m c t h else if h : t.val % 5 = 3 then wTile3 m c t h
  else wTile4 m c t (by omega)

theorem wOut_0 (c : Dev nD) (t : Fin cfg0.N) (h : t.val % 5 = 0) : wOut m c t = wTile0 m c t h := by
  unfold wOut
  rw [dif_pos h]

theorem wOut_1 (c : Dev nD) (t : Fin cfg0.N) (h : t.val % 5 = 1) : wOut m c t = wTile1 m c t h := by
  unfold wOut
  rw [dif_neg (by omega), dif_pos h]

theorem wOut_2 (c : Dev nD) (t : Fin cfg0.N) (h : t.val % 5 = 2) : wOut m c t = wTile2 m c t h := by
  unfold wOut
  rw [dif_neg (by omega), dif_neg (by omega), dif_pos h]

theorem wOut_3 (c : Dev nD) (t : Fin cfg0.N) (h : t.val % 5 = 3) : wOut m c t = wTile3 m c t h := by
  unfold wOut
  rw [dif_neg (by omega), dif_neg (by omega), dif_neg (by omega), dif_pos h]

theorem wOut_4 (c : Dev nD) (t : Fin cfg0.N) (h : t.val % 5 = 4) : wOut m c t = wTile4 m c t h := by
  unfold wOut
  rw [dif_neg (by omega), dif_neg (by omega), dif_neg (by omega), dif_neg (by omega)]

/-- The invariant before point `n`: inside a row tile the two scratch buffers hold what its first step left. -/
def PhiS (c : Dev nD) (n : ℕ) : sProp 𝕄 :=
  iprop(∃ a b, ⌜∀ t : Fin cfg0.N, t.val = n → t.val % 5 ≠ 0 → a = hTile m c (tile t 0 (by decide)) (tile_mod t 0 (by decide))
      ∧ b = uTile m c (tile t 0 (by decide)) (tile_mod t 0 (by decide))⌝
    ∗ owns (c : Thread nD τ) sc0 fullShare a ∗ owns (c : Thread nD τ) sc1 fullShare b ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => hOut m c (tile t 0 (by decide)) (tile_mod t 0 (by decide))
    | ⟨8, _⟩ => vOut m c (tile t 1 (by decide)) (tile_mod t 1 (by decide))
    | ⟨9, _⟩ => oaOut m c (tile t 1 (by decide)) (tile_mod t 1 (by decide))
    | ⟨10, _⟩ => qOut m c (tile t 2 (by decide)) (tile_mod t 2 (by decide))
    | ⟨11, _⟩ => kcOut m c (tile t 3 (by decide)) (tile_mod t 3 (by decide))
    | ⟨12, _⟩ => ksOut m c (tile t 3 (by decide)) (tile_mod t 3 (by decide))
    | ⟨13, _⟩ => kwOut m c (tile t 4 (by decide)) (tile_mod t 4 (by decide))
    | ⟨14, _⟩ => gateOut m c (tile t 4 (by decide)) (tile_mod t 4 (by decide))
    | ⟨15, _⟩ => wOut m c t
    | ⟨n + 16, h⟩ => absurd (show n + 16 < 16 from h) (by omega)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = hOut m c (tile t 0 (by decide)) (tile_mod t 0 (by decide)) := by dsimp only [dats]
theorem after0_8 (c : Dev nD) (t : Fin cfg0.N) : (dats m 0 c).after 8 t = vOut m c (tile t 1 (by decide)) (tile_mod t 1 (by decide)) := by dsimp only [dats]
theorem after0_9 (c : Dev nD) (t : Fin cfg0.N) : (dats m 0 c).after 9 t = oaOut m c (tile t 1 (by decide)) (tile_mod t 1 (by decide)) := by dsimp only [dats]
theorem after0_10 (c : Dev nD) (t : Fin cfg0.N) : (dats m 0 c).after 10 t = qOut m c (tile t 2 (by decide)) (tile_mod t 2 (by decide)) := by dsimp only [dats]
theorem after0_11 (c : Dev nD) (t : Fin cfg0.N) : (dats m 0 c).after 11 t = kcOut m c (tile t 3 (by decide)) (tile_mod t 3 (by decide)) := by dsimp only [dats]
theorem after0_12 (c : Dev nD) (t : Fin cfg0.N) : (dats m 0 c).after 12 t = ksOut m c (tile t 3 (by decide)) (tile_mod t 3 (by decide)) := by dsimp only [dats]
theorem after0_13 (c : Dev nD) (t : Fin cfg0.N) : (dats m 0 c).after 13 t = kwOut m c (tile t 4 (by decide)) (tile_mod t 4 (by decide)) := by dsimp only [dats]
theorem after0_14 (c : Dev nD) (t : Fin cfg0.N) : (dats m 0 c).after 14 t = gateOut m c (tile t 4 (by decide)) (tile_mod t 4 (by decide)) := by dsimp only [dats]
theorem after0_15 (c : Dev nD) (t : Fin cfg0.N) : (dats m 0 c).after 15 t = wOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem idle0_7 (t : Fin cfg0.N) : cfg0.idle 7 (cfg0.grid.coords t) = true ↔ t.val % 5 ≠ 0 := Cert.Held.idle_of (cond0 t)

theorem hold0_7 (c : Dev nD) (t : Fin cfg0.N) (h : t.val % 5 ≠ 0) :
    iprop(∃ d, owns (c : Thread nD τ) (ms0_7 t) fullShare ((dats m 0 c).before 7 t d)) ⊢ (dats m 0 c).leavesExact 7 t :=
  Cert.Held.leaves_idle (dats m 0 c) 7 0 (by decide) (fun _ => rfl) flush0_7 idle0_7 (fun _ _ => rfl)
    (fun t t' e => by
      rw [after0_7, after0_7]
      exact at_congr (hOut m c) (Fin.ext (by simp only; omega)) _ _) t h

theorem store0_7 (c : Dev nD) (t : Fin cfg0.N) (h : t.val % 5 = 0) :
    iprop(∃ f, (ms0_7 t).view.loc (c : Thread nD τ) ↦[(ms0_7 t).view.set]{fullShare} (ms0_7 t).view.writes (Elt F) f (R0 m c t h).1)
      ⊢ (dats m 0 c).leavesExact 7 t :=
  Cert.Held.leaves_writes (dats m 0 c) 7 0 idle0_7 t h _ (hOut_cover m c t h)
    ((after0_7 m c t).trans (at_tile (by decide) (hOut m c) t h))

theorem idle0_8 (t : Fin cfg0.N) : cfg0.idle 8 (cfg0.grid.coords t) = true ↔ t.val % 5 ≠ 1 := Cert.Held.idle_of (cond1 t)

theorem hold0_8 (c : Dev nD) (t : Fin cfg0.N) (h : t.val % 5 ≠ 1) :
    iprop(∃ d, owns (c : Thread nD τ) (ms0_8 t) fullShare ((dats m 0 c).before 8 t d)) ⊢ (dats m 0 c).leavesExact 8 t :=
  Cert.Held.leaves_idle (dats m 0 c) 8 1 (by decide) (fun _ => rfl) flush0_8 idle0_8 (fun _ _ => rfl)
    (fun t t' e => by
      rw [after0_8, after0_8]
      exact at_congr (vOut m c) (Fin.ext (by simp only; omega)) _ _) t h

theorem store0_8 (c : Dev nD) (t : Fin cfg0.N) (h : t.val % 5 = 1) :
    iprop(∃ f, (ms0_8 t).view.loc (c : Thread nD τ) ↦[(ms0_8 t).view.set]{fullShare} (ms0_8 t).view.writes (Elt F) f (R1 m c t h).1)
      ⊢ (dats m 0 c).leavesExact 8 t :=
  Cert.Held.leaves_writes (dats m 0 c) 8 1 idle0_8 t h _ (vOut_cover m c t h)
    ((after0_8 m c t).trans (at_tile (by decide) (vOut m c) t h))

theorem idle0_9 (t : Fin cfg0.N) : cfg0.idle 9 (cfg0.grid.coords t) = true ↔ t.val % 5 ≠ 1 := Cert.Held.idle_of (cond1 t)

theorem hold0_9 (c : Dev nD) (t : Fin cfg0.N) (h : t.val % 5 ≠ 1) :
    iprop(∃ d, owns (c : Thread nD τ) (ms0_9 t) fullShare ((dats m 0 c).before 9 t d)) ⊢ (dats m 0 c).leavesExact 9 t :=
  Cert.Held.leaves_idle (dats m 0 c) 9 1 (by decide) (fun _ => rfl) flush0_9 idle0_9 (fun _ _ => rfl)
    (fun t t' e => by
      rw [after0_9, after0_9]
      exact at_congr (oaOut m c) (Fin.ext (by simp only; omega)) _ _) t h

theorem store0_9 (c : Dev nD) (t : Fin cfg0.N) (h : t.val % 5 = 1) :
    iprop(∃ f, (ms0_9 t).view.loc (c : Thread nD τ) ↦[(ms0_9 t).view.set]{fullShare} (ms0_9 t).view.writes (Elt F) f (R1 m c t h).2.1)
      ⊢ (dats m 0 c).leavesExact 9 t :=
  Cert.Held.leaves_writes (dats m 0 c) 9 1 idle0_9 t h _ (oaOut_cover m c t h)
    ((after0_9 m c t).trans (at_tile (by decide) (oaOut m c) t h))

theorem idle0_10 (t : Fin cfg0.N) : cfg0.idle 10 (cfg0.grid.coords t) = true ↔ t.val % 5 ≠ 2 := Cert.Held.idle_of (cond2 t)

theorem hold0_10 (c : Dev nD) (t : Fin cfg0.N) (h : t.val % 5 ≠ 2) :
    iprop(∃ d, owns (c : Thread nD τ) (ms0_10 t) fullShare ((dats m 0 c).before 10 t d)) ⊢ (dats m 0 c).leavesExact 10 t :=
  Cert.Held.leaves_idle (dats m 0 c) 10 2 (by decide) (fun _ => rfl) flush0_10 idle0_10 (fun _ _ => rfl)
    (fun t t' e => by
      rw [after0_10, after0_10]
      exact at_congr (qOut m c) (Fin.ext (by simp only; omega)) _ _) t h

theorem store0_10 (c : Dev nD) (t : Fin cfg0.N) (h : t.val % 5 = 2) :
    iprop(∃ f, (ms0_10 t).view.loc (c : Thread nD τ) ↦[(ms0_10 t).view.set]{fullShare} (ms0_10 t).view.writes (Elt F) f (R2 m c t h).1)
      ⊢ (dats m 0 c).leavesExact 10 t :=
  Cert.Held.leaves_writes (dats m 0 c) 10 2 idle0_10 t h _ (qOut_cover m c t h)
    ((after0_10 m c t).trans (at_tile (by decide) (qOut m c) t h))

theorem idle0_11 (t : Fin cfg0.N) : cfg0.idle 11 (cfg0.grid.coords t) = true ↔ t.val % 5 ≠ 3 := Cert.Held.idle_of (cond3 t)

theorem hold0_11 (c : Dev nD) (t : Fin cfg0.N) (h : t.val % 5 ≠ 3) :
    iprop(∃ d, owns (c : Thread nD τ) (ms0_11 t) fullShare ((dats m 0 c).before 11 t d)) ⊢ (dats m 0 c).leavesExact 11 t :=
  Cert.Held.leaves_idle (dats m 0 c) 11 3 (by decide) (fun _ => rfl) flush0_11 idle0_11 (fun _ _ => rfl)
    (fun t t' e => by
      rw [after0_11, after0_11]
      exact at_congr (kcOut m c) (Fin.ext (by simp only; omega)) _ _) t h

theorem store0_11 (c : Dev nD) (t : Fin cfg0.N) (h : t.val % 5 = 3) :
    iprop(∃ f, (ms0_11 t).view.loc (c : Thread nD τ) ↦[(ms0_11 t).view.set]{fullShare} (ms0_11 t).view.writes (Elt F) f (R3 m c t h).1)
      ⊢ (dats m 0 c).leavesExact 11 t :=
  Cert.Held.leaves_writes (dats m 0 c) 11 3 idle0_11 t h _ (kcOut_cover m c t h)
    ((after0_11 m c t).trans (at_tile (by decide) (kcOut m c) t h))

theorem idle0_12 (t : Fin cfg0.N) : cfg0.idle 12 (cfg0.grid.coords t) = true ↔ t.val % 5 ≠ 3 := Cert.Held.idle_of (cond3 t)

theorem hold0_12 (c : Dev nD) (t : Fin cfg0.N) (h : t.val % 5 ≠ 3) :
    iprop(∃ d, owns (c : Thread nD τ) (ms0_12 t) fullShare ((dats m 0 c).before 12 t d)) ⊢ (dats m 0 c).leavesExact 12 t :=
  Cert.Held.leaves_idle (dats m 0 c) 12 3 (by decide) (fun _ => rfl) flush0_12 idle0_12 (fun _ _ => rfl)
    (fun t t' e => by
      rw [after0_12, after0_12]
      exact at_congr (ksOut m c) (Fin.ext (by simp only; omega)) _ _) t h

theorem store0_12 (c : Dev nD) (t : Fin cfg0.N) (h : t.val % 5 = 3) :
    iprop(∃ f, (ms0_12 t).view.loc (c : Thread nD τ) ↦[(ms0_12 t).view.set]{fullShare} (ms0_12 t).view.writes (Elt F) f (R3 m c t h).2.1)
      ⊢ (dats m 0 c).leavesExact 12 t :=
  Cert.Held.leaves_writes (dats m 0 c) 12 3 idle0_12 t h _ (ksOut_cover m c t h)
    ((after0_12 m c t).trans (at_tile (by decide) (ksOut m c) t h))

theorem idle0_13 (t : Fin cfg0.N) : cfg0.idle 13 (cfg0.grid.coords t) = true ↔ t.val % 5 ≠ 4 := Cert.Held.idle_of (cond4 t)

theorem hold0_13 (c : Dev nD) (t : Fin cfg0.N) (h : t.val % 5 ≠ 4) :
    iprop(∃ d, owns (c : Thread nD τ) (ms0_13 t) fullShare ((dats m 0 c).before 13 t d)) ⊢ (dats m 0 c).leavesExact 13 t :=
  Cert.Held.leaves_idle (dats m 0 c) 13 4 (by decide) (fun _ => rfl) flush0_13 idle0_13 (fun _ _ => rfl)
    (fun t t' e => by
      rw [after0_13, after0_13]
      exact at_congr (kwOut m c) (Fin.ext (by simp only; omega)) _ _) t h

theorem store0_13 (c : Dev nD) (t : Fin cfg0.N) (h : t.val % 5 = 4) :
    iprop(∃ f, (ms0_13 t).view.loc (c : Thread nD τ) ↦[(ms0_13 t).view.set]{fullShare} (ms0_13 t).view.writes (Elt F) f (R4 m c t h).1)
      ⊢ (dats m 0 c).leavesExact 13 t :=
  Cert.Held.leaves_writes (dats m 0 c) 13 4 idle0_13 t h _ (kwOut_cover m c t h)
    ((after0_13 m c t).trans (at_tile (by decide) (kwOut m c) t h))

theorem idle0_14 (t : Fin cfg0.N) : cfg0.idle 14 (cfg0.grid.coords t) = true ↔ t.val % 5 ≠ 4 := Cert.Held.idle_of (cond4 t)

theorem hold0_14 (c : Dev nD) (t : Fin cfg0.N) (h : t.val % 5 ≠ 4) :
    iprop(∃ d, owns (c : Thread nD τ) (ms0_14 t) fullShare ((dats m 0 c).before 14 t d)) ⊢ (dats m 0 c).leavesExact 14 t :=
  Cert.Held.leaves_idle (dats m 0 c) 14 4 (by decide) (fun _ => rfl) flush0_14 idle0_14 (fun _ _ => rfl)
    (fun t t' e => by
      rw [after0_14, after0_14]
      exact at_congr (gateOut m c) (Fin.ext (by simp only; omega)) _ _) t h

theorem store0_14 (c : Dev nD) (t : Fin cfg0.N) (h : t.val % 5 = 4) :
    iprop(∃ f, (ms0_14 t).view.loc (c : Thread nD τ) ↦[(ms0_14 t).view.set]{fullShare} (ms0_14 t).view.writes (Elt F) f (R4 m c t h).2.1)
      ⊢ (dats m 0 c).leavesExact 14 t :=
  Cert.Held.leaves_writes (dats m 0 c) 14 4 idle0_14 t h _ (gateOut_cover m c t h)
    ((after0_14 m c t).trans (at_tile (by decide) (gateOut m c) t h))

/-- The weights' copy is stored at every point. -/
theorem live0_15 (t : Fin cfg0.N) : cfg0.idle 15 (cfg0.grid.coords t) = false := by
  show (!(k0_cond1 (grid0.coords t) == 1#1) && !(k0_cond2 (grid0.coords t) == 1#1) && !(k0_cond3 (grid0.coords t) == 1#1)
    && !(k0_cond4 (grid0.coords t) == 1#1) && !(k0_cond5 (grid0.coords t) == 1#1)) = false
  have h : t.val % 5 = 0 ∨ t.val % 5 = 1 ∨ t.val % 5 = 2 ∨ t.val % 5 = 3 ∨ t.val % 5 = 4 := by omega
  rcases h with h | h | h | h | h
  · rw [(cond0 t).mpr h]; rfl
  · rw [(cond1 t).mpr h]; simp
  · rw [(cond2 t).mpr h]; simp
  · rw [(cond3 t).mpr h]; simp
  · rw [(cond4 t).mpr h]; simp

theorem wOut_leave0 (c : Dev nD) (t : Fin cfg0.N) (h : t.val % 5 = 0) :
    (iprop(∃ f, (ms0_15 t).view.loc (c : Thread nD τ) ↦[(ms0_15 t).view.set]{fullShare} (ms0_15 t).view.writes (Elt F) f (R0 m c t h).2.1) : sProp 𝕄)
      ⊢ (dats m 0 c).leavesExact 15 t := by
  unfold Dat.leavesExact
  rw [live0_15, after0_15, wOut_0 m c t h]
  exact Cert.Held.owns_writes (ms0_15 t) _ (wTile0_cover m c t h)

theorem wOut_leave1 (c : Dev nD) (t : Fin cfg0.N) (h : t.val % 5 = 1) :
    (iprop(∃ f, (ms0_15 t).view.loc (c : Thread nD τ) ↦[(ms0_15 t).view.set]{fullShare} (ms0_15 t).view.writes (Elt F) f (R1 m c t h).2.2.1) : sProp 𝕄)
      ⊢ (dats m 0 c).leavesExact 15 t := by
  unfold Dat.leavesExact
  rw [live0_15, after0_15, wOut_1 m c t h]
  exact Cert.Held.owns_writes (ms0_15 t) _ (wTile1_cover m c t h)

theorem wOut_leave2 (c : Dev nD) (t : Fin cfg0.N) (h : t.val % 5 = 2) :
    (iprop(∃ f, (ms0_15 t).view.loc (c : Thread nD τ) ↦[(ms0_15 t).view.set]{fullShare} (ms0_15 t).view.writes (Elt F) f (R2 m c t h).2.1) : sProp 𝕄)
      ⊢ (dats m 0 c).leavesExact 15 t := by
  unfold Dat.leavesExact
  rw [live0_15, after0_15, wOut_2 m c t h]
  exact Cert.Held.owns_writes (ms0_15 t) _ (wTile2_cover m c t h)

theorem wOut_leave3 (c : Dev nD) (t : Fin cfg0.N) (h : t.val % 5 = 3) :
    (iprop(∃ f, (ms0_15 t).view.loc (c : Thread nD τ) ↦[(ms0_15 t).view.set]{fullShare} (ms0_15 t).view.writes (Elt F) f (R3 m c t h).2.2.1) : sProp 𝕄)
      ⊢ (dats m 0 c).leavesExact 15 t := by
  unfold Dat.leavesExact
  rw [live0_15, after0_15, wOut_3 m c t h]
  exact Cert.Held.owns_writes (ms0_15 t) _ (wTile3_cover m c t h)

theorem wOut_leave4 (c : Dev nD) (t : Fin cfg0.N) (h : t.val % 5 = 4) :
    (iprop(∃ f, (ms0_15 t).view.loc (c : Thread nD τ) ↦[(ms0_15 t).view.set]{fullShare} (ms0_15 t).view.writes (Elt F) f (R4 m c t h).2.2.1) : sProp 𝕄)
      ⊢ (dats m 0 c).leavesExact 15 t := by
  unfold Dat.leavesExact
  rw [live0_15, after0_15, wOut_4 m c t h]
  exact Cert.Held.owns_writes (ms0_15 t) _ (wTile4_cover m c t h)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem Phi_before (c : Dev nD) (t : Fin cfg0.N) : (dats m 0 c).Φ t.castSucc = PhiS m c t.val := by dsimp only [dats]; rfl
theorem Phi_after (c : Dev nD) (t : Fin cfg0.N) : (dats m 0 c).Φ t.succ = PhiS m c (t.val + 1) := by dsimp only [dats]; rfl

set_option maxHeartbeats 2000000 in
theorem sound0 (c : Dev nD) (t : Fin cfg0.N) (h : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14, ⟨%d15, H15⟩⟩
  iapply ((R0 m c t h).2.2.2.2 Set.univ _)
  isplitl [H0]; · iexact H0
  isplitl [H1]; · iexact H1
  isplitl [H2]; · iexact H2
  isplitl [H7]; · iexists _; iexact H7
  isplitl [H15]; · iexists _; iexact H15
  isplitl [HS]; · iexists _; iexact HS
  isplitl [HU]; · iexists _; iexact HU
  iintro ⟨H0, H1, H2, H7, H15, HS, HU⟩
  isplitl [HS HU HR]
  · iexists (hTile m c t h), (uTile m c t h)
    isplitr
    · ipureintro
      intro t' e _
      have e' : tile t' 0 (by decide) = t := Fin.ext (by simp only; omega)
      exact ⟨(at_congr (hTile m c) e' _ h).symm, (at_congr (uTile m c) e' _ h).symm⟩
    isplitl [HS]; · iapply (Cert.Held.owns_writes sc0 _ (hTile_cover m c t h)); iexact HS
    isplitl [HU]; · iapply (Cert.Held.owns_writes sc1 _ (uTile_cover m c t h)); iexact HU
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (store0_7 m c t h); iexact H7
  isplitl [H8]; · iapply (hold0_8 m c t (by omega)); iexact H8
  isplitl [H9]; · iapply (hold0_9 m c t (by omega)); iexact H9
  isplitl [H10]; · iapply (hold0_10 m c t (by omega)); iexact H10
  isplitl [H11]; · iapply (hold0_11 m c t (by omega)); iexact H11
  isplitl [H12]; · iapply (hold0_12 m c t (by omega)); iexact H12
  isplitl [H13]; · iapply (hold0_13 m c t (by omega)); iexact H13
  isplitl [H14]; · iapply (hold0_14 m c t (by omega)); iexact H14
  iapply (wOut_leave0 m c t h); iexact H15

set_option maxHeartbeats 2000000 in
theorem sound1 (c : Dev nD) (t : Fin cfg0.N) (h : t.val % 5 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, H10, H11, H12, H13, H14, ⟨%d15, H15⟩⟩
  obtain ⟨rfl, rfl⟩ := hab t rfl (by omega)
  iapply ((R1 m c t h).2.2.2 Set.univ _)
  isplitl [H2]; · iexact H2
  isplitl [H3]; · iexact H3
  isplitl [H5]; · iexact H5
  isplitl [H6]; · iexact H6
  isplitl [HS]; · iexact HS
  isplitl [HU]; · iexact HU
  isplitl [H8]; · iexists _; iexact H8
  isplitl [H9]; · iexists _; iexact H9
  isplitl [H15]; · iexists _; iexact H15
  iintro ⟨H2, H3, H5, H6, HS, HU, H8, H9, H15⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (store0_8 m c t h); iexact H8
  isplitl [H9]; · iapply (store0_9 m c t h); iexact H9
  isplitl [H10]; · iapply (hold0_10 m c t (by omega)); iexact H10
  isplitl [H11]; · iapply (hold0_11 m c t (by omega)); iexact H11
  isplitl [H12]; · iapply (hold0_12 m c t (by omega)); iexact H12
  isplitl [H13]; · iapply (hold0_13 m c t (by omega)); iexact H13
  isplitl [H14]; · iapply (hold0_14 m c t (by omega)); iexact H14
  iapply (wOut_leave1 m c t h); iexact H15

set_option maxHeartbeats 2000000 in
theorem sound2 (c : Dev nD) (t : Fin cfg0.N) (h : t.val % 5 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, H8, H9, ⟨%d10, H10⟩, H11, H12, H13, H14, ⟨%d15, H15⟩⟩
  obtain ⟨rfl, rfl⟩ := hab t rfl (by omega)
  iapply ((R2 m c t h).2.2 Set.univ _)
  isplitl [H2]; · iexact H2
  isplitl [H4]; · iexact H4
  isplitl [HS]; · iexact HS
  isplitl [H10]; · iexists _; iexact H10
  isplitl [H15]; · iexists _; iexact H15
  iintro ⟨H2, H4, HS, H10, H15⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (hold0_8 m c t (by omega)); iexact H8
  isplitl [H9]; · iapply (hold0_9 m c t (by omega)); iexact H9
  isplitl [H10]; · iapply (store0_10 m c t h); iexact H10
  isplitl [H11]; · iapply (hold0_11 m c t (by omega)); iexact H11
  isplitl [H12]; · iapply (hold0_12 m c t (by omega)); iexact H12
  isplitl [H13]; · iapply (hold0_13 m c t (by omega)); iexact H13
  isplitl [H14]; · iapply (hold0_14 m c t (by omega)); iexact H14
  iapply (wOut_leave2 m c t h); iexact H15

set_option maxHeartbeats 2000000 in
theorem sound3 (c : Dev nD) (t : Fin cfg0.N) (h : t.val % 5 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, H8, H9, H10, ⟨%d11, H11⟩, ⟨%d12, H12⟩, H13, H14, ⟨%d15, H15⟩⟩
  obtain ⟨rfl, rfl⟩ := hab t rfl (by omega)
  iapply ((R3 m c t h).2.2.2 Set.univ _)
  isplitl [H2]; · iexact H2
  isplitl [HS]; · iexact HS
  isplitl [H11]; · iexists _; iexact H11
  isplitl [H12]; · iexists _; iexact H12
  isplitl [H15]; · iexists _; iexact H15
  iintro ⟨H2, HS, H11, H12, H15⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (hold0_8 m c t (by omega)); iexact H8
  isplitl [H9]; · iapply (hold0_9 m c t (by omega)); iexact H9
  isplitl [H10]; · iapply (hold0_10 m c t (by omega)); iexact H10
  isplitl [H11]; · iapply (store0_11 m c t h); iexact H11
  isplitl [H12]; · iapply (store0_12 m c t h); iexact H12
  isplitl [H13]; · iapply (hold0_13 m c t (by omega)); iexact H13
  isplitl [H14]; · iapply (hold0_14 m c t (by omega)); iexact H14
  iapply (wOut_leave3 m c t h); iexact H15

set_option maxHeartbeats 2000000 in
theorem sound4 (c : Dev nD) (t : Fin cfg0.N) (h : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, H8, H9, H10, H11, H12, ⟨%d13, H13⟩, ⟨%d14, H14⟩, ⟨%d15, H15⟩⟩
  obtain ⟨rfl, rfl⟩ := hab t rfl (by omega)
  iapply ((R4 m c t h).2.2.2 Set.univ _)
  isplitl [H2]; · iexact H2
  isplitl [HS]; · iexact HS
  isplitl [H13]; · iexists _; iexact H13
  isplitl [H14]; · iexists _; iexact H14
  isplitl [H15]; · iexists _; iexact H15
  iintro ⟨H2, HS, H13, H14, H15⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (hold0_8 m c t (by omega)); iexact H8
  isplitl [H9]; · iapply (hold0_9 m c t (by omega)); iexact H9
  isplitl [H10]; · iapply (hold0_10 m c t (by omega)); iexact H10
  isplitl [H11]; · iapply (hold0_11 m c t (by omega)); iexact H11
  isplitl [H12]; · iapply (hold0_12 m c t (by omega)); iexact H12
  isplitl [H13]; · iapply (store0_13 m c t h); iexact H13
  isplitl [H14]; · iapply (store0_14 m c t h); iexact H14
  iapply (wOut_leave4 m c t h); iexact H15

theorem sound_body (c : Dev nD) (t : Fin cfg0.N) :
    bodyPre m c t ⊢ wp frame (wpE (defs₀ (F := F)) Variants.none c none) Set.univ (bodyAt0 t) (fun _ => bodyPost m c t) := by
  have h : t.val % 5 = 0 ∨ t.val % 5 = 1 ∨ t.val % 5 = 2 ∨ t.val % 5 = 3 ∨ t.val % 5 = 4 := by omega
  rcases h with h | h | h | h | h
  · exact sound0 m c t h
  · exact sound1 m c t h
  · exact sound2 m c t h
  · exact sound3 m c t h
  · exact sound4 m c t h

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- Entering the first tile and leaving the last, the scratch buffers hold anything. -/
theorem scratch_any (c : Dev nD) : (Pipeline.ΦA spec0 c : sProp 𝕄)
    = iprop(((∃ a, owns (c : Thread nD τ) sc0 fullShare a) ∗ (∃ b, owns (c : Thread nD τ) sc1 fullShare b)) ∗ (∃ r, prngReg c r)) := by
  unfold Pipeline.ΦA
  rw [scopedRest0_eq]
  simp only [owns_whole]
  rfl

theorem enter (c : Dev nD) : Pipeline.ΦA spec0 c ⊢ PhiS m c 0 := by
  rw [scratch_any]
  unfold PhiS
  iintro ⟨⟨⟨%a, HS⟩, ⟨%b, HU⟩⟩, HR⟩
  iexists a, b
  isplitr
  · ipureintro
    intro t e h
    exact absurd (by rw [e]) h
  isplitl [HS]; · iexact HS
  isplitl [HU]; · iexact HU
  iexact HR

theorem leave (c : Dev nD) (n : ℕ) : PhiS m c n ⊢ Pipeline.ΦA spec0 c := by
  rw [scratch_any]
  unfold PhiS
  iintro ⟨%a, %b, -, HS, HU, HR⟩
  isplitl [HS HU]
  · isplitl [HS]; · iexists a; iexact HS
    iexists b; iexact HU
  iexact HR

set_option backward.isDefEq.respectTransparency.types false in
/-- Every run ends, every array at what the row tiles left and the counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends with the arguments as they were and the counters at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (unchanged m ρ) ((θ_run defs _ _).mono (fun _ h => h.2) (run_main_quiescent m ρ))

end Cert.InSIdeal.Body

end
-- ==== Proof.InSPre.lean ====
/- The input projection of the sample rows: what its blocks hold, against the reference, up to the activation. -/
module

public import proofs.«01_k».proof.Proof.InSBody
public import proofs.«01_k».proof.Proof.Gen.InSRefIdeal
public import proofs.«01_k».proof.Proof.Gen.InSRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)

/-- Where each window sits at point `t`. -/
theorem idx : ∀ t : Fin cfg0.N,
    win0_0.index t = ![0, 0]
    ∧ win0_1.index t = ![0, 0]
    ∧ win0_2.index t = ![t.val % 5, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val % 5, 0] ∧ t.val < 5 :=
  (by decide +kernel : ∀ t : Fin grid0.N, _)

/-- There are five points. -/
theorem lt5 (t : Fin cfg0.N) : t.val < 5 := Nat.lt_of_lt_of_eq t.isLt N_0

/-! The arguments as the device holds them. -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- The block of the input rows, read off the flattened argument. -/
theorem rows (c : Dev nD) (t : Fin cfg0.N) (y : S128x2048.Idx) :
    (iblk m c 0 t : Vec Ideal S128x2048 .f32) y = val_main_v2 (F := Ideal) (A0 m c) (ix2 (y 0) (y 1)) := by
  blk_simp [iblk]
  entry_read
  blk_ext [idx t]

/-- The normalised rows as the first step forms them. -/
theorem norm_at (c : Dev nD) (t : Fin cfg0.N) (y : S128x2048.Idx) :
    k0_pay8 (F := Ideal) (iblk m c 0 t) (iblk m c 1 t) y = val_main_v16 (F := Ideal) (A0 m c) (A1 m c) (ix2 (y 0) (y 1)) := by
  unfold_payloads
  pointwise [rows, val_main_v16, val_main_v15, val_main_v14, val_main_v13, val_main_v12, val_main_v11, val_main_v10, val_main_v9, val_main_v8, val_main_v7, val_main_v6, val_main_v5, val_main_v4, val_main_v3, val_main_cst_1, val_main_cst, val_main_cst_0]
  blk_point [iblk, V, idx t]

/-- What the kept rows are, as a property of a buffer. -/
def IsNorm (c : Dev nD) (x17 : Vec Ideal S128x2048 .bf16) : Prop :=
  ∀ y : S128x2048.Idx, x17 y = val_main_v16 (F := Ideal) (A0 m c) (A1 m c) (ix2 (y 0) (y 1))

/-- The block of weights at point `t`: columns of the argument, as rows. -/
theorem wts (c : Dev nD) (t : Fin cfg0.N) (y : S1024x2048.Idx) :
    (X0_2 m c t : Vec Ideal S1024x2048 .f32) y = A2 m c (ix3 0 (y 1) ⟨t.val % 5 * 1024 + (y 0).val, by have : (y 0).val < 1024 := (y 0).isLt; omega⟩) := by
  unfold X0_2
  refine (dif_pos (moved0_2 t y)).trans ?_
  blk_point [iblk, V, idx t]

/-- Columns `b …` of the weights, as rows of a block. -/
def IsW (c : Dev nD) (b : ℕ) (w : Vec Ideal S512x2048 .f32) : Prop :=
  ∀ (r : Fin 512) (k : Fin 2048) (h : b + r.val < 8728), w (ix2 r k) = A2 m c (ix3 0 k ⟨b + r.val, h⟩)

/-- Columns `b …` of the weights, in the block of point `t`. -/
theorem wsec (c : Dev nD) (t : Fin cfg0.N) (b o : ℕ) (inb) (e : b = t.val % 5 * 1024 + o) :
    IsW m c b (View.ld (X0_2 m c t) (Rect.unit ![o, 0] ![512, 2048] inb) : Vec Ideal S512x2048 .f32) := by
  intro r k h
  refine (wts m c t _).trans (congrArg (A2 m c) (congrArg₂ (ix3 0) (Fin.ext ?_) (Fin.ext ?_)))
  · show 0 + 1 * k.val = k.val; omega
  · show t.val % 5 * 1024 + (o + 1 * r.val) = b + r.val; omega

/-- A column of a 512-wide block of the projection that starts at column `b`. -/
abbrev zcol (b : ℕ) (hb : b + 512 ≤ 4736) (x : Fin 512) : Fin 4736 := ⟨b + x.val, by omega⟩

/-- A 512-wide block that holds the projection from column `b` on. -/
def IsZ (c : Dev nD) (b : ℕ) (hb : b + 512 ≤ 4736) (z : FVec Ideal S128x512 .f32) : Prop :=
  ∀ x : S128x512.Idx, z x = val_main_v17 (F := Ideal) (A0 m c) (A1 m c) (A2 m c) (ix2 (x 0) (zcol b hb (x 1)))

/-- One 512-wide block of the projection. -/
theorem z_at (c : Dev nD) (x17 : Vec Ideal S128x2048 .bf16) (hn : IsNorm m c x17)
    (b : ℕ) (hb : b + 512 ≤ 4736) (w : Vec Ideal S512x2048 .f32) (hw : IsW m c b w) :
    IsZ m c b hb (k0_pay11 (F := Ideal) w x17) := by
  intro x
  have hx : (x 1).val < 512 := (x 1).isLt
  unfold IsNorm at hn
  unfold k0_pay11 k0_pay10
  pointwise [hn, val_main_v17, val_main_v1, val_main_v0]
  refine Finset.sum_congr rfl fun k _ => ?_
  exact congrArg₂ (· * ·) rfl (hw (x 1) k (by omega))

/-- A 512-wide block that holds the activation from column `b` on. -/
def IsGelu (c : Dev nD) (b : ℕ) (hb : b + 512 ≤ 2048) (z : FVec Ideal S128x512 .f32) : Prop :=
  ∀ x : S128x512.Idx, z x = val_main_v31 (F := Ideal) (A0 m c) (A1 m c) (A2 m c) (ix2 (x 0) ⟨b + (x 1).val, by have : (x 1).val < 512 := (x 1).isLt; omega⟩)

/-- The activation of such a block. -/
theorem gelu_at (z : FVec Ideal S128x512 .f32) (c : Dev nD) (b : ℕ) (hb : b + 512 ≤ 2048)
    (hz : IsZ m c b (by omega) z) : IsGelu m c b hb (k0_pay1 (F := Ideal) z) := by
  intro x
  unfold IsZ at hz
  unfold k0_pay1
  pointwise [hz, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4, val_main_cst_5]
  rw [mul_assoc, mul_left_comm]

/-- The block of the projection from column `b` on, as the steps form it. -/
theorem zblk (c : Dev nD) (t : Fin cfg0.N) (x17 : Vec Ideal S128x2048 .bf16) (hn : IsNorm m c x17)
    (b : ℕ) (hb : b + 512 ≤ 4736) (o : ℕ) (inb) (e : b = t.val % 5 * 1024 + o) :
    IsZ m c b hb (k0_pay11 (F := Ideal) (View.ld (X0_2 m c t) (Rect.unit ![o, 0] ![512, 2048] inb)) x17) :=
  z_at m c x17 hn b hb _ (wsec m c t b o inb e)

/-- The normalised rows kept for the later steps. -/
theorem kept_at (c : Dev nD) (t : Fin cfg0.N) (h : t.val % 5 = 0) : IsNorm m c (hTile m c t h) := by
  intro y
  rw [← norm_at m c t y]
  unfold hTile R0
  frame_out
  unfold k0_pay9
  exact congrFun (shapeCast_self _ _) y

/-- The normalised rows as a result. -/
theorem hOut_at (c : Dev nD) (t : Fin cfg0.N) (h : t.val % 5 = 0) (y : S128x2048.Idx) :
    hOut m c t h y = val_main_v16 (F := Ideal) (A0 m c) (A1 m c) (ix2 (y 0) (y 1)) := by
  rw [← norm_at m c t y]
  unfold hOut R0
  frame_out

/-- Half of the activation, kept for the next step. -/
theorem ukept_at (c : Dev nD) (t : Fin cfg0.N) (h : t.val % 5 = 0) (y : S128x1024.Idx) :
    uTile m c t h y = val_main_v32 (F := Ideal) (A0 m c) (A1 m c) (A2 m c) (ix2 (y 0) (y 1)) := by
  unfold uTile R0
  frame_out
  have hn : IsNorm m c (k0_pay9 (F := Ideal) (iblk m c 0 t) (iblk m c 1 t)) := fun y => by
    rw [← norm_at m c t y]
    unfold k0_pay9
    exact congrFun (shapeCast_self _ _) y
  refine View.canon_apply_of_pieces (fun y : S128x1024.Idx => val_main_v32 (F := Ideal) (A0 m c) (A1 m c) (A2 m c) (ix2 (y 0) (y 1))) _ (List.forall_mem_cons.2 ⟨fun x => ?_, List.forall_mem_cons.2 ⟨fun x => ?_, fun _ e => absurd e List.not_mem_nil⟩⟩) y (View.cover_of_tiledL _ ![128, 512] (by sl_kernel_rfl) y)
  · refine Eq.trans (gelu_at m _ c 512 (by omega) (zblk m c t _ hn 512 (by omega) 512 inb_S1024x2048_S512x2048_512_0 (by omega)) x) ?_
    rw [val_main_v32_apply]
    refine congrArg _ (funext fun a => Fin.ext ?_)
    match a with
    | ⟨0, _⟩ => show (x 0).val = 0 + 1 * (x 0).val; omega
    | ⟨1, _⟩ => show 512 + (x 1).val = 512 + 1 * (x 1).val; omega
  · refine Eq.trans (gelu_at m _ c 0 (by omega) (zblk m c t _ hn 0 (by omega) 0 inb_S1024x2048_S512x2048_0_0 (by omega)) x) ?_
    rw [val_main_v32_apply]
    refine congrArg _ (funext fun a => Fin.ext ?_)
    match a with
    | ⟨0, _⟩ => show (x 0).val = 0 + 1 * (x 0).val; omega
    | ⟨1, _⟩ => show 0 + (x 1).val = 0 + 1 * (x 1).val; omega

/-- 128 columns of a 512-wide block. -/
theorem cols_at (z : FVec Ideal S128x512 .f32) (o : ℕ) (ho : o + 128 ≤ 512) (hs) (x : S128x128.Idx) :
    extractStridedSlice S128x128 ![0, o] z hs x = z (ix2 (x 0) ⟨o + (x 1).val, by have : (x 1).val < 128 := (x 1).isLt; omega⟩) :=
  extractStridedSlice_apply _ _ hs x _ (fun a => match a with
    | ⟨0, _⟩ => by show (x 0).val = 0 + (x 0).val; omega
    | ⟨1, _⟩ => rfl)

/-- Reading back the rows kept. -/
theorem rd0 (x : Vec Ideal S128x2048 .bf16) :
    View.read (Elt Ideal) (View.whole cc0_scratch0) ((Memref.isWhole_whole cc0_scratch0).unread x) = x :=
  (Memref.isWhole_whole cc0_scratch0).read_unread x

/-- Reading back the half of the activation kept. -/
theorem rd1 (x : Vec Ideal S128x1024 .f32) :
    View.read (Elt Ideal) (View.whole cc0_scratch1) ((Memref.isWhole_whole cc0_scratch1).unread x) = x :=
  (Memref.isWhole_whole cc0_scratch1).read_unread x

end Cert.InSIdeal.Value

end
-- ==== Proof.InSKv.lean ====
/- The input projection of the sample rows: the keys and values it stores are the reference's. -/
module

public import proofs.«01_k».proof.Proof.InSPre

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)

/-- One of the four interleaved sets of rows: the columns it takes. -/
theorem kv_row (c : Dev nD) (b : ℕ) (hb : b + 512 ≤ 4736) (z : FVec Ideal S128x512 .f32) (hz : IsZ m c b hb z)
    (k o : ℕ) (hk : k < 4) (eo : o = k * 128) (hs) (x : S128x128.Idx) (y : S512x128.Idx)
    (e0 : (y 0).val = k + 4 * (x 0).val) (e1 : (y 1).val = 0 + 1 * (x 1).val) :
    extractStridedSlice S128x128 ![0, o] z hs x = val_main_v17 (F := Ideal) (A0 m c) (A1 m c) (A2 m c) (ix2 ⟨(y 0).val / 4, by have : (y 0).val < 512 := (y 0).isLt; omega⟩
          ⟨b + (y 0).val % 4 * 128 + (y 1).val, by have : (y 1).val < 128 := (y 1).isLt; omega⟩) := by
  have h0 : (x 0).val < 128 := (x 0).isLt
  have h1 : (x 1).val < 128 := (x 1).isLt
  refine (cols_at z o (by omega) hs x).trans ((hz _).trans (congrArg _ (congrArg₂ ix2 (Fin.ext ?_) (Fin.ext ?_))))
  · show (x 0).val = (y 0).val / 4
    rw [e0]; omega
  · show b + (o + (x 1).val) = b + (y 0).val % 4 * 128 + (y 1).val
    rw [e0, e1]; omega

/-- Four interleaved sets of rows: each row of the projection gives four rows of keys or values. -/
theorem kv_at (c : Dev nD) (b : ℕ) (hb : b + 512 ≤ 4736) (z : FVec Ideal S128x512 .f32) (hz : IsZ m c b hb z)
    (i0 i1 i2 i3 h0 h1 h2 h3) (y : S512x128.Idx) :
    View.canon (Val := Elt Ideal) (s := S512x128) (e := .f32)
      [⟨{ off := ![3, 0], size := ![128, 128], stride := ![4, 1], inb := i3, stride_pos := spos_4_1 }, extractStridedSlice S128x128 ![0, 384] z h3⟩,
       ⟨{ off := ![2, 0], size := ![128, 128], stride := ![4, 1], inb := i2, stride_pos := spos_4_1 }, extractStridedSlice S128x128 ![0, 256] z h2⟩,
       ⟨{ off := ![1, 0], size := ![128, 128], stride := ![4, 1], inb := i1, stride_pos := spos_4_1 }, extractStridedSlice S128x128 ![0, 128] z h1⟩,
       ⟨{ off := ![0, 0], size := ![128, 128], stride := ![4, 1], inb := i0, stride_pos := spos_4_1 }, extractStridedSlice S128x128 ![0, 0] z h0⟩] y
      = val_main_v17 (F := Ideal) (A0 m c) (A1 m c) (A2 m c) (ix2 ⟨(y 0).val / 4, by have : (y 0).val < 512 := (y 0).isLt; omega⟩
          ⟨b + (y 0).val % 4 * 128 + (y 1).val, by have : (y 1).val < 128 := (y 1).isLt; omega⟩) := by
  refine View.canon_apply_of_pieces (fun y : S512x128.Idx => val_main_v17 (F := Ideal) (A0 m c) (A1 m c) (A2 m c) (ix2 ⟨(y 0).val / 4, by have : (y 0).val < 512 := (y 0).isLt; omega⟩
          ⟨b + (y 0).val % 4 * 128 + (y 1).val, by have : (y 1).val < 128 := (y 1).isLt; omega⟩)) _
    (List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩) y
    (Cert.Held.rows_cover 128 128 _ rfl y)
  · exact kv_row m c b hb z hz 3 384 (by omega) rfl h3 x _ rfl rfl
  · exact kv_row m c b hb z hz 2 256 (by omega) rfl h2 x _ rfl rfl
  · exact kv_row m c b hb z hz 1 128 (by omega) rfl h1 x _ rfl rfl
  · exact kv_row m c b hb z hz 0 0 (by omega) rfl h0 x _ rfl rfl

/-- The keys and values of the compressed branch, as the reference gives them. -/
theorem kcOut_at (c : Dev nD) (t : Fin cfg0.N) (h : t.val % 5 = 3) (y : S512x128.Idx) :
    kcOut m c t h y = val_main_v93 (F := Ideal) (A0 m c) (A1 m c) (A2 m c) (ix2 (y 0) (y 1)) := by
  have h0 : (y 0).val < 512 := (y 0).isLt
  have h1 : (y 1).val < 128 := (y 1).isLt
  unfold kcOut R3
  have hn := kept_at m c (tile t 0 (by decide)) (tile_mod t 0 (by decide))
  generalize hTile m c (tile t 0 (by decide)) (tile_mod t 0 (by decide)) = x17 at hn ⊢
  frame_out
  simp only [rd0]
  refine (kv_at m c 3072 (by omega) _ (zblk m c t x17 hn 3072 (by omega) 0 inb_S1024x2048_S512x2048_0_0 (by omega)) inb_S512x128_S128x128_0_0_s_4_1 inb_S512x128_S128x128_1_0_s_4_1 inb_S512x128_S128x128_2_0_s_4_1 inb_S512x128_S128x128_3_0_s_4_1 slices_S128x512_o0_0_S128x128 slices_S128x512_o0_128_S128x128 slices_S128x512_o0_256_S128x128 slices_S128x512_o0_384_S128x128 y).trans ?_
  rw [val_main_v93_apply, val_main_v92_apply]
  refine congrArg _ (funext fun a => Fin.ext ?_)
  match a with
  | ⟨0, _⟩ => show (y 0).val / 4 = ((y 0).val * 128 + (y 1).val) / 512; omega
  | ⟨1, _⟩ => show 3072 + (y 0).val % 4 * 128 + (y 1).val = 3072 + ((y 0).val * 128 + (y 1).val) % 512; omega

/-- The keys and values of the selected branch, as the reference gives them. -/
theorem ksOut_at (c : Dev nD) (t : Fin cfg0.N) (h : t.val % 5 = 3) (y : S512x128.Idx) :
    ksOut m c t h y = val_main_v95 (F := Ideal) (A0 m c) (A1 m c) (A2 m c) (ix2 (y 0) (y 1)) := by
  have h0 : (y 0).val < 512 := (y 0).isLt
  have h1 : (y 1).val < 128 := (y 1).isLt
  unfold ksOut R3
  have hn := kept_at m c (tile t 0 (by decide)) (tile_mod t 0 (by decide))
  generalize hTile m c (tile t 0 (by decide)) (tile_mod t 0 (by decide)) = x17 at hn ⊢
  frame_out
  simp only [rd0]
  refine (kv_at m c 3584 (by omega) _ (zblk m c t x17 hn 3584 (by omega) 512 inb_S1024x2048_S512x2048_512_0 (by omega)) inb_S512x128_S128x128_0_0_s_4_1 inb_S512x128_S128x128_1_0_s_4_1 inb_S512x128_S128x128_2_0_s_4_1 inb_S512x128_S128x128_3_0_s_4_1 slices_S128x512_o0_0_S128x128 slices_S128x512_o0_128_S128x128 slices_S128x512_o0_256_S128x128 slices_S128x512_o0_384_S128x128 y).trans ?_
  rw [val_main_v95_apply, val_main_v94_apply]
  refine congrArg _ (funext fun a => Fin.ext ?_)
  match a with
  | ⟨0, _⟩ => show (y 0).val / 4 = ((y 0).val * 128 + (y 1).val) / 512; omega
  | ⟨1, _⟩ => show 3584 + (y 0).val % 4 * 128 + (y 1).val = 3584 + ((y 0).val * 128 + (y 1).val) % 512; omega

/-- The keys and values of the window branch, as the reference gives them. -/
theorem kwOut_at (c : Dev nD) (t : Fin cfg0.N) (h : t.val % 5 = 4) (y : S512x128.Idx) :
    kwOut m c t h y = val_main_v97 (F := Ideal) (A0 m c) (A1 m c) (A2 m c) (ix2 (y 0) (y 1)) := by
  have h0 : (y 0).val < 512 := (y 0).isLt
  have h1 : (y 1).val < 128 := (y 1).isLt
  unfold kwOut R4
  have hn := kept_at m c (tile t 0 (by decide)) (tile_mod t 0 (by decide))
  generalize hTile m c (tile t 0 (by decide)) (tile_mod t 0 (by decide)) = x17 at hn ⊢
  frame_out
  simp only [rd0]
  refine (kv_at m c 4096 (by omega) _ (zblk m c t x17 hn 4096 (by omega) 0 inb_S1024x2048_S512x2048_0_0 (by omega)) inb_S512x128_S128x128_0_0_s_4_1 inb_S512x128_S128x128_1_0_s_4_1 inb_S512x128_S128x128_2_0_s_4_1 inb_S512x128_S128x128_3_0_s_4_1 slices_S128x512_o0_0_S128x128 slices_S128x512_o0_128_S128x128 slices_S128x512_o0_256_S128x128 slices_S128x512_o0_384_S128x128 y).trans ?_
  rw [val_main_v97_apply, val_main_v96_apply]
  refine congrArg _ (funext fun a => Fin.ext ?_)
  match a with
  | ⟨0, _⟩ => show (y 0).val / 4 = ((y 0).val * 128 + (y 1).val) / 512; omega
  | ⟨1, _⟩ => show 4096 + (y 0).val % 4 * 128 + (y 1).val = 4096 + ((y 0).val * 128 + (y 1).val) % 512; omega

end Cert.InSIdeal.Value

end
-- ==== Proof.InSQ.lean ====
/- The input projection of the sample rows: the query heads it stores are the reference's. -/
module

public import proofs.«01_k».proof.Proof.InSPre

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)

/-- One query head: its rows divided by the root of their mean square, weighted and scaled. -/
def headOf (s : FVec Ideal S128x128 .f32) (g : Vec Ideal S1x128 .f32) : FVec Ideal S128x128 .bf16 :=
  have v20 : FVec Ideal S128 .f32 := multiReduction .add [1] S128 (mulf s s) 0x00000000#32 reduces_S128x128_S128 (.inl rfl) rfl
  have v23 : FVec Ideal S128x1 .f32 := divf (shapeCast S128x1 v20 shapeCasts_S128_S128x1) (broadcast S128x1 (Scalar.ofBits .f32 0x43000000#32))
  have v26 : FVec Ideal S128x1 .f32 := rsqrt (addf v23 (broadcast S128x1 (Scalar.ofBits .f32 0x358637BD#32)))
  have v28 : FVec Ideal S128x128 .f32 := mulf s (broadcastTo S128x128 v26 broadcasts_S128x1_S128x128)
  have v32 : FVec Ideal S128x128 .f32 := mulf v28 (broadcastTo S128x128 (shapeCast S1x128 g shapeCasts_S1x128_S1x128) broadcasts_S1x128_S128x128)
  truncf .bf16 (mulf v32 (broadcast S128x128 (Scalar.ofBits .f32 0x3DB504F3#32))) bitsLt_bf16_f32

/-- A head of the projection's rows, normalised as the reference does it. -/
theorem head_at (c : Dev nD) (t : Fin cfg0.N) (n : Fin 8) (s : FVec Ideal S128x128 .f32)
    (hs : ∀ x : S128x128.Idx, s x = val_main_v64 (F := Ideal) (A0 m c) (A1 m c) (A2 m c) (ix3 (x 0) n (x 1))) (x : S128x128.Idx) :
    headOf s (iblk m c 4 t) x = val_main_v80 (F := Ideal) (A0 m c) (A1 m c) (A2 m c) (A6 m c) (ix3 (x 0) n (x 1)) := by
  unfold headOf
  pointwise [hs, val_main_v65, val_main_v66, val_main_v67, val_main_v68, val_main_v69, val_main_v70, val_main_v71, val_main_v72, val_main_v73, val_main_v74, val_main_v75, val_main_v76, val_main_v77, val_main_v78, val_main_v79, val_main_v80, val_main_cst_9, val_main_cst_10, val_main_cst_11, val_main_cst_12]
  blk_point [iblk, V, idx t]

/-- The columns of head `n` in a block of the projection. -/
theorem head_cols (c : Dev nD) (n : Fin 8) (b : ℕ) (hb : b + 512 ≤ 4736) (z : FVec Ideal S128x512 .f32) (hz : IsZ m c b hb z)
    (o : ℕ) (ho : o + 128 ≤ 512) (e : b + o = 2048 + n.val * 128) (hs) (x : S128x128.Idx) :
    extractStridedSlice S128x128 ![0, o] z hs x = val_main_v64 (F := Ideal) (A0 m c) (A1 m c) (A2 m c) (ix3 (x 0) n (x 1)) := by
  have h0 : (x 0).val < 128 := (x 0).isLt
  have h1 : (x 1).val < 128 := (x 1).isLt
  have hn : n.val < 8 := n.isLt
  rw [val_main_v64_apply, val_main_v63_apply]
  refine (cols_at z o ho hs x).trans ((hz _).trans (congrArg _ (funext fun a => Fin.ext ?_)))
  match a with
  | ⟨0, _⟩ => show (x 0).val = (((x 0).val * 8 + n.val) * 128 + (x 1).val) / 1024; omega
  | ⟨1, _⟩ => show b + (o + (x 1).val) = 2048 + (((x 0).val * 8 + n.val) * 128 + (x 1).val) % 1024; omega

/-- What a head's piece holds, at the entry of the block it is stored at. -/
theorem head_piece (c : Dev nD) (t : Fin cfg0.N) (n : Fin 8) (b : ℕ) (hb : b + 512 ≤ 4736) (z : FVec Ideal S128x512 .f32) (hz : IsZ m c b hb z)
    (o : ℕ) (ho : o + 128 ≤ 512) (e : b + o = 2048 + n.val * 128) (hs) (x : S128x128.Idx) (y : S128x1024.Idx)
    (e0 : (y 0).val = 0 + 1 * (x 0).val) (e1 : (y 1).val = n.val * 128 + 1 * (x 1).val) :
    headOf (extractStridedSlice S128x128 ![0, o] z hs) (iblk m c 4 t) x = val_main_v91 (F := Ideal) (A0 m c) (A1 m c) (A2 m c) (A6 m c) (ix2 (y 0) (y 1)) := by
  have h0 : (x 0).val < 128 := (x 0).isLt
  have h1 : (x 1).val < 128 := (x 1).isLt
  have hn : n.val < 8 := n.isLt
  refine (head_at m c t n _ (head_cols m c n b hb z hz o ho e hs) x).trans ?_
  pointwise [val_main_v91, val_main_v90]
  refine congrArg _ (funext fun a => Fin.ext ?_)
  match a with
  | ⟨0, _⟩ => show (x 0).val = (y 0).val; omega
  | ⟨1, _⟩ => show n.val = (y 1).val / 128; omega
  | ⟨2, _⟩ => show (x 1).val = (y 1).val % 128; omega

/-- The query heads stored are the reference's. -/
theorem qOut_at (c : Dev nD) (t : Fin cfg0.N) (h : t.val % 5 = 2) (y : S128x1024.Idx) :
    qOut m c t h y = val_main_v91 (F := Ideal) (A0 m c) (A1 m c) (A2 m c) (A6 m c) (ix2 (y 0) (y 1)) := by
  unfold qOut R2
  have hn := kept_at m c (tile t 0 (by decide)) (tile_mod t 0 (by decide))
  generalize hTile m c (tile t 0 (by decide)) (tile_mod t 0 (by decide)) = x17 at hn ⊢
  frame_out
  simp only [rd0]
  have hz0 := zblk m c t x17 hn 2048 (by omega) 0 inb_S1024x2048_S512x2048_0_0 (by omega)
  have hz1 := zblk m c t x17 hn 2560 (by omega) 512 inb_S1024x2048_S512x2048_512_0 (by omega)
  refine View.canon_apply_of_pieces (fun y : S128x1024.Idx => val_main_v91 (F := Ideal) (A0 m c) (A1 m c) (A2 m c) (A6 m c) (ix2 (y 0) (y 1))) _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩⟩⟩⟩⟩) y
    (View.cover_of_tiledL _ ![128, 128] (by sl_kernel_rfl) y)
  · exact head_piece m c t 7 2560 (by omega) _ hz1 384 (by omega) rfl slices_S128x512_o0_384_S128x128 x _ rfl rfl
  · exact head_piece m c t 6 2560 (by omega) _ hz1 256 (by omega) rfl slices_S128x512_o0_256_S128x128 x _ rfl rfl
  · exact head_piece m c t 5 2560 (by omega) _ hz1 128 (by omega) rfl slices_S128x512_o0_128_S128x128 x _ rfl rfl
  · exact head_piece m c t 4 2560 (by omega) _ hz1 0 (by omega) rfl slices_S128x512_o0_0_S128x128 x _ rfl rfl
  · exact head_piece m c t 3 2048 (by omega) _ hz0 384 (by omega) rfl slices_S128x512_o0_384_S128x128 x _ rfl rfl
  · exact head_piece m c t 2 2048 (by omega) _ hz0 256 (by omega) rfl slices_S128x512_o0_256_S128x128 x _ rfl rfl
  · exact head_piece m c t 1 2048 (by omega) _ hz0 128 (by omega) rfl slices_S128x512_o0_128_S128x128 x _ rfl rfl
  · exact head_piece m c t 0 2048 (by omega) _ hz0 0 (by omega) rfl slices_S128x512_o0_0_S128x128 x _ rfl rfl

end Cert.InSIdeal.Value

end
-- ==== Proof.InSGate.lean ====
/- The input projection of the sample rows: the gates it stores are the reference's. -/
module

public import proofs.«01_k».proof.Proof.InSPre

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)

/-- The gates of the first 128 columns. -/
theorem sig_at (c : Dev nD) (t : Fin cfg0.N) (h : t.val % 5 = 4) (x17 : Vec Ideal S128x2048 .bf16) (hn : IsNorm m c x17) (x : S128x128.Idx) :
    k0_pay61 (F := Ideal) (View.ld (X0_2 m c t) (Rect.unit ![512, 0] ![128, 2048] inb_S1024x2048_S128x2048_512_0)) x17 x
      = val_main_v87 (F := Ideal) (A0 m c) (A1 m c) (A2 m c) (ix2 (x 0) (x 1)) := by
  have h1 : (x 1).val < 128 := (x 1).isLt
  unfold IsNorm at hn
  unfold k0_pay61 k0_pay60
  pointwise [hn, val_main_v87, val_main_v86, val_main_v85, val_main_v84, val_main_v83, val_main_v82, val_main_v81, val_main_cst_14, val_main_cst_13, val_main_v17, val_main_v1, val_main_v0]
  rw [zero_sub]
  refine congrArg (fun s => Ideal.div 1 (1 + Ideal.exp (-s))) (Finset.sum_congr rfl fun k _ => congrArg₂ (· * ·) rfl ?_)
  refine (wts m c t _).trans (congrArg (A2 m c) (congrArg₂ (ix3 0) (Fin.ext ?_) (Fin.ext ?_)))
  · rfl
  · show t.val % 5 * 1024 + (512 + (x 1).val) = 4608 + (x 1).val; omega

/-- The reference's joined gates: the first 128 columns. -/
theorem joined_lo (c : Dev nD) (r : Fin 128) (k : Fin 128) :
    val_main_v100 (F := Ideal) (A0 m c) (A1 m c) (A2 m c) (ix2 r ⟨k.val, by omega⟩) = val_main_v87 (F := Ideal) (A0 m c) (A1 m c) (A2 m c) (ix2 r k) := by
  unfold val_main_v100
  pointwise [val_main_v98, val_main_v99]

/-- The reference's joined gates: the last 128 columns are the first, twelve further on and around. -/
theorem joined_hi (c : Dev nD) (r : Fin 128) (k : Fin 128) :
    val_main_v100 (F := Ideal) (A0 m c) (A1 m c) (A2 m c) (ix2 r ⟨128 + k.val, by omega⟩) = val_main_v87 (F := Ideal) (A0 m c) (A1 m c) (A2 m c) (ix2 r ⟨(k.val + 128 - 116) % 128, Nat.mod_lt _ (by decide)⟩) := by
  have hk := k.isLt
  unfold val_main_v100
  pointwise [val_main_v98, val_main_v99]
  by_cases h : k.val < 116
  · refine (dif_pos h).trans (congrArg _ (congrArg (ix2 r) (Fin.ext ?_)))
    show 12 + k.val = (k.val + 128 - 116) % 128; omega
  · refine (dif_neg h).trans (congrArg _ (congrArg (ix2 r) (Fin.ext ?_)))
    show k.val - 116 = (k.val + 128 - 116) % 128; omega

/-- The gates stored are the reference's. -/
theorem gateOut_at (c : Dev nD) (t : Fin cfg0.N) (h : t.val % 5 = 4) (y : S128x256.Idx) :
    gateOut m c t h y = val_main_v100 (F := Ideal) (A0 m c) (A1 m c) (A2 m c) (ix2 (y 0) (y 1)) := by
  unfold gateOut R4
  have hn := kept_at m c (tile t 0 (by decide)) (tile_mod t 0 (by decide))
  generalize hTile m c (tile t 0 (by decide)) (tile_mod t 0 (by decide)) = x17 at hn ⊢
  frame_out
  simp only [rd0]
  refine View.canon_apply_of_pieces (fun y : S128x256.Idx => val_main_v100 (F := Ideal) (A0 m c) (A1 m c) (A2 m c) (ix2 (y 0) (y 1))) _
    (List.forall_mem_cons.2 ⟨fun x => ?_, List.forall_mem_cons.2 ⟨fun x => ?_, fun _ e => absurd e List.not_mem_nil⟩⟩) y
    (View.cover_of_tiledL _ ![128, 128] (by sl_kernel_rfl) y)
  · refine Eq.trans ?_ ((joined_hi m c (x 0) (x 1)).symm.trans (congrArg _ (congrArg₂ ix2 (Fin.ext ?_) (Fin.ext ?_))))
    · show dynamicRotate 1 116#32 none (k0_pay61 (F := Ideal) _ x17) rotates_S128x128_d1 x = _
      pointwise []
      exact sig_at m c t h x17 hn _
    · show (x 0).val = 0 + 1 * (x 0).val; omega
    · show 128 + (x 1).val = 128 + 1 * (x 1).val; omega
  · refine (sig_at m c t h x17 hn x).trans ((joined_lo m c (x 0) (x 1)).symm.trans (congrArg _ (congrArg₂ ix2 (Fin.ext ?_) (Fin.ext ?_))))
    · show (x 0).val = 0 + 1 * (x 0).val; omega
    · show (x 1).val = 0 + 1 * (x 1).val; omega

end Cert.InSIdeal.Value

end
-- ==== Proof.InSV.lean ====
/- The input projection of the sample rows: the normalised branch and its mix with the other one are the reference's. -/
module

public import proofs.«01_k».proof.Proof.InSPre

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)

/-- A sum over 1024 places as two sums over 512. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- The first half of the normalised branch's activation. -/
theorem act0 (c : Dev nD) (t : Fin cfg0.N) (h : t.val % 5 = 1) (x17 : Vec Ideal S128x2048 .bf16) (hn : IsNorm m c x17) :
    IsGelu m c 1024 (by omega) (k0_pay16 (F := Ideal) (View.ld (X0_2 m c t) (Rect.unit ![0, 0] ![512, 2048] inb_S1024x2048_S512x2048_0_0)) x17) :=
  fun x => (congrFun (shapeCast_self _ shapeCasts_S128x512_S128x512) x).symm.trans
    (gelu_at m (k0_pay11 (F := Ideal) (View.ld (X0_2 m c t) (Rect.unit ![0, 0] ![512, 2048] inb_S1024x2048_S512x2048_0_0)) x17) c 1024 (by omega)
      (zblk m c t x17 hn 1024 (by omega) 0 inb_S1024x2048_S512x2048_0_0 (by omega)) x)

/-- The second half, as the step forms it from its three parts. -/
theorem act1 (c : Dev nD) (t : Fin cfg0.N) (h : t.val % 5 = 1) (x17 : Vec Ideal S128x2048 .bf16) (hn : IsNorm m c x17) :
    IsGelu m c 1536 (by omega) (k0_pay20 (F := Ideal) (k0_pay17 (F := Ideal) (View.ld (X0_2 m c t) (Rect.unit ![512, 0] ![512, 2048] inb_S1024x2048_S512x2048_512_0)) x17) (k0_pay18 (F := Ideal) (View.ld (X0_2 m c t) (Rect.unit ![512, 0] ![512, 2048] inb_S1024x2048_S512x2048_512_0)) x17) (k0_pay19 (F := Ideal))) :=
  fun x => (congrFun (shapeCast_self _ shapeCasts_S128x512_S128x512) x).symm.trans
    (gelu_at m (k0_pay11 (F := Ideal) (View.ld (X0_2 m c t) (Rect.unit ![512, 0] ![512, 2048] inb_S1024x2048_S512x2048_512_0)) x17) c 1536 (by omega)
      (zblk m c t x17 hn 1536 (by omega) 512 inb_S1024x2048_S512x2048_512_0 (by omega)) x)

/-- The reciprocal root mean square over both halves. -/
theorem rstd_at (c : Dev nD) (g0 p q r : FVec Ideal S128x512 .f32)
    (h0 : IsGelu m c 1024 (by omega) g0) (h1 : IsGelu m c 1536 (by omega) (k0_pay20 (F := Ideal) p q r)) (x : S128x1.Idx) :
    k0_pay21 (F := Ideal) g0 p q r x = val_main_v42 (F := Ideal) (A0 m c) (A1 m c) (A2 m c) (ix2 (x 0) 0) := by
  unfold IsGelu at h0 h1
  unfold k0_pay21
  generalize k0_pay20 (F := Ideal) p q r = g1 at h1 ⊢
  pointwise [h0, h1, val_main_v42, val_main_v41, val_main_v40, val_main_v39, val_main_v38, val_main_v37, val_main_v36, val_main_v35, val_main_v33, val_main_cst_8, val_main_cst_7, val_main_cst_6]
  rw [sum_halves]
  refine congrArg (fun s => Ideal.rsqrt (Ideal.div s _ + _)) (congrArg₂ (· + ·) rfl (Finset.sum_congr rfl fun k _ => ?_))
  exact congrArg (fun j => val_main_v31 (F := Ideal) (A0 m c) (A1 m c) (A2 m c) (ix2 (x 0) j) * val_main_v31 (F := Ideal) (A0 m c) (A1 m c) (A2 m c) (ix2 (x 0) j))
    (Fin.ext (by show 1536 + k.val = 1024 + (512 + k.val); omega))

/-- A half of the normalised branch: the activation over the root mean square, weighted. -/
def halfOf (g : FVec Ideal S128x512 .f32) (r : FVec Ideal S128x1 .f32) (w : Vec Ideal S1x512 .f32) : FVec Ideal S128x512 .f32 :=
  mulf (mulf g (broadcastTo S128x512 r broadcasts_S128x1_S128x512))
    (broadcastTo S128x512 (shapeCast S1x512 w shapeCasts_S1x512_S1x512) broadcasts_S1x512_S128x512)

/-- A half of the normalised branch, once the root mean square is known. -/
theorem half_at (c : Dev nD) (t : Fin cfg0.N) (b : ℕ) (hb : b + 512 ≤ 1024) (g : FVec Ideal S128x512 .f32) (hg : IsGelu m c (1024 + b) (by omega) g)
    (r : FVec Ideal S128x1 .f32) (hr : ∀ x : S128x1.Idx, r x = val_main_v42 (F := Ideal) (A0 m c) (A1 m c) (A2 m c) (ix2 (x 0) 0)) (inb) (x : S128x512.Idx)
    (y : S128x1024.Idx) (e0 : (y 0).val = 0 + 1 * (x 0).val) (e1 : (y 1).val = b + 1 * (x 1).val) :
    halfOf g r (View.ld (iblk m c 3 t) (Rect.unit ![0, b] ![1, 512] inb)) x
      = val_main_v47 (F := Ideal) (A0 m c) (A1 m c) (A2 m c) (A3 m c) (ix2 (y 0) (y 1)) := by
  unfold IsGelu at hg
  unfold halfOf
  pointwise [hg, hr, val_main_v47, val_main_v46, val_main_v45, val_main_v44, val_main_v43, val_main_v34, val_main_v33]
  refine congrArg₂ (· * ·) (congrArg₂ (· * ·) (congrArg _ (congrArg₂ ix2 (Fin.ext ?_) (Fin.ext ?_))) (congrArg _ (congrArg (ix2 · 0) (Fin.ext ?_)))) ?_
  · show (x 0).val = (y 0).val; omega
  · show 1024 + b + (x 1).val = 1024 + (y 1).val; omega
  · show (x 0).val = (y 0).val; omega
  · refine Eq.trans ?_ (congrArg (A3 m c) (congrArg (ix2 0) (show (⟨b + (x 1).val, by have : (x 1).val < 512 := (x 1).isLt; omega⟩ : Fin 1024) = y 1 from Fin.ext (by show b + (x 1).val = (y 1).val; omega))))
    blk_point [iblk, V, idx t]

/-- The normalised branch stored is the reference's. -/
theorem vOut_at (c : Dev nD) (t : Fin cfg0.N) (h : t.val % 5 = 1) (y : S128x1024.Idx) :
    vOut m c t h y = val_main_v47 (F := Ideal) (A0 m c) (A1 m c) (A2 m c) (A3 m c) (ix2 (y 0) (y 1)) := by
  unfold vOut R1
  have hn := kept_at m c (tile t 0 (by decide)) (tile_mod t 0 (by decide))
  generalize hTile m c (tile t 0 (by decide)) (tile_mod t 0 (by decide)) = x17 at hn ⊢
  have hu := ukept_at m c (tile t 0 (by decide)) (tile_mod t 0 (by decide))
  generalize uTile m c (tile t 0 (by decide)) (tile_mod t 0 (by decide)) = x18 at hu ⊢
  frame_out
  simp only [rd0]
  have h0 := act0 m c t h x17 hn
  have h1 := act1 m c t h x17 hn
  have hr := rstd_at m c _ _ _ _ h0 h1
  refine View.canon_apply_of_pieces (fun y : S128x1024.Idx => val_main_v47 (F := Ideal) (A0 m c) (A1 m c) (A2 m c) (A3 m c) (ix2 (y 0) (y 1))) _
    (List.forall_mem_cons.2 ⟨fun x => ?_, List.forall_mem_cons.2 ⟨fun x => ?_, fun _ e => absurd e List.not_mem_nil⟩⟩) y
    (View.cover_of_tiledL _ ![128, 512] (by sl_kernel_rfl) y)
  · exact half_at m c t 512 (by omega) _ h1 _ hr inb_S1x1024_S1x512_0_512 x _ rfl rfl
  · exact half_at m c t 0 (by omega) _ h0 _ hr inb_S1x1024_S1x512_0_0 x _ rfl rfl

/-- The row of first mixing weights, a head's repeated over its columns. -/
theorem blk5 (c : Dev nD) (t : Fin cfg0.N) (y : S1x1024.Idx) :
    (iblk m c 5 t : Vec Ideal S1x1024 .f32) y = A4 m c (ix4 0 ⟨(y 1).val / 128, by have : (y 1).val < 1024 := (y 1).isLt; omega⟩ 0 0) := by
  blk_point [iblk, V, idx t]

/-- The row of first offsets, a head's repeated over its columns. -/
theorem blk6 (c : Dev nD) (t : Fin cfg0.N) (y : S1x1024.Idx) :
    (iblk m c 6 t : Vec Ideal S1x1024 .f32) y = A5 m c (ix3 0 ⟨(y 1).val / 128, by have : (y 1).val < 1024 := (y 1).isLt; omega⟩ 0) := by
  blk_point [iblk, V, idx t]

/-- The reference's mix at one entry. -/
theorem mix_entry (c : Dev nD) (i : Fin 128) (j : Fin 1024) :
    val_main_v89 (F := Ideal) (A0 m c) (A1 m c) (A2 m c) (A3 m c) (A4 m c) (A5 m c) (ix2 i j) = val_main_v32 (F := Ideal) (A0 m c) (A1 m c) (A2 m c) (ix2 i j) * (val_main_v47 (F := Ideal) (A0 m c) (A1 m c) (A2 m c) (A3 m c) (ix2 i j) * A4 m c (ix4 0 ⟨j.val / 128, by omega⟩ 0 0) + A5 m c (ix3 0 ⟨j.val / 128, by omega⟩ 0)) := by
  have hi := i.isLt
  have hj := j.isLt
  pointwise [val_main_v89, val_main_v62, val_main_v61, val_main_v60, val_main_v59, val_main_v58, val_main_v57, val_main_v56, val_main_v55, val_main_v54, val_main_v53, val_main_v52, val_main_v51, val_main_v50, val_main_v49, val_main_v48]

/-- A half of the mix, of a half of each branch and of the two rows. -/
theorem mix_at (c : Dev nD) (b : ℕ) (hb : b + 512 ≤ 1024) (v u : FVec Ideal S128x512 .f32) (w o : FVec Ideal S1x512 .f32)
    (hv : ∀ x : S128x512.Idx, v x = val_main_v47 (F := Ideal) (A0 m c) (A1 m c) (A2 m c) (A3 m c) (ix2 (x 0) ⟨b + (x 1).val, by have : (x 1).val < 512 := (x 1).isLt; omega⟩))
    (hu : ∀ x : S128x512.Idx, u x = val_main_v32 (F := Ideal) (A0 m c) (A1 m c) (A2 m c) (ix2 (x 0) ⟨b + (x 1).val, by have : (x 1).val < 512 := (x 1).isLt; omega⟩))
    (hw : ∀ k : Fin 512, w (ix2 0 k) = A4 m c (ix4 0 ⟨(b + k.val) / 128, by omega⟩ 0 0))
    (ho : ∀ k : Fin 512, o (ix2 0 k) = A5 m c (ix3 0 ⟨(b + k.val) / 128, by omega⟩ 0)) (x : S128x512.Idx) :
    k0_pay3 (F := Ideal) v u w o x = val_main_v89 (F := Ideal) (A0 m c) (A1 m c) (A2 m c) (A3 m c) (A4 m c) (A5 m c) (ix2 (x 0) ⟨b + (x 1).val, by have : (x 1).val < 512 := (x 1).isLt; omega⟩) := by
  refine Eq.trans ?_ (mix_entry m c (x 0) ⟨b + (x 1).val, by have : (x 1).val < 512 := (x 1).isLt; omega⟩).symm
  unfold k0_pay3
  pointwise [hv, hu]
  exact congrArg₂ (· * ·) rfl (congrArg₂ (· + ·) (congrArg₂ (· * ·) rfl (hw (x 1))) (ho (x 1)))

/-- The half of the other branch read back. -/
theorem part_u (c : Dev nD) (b : ℕ) (hb : b + 512 ≤ 1024) (x18 : Vec Ideal S128x1024 .f32)
    (hu : ∀ y : S128x1024.Idx, x18 y = val_main_v32 (F := Ideal) (A0 m c) (A1 m c) (A2 m c) (ix2 (y 0) (y 1))) (inb) (x : S128x512.Idx) :
    View.ld x18 (Rect.unit ![0, b] ![128, 512] inb) x
      = val_main_v32 (F := Ideal) (A0 m c) (A1 m c) (A2 m c) (ix2 (x 0) ⟨b + (x 1).val, by have : (x 1).val < 512 := (x 1).isLt; omega⟩) :=
  (hu _).trans (congrArg _ (congrArg₂ ix2 (Fin.ext (by show 0 + 1 * (x 0).val = (x 0).val; omega)) (Fin.ext (by show b + 1 * (x 1).val = b + (x 1).val; omega))))

/-- The half of the first row. -/
theorem part_w (c : Dev nD) (t : Fin cfg0.N) (b : ℕ) (hb : b + 512 ≤ 1024) (inb) (k : Fin 512) :
    View.ld (iblk m c 5 t : Vec Ideal S1x1024 .f32) (Rect.unit ![0, b] ![1, 512] inb) (ix2 0 k) = A4 m c (ix4 0 ⟨(b + k.val) / 128, by omega⟩ 0 0) :=
  (blk5 m c t _).trans (congrArg (fun j => A4 m c (ix4 0 j 0 0)) (Fin.ext (by show (b + 1 * k.val) / 128 = (b + k.val) / 128; omega)))

/-- The half of the second row. -/
theorem part_o (c : Dev nD) (t : Fin cfg0.N) (b : ℕ) (hb : b + 512 ≤ 1024) (inb) (k : Fin 512) :
    View.ld (iblk m c 6 t : Vec Ideal S1x1024 .f32) (Rect.unit ![0, b] ![1, 512] inb) (ix2 0 k) = A5 m c (ix3 0 ⟨(b + k.val) / 128, by omega⟩ 0) :=
  (blk6 m c t _).trans (congrArg (fun j => A5 m c (ix3 0 j 0)) (Fin.ext (by show (b + 1 * k.val) / 128 = (b + k.val) / 128; omega)))

/-- An entry of a stored half is the reference's where it is stored. -/
theorem mix_piece (c : Dev nD) (b : ℕ) (hb : b + 512 ≤ 1024) (z : FVec Ideal S128x512 .bf16)
    (hz : ∀ x : S128x512.Idx, z x = val_main_v89 (F := Ideal) (A0 m c) (A1 m c) (A2 m c) (A3 m c) (A4 m c) (A5 m c) (ix2 (x 0) ⟨b + (x 1).val, by have : (x 1).val < 512 := (x 1).isLt; omega⟩)) (x : S128x512.Idx)
    (y : S128x1024.Idx) (e0 : (y 0).val = 0 + 1 * (x 0).val) (e1 : (y 1).val = b + 1 * (x 1).val) :
    z x = val_main_v89 (F := Ideal) (A0 m c) (A1 m c) (A2 m c) (A3 m c) (A4 m c) (A5 m c) (ix2 (y 0) (y 1)) :=
  (hz x).trans (congrArg _ (congrArg₂ ix2 (Fin.ext (by show (x 0).val = (y 0).val; omega)) (Fin.ext (by show b + (x 1).val = (y 1).val; omega))))

/-- The mix stored is the reference's. -/
theorem oaOut_at (c : Dev nD) (t : Fin cfg0.N) (h : t.val % 5 = 1) (y : S128x1024.Idx) :
    oaOut m c t h y = val_main_v89 (F := Ideal) (A0 m c) (A1 m c) (A2 m c) (A3 m c) (A4 m c) (A5 m c) (ix2 (y 0) (y 1)) := by
  unfold oaOut R1
  have hn := kept_at m c (tile t 0 (by decide)) (tile_mod t 0 (by decide))
  generalize hTile m c (tile t 0 (by decide)) (tile_mod t 0 (by decide)) = x17 at hn ⊢
  have hu := ukept_at m c (tile t 0 (by decide)) (tile_mod t 0 (by decide))
  generalize uTile m c (tile t 0 (by decide)) (tile_mod t 0 (by decide)) = x18 at hu ⊢
  frame_out
  simp only [rd0, rd1]
  have h0 := act0 m c t h x17 hn
  have h1 := act1 m c t h x17 hn
  have hr := rstd_at m c _ _ _ _ h0 h1
  refine View.canon_apply_of_pieces (fun y : S128x1024.Idx => val_main_v89 (F := Ideal) (A0 m c) (A1 m c) (A2 m c) (A3 m c) (A4 m c) (A5 m c) (ix2 (y 0) (y 1))) _
    (List.forall_mem_cons.2 ⟨fun x => ?_, List.forall_mem_cons.2 ⟨fun x => ?_, fun _ e => absurd e List.not_mem_nil⟩⟩) y
    (View.cover_of_tiledL _ ![128, 512] (by sl_kernel_rfl) y)
  · exact mix_piece m c 512 (by omega) _ (mix_at m c 512 (by omega) _ _ _ _ (fun x => half_at m c t 512 (by omega) _ h1 _ hr inb_S1x1024_S1x512_0_512 x (ix2 (x 0) ⟨512 + (x 1).val, by have : (x 1).val < 512 := (x 1).isLt; omega⟩) (by show (x 0).val = _; omega) (by show 512 + (x 1).val = _; omega))
      (part_u m c 512 (by omega) x18 hu inb_S128x1024_S128x512_0_512) (part_w m c t 512 (by omega) inb_S1x1024_S1x512_0_512) (part_o m c t 512 (by omega) inb_S1x1024_S1x512_0_512)) x _ rfl rfl
  · exact mix_piece m c 0 (by omega) _ (mix_at m c 0 (by omega) _ _ _ _ (fun x => half_at m c t 0 (by omega) _ h0 _ hr inb_S1x1024_S1x512_0_0 x (ix2 (x 0) ⟨0 + (x 1).val, by have : (x 1).val < 512 := (x 1).isLt; omega⟩) (by show (x 0).val = _; omega) (by show 0 + (x 1).val = _; omega))
      (part_u m c 0 (by omega) x18 hu inb_S128x1024_S128x512_0_0) (part_w m c t 0 (by omega) inb_S1x1024_S1x512_0_0) (part_o m c t 0 (by omega) inb_S1x1024_S1x512_0_0)) x _ rfl rfl

end Cert.InSIdeal.Value

end
-- ==== Proof.InSW.lean ====
/- The input projection of the sample rows: the weights it stores, cast, are the reference's. -/
module

public import proofs.«01_k».proof.Proof.InSPre

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)

/-- The reference's weights: the rows that hold columns of the argument. -/
theorem w_lo (c : Dev nD) (r : Fin 5120) (k : Fin 2048) (h : r.val < 4736) :
    val_main_v104 (F := Ideal) (A2 m c) (ix2 r k) = A2 m c (ix3 0 k ⟨r.val, by omega⟩) := by
  unfold val_main_v104
  pointwise [val_main_v103, val_main_v102, val_main_v101, val_main_v1, val_main_v0, val_main_cst_15]
  exact dif_pos h

/-- The reference's weights: the rows past the last column. -/
theorem w_hi (c : Dev nD) (r : Fin 5120) (k : Fin 2048) (h : 4736 ≤ r.val) :
    val_main_v104 (F := Ideal) (A2 m c) (ix2 r k) = 0 := by
  unfold val_main_v104
  pointwise [val_main_v103, val_main_v102, val_main_v101, val_main_v1, val_main_v0, val_main_cst_15]
  exact dif_neg (by omega)

/-- Where a row of the block of point `t` is in the reference's weights. -/
abbrev wrow (t : Fin cfg0.N) (r : Fin 1024) : Fin 5120 := ⟨t.val % 5 * 1024 + r.val, by omega⟩

/-- Rows of the block cast and stored where they were read. -/
theorem cast_at (c : Dev nD) (t : Fin cfg0.N) (n o : ℕ) (hc : t.val % 5 * 1024 + o + n ≤ 4736) (inb) (hsc) (x : (⟨2, ![n, 2048]⟩ : Shape).Idx)
    (y : S1024x2048.Idx) (e0 : (y 0).val = o + 1 * (x 0).val) (e1 : (y 1).val = 0 + 1 * (x 1).val) :
    truncf (F := Ideal) .bf16 (shapeCast (⟨2, ![n, 2048]⟩ : Shape) (View.ld (X0_2 m c t : Vec Ideal S1024x2048 .f32) (Rect.unit ![o, 0] ![n, 2048] inb)) hsc) bitsLt_bf16_f32 x
      = val_main_v104 (F := Ideal) (A2 m c) (ix2 (wrow t (y 0)) (y 1)) := by
  have hx : (x 0).val < n := (x 0).isLt
  rw [w_lo m c (wrow t (y 0)) (y 1) (by show t.val % 5 * 1024 + (y 0).val < 4736; omega)]
  refine ((congrFun (shapeCast_self (View.ld (X0_2 m c t : Vec Ideal S1024x2048 .f32) (Rect.unit ![o, 0] ![n, 2048] inb)) hsc) x).trans (wts m c t ((Rect.unit (s := S1024x2048) ![o, 0] ![n, 2048] inb).emb x))).trans (congrArg (A2 m c) (congrArg₂ (ix3 0) (Fin.ext ?_) (Fin.ext ?_)))
  · show 0 + 1 * (x 1).val = (y 1).val; omega
  · show t.val % 5 * 1024 + (o + 1 * (x 0).val) = t.val % 5 * 1024 + (y 0).val; omega

/-- The block of step 0. -/
theorem wTile0_at (c : Dev nD) (t : Fin cfg0.N) (h : t.val % 5 = 0) (y : S1024x2048.Idx) :
    wTile0 m c t h y = val_main_v104 (F := Ideal) (A2 m c) (ix2 (wrow t (y 0)) (y 1)) := by
  unfold wTile0 R0
  frame_out
  refine View.canon_apply_of_pieces (fun y : S1024x2048.Idx => val_main_v104 (F := Ideal) (A2 m c) (ix2 (wrow t (y 0)) (y 1))) _
    (List.forall_mem_cons.2 ⟨fun x => ?_, List.forall_mem_cons.2 ⟨fun x => ?_, fun _ e => absurd e List.not_mem_nil⟩⟩) y
    (View.cover_of_tiledL _ ![512, 2048] (by sl_kernel_rfl) y)
  · exact cast_at m c t 512 512 (by omega) inb_S1024x2048_S512x2048_512_0 shapeCasts_S512x2048_S512x2048 x _ rfl rfl
  · exact cast_at m c t 512 0 (by omega) inb_S1024x2048_S512x2048_0_0 shapeCasts_S512x2048_S512x2048 x _ rfl rfl

/-- The block of step 1. -/
theorem wTile1_at (c : Dev nD) (t : Fin cfg0.N) (h : t.val % 5 = 1) (y : S1024x2048.Idx) :
    wTile1 m c t h y = val_main_v104 (F := Ideal) (A2 m c) (ix2 (wrow t (y 0)) (y 1)) := by
  unfold wTile1 R1
  frame_out
  refine View.canon_apply_of_pieces (fun y : S1024x2048.Idx => val_main_v104 (F := Ideal) (A2 m c) (ix2 (wrow t (y 0)) (y 1))) _
    (List.forall_mem_cons.2 ⟨fun x => ?_, List.forall_mem_cons.2 ⟨fun x => ?_, fun _ e => absurd e List.not_mem_nil⟩⟩) y
    (View.cover_of_tiledL _ ![512, 2048] (by sl_kernel_rfl) y)
  · exact cast_at m c t 512 512 (by omega) inb_S1024x2048_S512x2048_512_0 shapeCasts_S512x2048_S512x2048 x _ rfl rfl
  · exact cast_at m c t 512 0 (by omega) inb_S1024x2048_S512x2048_0_0 shapeCasts_S512x2048_S512x2048 x _ rfl rfl

/-- The block of step 2. -/
theorem wTile2_at (c : Dev nD) (t : Fin cfg0.N) (h : t.val % 5 = 2) (y : S1024x2048.Idx) :
    wTile2 m c t h y = val_main_v104 (F := Ideal) (A2 m c) (ix2 (wrow t (y 0)) (y 1)) := by
  unfold wTile2 R2
  frame_out
  refine View.canon_apply_of_pieces (fun y : S1024x2048.Idx => val_main_v104 (F := Ideal) (A2 m c) (ix2 (wrow t (y 0)) (y 1))) _
    (List.forall_mem_cons.2 ⟨fun x => ?_, List.forall_mem_cons.2 ⟨fun x => ?_, fun _ e => absurd e List.not_mem_nil⟩⟩) y
    (View.cover_of_tiledL _ ![512, 2048] (by sl_kernel_rfl) y)
  · exact cast_at m c t 512 512 (by omega) inb_S1024x2048_S512x2048_512_0 shapeCasts_S512x2048_S512x2048 x _ rfl rfl
  · exact cast_at m c t 512 0 (by omega) inb_S1024x2048_S512x2048_0_0 shapeCasts_S512x2048_S512x2048 x _ rfl rfl

/-- The block of step 3. -/
theorem wTile3_at (c : Dev nD) (t : Fin cfg0.N) (h : t.val % 5 = 3) (y : S1024x2048.Idx) :
    wTile3 m c t h y = val_main_v104 (F := Ideal) (A2 m c) (ix2 (wrow t (y 0)) (y 1)) := by
  unfold wTile3 R3
  frame_out
  refine View.canon_apply_of_pieces (fun y : S1024x2048.Idx => val_main_v104 (F := Ideal) (A2 m c) (ix2 (wrow t (y 0)) (y 1))) _
    (List.forall_mem_cons.2 ⟨fun x => ?_, List.forall_mem_cons.2 ⟨fun x => ?_, fun _ e => absurd e List.not_mem_nil⟩⟩) y
    (View.cover_of_tiledL _ ![512, 2048] (by sl_kernel_rfl) y)
  · exact cast_at m c t 512 512 (by omega) inb_S1024x2048_S512x2048_512_0 shapeCasts_S512x2048_S512x2048 x _ rfl rfl
  · exact cast_at m c t 512 0 (by omega) inb_S1024x2048_S512x2048_0_0 shapeCasts_S512x2048_S512x2048 x _ rfl rfl

/-- The block of step 4: its last rows are past the last column. -/
theorem wTile4_at (c : Dev nD) (t : Fin cfg0.N) (h : t.val % 5 = 4) (y : S1024x2048.Idx) :
    wTile4 m c t h y = val_main_v104 (F := Ideal) (A2 m c) (ix2 (wrow t (y 0)) (y 1)) := by
  unfold wTile4 R4
  frame_out
  refine View.canon_apply_of_pieces (fun y : S1024x2048.Idx => val_main_v104 (F := Ideal) (A2 m c) (ix2 (wrow t (y 0)) (y 1))) _
    (List.forall_mem_cons.2 ⟨fun x => ?_, List.forall_mem_cons.2 ⟨fun x => ?_, List.forall_mem_cons.2 ⟨fun x => ?_, fun _ e => absurd e List.not_mem_nil⟩⟩⟩) y
    (View.cover_of_tiledBy _ ![128, 2048] (by sl_kernel_rfl) y)
  · refine Eq.trans ?_ (w_hi m c _ _ ?_).symm
    · unfold k0_pay7
      pointwise []
    · show 4736 ≤ t.val % 5 * 1024 + (640 + 1 * (x 0).val); omega
  · exact cast_at m c t 128 512 (by omega) inb_S1024x2048_S128x2048_512_0 shapeCasts_S128x2048_S128x2048 x _ rfl rfl
  · exact cast_at m c t 512 0 (by omega) inb_S1024x2048_S512x2048_0_0 shapeCasts_S512x2048_S512x2048 x _ rfl rfl

/-- The block of weights stored is the reference's. -/
theorem wOut_at (c : Dev nD) (t : Fin cfg0.N) (y : S1024x2048.Idx) :
    wOut m c t y = val_main_v104 (F := Ideal) (A2 m c) (ix2 (wrow t (y 0)) (y 1)) := by
  have hl : t.val % 5 < 5 := Nat.mod_lt _ (by decide)
  rcases (by omega : t.val % 5 = 0 ∨ t.val % 5 = 1 ∨ t.val % 5 = 2 ∨ t.val % 5 = 3 ∨ t.val % 5 = 4) with h | h | h | h | h
  · rw [wOut_0 m c t h]; exact wTile0_at m c t h y
  · rw [wOut_1 m c t h]; exact wTile1_at m c t h y
  · rw [wOut_2 m c t h]; exact wTile2_at m c t h y
  · rw [wOut_3 m c t h]; exact wTile3_at m c t h y
  · rw [wOut_4 m c t h]; exact wTile4_at m c t h y

end Cert.InSIdeal.Value

end
-- ==== Proof.InSValue.lean ====
/- The input projection of the sample rows: its nine result arrays as the reference's values. -/
module

public import proofs.«01_k».proof.Proof.InSKv
public import proofs.«01_k».proof.Proof.InSQ
public import proofs.«01_k».proof.Proof.InSGate
public import proofs.«01_k».proof.Proof.InSV
public import proofs.«01_k».proof.Proof.InSW

@[expose] public section

set_option maxRecDepth 16384

noncomputable section

open Idealize.ShloMosaic Idealize.ShloMosaic.TcCoe Idealize.SL.Sem
open Idealize.ShloMosaic.Pipeline (Dat)

namespace Cert.InSIdeal.Value

open Cert.InSIdeal Cert.InSIdeal.Gen Cert.InSIdeal.Body
open Cert.InSRefIdeal.Read

variable (m : (ℓ : Loc nD τ sig) → Buf (Elt Ideal) ℓ)
/-! Each result array, once all five steps have run. -/

/-- The normalised rows, narrowed. -/
theorem final7 (c : Dev nD) : (dats m 0 c).arrAt 7 (cfgs 0).N = val_main_v88 (F := Ideal) (A0 m c) (A1 m c) := by
  refine (dats m 0 c).arrAt_eq_of_covers 7 _ (by decide +kernel) fun t _ y => ?_
  blk_simp
  rw [after0_7]
  refine (hOut_at m c _ _ y).trans ?_
  show _ = val_main_v16 (F := Ideal) (A0 m c) (A1 m c) _
  generalize val_main_v16 (F := Ideal) (A0 m c) (A1 m c) = f
  blk_ext [idx t]

/-- The normalised branch. -/
theorem final8 (c : Dev nD) : (dats m 0 c).arrAt 8 (cfgs 0).N = val_main_v47 (F := Ideal) (A0 m c) (A1 m c) (A2 m c) (A3 m c) := by
  refine (dats m 0 c).arrAt_eq_of_covers 8 _ (by decide +kernel) fun t _ y => ?_
  blk_simp
  rw [after0_8]
  refine (vOut_at m c _ _ y).trans ?_
  generalize val_main_v47 (F := Ideal) (A0 m c) (A1 m c) (A2 m c) (A3 m c) = f
  blk_ext [idx t]

/-- The mixed branch. -/
theorem final9 (c : Dev nD) : (dats m 0 c).arrAt 9 (cfgs 0).N = val_main_v89 (F := Ideal) (A0 m c) (A1 m c) (A2 m c) (A3 m c) (A4 m c) (A5 m c) := by
  refine (dats m 0 c).arrAt_eq_of_covers 9 _ (by decide +kernel) fun t _ y => ?_
  blk_simp
  rw [after0_9]
  refine (oaOut_at m c _ _ y).trans ?_
  generalize val_main_v89 (F := Ideal) (A0 m c) (A1 m c) (A2 m c) (A3 m c) (A4 m c) (A5 m c) = f
  blk_ext [idx t]

/-- The heads' normalised queries. -/
theorem final10 (c : Dev nD) : (dats m 0 c).arrAt 10 (cfgs 0).N = val_main_v91 (F := Ideal) (A0 m c) (A1 m c) (A2 m c) (A6 m c) := by
  refine (dats m 0 c).arrAt_eq_of_covers 10 _ (by decide +kernel) fun t _ y => ?_
  blk_simp
  rw [after0_10]
  refine (qOut_at m c _ _ y).trans ?_
  generalize val_main_v91 (F := Ideal) (A0 m c) (A1 m c) (A2 m c) (A6 m c) = f
  blk_ext [idx t]

/-- The compressed branch's keys and values. -/
theorem final11 (c : Dev nD) : (dats m 0 c).arrAt 11 (cfgs 0).N = val_main_v93 (F := Ideal) (A0 m c) (A1 m c) (A2 m c) := by
  refine (dats m 0 c).arrAt_eq_of_covers 11 _ (by decide +kernel) fun t _ y => ?_
  blk_simp
  rw [after0_11]
  refine (kcOut_at m c _ _ y).trans ?_
  generalize val_main_v93 (F := Ideal) (A0 m c) (A1 m c) (A2 m c) = f
  blk_ext [idx t]

/-- The selected branch's keys and values. -/
theorem final12 (c : Dev nD) : (dats m 0 c).arrAt 12 (cfgs 0).N = val_main_v95 (F := Ideal) (A0 m c) (A1 m c) (A2 m c) := by
  refine (dats m 0 c).arrAt_eq_of_covers 12 _ (by decide +kernel) fun t _ y => ?_
  blk_simp
  rw [after0_12]
  refine (ksOut_at m c _ _ y).trans ?_
  generalize val_main_v95 (F := Ideal) (A0 m c) (A1 m c) (A2 m c) = f
  blk_ext [idx t]

/-- The window branch's keys and values. -/
theorem final13 (c : Dev nD) : (dats m 0 c).arrAt 13 (cfgs 0).N = val_main_v97 (F := Ideal) (A0 m c) (A1 m c) (A2 m c) := by
  refine (dats m 0 c).arrAt_eq_of_covers 13 _ (by decide +kernel) fun t _ y => ?_
  blk_simp
  rw [after0_13]
  refine (kwOut_at m c _ _ y).trans ?_
  generalize val_main_v97 (F := Ideal) (A0 m c) (A1 m c) (A2 m c) = f
  blk_ext [idx t]

/-- The gates. -/
theorem final14 (c : Dev nD) : (dats m 0 c).arrAt 14 (cfgs 0).N = val_main_v100 (F := Ideal) (A0 m c) (A1 m c) (A2 m c) := by
  refine (dats m 0 c).arrAt_eq_of_covers 14 _ (by decide +kernel) fun t _ y => ?_
  blk_simp
  rw [after0_14]
  refine (gateOut_at m c _ _ y).trans ?_
  generalize val_main_v100 (F := Ideal) (A0 m c) (A1 m c) (A2 m c) = f
  blk_ext [idx t]

/-- The weights, turned and narrowed. -/
theorem final15 (c : Dev nD) : (dats m 0 c).arrAt 15 (cfgs 0).N = val_main_v104 (F := Ideal) (A2 m c) := by
  refine (dats m 0 c).arrAt_eq_of_covers 15 _ (by decide +kernel) fun t _ y => ?_
  blk_simp
  rw [after0_15]
  refine (wOut_at m c _ y).trans ?_
  generalize val_main_v104 (F := Ideal) (A2 m c) = f
  have h5 := lt5 t
  have hm : t.val % 5 = t.val := Nat.mod_eq_of_lt h5
  blk_ext [idx t, hm]

/-- Every run ends with each result at the reference's last stage and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v21_0) = val_main_v88 (F := Ideal) (A0 m c) (A1 m c)
      ∧ r.2.mem ((c.tc : Thread nD τ).loc main_v21_1) = val_main_v47 (F := Ideal) (A0 m c) (A1 m c) (A2 m c) (A3 m c)
      ∧ r.2.mem ((c.tc : Thread nD τ).loc main_v21_2) = val_main_v89 (F := Ideal) (A0 m c) (A1 m c) (A2 m c) (A3 m c) (A4 m c) (A5 m c)
      ∧ r.2.mem ((c.tc : Thread nD τ).loc main_v21_3) = val_main_v91 (F := Ideal) (A0 m c) (A1 m c) (A2 m c) (A6 m c)
      ∧ r.2.mem ((c.tc : Thread nD τ).loc main_v21_4) = val_main_v93 (F := Ideal) (A0 m c) (A1 m c) (A2 m c)
      ∧ r.2.mem ((c.tc : Thread nD τ).loc main_v21_5) = val_main_v95 (F := Ideal) (A0 m c) (A1 m c) (A2 m c)
      ∧ r.2.mem ((c.tc : Thread nD τ).loc main_v21_6) = val_main_v97 (F := Ideal) (A0 m c) (A1 m c) (A2 m c)
      ∧ r.2.mem ((c.tc : Thread nD τ).loc main_v21_7) = val_main_v100 (F := Ideal) (A0 m c) (A1 m c) (A2 m c)
      ∧ r.2.mem ((c.tc : Thread nD τ).loc main_v21_8) = val_main_v104 (F := Ideal) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 7).trans (final7 m c), ((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), ((h.1 c).1 15).trans (final15 m c), h.2 c⟩)
    (θ_run_and (run_main m ρ) (unchanged m ρ))

end Cert.InSIdeal.Value

end
-- ==== Proof.InSClaim.lean ====
/- The input projection of the sample rows: the runs its claims are about. -/
module

public import proofs.«01_k».proof.Proof.Gen.InS
public import proofs.«01_k».proof.Proof.Gen.InSRefIdeal
public import proofs.«01_k».proof.Proof.Gen.InSRefIdeal.Run
public import proofs.«01_k».proof.Proof.Gen.InSRefIdeal.Read
public import proofs.«01_k».proof.Proof.InSBody

@[expose] public section

set_option maxRecDepth 16384

noncomputable section

open Idealize.ShloMosaic Idealize.ShloMosaic.TcCoe Idealize.SL.Sem

namespace Cert.InSIdeal.Claims

set_option maxHeartbeats 4000000 in
/-- The program and its idealization have one text: one table of bodies. -/
theorem bodies_same : @Cert.InS.defs₀ Bits _ _ = @Cert.InSIdeal.defs₀ Bits _ _ := by
  unfold Cert.InS.defs₀ Cert.InSIdeal.defs₀
  refine congrArg (Defs.onTc (nD := Cert.InSIdeal.nD) (τ := Cert.InSIdeal.τ) (Λ := Cert.InSIdeal.Λ₀) (sig := Cert.InSIdeal.sig) (Val := Elt Bits)) ?_
  funext l a
  match l, a with
  | 0, (t, s) => rfl
  | ⟨_ + 1, h⟩, _ => exact absurd h (Nat.not_lt.2 (Nat.le_add_left _ _))

theorem defs_same : @Cert.InS.defs Bits _ _ = @Cert.InSIdeal.defs Bits _ _ :=
  congrArg (Pipeline.defs Cert.InSIdeal.pcfgs) bodies_same

/-- The program's frame at the machine's words, from the run stated for either float values. -/
theorem frame_bits (m : (ℓ : Loc Cert.InS.nD Cert.InS.τ Cert.InS.sig) → Buf (Elt Bits) ℓ) (g : Dev Cert.InS.nD → PrngReg) :
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3)
      ∧ r.2.mem ((c.tc : Thread Cert.InS.nD Cert.InS.τ).loc Cert.InS.main_arg4) = m ((c.tc : Thread Cert.InS.nD Cert.InS.τ).loc Cert.InS.main_arg4)
      ∧ r.2.mem ((c.tc : Thread Cert.InS.nD Cert.InS.τ).loc Cert.InS.main_arg5) = m ((c.tc : Thread Cert.InS.nD Cert.InS.τ).loc Cert.InS.main_arg5)
      ∧ r.2.mem ((c.tc : Thread Cert.InS.nD Cert.InS.τ).loc Cert.InS.main_arg6) = m ((c.tc : Thread Cert.InS.nD Cert.InS.τ).loc Cert.InS.main_arg6))
      ∧ r.2.sem = fun _ => 0) := by
  have h := Cert.InSIdeal.Body.frame (F := Bits) m g
  rw [← defs_same] at h
  exact h

end Cert.InSIdeal.Claims

namespace Cert.InSRefIdeal.Claims

open Cert.InSRefIdeal Cert.InSRefIdeal.Gen Cert.InSRefIdeal.Read

/-- The reference ends with each result at its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = val_main_v88 (F := Ideal) (m ((c.tc : Thread nD τ).loc main_arg0)) (m ((c.tc : Thread nD τ).loc main_arg1))
      ∧ r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v91) = val_main_v91 (F := Ideal) (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v93) = val_main_v93 (F := Ideal) (m ((c.tc : Thread nD τ).loc main_arg0)) (m ((c.tc : Thread nD τ).loc main_arg1)) (m ((c.tc : Thread nD τ).loc main_arg2))
      ∧ r.2.mem ((c.tc : Thread nD τ).loc main_v95) = val_main_v95 (F := Ideal) (m ((c.tc : Thread nD τ).loc main_arg0)) (m ((c.tc : Thread nD τ).loc main_arg1)) (m ((c.tc : Thread nD τ).loc main_arg2))
      ∧ r.2.mem ((c.tc : Thread nD τ).loc main_v97) = val_main_v97 (F := Ideal) (m ((c.tc : Thread nD τ).loc main_arg0)) (m ((c.tc : Thread nD τ).loc main_arg1)) (m ((c.tc : Thread nD τ).loc main_arg2))
      ∧ r.2.mem ((c.tc : Thread nD τ).loc main_v100) = val_main_v100 (F := Ideal) (m ((c.tc : Thread nD τ).loc main_arg0)) (m ((c.tc : Thread nD τ).loc main_arg1)) (m ((c.tc : Thread nD τ).loc main_arg2))
      ∧ r.2.mem ((c.tc : Thread nD τ).loc main_v104) = val_main_v104 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h3, h4, h5, h6, h7, h8, ha⟩ := h c
    exact ⟨h0.trans (val_main_v88_eq _ _), h1.trans (val_main_v47_eq m c), h2.trans (val_main_v89_eq m c), h3.trans (val_main_v91_eq m c), h4.trans (val_main_v93_eq _ _ _), h5.trans (val_main_v95_eq _ _ _), h6.trans (val_main_v97_eq _ _ _), h7.trans (val_main_v100_eq m c), h8.trans (val_main_v104_eq _), ha⟩)
    (Cert.InSRefIdeal.Value.run m ρ)

/-- The same, of arguments given another name. -/
theorem run_at (m : (ℓ : Loc nD τ sig) → Buf (Elt Ideal) ℓ) (ρ : Dev nD → PrngReg)
    (a0 : (c : Dev nD) → Buf (Elt Ideal) ((c.tc : Thread nD τ).loc main_arg0))
    (a1 : (c : Dev nD) → Buf (Elt Ideal) ((c.tc : Thread nD τ).loc main_arg1))
    (a2 : (c : Dev nD) → Buf (Elt Ideal) ((c.tc : Thread nD τ).loc main_arg2))
    (a3 : (c : Dev nD) → Buf (Elt Ideal) ((c.tc : Thread nD τ).loc main_arg3))
    (a4 : (c : Dev nD) → Buf (Elt Ideal) ((c.tc : Thread nD τ).loc main_arg4))
    (a5 : (c : Dev nD) → Buf (Elt Ideal) ((c.tc : Thread nD τ).loc main_arg5))
    (a6 : (c : Dev nD) → Buf (Elt Ideal) ((c.tc : Thread nD τ).loc main_arg6))
    (e : ∀ c : Dev nD, m ((c.tc : Thread nD τ).loc main_arg0) = a0 c ∧ m ((c.tc : Thread nD τ).loc main_arg1) = a1 c ∧ m ((c.tc : Thread nD τ).loc main_arg2) = a2 c ∧ m ((c.tc : Thread nD τ).loc main_arg3) = a3 c ∧ m ((c.tc : Thread nD τ).loc main_arg4) = a4 c ∧ m ((c.tc : Thread nD τ).loc main_arg5) = a5 c ∧ m ((c.tc : Thread nD τ).loc main_arg6) = a6 c) :
    θ_run defs (onTc (τ := τ) (main (F := Ideal))) ⟨m, fun _ => 0, ρ⟩ fun r => ∀ c : Dev nD,
      r.2.mem ((c.tc : Thread nD τ).loc main_v88) = val_main_v88 (F := Ideal) (a0 c) (a1 c)
      ∧ r.2.mem ((c.tc : Thread nD τ).loc main_v47) = val_main_v47 (F := Ideal) (a0 c) (a1 c) (a2 c) (a3 c)
      ∧ r.2.mem ((c.tc : Thread nD τ).loc main_v89) = val_main_v89 (F := Ideal) (a0 c) (a1 c) (a2 c) (a3 c) (a4 c) (a5 c)
      ∧ r.2.mem ((c.tc : Thread nD τ).loc main_v91) = val_main_v91 (F := Ideal) (a0 c) (a1 c) (a2 c) (a6 c)
      ∧ r.2.mem ((c.tc : Thread nD τ).loc main_v93) = val_main_v93 (F := Ideal) (a0 c) (a1 c) (a2 c)
      ∧ r.2.mem ((c.tc : Thread nD τ).loc main_v95) = val_main_v95 (F := Ideal) (a0 c) (a1 c) (a2 c)
      ∧ r.2.mem ((c.tc : Thread nD τ).loc main_v97) = val_main_v97 (F := Ideal) (a0 c) (a1 c) (a2 c)
      ∧ r.2.mem ((c.tc : Thread nD τ).loc main_v100) = val_main_v100 (F := Ideal) (a0 c) (a1 c) (a2 c)
      ∧ r.2.mem ((c.tc : Thread nD τ).loc main_v104) = val_main_v104 (F := Ideal) (a2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨e0, e1, e2, e3, e4, e5, e6⟩ := e c
    rw [← e0, ← e1, ← e2, ← e3, ← e4, ← e5, ← e6]
    exact h c) (run m ρ)

end Cert.InSRefIdeal.Claims

end
-- ==== Proof.InPRun0.lean ====
/- The input projection of the prompt rows: its body at the first column tile: the row statistics, the normalised rows kept for the later tiles, and the first half of the gated units. -/
module

public import proofs.«01_k».proof.InPIdeal
public import proofs.«01_k».proof.Proof.Gen.InPIdeal.Frame
public import proofs.«01_k».proof.Proof.Gen.InPIdeal.Skeleton

@[expose] public section

set_option maxRecDepth 16384

noncomputable section

namespace Cert.InPIdeal.Body

open Idealize.ShloMosaic Idealize.ShloMosaic.TcCoe Idealize.ShloMosaic.Tactic
open Cert.InPIdeal Cert.InPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first column tile: the row statistics, the normalised rows kept for the later tiles, and the first half of the gated units: what its stores leave in each buffer it writes, as
    pieces (last first), with the proof that it runs to the continuation holding what it read as it was. -/
noncomputable def run0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S512x2048 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S512x256 .f32) (harg16 : arg16.IsWhole) (arg17 : Memref sig .tc .vmem S512x2048 .bf16) (harg17 : arg17.IsWhole) (arg18 : Memref sig .tc .vmem S512x1024 .f32) (harg18 : arg18.IsWhole)
    (hc0 : k0_cond1 i = 1#1) (hc1 : ¬ k0_cond2 i = 1#1) (hc2 : ¬ k0_cond3 i = 1#1) (hc3 : ¬ k0_cond4 i = 1#1) (hc4 : ¬ k0_cond5 i = 1#1)
    (x2 : Vec F S512x2048 .f32) (x3 : Vec F S1x2048 .f32) (x4 : Vec F S1024x2048 .bf16) :
    Σ' (L9 : List (View.Piece (Elt F) S512x2048 .bf16)), Σ' (L17 : List (View.Piece (Elt F) S512x2048 .bf16)), { L18 : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg9 fullShare d) ∗ (∃ d, owns (c : Thread nD τ) arg17 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ (∃ f, arg9.view.loc (c : Thread nD τ) ↦[arg9.view.set]{fullShare} arg9.view.writes (Elt F) f L9) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_inproj_eq_skeleton]; unfold cc0_inproj_skel
    unfold owns
    iintro ⟨⟨%f2, %hf2, H2⟩, ⟨%f3, %hf3, H3⟩, ⟨%f4, %hf4, H4⟩, ⟨%d9, %f9, -, H9⟩, ⟨%d17, %f17, -, H17⟩, ⟨%d18, %f18, -, H18⟩, Hk⟩
    obtain rfl := harg2.eq_unread hf2; obtain rfl := harg3.eq_unread hf3; obtain rfl := harg4.eq_unread hf4
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H9]; · iexists _; iexact H9
    isplitl [H17]; · iexists _; iexact H17
    iexists _; iexact H18

end Cert.InPIdeal.Body

end
-- ==== Proof.InPRun1.lean ====
/- The input projection of the prompt rows: its body at the second column tile: the second half of the gated units, normalised, and their mix within each chunk. -/
module

public import proofs.«01_k».proof.InPIdeal
public import proofs.«01_k».proof.Proof.Gen.InPIdeal.Frame
public import proofs.«01_k».proof.Proof.Gen.InPIdeal.Skeleton

@[expose] public section

set_option maxRecDepth 16384

noncomputable section

namespace Cert.InPIdeal.Body

open Idealize.ShloMosaic Idealize.ShloMosaic.TcCoe Idealize.ShloMosaic.Tactic
open Cert.InPIdeal Cert.InPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second column tile: the second half of the gated units, normalised, and their mix within each chunk: what its stores leave in each buffer it writes, as
    pieces (last first), with the proof that it runs to the continuation holding what it read as it was. -/
noncomputable def run1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S512x2048 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S512x256 .f32) (harg16 : arg16.IsWhole) (arg17 : Memref sig .tc .vmem S512x2048 .bf16) (harg17 : arg17.IsWhole) (arg18 : Memref sig .tc .vmem S512x1024 .f32) (harg18 : arg18.IsWhole)
    (hc0 : ¬ k0_cond1 i = 1#1) (hc1 : k0_cond2 i = 1#1) (hc2 : ¬ k0_cond3 i = 1#1) (hc3 : ¬ k0_cond4 i = 1#1) (hc4 : ¬ k0_cond5 i = 1#1)
    (x4 : Vec F S1024x2048 .bf16) (x5 : Vec F S1x1024 .f32) (x7 : Vec F S8x128x128 .f32) (x8 : Vec F S128x1024 .f32) (x17 : Vec F S512x2048 .bf16) (x18 : Vec F S512x1024 .f32) :
    Σ' (L10 : List (View.Piece (Elt F) S512x1024 .f32)), { L11 : List (View.Piece (Elt F) S512x1024 .bf16) //
      ∀ (E : Set ℕ) (K : PUnit → sProp 𝕄),
        iprop(owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg17 fullShare x17 ∗ owns (c : Thread nD τ) arg18 fullShare x18 ∗ (∃ d, owns (c : Thread nD τ) arg10 fullShare d) ∗ (∃ d, owns (c : Thread nD τ) arg11 fullShare d)
            ∗ (iprop(owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg17 fullShare x17 ∗ owns (c : Thread nD τ) arg18 fullShare x18 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_inproj_eq_skeleton]; unfold cc0_inproj_skel
    unfold owns
    iintro ⟨⟨%f4, %hf4, H4⟩, ⟨%f5, %hf5, H5⟩, ⟨%f7, %hf7, H7⟩, ⟨%f8, %hf8, H8⟩, ⟨%f17, %hf17, H17⟩, ⟨%f18, %hf18, H18⟩, ⟨%d10, %f10, -, H10⟩, ⟨%d11, %f11, -, H11⟩, Hk⟩
    obtain rfl := harg4.eq_unread hf4; obtain rfl := harg5.eq_unread hf5; obtain rfl := harg7.eq_unread hf7; obtain rfl := harg8.eq_unread hf8; obtain rfl := harg17.eq_unread hf17; obtain rfl := harg18.eq_unread hf18
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H17]
    · iexists _; isplitr; · ipureintro; exact harg17.read_unread _
      iexact H17
    isplitl [H18]
    · iexists _; isplitr; · ipureintro; exact harg18.read_unread _
      iexact H18
    isplitl [H10]; · iexists _; iexact H10
    iexists _; iexact H11

end Cert.InPIdeal.Body

end
-- ==== Proof.InPRun2.lean ====
/- The input projection of the prompt rows: its body at the third column tile: the query heads. -/
module

public import proofs.«01_k».proof.InPIdeal
public import proofs.«01_k».proof.Proof.Gen.InPIdeal.Frame
public import proofs.«01_k».proof.Proof.Gen.InPIdeal.Skeleton

@[expose] public section

set_option maxRecDepth 16384

noncomputable section

namespace Cert.InPIdeal.Body

open Idealize.ShloMosaic Idealize.ShloMosaic.TcCoe Idealize.ShloMosaic.Tactic
open Cert.InPIdeal Cert.InPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the third column tile: the query heads: what its stores leave in each buffer it writes, as
    pieces (last first), with the proof that it runs to the continuation holding what it read as it was. -/
noncomputable def run2 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S512x2048 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S512x256 .f32) (harg16 : arg16.IsWhole) (arg17 : Memref sig .tc .vmem S512x2048 .bf16) (harg17 : arg17.IsWhole) (arg18 : Memref sig .tc .vmem S512x1024 .f32) (harg18 : arg18.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (x4 : Vec F S1024x2048 .bf16) (x6 : Vec F S1x128 .f32) (x17 : Vec F S512x2048 .bf16) :
    { L12 : List (View.Piece (Elt F) S512x1024 .bf16) //
      ∀ (E : Set ℕ) (K : PUnit → sProp 𝕄),
        iprop(owns (c : Thread nD τ) arg4 fullShare x4 ∗ owns (c : Thread nD τ) arg6 fullShare x6 ∗ owns (c : Thread nD τ) arg17 fullShare x17 ∗ (∃ d, owns (c : Thread nD τ) arg12 fullShare d)
            ∗ (iprop(owns (c : Thread nD τ) arg4 fullShare x4 ∗ owns (c : Thread nD τ) arg6 fullShare x6 ∗ owns (c : Thread nD τ) arg17 fullShare x17 ∗ (∃ f, arg12.view.loc (c : Thread nD τ) ↦[arg12.view.set]{fullShare} arg12.view.writes (Elt F) f L12)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_inproj_eq_skeleton]; unfold cc0_inproj_skel
    unfold owns
    iintro ⟨⟨%f4, %hf4, H4⟩, ⟨%f6, %hf6, H6⟩, ⟨%f17, %hf17, H17⟩, ⟨%d12, %f12, -, H12⟩, Hk⟩
    obtain rfl := harg4.eq_unread hf4; obtain rfl := harg6.eq_unread hf6; obtain rfl := harg17.eq_unread hf17
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H6]
    · iexists _; isplitr; · ipureintro; exact harg6.read_unread _
      iexact H6
    isplitl [H17]
    · iexists _; isplitr; · ipureintro; exact harg17.read_unread _
      iexact H17
    iexists _; iexact H12

end Cert.InPIdeal.Body

end
-- ==== Proof.InPRun3.lean ====
/- The input projection of the prompt rows: its body at the fourth column tile: two of the three stores of keys and values. -/
module

public import proofs.«01_k».proof.InPIdeal
public import proofs.«01_k».proof.Proof.Gen.InPIdeal.Frame
public import proofs.«01_k».proof.Proof.Gen.InPIdeal.Skeleton

@[expose] public section

set_option maxRecDepth 16384

noncomputable section

namespace Cert.InPIdeal.Body

open Idealize.ShloMosaic Idealize.ShloMosaic.TcCoe Idealize.ShloMosaic.Tactic
open Cert.InPIdeal Cert.InPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the fourth column tile: two of the three stores of keys and values: what its stores leave in each buffer it writes, as
    pieces (last first), with the proof that it runs to the continuation holding what it read as it was. -/
noncomputable def run3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S512x2048 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S512x256 .f32) (harg16 : arg16.IsWhole) (arg17 : Memref sig .tc .vmem S512x2048 .bf16) (harg17 : arg17.IsWhole) (arg18 : Memref sig .tc .vmem S512x1024 .f32) (harg18 : arg18.IsWhole)
    (hc0 : ¬ k0_cond1 i = 1#1) (hc1 : ¬ k0_cond2 i = 1#1) (hc2 : ¬ k0_cond3 i = 1#1) (hc3 : k0_cond4 i = 1#1) (hc4 : ¬ k0_cond5 i = 1#1)
    (x4 : Vec F S1024x2048 .bf16) (x17 : Vec F S512x2048 .bf16) :
    Σ' (L13 : List (View.Piece (Elt F) S2048x128 .f32)), { L14 : List (View.Piece (Elt F) S2048x128 .f32) //
      ∀ (E : Set ℕ) (K : PUnit → sProp 𝕄),
        iprop(owns (c : Thread nD τ) arg4 fullShare x4 ∗ owns (c : Thread nD τ) arg17 fullShare x17 ∗ (∃ d, owns (c : Thread nD τ) arg13 fullShare d) ∗ (∃ d, owns (c : Thread nD τ) arg14 fullShare d)
            ∗ (iprop(owns (c : Thread nD τ) arg4 fullShare x4 ∗ owns (c : Thread nD τ) arg17 fullShare x17 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_inproj_eq_skeleton]; unfold cc0_inproj_skel
    unfold owns
    iintro ⟨⟨%f4, %hf4, H4⟩, ⟨%f17, %hf17, H17⟩, ⟨%d13, %f13, -, H13⟩, ⟨%d14, %f14, -, H14⟩, Hk⟩
    obtain rfl := harg4.eq_unread hf4; obtain rfl := harg17.eq_unread hf17
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H17]
    · iexists _; isplitr; · ipureintro; exact harg17.read_unread _
      iexact H17
    isplitl [H13]; · iexists _; iexact H13
    iexists _; iexact H14

end Cert.InPIdeal.Body

end
-- ==== Proof.InPRun4.lean ====
/- The input projection of the prompt rows: its body at the last column tile: the third store of keys and values, and the gates. -/
module

public import proofs.«01_k».proof.InPIdeal
public import proofs.«01_k».proof.Proof.Gen.InPIdeal.Frame
public import proofs.«01_k».proof.Proof.Gen.InPIdeal.Skeleton

@[expose] public section

set_option maxRecDepth 16384

noncomputable section

namespace Cert.InPIdeal.Body

open Idealize.ShloMosaic Idealize.ShloMosaic.TcCoe Idealize.ShloMosaic.Tactic
open Cert.InPIdeal Cert.InPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column tile: the third store of keys and values, and the gates: what its stores leave in each buffer it writes, as
    pieces (last first), with the proof that it runs to the continuation holding what it read as it was. -/
noncomputable def run4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S512x2048 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S512x256 .f32) (harg16 : arg16.IsWhole) (arg17 : Memref sig .tc .vmem S512x2048 .bf16) (harg17 : arg17.IsWhole) (arg18 : Memref sig .tc .vmem S512x1024 .f32) (harg18 : arg18.IsWhole)
    (hc0 : ¬ k0_cond1 i = 1#1) (hc1 : ¬ k0_cond2 i = 1#1) (hc2 : ¬ k0_cond3 i = 1#1) (hc3 : ¬ k0_cond4 i = 1#1) (hc4 : k0_cond5 i = 1#1)
    (x4 : Vec F S1024x2048 .bf16) (x17 : Vec F S512x2048 .bf16) :
    Σ' (L15 : List (View.Piece (Elt F) S2048x128 .f32)), { L16 : List (View.Piece (Elt F) S512x256 .f32) //
      ∀ (E : Set ℕ) (K : PUnit → sProp 𝕄),
        iprop(owns (c : Thread nD τ) arg4 fullShare x4 ∗ owns (c : Thread nD τ) arg17 fullShare x17 ∗ (∃ d, owns (c : Thread nD τ) arg15 fullShare d) ∗ (∃ d, owns (c : Thread nD τ) arg16 fullShare d)
            ∗ (iprop(owns (c : Thread nD τ) arg4 fullShare x4 ∗ owns (c : Thread nD τ) arg17 fullShare x17 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_inproj_eq_skeleton]; unfold cc0_inproj_skel
    unfold owns
    iintro ⟨⟨%f4, %hf4, H4⟩, ⟨%f17, %hf17, H17⟩, ⟨%d15, %f15, -, H15⟩, ⟨%d16, %f16, -, H16⟩, Hk⟩
    obtain rfl := harg4.eq_unread hf4; obtain rfl := harg17.eq_unread hf17
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H17]
    · iexists _; isplitr; · ipureintro; exact harg17.read_unread _
      iexact H17
    isplitl [H15]; · iexists _; iexact H15
    iexists _; iexact H16

end Cert.InPIdeal.Body

end
-- ==== Proof.InPBody.lean ====
/- The input projection of the prompt rows: its five steps over a row tile put together, every run of it, and its frame. -/
module

public import proofs.«01_k».proof.Proof.Held
public import proofs.«01_k».proof.Proof.InPRun0
public import proofs.«01_k».proof.Proof.InPRun1
public import proofs.«01_k».proof.Proof.InPRun2
public import proofs.«01_k».proof.Proof.InPRun3
public import proofs.«01_k».proof.Proof.InPRun4
public import Idealize.ShloMosaic.Lib.Claim

@[expose] public section

set_option maxRecDepth 16384

noncomputable section

namespace Cert.InPIdeal.Body

open Idealize.ShloMosaic Idealize.ShloMosaic.TcCoe Idealize.ShloMosaic.Tactic
open Cert.InPIdeal Cert.InPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x256 .f32 := win0_14.stage (cfg0.slots t 14)
abbrev hs0_14 (t : Fin cfg0.N) : (ms0_14 t).IsWhole := hstage0_14 ((cfg0.slots t 14).cast nbuf0_14)
abbrev sc0 : Memref sig .tc .vmem S512x2048 .bf16 := Memref.whole cc0_scratch0
abbrev sc1 : Memref sig .tc .vmem S512x1024 .f32 := Memref.whole cc0_scratch1

/-- Step `j` of the row tile point `t` is in. -/
abbrev tile (t : Fin cfg0.N) (j : ℕ) (hj : j < 5) : Fin cfg0.N :=
  ⟨5 * (t.val / 5) + j, by have h : t.val < 80 := Nat.lt_of_lt_of_eq t.isLt N_0; show _ < grid0.N; rw [N_0]; omega⟩

theorem tile_mod (t : Fin cfg0.N) (j : ℕ) (hj : j < 5) : (tile t j hj).val % 5 = j := by simp only; omega

theorem tile_self (t : Fin cfg0.N) (j : ℕ) (hj : j < 5) (h : t.val % 5 = j) : tile t j hj = t := Fin.ext (by simp only; omega)

theorem at_congr {α : Sort _} {j : ℕ} (f : (p : Fin cfg0.N) → p.val % 5 = j → α) {p q : Fin cfg0.N} (e : p = q)
    (hp : p.val % 5 = j) (hq : q.val % 5 = j) : f p hp = f q hq := by subst e; rfl

theorem at_tile {α : Sort _} {j : ℕ} (hj : j < 5) (f : (p : Fin cfg0.N) → p.val % 5 = j → α) (t : Fin cfg0.N) (h : t.val % 5 = j) :
    f (tile t j hj) (tile_mod t j hj) = f t h := at_congr f (tile_self t j hj h) _ _

theorem cond0 (t : Fin cfg0.N) : k0_cond1 (grid0.coords t) = 1#1 ↔ t.val % 5 = 0 := by
  have ht := Nat.lt_of_lt_of_eq t.isLt N_0
  have e1 : (grid0.coords t 1).val = t.val / 1 % 5 := Pipeline.Grid.coords_val t 1 (by decide) rfl
  simp only [k0_cond1, e1]
  word_cmp

theorem cond1 (t : Fin cfg0.N) : k0_cond2 (grid0.coords t) = 1#1 ↔ t.val % 5 = 1 := by
  have ht := Nat.lt_of_lt_of_eq t.isLt N_0
  have e1 : (grid0.coords t 1).val = t.val / 1 % 5 := Pipeline.Grid.coords_val t 1 (by decide) rfl
  simp only [k0_cond2, e1]
  word_cmp

theorem cond2 (t : Fin cfg0.N) : k0_cond3 (grid0.coords t) = 1#1 ↔ t.val % 5 = 2 := by
  have ht := Nat.lt_of_lt_of_eq t.isLt N_0
  have e1 : (grid0.coords t 1).val = t.val / 1 % 5 := Pipeline.Grid.coords_val t 1 (by decide) rfl
  simp only [k0_cond3, e1]
  word_cmp

theorem cond3 (t : Fin cfg0.N) : k0_cond4 (grid0.coords t) = 1#1 ↔ t.val % 5 = 3 := by
  have ht := Nat.lt_of_lt_of_eq t.isLt N_0
  have e1 : (grid0.coords t 1).val = t.val / 1 % 5 := Pipeline.Grid.coords_val t 1 (by decide) rfl
  simp only [k0_cond4, e1]
  word_cmp

theorem cond4 (t : Fin cfg0.N) : k0_cond5 (grid0.coords t) = 1#1 ↔ t.val % 5 = 4 := by
  have ht := Nat.lt_of_lt_of_eq t.isLt N_0
  have e1 : (grid0.coords t 1).val = t.val / 1 % 5 := Pipeline.Grid.coords_val t 1 (by decide) rfl
  simp only [k0_cond5, e1]
  word_cmp

/-- Step 0 at its point, on what it finds there. -/
abbrev R0 (c : Dev nD) (t : Fin cfg0.N) (h : t.val % 5 = 0) :=
  run0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) sc0 (Memref.isWhole_whole _) sc1 (Memref.isWhole_whole _)
    ((cond0 t).mpr h) (fun e => absurd ((cond1 t).mp e) (by omega)) (fun e => absurd ((cond2 t).mp e) (by omega)) (fun e => absurd ((cond3 t).mp e) (by omega)) (fun e => absurd ((cond4 t).mp e) (by omega))
    (iblk m c 0 t) (iblk m c 1 t) (iblk m c 2 t)

theorem hOut_cover (c : Dev nD) (t : Fin cfg0.N) (h : t.val % 5 = 0) (y : S512x2048.Idx) :
    ∃ p ∈ (R0 m c t h).1, y ∈ p.1.set :=
  View.cover_of_tiledL _ (![512, 2048]) (by sl_kernel_rfl) y

/-- The normalised rows, as a result. -/
def hOut (c : Dev nD) (t : Fin cfg0.N) (h : t.val % 5 = 0) : Vec F S512x2048 .bf16 := View.canon (R0 m c t h).1

theorem hTile_cover (c : Dev nD) (t : Fin cfg0.N) (h : t.val % 5 = 0) (y : S512x2048.Idx) :
    ∃ p ∈ (R0 m c t h).2.1, y ∈ p.1.set :=
  View.cover_of_tiledL _ (![512, 2048]) (by sl_kernel_rfl) y

/-- The normalised rows, kept for the later steps. -/
def hTile (c : Dev nD) (t : Fin cfg0.N) (h : t.val % 5 = 0) : Vec F S512x2048 .bf16 := View.canon (R0 m c t h).2.1

theorem uTile_cover (c : Dev nD) (t : Fin cfg0.N) (h : t.val % 5 = 0) (y : S512x1024.Idx) :
    ∃ p ∈ (R0 m c t h).2.2.1, y ∈ p.1.set :=
  View.cover_of_tiledL _ (![512, 512]) (by sl_kernel_rfl) y

/-- The first half of the gated units, kept for the next step. -/
def uTile (c : Dev nD) (t : Fin cfg0.N) (h : t.val % 5 = 0) : Vec F S512x1024 .f32 := View.canon (R0 m c t h).2.2.1

/-- Step 1 at its point, on what it finds there. -/
abbrev R1 (c : Dev nD) (t : Fin cfg0.N) (h : t.val % 5 = 1) :=
  run1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) sc0 (Memref.isWhole_whole _) sc1 (Memref.isWhole_whole _)
    (fun e => absurd ((cond0 t).mp e) (by omega)) ((cond1 t).mpr h) (fun e => absurd ((cond2 t).mp e) (by omega)) (fun e => absurd ((cond3 t).mp e) (by omega)) (fun e => absurd ((cond4 t).mp e) (by omega))
    (iblk m c 2 t) (iblk m c 3 t) (iblk m c 5 t) (iblk m c 6 t) (hTile m c (tile t 0 (by decide)) (tile_mod t 0 (by decide))) (uTile m c (tile t 0 (by decide)) (tile_mod t 0 (by decide)))

theorem vOut_cover (c : Dev nD) (t : Fin cfg0.N) (h : t.val % 5 = 1) (y : S512x1024.Idx) :
    ∃ p ∈ (R1 m c t h).1, y ∈ p.1.set :=
  View.cover_of_tiledL _ (![512, 512]) (by sl_kernel_rfl) y

/-- The second half of the gated units, normalised. -/
def vOut (c : Dev nD) (t : Fin cfg0.N) (h : t.val % 5 = 1) : Vec F S512x1024 .f32 := View.canon (R1 m c t h).1

theorem oaOut_cover (c : Dev nD) (t : Fin cfg0.N) (h : t.val % 5 = 1) (y : S512x1024.Idx) :
    ∃ p ∈ (R1 m c t h).2.1, y ∈ p.1.set :=
  View.cover_of_tiledL _ (![128, 128]) (by sl_kernel_rfl) y

/-- The two halves mixed. -/
def oaOut (c : Dev nD) (t : Fin cfg0.N) (h : t.val % 5 = 1) : Vec F S512x1024 .bf16 := View.canon (R1 m c t h).2.1

/-- Step 2 at its point, on what it finds there. -/
abbrev R2 (c : Dev nD) (t : Fin cfg0.N) (h : t.val % 5 = 2) :=
  run2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) sc0 (Memref.isWhole_whole _) sc1 (Memref.isWhole_whole _)
    (fun e => absurd ((cond0 t).mp e) (by omega)) (fun e => absurd ((cond1 t).mp e) (by omega)) ((cond2 t).mpr h) (fun e => absurd ((cond3 t).mp e) (by omega)) (fun e => absurd ((cond4 t).mp e) (by omega))
    (iblk m c 2 t) (iblk m c 4 t) (hTile m c (tile t 0 (by decide)) (tile_mod t 0 (by decide)))

theorem qOut_cover (c : Dev nD) (t : Fin cfg0.N) (h : t.val % 5 = 2) (y : S512x1024.Idx) :
    ∃ p ∈ (R2 m c t h).1, y ∈ p.1.set :=
  View.cover_of_tiledL _ (![512, 128]) (by sl_kernel_rfl) y

/-- The query heads. -/
def qOut (c : Dev nD) (t : Fin cfg0.N) (h : t.val % 5 = 2) : Vec F S512x1024 .bf16 := View.canon (R2 m c t h).1

/-- Step 3 at its point, on what it finds there. -/
abbrev R3 (c : Dev nD) (t : Fin cfg0.N) (h : t.val % 5 = 3) :=
  run3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) sc0 (Memref.isWhole_whole _) sc1 (Memref.isWhole_whole _)
    (fun e => absurd ((cond0 t).mp e) (by omega)) (fun e => absurd ((cond1 t).mp e) (by omega)) (fun e => absurd ((cond2 t).mp e) (by omega)) ((cond3 t).mpr h) (fun e => absurd ((cond4 t).mp e) (by omega))
    (iblk m c 2 t) (hTile m c (tile t 0 (by decide)) (tile_mod t 0 (by decide)))

theorem kcOut_cover (c : Dev nD) (t : Fin cfg0.N) (h : t.val % 5 = 3) (y : S2048x128.Idx) :
    ∃ p ∈ (R3 m c t h).1, y ∈ p.1.set :=
  Cert.Held.rows_cover 512 128 _ rfl y

/-- Keys and values of the compressed branch. -/
def kcOut (c : Dev nD) (t : Fin cfg0.N) (h : t.val % 5 = 3) : Vec F S2048x128 .f32 := View.canon (R3 m c t h).1

theorem ksOut_cover (c : Dev nD) (t : Fin cfg0.N) (h : t.val % 5 = 3) (y : S2048x128.Idx) :
    ∃ p ∈ (R3 m c t h).2.1, y ∈ p.1.set :=
  Cert.Held.rows_cover 512 128 _ rfl y

/-- Keys and values of the selected branch. -/
def ksOut (c : Dev nD) (t : Fin cfg0.N) (h : t.val % 5 = 3) : Vec F S2048x128 .f32 := View.canon (R3 m c t h).2.1

/-- Step 4 at its point, on what it finds there. -/
abbrev R4 (c : Dev nD) (t : Fin cfg0.N) (h : t.val % 5 = 4) :=
  run4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) sc0 (Memref.isWhole_whole _) sc1 (Memref.isWhole_whole _)
    (fun e => absurd ((cond0 t).mp e) (by omega)) (fun e => absurd ((cond1 t).mp e) (by omega)) (fun e => absurd ((cond2 t).mp e) (by omega)) (fun e => absurd ((cond3 t).mp e) (by omega)) ((cond4 t).mpr h)
    (iblk m c 2 t) (hTile m c (tile t 0 (by decide)) (tile_mod t 0 (by decide)))

theorem kwOut_cover (c : Dev nD) (t : Fin cfg0.N) (h : t.val % 5 = 4) (y : S2048x128.Idx) :
    ∃ p ∈ (R4 m c t h).1, y ∈ p.1.set :=
  Cert.Held.rows_cover 512 128 _ rfl y

/-- Keys and values of the window branch. -/
def kwOut (c : Dev nD) (t : Fin cfg0.N) (h : t.val % 5 = 4) : Vec F S2048x128 .f32 := View.canon (R4 m c t h).1

theorem gateOut_cover (c : Dev nD) (t : Fin cfg0.N) (h : t.val % 5 = 4) (y : S512x256.Idx) :
    ∃ p ∈ (R4 m c t h).2.1, y ∈ p.1.set :=
  View.cover_of_tiledL _ (![512, 128]) (by sl_kernel_rfl) y

/-- The gates. -/
def gateOut (c : Dev nD) (t : Fin cfg0.N) (h : t.val % 5 = 4) : Vec F S512x256 .f32 := View.canon (R4 m c t h).2.1

/-- The invariant before point `n`: inside a row tile the two scratch buffers hold what its first step left. -/
def PhiS (c : Dev nD) (n : ℕ) : sProp 𝕄 :=
  iprop(∃ a b, ⌜∀ t : Fin cfg0.N, t.val = n → t.val % 5 ≠ 0 → a = hTile m c (tile t 0 (by decide)) (tile_mod t 0 (by decide))
      ∧ b = uTile m c (tile t 0 (by decide)) (tile_mod t 0 (by decide))⌝
    ∗ owns (c : Thread nD τ) sc0 fullShare a ∗ owns (c : Thread nD τ) sc1 fullShare b ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hOut m c (tile t 0 (by decide)) (tile_mod t 0 (by decide))
    | ⟨8, _⟩ => vOut m c (tile t 1 (by decide)) (tile_mod t 1 (by decide))
    | ⟨9, _⟩ => oaOut m c (tile t 1 (by decide)) (tile_mod t 1 (by decide))
    | ⟨10, _⟩ => qOut m c (tile t 2 (by decide)) (tile_mod t 2 (by decide))
    | ⟨11, _⟩ => kcOut m c (tile t 3 (by decide)) (tile_mod t 3 (by decide))
    | ⟨12, _⟩ => ksOut m c (tile t 3 (by decide)) (tile_mod t 3 (by decide))
    | ⟨13, _⟩ => kwOut m c (tile t 4 (by decide)) (tile_mod t 4 (by decide))
    | ⟨14, _⟩ => gateOut m c (tile t 4 (by decide)) (tile_mod t 4 (by decide))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = hOut m c (tile t 0 (by decide)) (tile_mod t 0 (by decide)) := by dsimp only [dats]
theorem after0_8 (c : Dev nD) (t : Fin cfg0.N) : (dats m 0 c).after 8 t = vOut m c (tile t 1 (by decide)) (tile_mod t 1 (by decide)) := by dsimp only [dats]
theorem after0_9 (c : Dev nD) (t : Fin cfg0.N) : (dats m 0 c).after 9 t = oaOut m c (tile t 1 (by decide)) (tile_mod t 1 (by decide)) := by dsimp only [dats]
theorem after0_10 (c : Dev nD) (t : Fin cfg0.N) : (dats m 0 c).after 10 t = qOut m c (tile t 2 (by decide)) (tile_mod t 2 (by decide)) := by dsimp only [dats]
theorem after0_11 (c : Dev nD) (t : Fin cfg0.N) : (dats m 0 c).after 11 t = kcOut m c (tile t 3 (by decide)) (tile_mod t 3 (by decide)) := by dsimp only [dats]
theorem after0_12 (c : Dev nD) (t : Fin cfg0.N) : (dats m 0 c).after 12 t = ksOut m c (tile t 3 (by decide)) (tile_mod t 3 (by decide)) := by dsimp only [dats]
theorem after0_13 (c : Dev nD) (t : Fin cfg0.N) : (dats m 0 c).after 13 t = kwOut m c (tile t 4 (by decide)) (tile_mod t 4 (by decide)) := by dsimp only [dats]
theorem after0_14 (c : Dev nD) (t : Fin cfg0.N) : (dats m 0 c).after 14 t = gateOut m c (tile t 4 (by decide)) (tile_mod t 4 (by decide)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem idle0_7 (t : Fin cfg0.N) : cfg0.idle 7 (cfg0.grid.coords t) = true ↔ t.val % 5 ≠ 0 := Cert.Held.idle_of (cond0 t)

theorem hold0_7 (c : Dev nD) (t : Fin cfg0.N) (h : t.val % 5 ≠ 0) :
    iprop(∃ d, owns (c : Thread nD τ) (ms0_7 t) fullShare ((dats m 0 c).before 7 t d)) ⊢ (dats m 0 c).leavesExact 7 t :=
  Cert.Held.leaves_idle (dats m 0 c) 7 0 (by decide) (fun _ => rfl) flush0_7 idle0_7 (fun _ _ => rfl)
    (fun t t' e => by
      rw [after0_7, after0_7]
      exact at_congr (hOut m c) (Fin.ext (by simp only; omega)) _ _) t h

theorem store0_7 (c : Dev nD) (t : Fin cfg0.N) (h : t.val % 5 = 0) :
    iprop(∃ f, (ms0_7 t).view.loc (c : Thread nD τ) ↦[(ms0_7 t).view.set]{fullShare} (ms0_7 t).view.writes (Elt F) f (R0 m c t h).1)
      ⊢ (dats m 0 c).leavesExact 7 t :=
  Cert.Held.leaves_writes (dats m 0 c) 7 0 idle0_7 t h _ (hOut_cover m c t h)
    ((after0_7 m c t).trans (at_tile (by decide) (hOut m c) t h))

theorem idle0_8 (t : Fin cfg0.N) : cfg0.idle 8 (cfg0.grid.coords t) = true ↔ t.val % 5 ≠ 1 := Cert.Held.idle_of (cond1 t)

theorem hold0_8 (c : Dev nD) (t : Fin cfg0.N) (h : t.val % 5 ≠ 1) :
    iprop(∃ d, owns (c : Thread nD τ) (ms0_8 t) fullShare ((dats m 0 c).before 8 t d)) ⊢ (dats m 0 c).leavesExact 8 t :=
  Cert.Held.leaves_idle (dats m 0 c) 8 1 (by decide) (fun _ => rfl) flush0_8 idle0_8 (fun _ _ => rfl)
    (fun t t' e => by
      rw [after0_8, after0_8]
      exact at_congr (vOut m c) (Fin.ext (by simp only; omega)) _ _) t h

theorem store0_8 (c : Dev nD) (t : Fin cfg0.N) (h : t.val % 5 = 1) :
    iprop(∃ f, (ms0_8 t).view.loc (c : Thread nD τ) ↦[(ms0_8 t).view.set]{fullShare} (ms0_8 t).view.writes (Elt F) f (R1 m c t h).1)
      ⊢ (dats m 0 c).leavesExact 8 t :=
  Cert.Held.leaves_writes (dats m 0 c) 8 1 idle0_8 t h _ (vOut_cover m c t h)
    ((after0_8 m c t).trans (at_tile (by decide) (vOut m c) t h))

theorem idle0_9 (t : Fin cfg0.N) : cfg0.idle 9 (cfg0.grid.coords t) = true ↔ t.val % 5 ≠ 1 := Cert.Held.idle_of (cond1 t)

theorem hold0_9 (c : Dev nD) (t : Fin cfg0.N) (h : t.val % 5 ≠ 1) :
    iprop(∃ d, owns (c : Thread nD τ) (ms0_9 t) fullShare ((dats m 0 c).before 9 t d)) ⊢ (dats m 0 c).leavesExact 9 t :=
  Cert.Held.leaves_idle (dats m 0 c) 9 1 (by decide) (fun _ => rfl) flush0_9 idle0_9 (fun _ _ => rfl)
    (fun t t' e => by
      rw [after0_9, after0_9]
      exact at_congr (oaOut m c) (Fin.ext (by simp only; omega)) _ _) t h

theorem store0_9 (c : Dev nD) (t : Fin cfg0.N) (h : t.val % 5 = 1) :
    iprop(∃ f, (ms0_9 t).view.loc (c : Thread nD τ) ↦[(ms0_9 t).view.set]{fullShare} (ms0_9 t).view.writes (Elt F) f (R1 m c t h).2.1)
      ⊢ (dats m 0 c).leavesExact 9 t :=
  Cert.Held.leaves_writes (dats m 0 c) 9 1 idle0_9 t h _ (oaOut_cover m c t h)
    ((after0_9 m c t).trans (at_tile (by decide) (oaOut m c) t h))

theorem idle0_10 (t : Fin cfg0.N) : cfg0.idle 10 (cfg0.grid.coords t) = true ↔ t.val % 5 ≠ 2 := Cert.Held.idle_of (cond2 t)

theorem hold0_10 (c : Dev nD) (t : Fin cfg0.N) (h : t.val % 5 ≠ 2) :
    iprop(∃ d, owns (c : Thread nD τ) (ms0_10 t) fullShare ((dats m 0 c).before 10 t d)) ⊢ (dats m 0 c).leavesExact 10 t :=
  Cert.Held.leaves_idle (dats m 0 c) 10 2 (by decide) (fun _ => rfl) flush0_10 idle0_10 (fun _ _ => rfl)
    (fun t t' e => by
      rw [after0_10, after0_10]
      exact at_congr (qOut m c) (Fin.ext (by simp only; omega)) _ _) t h

theorem store0_10 (c : Dev nD) (t : Fin cfg0.N) (h : t.val % 5 = 2) :
    iprop(∃ f, (ms0_10 t).view.loc (c : Thread nD τ) ↦[(ms0_10 t).view.set]{fullShare} (ms0_10 t).view.writes (Elt F) f (R2 m c t h).1)
      ⊢ (dats m 0 c).leavesExact 10 t :=
  Cert.Held.leaves_writes (dats m 0 c) 10 2 idle0_10 t h _ (qOut_cover m c t h)
    ((after0_10 m c t).trans (at_tile (by decide) (qOut m c) t h))

theorem idle0_11 (t : Fin cfg0.N) : cfg0.idle 11 (cfg0.grid.coords t) = true ↔ t.val % 5 ≠ 3 := Cert.Held.idle_of (cond3 t)

theorem hold0_11 (c : Dev nD) (t : Fin cfg0.N) (h : t.val % 5 ≠ 3) :
    iprop(∃ d, owns (c : Thread nD τ) (ms0_11 t) fullShare ((dats m 0 c).before 11 t d)) ⊢ (dats m 0 c).leavesExact 11 t :=
  Cert.Held.leaves_idle (dats m 0 c) 11 3 (by decide) (fun _ => rfl) flush0_11 idle0_11 (fun _ _ => rfl)
    (fun t t' e => by
      rw [after0_11, after0_11]
      exact at_congr (kcOut m c) (Fin.ext (by simp only; omega)) _ _) t h

theorem store0_11 (c : Dev nD) (t : Fin cfg0.N) (h : t.val % 5 = 3) :
    iprop(∃ f, (ms0_11 t).view.loc (c : Thread nD τ) ↦[(ms0_11 t).view.set]{fullShare} (ms0_11 t).view.writes (Elt F) f (R3 m c t h).1)
      ⊢ (dats m 0 c).leavesExact 11 t :=
  Cert.Held.leaves_writes (dats m 0 c) 11 3 idle0_11 t h _ (kcOut_cover m c t h)
    ((after0_11 m c t).trans (at_tile (by decide) (kcOut m c) t h))

theorem idle0_12 (t : Fin cfg0.N) : cfg0.idle 12 (cfg0.grid.coords t) = true ↔ t.val % 5 ≠ 3 := Cert.Held.idle_of (cond3 t)

theorem hold0_12 (c : Dev nD) (t : Fin cfg0.N) (h : t.val % 5 ≠ 3) :
    iprop(∃ d, owns (c : Thread nD τ) (ms0_12 t) fullShare ((dats m 0 c).before 12 t d)) ⊢ (dats m 0 c).leavesExact 12 t :=
  Cert.Held.leaves_idle (dats m 0 c) 12 3 (by decide) (fun _ => rfl) flush0_12 idle0_12 (fun _ _ => rfl)
    (fun t t' e => by
      rw [after0_12, after0_12]
      exact at_congr (ksOut m c) (Fin.ext (by simp only; omega)) _ _) t h

theorem store0_12 (c : Dev nD) (t : Fin cfg0.N) (h : t.val % 5 = 3) :
    iprop(∃ f, (ms0_12 t).view.loc (c : Thread nD τ) ↦[(ms0_12 t).view.set]{fullShare} (ms0_12 t).view.writes (Elt F) f (R3 m c t h).2.1)
      ⊢ (dats m 0 c).leavesExact 12 t :=
  Cert.Held.leaves_writes (dats m 0 c) 12 3 idle0_12 t h _ (ksOut_cover m c t h)
    ((after0_12 m c t).trans (at_tile (by decide) (ksOut m c) t h))

theorem idle0_13 (t : Fin cfg0.N) : cfg0.idle 13 (cfg0.grid.coords t) = true ↔ t.val % 5 ≠ 4 := Cert.Held.idle_of (cond4 t)

theorem hold0_13 (c : Dev nD) (t : Fin cfg0.N) (h : t.val % 5 ≠ 4) :
    iprop(∃ d, owns (c : Thread nD τ) (ms0_13 t) fullShare ((dats m 0 c).before 13 t d)) ⊢ (dats m 0 c).leavesExact 13 t :=
  Cert.Held.leaves_idle (dats m 0 c) 13 4 (by decide) (fun _ => rfl) flush0_13 idle0_13 (fun _ _ => rfl)
    (fun t t' e => by
      rw [after0_13, after0_13]
      exact at_congr (kwOut m c) (Fin.ext (by simp only; omega)) _ _) t h

theorem store0_13 (c : Dev nD) (t : Fin cfg0.N) (h : t.val % 5 = 4) :
    iprop(∃ f, (ms0_13 t).view.loc (c : Thread nD τ) ↦[(ms0_13 t).view.set]{fullShare} (ms0_13 t).view.writes (Elt F) f (R4 m c t h).1)
      ⊢ (dats m 0 c).leavesExact 13 t :=
  Cert.Held.leaves_writes (dats m 0 c) 13 4 idle0_13 t h _ (kwOut_cover m c t h)
    ((after0_13 m c t).trans (at_tile (by decide) (kwOut m c) t h))

theorem idle0_14 (t : Fin cfg0.N) : cfg0.idle 14 (cfg0.grid.coords t) = true ↔ t.val % 5 ≠ 4 := Cert.Held.idle_of (cond4 t)

theorem hold0_14 (c : Dev nD) (t : Fin cfg0.N) (h : t.val % 5 ≠ 4) :
    iprop(∃ d, owns (c : Thread nD τ) (ms0_14 t) fullShare ((dats m 0 c).before 14 t d)) ⊢ (dats m 0 c).leavesExact 14 t :=
  Cert.Held.leaves_idle (dats m 0 c) 14 4 (by decide) (fun _ => rfl) flush0_14 idle0_14 (fun _ _ => rfl)
    (fun t t' e => by
      rw [after0_14, after0_14]
      exact at_congr (gateOut m c) (Fin.ext (by simp only; omega)) _ _) t h

theorem store0_14 (c : Dev nD) (t : Fin cfg0.N) (h : t.val % 5 = 4) :
    iprop(∃ f, (ms0_14 t).view.loc (c : Thread nD τ) ↦[(ms0_14 t).view.set]{fullShare} (ms0_14 t).view.writes (Elt F) f (R4 m c t h).2.1)
      ⊢ (dats m 0 c).leavesExact 14 t :=
  Cert.Held.leaves_writes (dats m 0 c) 14 4 idle0_14 t h _ (gateOut_cover m c t h)
    ((after0_14 m c t).trans (at_tile (by decide) (gateOut m c) t h))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem Phi_before (c : Dev nD) (t : Fin cfg0.N) : (dats m 0 c).Φ t.castSucc = PhiS m c t.val := by dsimp only [dats]; rfl
theorem Phi_after (c : Dev nD) (t : Fin cfg0.N) : (dats m 0 c).Φ t.succ = PhiS m c (t.val + 1) := by dsimp only [dats]; rfl

set_option maxHeartbeats 2000000 in
theorem sound0 (c : Dev nD) (t : Fin cfg0.N) (h : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
  iapply ((R0 m c t h).2.2.2 Set.univ _)
  isplitl [H0]; · iexact H0
  isplitl [H1]; · iexact H1
  isplitl [H2]; · iexact H2
  isplitl [H7]; · iexists _; iexact H7
  isplitl [HS]; · iexists _; iexact HS
  isplitl [HU]; · iexists _; iexact HU
  iintro ⟨H0, H1, H2, H7, HS, HU⟩
  isplitl [HS HU HR]
  · iexists (hTile m c t h), (uTile m c t h)
    isplitr
    · ipureintro
      intro t' e _
      have e' : tile t' 0 (by decide) = t := Fin.ext (by simp only; omega)
      exact ⟨(at_congr (hTile m c) e' _ h).symm, (at_congr (uTile m c) e' _ h).symm⟩
    isplitl [HS]; · iapply (Cert.Held.owns_writes sc0 _ (hTile_cover m c t h)); iexact HS
    isplitl [HU]; · iapply (Cert.Held.owns_writes sc1 _ (uTile_cover m c t h)); iexact HU
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (store0_7 m c t h); iexact H7
  isplitl [H8]; · iapply (hold0_8 m c t (by omega)); iexact H8
  isplitl [H9]; · iapply (hold0_9 m c t (by omega)); iexact H9
  isplitl [H10]; · iapply (hold0_10 m c t (by omega)); iexact H10
  isplitl [H11]; · iapply (hold0_11 m c t (by omega)); iexact H11
  isplitl [H12]; · iapply (hold0_12 m c t (by omega)); iexact H12
  isplitl [H13]; · iapply (hold0_13 m c t (by omega)); iexact H13
  iapply (hold0_14 m c t (by omega)); iexact H14

set_option maxHeartbeats 2000000 in
theorem sound1 (c : Dev nD) (t : Fin cfg0.N) (h : t.val % 5 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, H10, H11, H12, H13, H14⟩
  obtain ⟨rfl, rfl⟩ := hab t rfl (by omega)
  iapply ((R1 m c t h).2.2 Set.univ _)
  isplitl [H2]; · iexact H2
  isplitl [H3]; · iexact H3
  isplitl [H5]; · iexact H5
  isplitl [H6]; · iexact H6
  isplitl [HS]; · iexact HS
  isplitl [HU]; · iexact HU
  isplitl [H8]; · iexists _; iexact H8
  isplitl [H9]; · iexists _; iexact H9
  iintro ⟨H2, H3, H5, H6, HS, HU, H8, H9⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (store0_8 m c t h); iexact H8
  isplitl [H9]; · iapply (store0_9 m c t h); iexact H9
  isplitl [H10]; · iapply (hold0_10 m c t (by omega)); iexact H10
  isplitl [H11]; · iapply (hold0_11 m c t (by omega)); iexact H11
  isplitl [H12]; · iapply (hold0_12 m c t (by omega)); iexact H12
  isplitl [H13]; · iapply (hold0_13 m c t (by omega)); iexact H13
  iapply (hold0_14 m c t (by omega)); iexact H14

set_option maxHeartbeats 2000000 in
theorem sound2 (c : Dev nD) (t : Fin cfg0.N) (h : t.val % 5 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, H8, H9, ⟨%d10, H10⟩, H11, H12, H13, H14⟩
  obtain ⟨rfl, rfl⟩ := hab t rfl (by omega)
  iapply ((R2 m c t h).2 Set.univ _)
  isplitl [H2]; · iexact H2
  isplitl [H4]; · iexact H4
  isplitl [HS]; · iexact HS
  isplitl [H10]; · iexists _; iexact H10
  iintro ⟨H2, H4, HS, H10⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (hold0_8 m c t (by omega)); iexact H8
  isplitl [H9]; · iapply (hold0_9 m c t (by omega)); iexact H9
  isplitl [H10]; · iapply (store0_10 m c t h); iexact H10
  isplitl [H11]; · iapply (hold0_11 m c t (by omega)); iexact H11
  isplitl [H12]; · iapply (hold0_12 m c t (by omega)); iexact H12
  isplitl [H13]; · iapply (hold0_13 m c t (by omega)); iexact H13
  iapply (hold0_14 m c t (by omega)); iexact H14

set_option maxHeartbeats 2000000 in
theorem sound3 (c : Dev nD) (t : Fin cfg0.N) (h : t.val % 5 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, H8, H9, H10, ⟨%d11, H11⟩, ⟨%d12, H12⟩, H13, H14⟩
  obtain ⟨rfl, rfl⟩ := hab t rfl (by omega)
  iapply ((R3 m c t h).2.2 Set.univ _)
  isplitl [H2]; · iexact H2
  isplitl [HS]; · iexact HS
  isplitl [H11]; · iexists _; iexact H11
  isplitl [H12]; · iexists _; iexact H12
  iintro ⟨H2, HS, H11, H12⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (hold0_8 m c t (by omega)); iexact H8
  isplitl [H9]; · iapply (hold0_9 m c t (by omega)); iexact H9
  isplitl [H10]; · iapply (hold0_10 m c t (by omega)); iexact H10
  isplitl [H11]; · iapply (store0_11 m c t h); iexact H11
  isplitl [H12]; · iapply (store0_12 m c t h); iexact H12
  isplitl [H13]; · iapply (hold0_13 m c t (by omega)); iexact H13
  iapply (hold0_14 m c t (by omega)); iexact H14

set_option maxHeartbeats 2000000 in
theorem sound4 (c : Dev nD) (t : Fin cfg0.N) (h : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_before, Phi_after, show (dats m 0 c).owesAt () t.succ = (dats m 0 c).owesAt () t.castSucc from rfl,
    after0_0, after0_1, after0_2, after0_3, after0_4, after0_5, after0_6]
  unfold PhiS
  iintro ⟨⟨%a, %b, %hab, HS, HU, HR⟩, Ho, ⟨%d0, H0⟩, ⟨%d1, H1⟩, ⟨%d2, H2⟩, ⟨%d3, H3⟩, ⟨%d4, H4⟩, ⟨%d5, H5⟩, ⟨%d6, H6⟩, H7, H8, H9, H10, H11, H12, ⟨%d13, H13⟩, ⟨%d14, H14⟩⟩
  obtain ⟨rfl, rfl⟩ := hab t rfl (by omega)
  iapply ((R4 m c t h).2.2 Set.univ _)
  isplitl [H2]; · iexact H2
  isplitl [HS]; · iexact HS
  isplitl [H13]; · iexists _; iexact H13
  isplitl [H14]; · iexists _; iexact H14
  iintro ⟨H2, HS, H13, H14⟩
  isplitl [HS HU HR]
  · iexists _, _
    isplitr
    swap
    · isplitl [HS]; · iexact HS
      isplitl [HU]; · iexact HU
      iexact HR
    ipureintro
    intro t' e h'
    have e' : tile t 0 (by decide) = tile t' 0 (by decide) := Fin.ext (by simp only; omega)
    exact ⟨at_congr (hTile m c) e' _ _, at_congr (uTile m c) e' _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (hold0_7 m c t (by omega)); iexact H7
  isplitl [H8]; · iapply (hold0_8 m c t (by omega)); iexact H8
  isplitl [H9]; · iapply (hold0_9 m c t (by omega)); iexact H9
  isplitl [H10]; · iapply (hold0_10 m c t (by omega)); iexact H10
  isplitl [H11]; · iapply (hold0_11 m c t (by omega)); iexact H11
  isplitl [H12]; · iapply (hold0_12 m c t (by omega)); iexact H12
  isplitl [H13]; · iapply (store0_13 m c t h); iexact H13
  iapply (store0_14 m c t h); iexact H14

theorem sound_body (c : Dev nD) (t : Fin cfg0.N) :
    bodyPre m c t ⊢ wp frame (wpE (defs₀ (F := F)) Variants.none c none) Set.univ (bodyAt0 t) (fun _ => bodyPost m c t) := by
  have h : t.val % 5 = 0 ∨ t.val % 5 = 1 ∨ t.val % 5 = 2 ∨ t.val % 5 = 3 ∨ t.val % 5 = 4 := by omega
  rcases h with h | h | h | h | h
  · exact sound0 m c t h
  · exact sound1 m c t h
  · exact sound2 m c t h
  · exact sound3 m c t h
  · exact sound4 m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- Entering the first tile and leaving the last, the scratch buffers hold anything. -/
theorem scratch_any (c : Dev nD) : (Pipeline.ΦA spec0 c : sProp 𝕄)
    = iprop(((∃ a, owns (c : Thread nD τ) sc0 fullShare a) ∗ (∃ b, owns (c : Thread nD τ) sc1 fullShare b)) ∗ (∃ r, prngReg c r)) := by
  unfold Pipeline.ΦA
  rw [scopedRest0_eq]
  simp only [owns_whole]
  rfl

theorem enter (c : Dev nD) : Pipeline.ΦA spec0 c ⊢ PhiS m c 0 := by
  rw [scratch_any]
  unfold PhiS
  iintro ⟨⟨⟨%a, HS⟩, ⟨%b, HU⟩⟩, HR⟩
  iexists a, b
  isplitr
  · ipureintro
    intro t e h
    exact absurd (by rw [e]) h
  isplitl [HS]; · iexact HS
  isplitl [HU]; · iexact HU
  iexact HR

theorem leave (c : Dev nD) (n : ℕ) : PhiS m c n ⊢ Pipeline.ΦA spec0 c := by
  rw [scratch_any]
  unfold PhiS
  iintro ⟨%a, %b, -, HS, HU, HR⟩
  isplitl [HS HU]
  · isplitl [HS]; · iexists a; iexact HS
    iexists b; iexact HU
  iexact HR

set_option backward.isDefEq.respectTransparency.types false in
/-- Every run ends, every array at what the row tiles left and the counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends with the arguments as they were and the counters at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (unchanged m ρ) ((θ_run defs _ _).mono (fun _ h => h.2) (run_main_quiescent m ρ))

end Cert.InPIdeal.Body

end
-- ==== Proof.InPPre.lean ====
/- The input projection of the prompt rows: what its blocks hold, against the reference, up to the activation. -/
module

public import proofs.«01_k».proof.Proof.InPBody
public import proofs.«01_k».proof.Proof.Gen.InPRefIdeal
public import proofs.«01_k».proof.Proof.Gen.InPRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-- Where each window sits at point `t`. -/
theorem idx : ∀ t : Fin cfg0.N,
    win0_0.index t = ![t.val / 5, 0]
    ∧ win0_1.index t = ![0, 0]
    ∧ win0_2.index t = ![t.val % 5, 0]
    ∧ win0_3.index t = ![0, 0]
    ∧ win0_4.index t = ![0, 0]
    ∧ win0_5.index t = ![0, 0, 0]
    ∧ win0_6.index t = ![0, 0]
    ∧ win0_7.index t = ![t.val / 5, 0]
    ∧ win0_8.index t = ![t.val / 5, 0]
    ∧ win0_9.index t = ![t.val / 5, 0]
    ∧ win0_10.index t = ![t.val / 5, 0]
    ∧ win0_11.index t = ![t.val / 5, 0]
    ∧ win0_12.index t = ![t.val / 5, 0]
    ∧ win0_13.index t = ![t.val / 5, 0]
    ∧ win0_14.index t = ![t.val / 5, 0] ∧ t.val < 80 :=
  (by decide +kernel : ∀ t : Fin grid0.N, _)

/-- There are eighty points. -/
theorem lt80 (t : Fin cfg0.N) : t.val < 80 := Nat.lt_of_lt_of_eq t.isLt N_0

/-- Row `r` of the row tile point `t` is in. -/
abbrev grow (t : Fin cfg0.N) (r : Fin 512) : Fin 8192 := ⟨t.val / 5 * 512 + r.val, by have := lt80 t; omega⟩

/-- The block of the input rows at point `t`, read off the flattened argument. -/
theorem rows (c : Dev nD) (t : Fin cfg0.N) (y : S512x2048.Idx) :
    (iblk m c 0 t : Vec Ideal S512x2048 .f32) y = val_main_v0 (F := Ideal) (m ((c : Thread nD τ).loc main_arg0)) (ix2 (grow t (y 0)) (y 1)) := by
  blk_simp [iblk]
  entry_read
  have := lt80 t
  blk_ext [idx t]

/-- The normalised rows as the first step forms them. -/
theorem norm_at (c : Dev nD) (t : Fin cfg0.N) (y : S512x2048.Idx) :
    k0_pay23 (F := Ideal) (iblk m c 0 t) (iblk m c 1 t) y = val_main_v14 (F := Ideal) (m ((c : Thread nD τ).loc main_arg0)) (m ((c : Thread nD τ).loc main_arg1)) (ix2 (grow t (y 0)) (y 1)) := by
  unfold_payloads
  pointwise [rows, val_main_v14, val_main_v13, val_main_v12, val_main_v11, val_main_v10, val_main_v9, val_main_v8, val_main_v7, val_main_cst_1, val_main_v6, val_main_v5, val_main_cst_0, val_main_v4, val_main_v3, val_main_cst, val_main_v2, val_main_v1]
  blk_point [iblk, V, idx t]

/-! The arguments as the device holds them. -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- What the kept rows are, as a property of a buffer. -/
def IsNorm (c : Dev nD) (t : Fin cfg0.N) (x17 : Vec Ideal S512x2048 .bf16) : Prop :=
  ∀ y : S512x2048.Idx, x17 y = val_main_v14 (F := Ideal) (A0 m c) (A1 m c) (ix2 (grow t (y 0)) (y 1))

/-- Rows `b …` of the weights, as a property of a block. -/
def IsW (c : Dev nD) (b : ℕ) (w : Vec Ideal S512x2048 .bf16) : Prop :=
  ∀ (r : Fin 512) (k : Fin 2048) (h : b + r.val < 5120), w (ix2 r k) = A2 m c (ix2 ⟨b + r.val, h⟩ k)

/-- Rows `o …` of the weight block at point `t`. -/
theorem wblk (c : Dev nD) (t : Fin cfg0.N) (o : ℕ) (inb) :
    IsW m c (t.val % 5 * 1024 + o) (View.ld (iblk m c 2 t) (Rect.unit ![o, 0] ![512, 2048] inb) : Vec Ideal S512x2048 .bf16) := by
  intro r k h
  blk_point [iblk, V, idx t]

/-- A column of a 512-wide block of the projection that starts at column `b`. -/
abbrev zcol (b : ℕ) (hb : b + 512 ≤ 4736) (x : Fin 512) : Fin 4736 := ⟨b + x.val, by omega⟩

/-- One 512-wide block of the projection. -/
theorem z_at (c : Dev nD) (t : Fin cfg0.N) (x17 : Vec Ideal S512x2048 .bf16) (hn : IsNorm m c t x17)
    (b : ℕ) (hb : b + 512 ≤ 4736) (w : Vec Ideal S512x2048 .bf16) (hw : IsW m c b w) (x : S512x512.Idx) :
    k0_pay25 (F := Ideal) x17 w x
      = val_main_v18 (F := Ideal) (A0 m c) (A1 m c) (A2 m c) (ix2 (grow t (x 0)) (zcol b hb (x 1))) := by
  have hx : (x 1).val < 512 := (x 1).isLt
  unfold IsNorm at hn
  unfold k0_pay25
  pointwise [hn, val_main_v18, val_main_v17, val_main_v16, val_main_v15]
  refine Finset.sum_congr rfl fun k _ => ?_
  exact congrArg (_ * ·) (hw (x 1) k (by omega))

/-- A 512-wide block that holds the projection from column `b` on. -/
def IsZ (c : Dev nD) (t : Fin cfg0.N) (b : ℕ) (hb : b + 512 ≤ 4736) (z : FVec Ideal S512x512 .f32) : Prop :=
  ∀ x : S512x512.Idx, z x = val_main_v18 (F := Ideal) (A0 m c) (A1 m c) (A2 m c) (ix2 (grow t (x 0)) (zcol b hb (x 1)))

/-- A 512-wide block that holds the activation from column `b` on. -/
def IsGelu (c : Dev nD) (t : Fin cfg0.N) (b : ℕ) (hb : b + 512 ≤ 2048) (z : FVec Ideal S512x512 .f32) : Prop :=
  ∀ x : S512x512.Idx, z x = val_main_v32 (F := Ideal) (A0 m c) (A1 m c) (A2 m c) (ix2 (grow t (x 0)) ⟨b + (x 1).val, by have : (x 1).val < 512 := (x 1).isLt; omega⟩)

/-- The activation of such a block. -/
theorem gelu_at (z : FVec Ideal S512x512 .f32) (c : Dev nD) (t : Fin cfg0.N) (b : ℕ) (hb : b + 512 ≤ 2048)
    (hz : IsZ m c t b (by omega) z) : IsGelu m c t b hb (k0_pay2 (F := Ideal) z) := by
  intro x
  unfold IsZ at hz
  unfold k0_pay2
  pointwise [hz, val_main_v32, val_main_v31, val_main_v30, val_main_cst_5, val_main_v29, val_main_v28, val_main_cst_4, val_main_v27, val_main_v26, val_main_v25, val_main_cst_3, val_main_v24, val_main_v23, val_main_v22, val_main_cst_2, val_main_v21, val_main_v20, val_main_v19]
  rw [mul_assoc, mul_left_comm]

/-- The normalised rows kept for the later steps. -/
theorem hTile_at (c : Dev nD) (t : Fin cfg0.N) (h : t.val % 5 = 0) : IsNorm m c t (hTile m c t h) := by
  intro y
  unfold hTile R0
  frame_out
  exact norm_at m c t y

/-- The normalised rows as a result. -/
theorem hOut_at (c : Dev nD) (t : Fin cfg0.N) (h : t.val % 5 = 0) (y : S512x2048.Idx) :
    hOut m c t h y = val_main_v14 (F := Ideal) (A0 m c) (A1 m c) (ix2 (grow t (y 0)) (y 1)) := by
  rw [← norm_at m c t y]
  unfold hOut R0
  frame_out
  unfold k0_pay23
  exact congrFun (shapeCast_self _ _).symm y

theorem uTile_at (c : Dev nD) (t : Fin cfg0.N) (h : t.val % 5 = 0) (y : S512x1024.Idx) :
    uTile m c t h y = val_main_v33 (F := Ideal) (A0 m c) (A1 m c) (A2 m c) (ix2 (grow t (y 0)) (y 1)) := by
  unfold uTile R0
  frame_out
  refine View.canon_apply_of_pieces (fun y : S512x1024.Idx => val_main_v33 (F := Ideal) (A0 m c) (A1 m c) (A2 m c) (ix2 (grow t (y 0)) (y 1))) _ (List.forall_mem_cons.2 ⟨fun x => ?_, List.forall_mem_cons.2 ⟨fun x => ?_, fun _ e => absurd e List.not_mem_nil⟩⟩) y (View.cover_of_tiledL _ ![512, 512] (by sl_kernel_rfl) y)
  · refine Eq.trans (gelu_at m _ c t 512 (by omega) (fun x => z_at m c t _ (norm_at m c t) 512 (by omega) _ (by have e := wblk m c t 512 inb_S1024x2048_S512x2048_512_0; rw [h] at e; exact e) x) x) ?_
    rw [val_main_v33_apply]
    refine congrArg _ (funext fun a => Fin.ext ?_)
    match a with
    | ⟨0, _⟩ => show t.val / 5 * 512 + (x 0).val = t.val / 5 * 512 + (0 + 1 * (x 0).val); omega
    | ⟨1, _⟩ => show 512 + (x 1).val = 512 + 1 * (x 1).val; omega
  · refine Eq.trans (gelu_at m _ c t 0 (by omega) (fun x => z_at m c t _ (norm_at m c t) 0 (by omega) _ (by have e := wblk m c t 0 inb_S1024x2048_S512x2048_0_0; rw [h] at e; exact e) x) x) ?_
    rw [val_main_v33_apply]
    refine congrArg _ (funext fun a => Fin.ext ?_)
    match a with
    | ⟨0, _⟩ => show t.val / 5 * 512 + (x 0).val = t.val / 5 * 512 + (0 + 1 * (x 0).val); omega
    | ⟨1, _⟩ => show 0 + (x 1).val = 0 + 1 * (x 1).val; omega

/-- Rows `b …` of the weights, in the block of point `t`. -/
theorem wsec (c : Dev nD) (t : Fin cfg0.N) (b o : ℕ) (inb) (e : b = t.val % 5 * 1024 + o) :
    IsW m c b (View.ld (iblk m c 2 t) (Rect.unit ![o, 0] ![512, 2048] inb) : Vec Ideal S512x2048 .bf16) := by
  subst e; exact wblk m c t o inb

/-- The rows kept are the normalised rows of the row tile at each of its points. -/
theorem kept_at (c : Dev nD) (t : Fin cfg0.N) :
    IsNorm m c t (hTile m c (tile t 0 (by decide)) (tile_mod t 0 (by decide))) := by
  intro y
  refine (hTile_at m c _ _ y).trans (congrArg _ (congrArg (ix2 · (y 1)) (Fin.ext ?_)))
  show (5 * (t.val / 5) + 0) / 5 * 512 + (y 0).val = t.val / 5 * 512 + (y 0).val
  omega

/-- So is the half of the activation kept. -/
theorem ukept_at (c : Dev nD) (t : Fin cfg0.N) (y : S512x1024.Idx) :
    uTile m c (tile t 0 (by decide)) (tile_mod t 0 (by decide)) y
      = val_main_v33 (F := Ideal) (A0 m c) (A1 m c) (A2 m c) (ix2 (grow t (y 0)) (y 1)) := by
  refine (uTile_at m c _ _ y).trans (congrArg _ (congrArg (ix2 · (y 1)) (Fin.ext ?_)))
  show (5 * (t.val / 5) + 0) / 5 * 512 + (y 0).val = t.val / 5 * 512 + (y 0).val
  omega

/-- The block of the projection from column `b` on, as the steps form it. -/
theorem zblk (c : Dev nD) (t : Fin cfg0.N) (x17 : Vec Ideal S512x2048 .bf16) (hn : IsNorm m c t x17)
    (b : ℕ) (hb : b + 512 ≤ 4736) (o : ℕ) (inb) (e : b = t.val % 5 * 1024 + o) :
    IsZ m c t b hb (k0_pay25 (F := Ideal) x17 (View.ld (iblk m c 2 t) (Rect.unit ![o, 0] ![512, 2048] inb))) :=
  z_at m c t x17 hn b hb _ (wsec m c t b o inb e)

/-- 128 columns of a 512-wide block. -/
theorem cols_at (z : FVec Ideal S512x512 .f32) (o : ℕ) (ho : o + 128 ≤ 512) (hs) (x : S512x128.Idx) :
    extractStridedSlice S512x128 ![0, o] z hs x = z (ix2 (x 0) ⟨o + (x 1).val, by have : (x 1).val < 128 := (x 1).isLt; omega⟩) :=
  extractStridedSlice_apply _ _ hs x _ (fun a => match a with
    | ⟨0, _⟩ => by show (x 0).val = 0 + (x 0).val; omega
    | ⟨1, _⟩ => rfl)

/-- Reading back the rows kept. -/
theorem rd0 (x : Vec Ideal S512x2048 .bf16) :
    View.read (Elt Ideal) (View.whole cc0_scratch0) ((Memref.isWhole_whole cc0_scratch0).unread x) = x :=
  (Memref.isWhole_whole cc0_scratch0).read_unread x

/-- Reading back the half of the activation kept. -/
theorem rd1 (x : Vec Ideal S512x1024 .f32) :
    View.read (Elt Ideal) (View.whole cc0_scratch1) ((Memref.isWhole_whole cc0_scratch1).unread x) = x :=
  (Memref.isWhole_whole cc0_scratch1).read_unread x

end Cert.InPIdeal.Value

end
-- ==== Proof.InPKv.lean ====
/- The input projection of the prompt rows: the keys and values it stores are the reference's. -/
module

public import proofs.«01_k».proof.Proof.InPPre

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-- One of the four interleaved sets of rows: the columns it takes. -/
theorem kv_row (c : Dev nD) (t : Fin cfg0.N) (b : ℕ) (hb : b + 512 ≤ 4736) (z : FVec Ideal S512x512 .f32) (hz : IsZ m c t b hb z)
    (k o : ℕ) (hk : k < 4) (eo : o = k * 128) (hs) (x : S512x128.Idx) (y : S2048x128.Idx)
    (e0 : (y 0).val = k + 4 * (x 0).val) (e1 : (y 1).val = 0 + 1 * (x 1).val) :
    extractStridedSlice S512x128 ![0, o] z hs x = val_main_v18 (F := Ideal) (A0 m c) (A1 m c) (A2 m c) (ix2 ⟨t.val / 5 * 512 + (y 0).val / 4, by have := lt80 t; have : (y 0).val < 2048 := (y 0).isLt; omega⟩
          ⟨b + (y 0).val % 4 * 128 + (y 1).val, by have : (y 1).val < 128 := (y 1).isLt; omega⟩) := by
  have h0 : (x 0).val < 512 := (x 0).isLt
  have h1 : (x 1).val < 128 := (x 1).isLt
  refine (cols_at z o (by omega) hs x).trans ((hz _).trans (congrArg _ (congrArg₂ ix2 (Fin.ext ?_) (Fin.ext ?_))))
  · show t.val / 5 * 512 + (x 0).val = t.val / 5 * 512 + (y 0).val / 4
    rw [e0]; omega
  · show b + (o + (x 1).val) = b + (y 0).val % 4 * 128 + (y 1).val
    rw [e0, e1]; omega

/-- Four interleaved sets of rows: each row of the projection gives four rows of keys or values. -/
theorem kv_at (c : Dev nD) (t : Fin cfg0.N) (b : ℕ) (hb : b + 512 ≤ 4736) (z : FVec Ideal S512x512 .f32) (hz : IsZ m c t b hb z)
    (i0 i1 i2 i3 h0 h1 h2 h3) (y : S2048x128.Idx) :
    View.canon (Val := Elt Ideal) (s := S2048x128) (e := .f32)
      [⟨{ off := ![3, 0], size := ![512, 128], stride := ![4, 1], inb := i3, stride_pos := spos_4_1 }, extractStridedSlice S512x128 ![0, 384] z h3⟩,
       ⟨{ off := ![2, 0], size := ![512, 128], stride := ![4, 1], inb := i2, stride_pos := spos_4_1 }, extractStridedSlice S512x128 ![0, 256] z h2⟩,
       ⟨{ off := ![1, 0], size := ![512, 128], stride := ![4, 1], inb := i1, stride_pos := spos_4_1 }, extractStridedSlice S512x128 ![0, 128] z h1⟩,
       ⟨{ off := ![0, 0], size := ![512, 128], stride := ![4, 1], inb := i0, stride_pos := spos_4_1 }, extractStridedSlice S512x128 ![0, 0] z h0⟩] y
      = val_main_v18 (F := Ideal) (A0 m c) (A1 m c) (A2 m c) (ix2 ⟨t.val / 5 * 512 + (y 0).val / 4, by have := lt80 t; have : (y 0).val < 2048 := (y 0).isLt; omega⟩
          ⟨b + (y 0).val % 4 * 128 + (y 1).val, by have : (y 1).val < 128 := (y 1).isLt; omega⟩) := by
  refine View.canon_apply_of_pieces (fun y : S2048x128.Idx => val_main_v18 (F := Ideal) (A0 m c) (A1 m c) (A2 m c) (ix2 ⟨t.val / 5 * 512 + (y 0).val / 4, by have := lt80 t; have : (y 0).val < 2048 := (y 0).isLt; omega⟩
          ⟨b + (y 0).val % 4 * 128 + (y 1).val, by have : (y 1).val < 128 := (y 1).isLt; omega⟩)) _
    (List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩) y
    (Cert.Held.rows_cover 512 128 _ rfl y)
  · exact kv_row m c t b hb z hz 3 384 (by omega) rfl h3 x _ rfl rfl
  · exact kv_row m c t b hb z hz 2 256 (by omega) rfl h2 x _ rfl rfl
  · exact kv_row m c t b hb z hz 1 128 (by omega) rfl h1 x _ rfl rfl
  · exact kv_row m c t b hb z hz 0 0 (by omega) rfl h0 x _ rfl rfl

/-- The keys and values of the compressed branch, as the reference gives them. -/
theorem kcOut_at (c : Dev nD) (t : Fin cfg0.N) (h : t.val % 5 = 3) (y : S2048x128.Idx) :
    kcOut m c t h y = val_main_v94 (F := Ideal) (A0 m c) (A1 m c) (A2 m c) (ix2 ⟨t.val / 5 * 2048 + (y 0).val, by have := lt80 t; have : (y 0).val < 2048 := (y 0).isLt; omega⟩ (y 1)) := by
  have h0 : (y 0).val < 2048 := (y 0).isLt
  have h1 : (y 1).val < 128 := (y 1).isLt
  unfold kcOut R3
  have hn := kept_at m c t
  generalize hTile m c (tile t 0 (by decide)) (tile_mod t 0 (by decide)) = x17 at hn ⊢
  frame_out
  simp only [rd0]
  refine (kv_at m c t 3072 (by omega) _ (zblk m c t x17 hn 3072 (by omega) 0 inb_S1024x2048_S512x2048_0_0 (by omega)) inb_S2048x128_S512x128_0_0_s_4_1 inb_S2048x128_S512x128_1_0_s_4_1 inb_S2048x128_S512x128_2_0_s_4_1 inb_S2048x128_S512x128_3_0_s_4_1 slices_S512x512_o0_0_S512x128 slices_S512x512_o0_128_S512x128 slices_S512x512_o0_256_S512x128 slices_S512x512_o0_384_S512x128 y).trans ?_
  rw [val_main_v94_apply, val_main_v93_apply]
  refine congrArg _ (funext fun a => Fin.ext ?_)
  match a with
  | ⟨0, _⟩ => show t.val / 5 * 512 + (y 0).val / 4 = ((t.val / 5 * 2048 + (y 0).val) * 128 + (y 1).val) / 512; omega
  | ⟨1, _⟩ => show 3072 + (y 0).val % 4 * 128 + (y 1).val = 3072 + ((t.val / 5 * 2048 + (y 0).val) * 128 + (y 1).val) % 512; omega

/-- The keys and values of the selected branch, as the reference gives them. -/
theorem ksOut_at (c : Dev nD) (t : Fin cfg0.N) (h : t.val % 5 = 3) (y : S2048x128.Idx) :
    ksOut m c t h y = val_main_v96 (F := Ideal) (A0 m c) (A1 m c) (A2 m c) (ix2 ⟨t.val / 5 * 2048 + (y 0).val, by have := lt80 t; have : (y 0).val < 2048 := (y 0).isLt; omega⟩ (y 1)) := by
  have h0 : (y 0).val < 2048 := (y 0).isLt
  have h1 : (y 1).val < 128 := (y 1).isLt
  unfold ksOut R3
  have hn := kept_at m c t
  generalize hTile m c (tile t 0 (by decide)) (tile_mod t 0 (by decide)) = x17 at hn ⊢
  frame_out
  simp only [rd0]
  refine (kv_at m c t 3584 (by omega) _ (zblk m c t x17 hn 3584 (by omega) 512 inb_S1024x2048_S512x2048_512_0 (by omega)) inb_S2048x128_S512x128_0_0_s_4_1 inb_S2048x128_S512x128_1_0_s_4_1 inb_S2048x128_S512x128_2_0_s_4_1 inb_S2048x128_S512x128_3_0_s_4_1 slices_S512x512_o0_0_S512x128 slices_S512x512_o0_128_S512x128 slices_S512x512_o0_256_S512x128 slices_S512x512_o0_384_S512x128 y).trans ?_
  rw [val_main_v96_apply, val_main_v95_apply]
  refine congrArg _ (funext fun a => Fin.ext ?_)
  match a with
  | ⟨0, _⟩ => show t.val / 5 * 512 + (y 0).val / 4 = ((t.val / 5 * 2048 + (y 0).val) * 128 + (y 1).val) / 512; omega
  | ⟨1, _⟩ => show 3584 + (y 0).val % 4 * 128 + (y 1).val = 3584 + ((t.val / 5 * 2048 + (y 0).val) * 128 + (y 1).val) % 512; omega

/-- The keys and values of the window branch, as the reference gives them. -/
theorem kwOut_at (c : Dev nD) (t : Fin cfg0.N) (h : t.val % 5 = 4) (y : S2048x128.Idx) :
    kwOut m c t h y = val_main_v98 (F := Ideal) (A0 m c) (A1 m c) (A2 m c) (ix2 ⟨t.val / 5 * 2048 + (y 0).val, by have := lt80 t; have : (y 0).val < 2048 := (y 0).isLt; omega⟩ (y 1)) := by
  have h0 : (y 0).val < 2048 := (y 0).isLt
  have h1 : (y 1).val < 128 := (y 1).isLt
  unfold kwOut R4
  have hn := kept_at m c t
  generalize hTile m c (tile t 0 (by decide)) (tile_mod t 0 (by decide)) = x17 at hn ⊢
  frame_out
  simp only [rd0]
  refine (kv_at m c t 4096 (by omega) _ (zblk m c t x17 hn 4096 (by omega) 0 inb_S1024x2048_S512x2048_0_0 (by omega)) inb_S2048x128_S512x128_0_0_s_4_1 inb_S2048x128_S512x128_1_0_s_4_1 inb_S2048x128_S512x128_2_0_s_4_1 inb_S2048x128_S512x128_3_0_s_4_1 slices_S512x512_o0_0_S512x128 slices_S512x512_o0_128_S512x128 slices_S512x512_o0_256_S512x128 slices_S512x512_o0_384_S512x128 y).trans ?_
  rw [val_main_v98_apply, val_main_v97_apply]
  refine congrArg _ (funext fun a => Fin.ext ?_)
  match a with
  | ⟨0, _⟩ => show t.val / 5 * 512 + (y 0).val / 4 = ((t.val / 5 * 2048 + (y 0).val) * 128 + (y 1).val) / 512; omega
  | ⟨1, _⟩ => show 4096 + (y 0).val % 4 * 128 + (y 1).val = 4096 + ((t.val / 5 * 2048 + (y 0).val) * 128 + (y 1).val) % 512; omega

end Cert.InPIdeal.Value

end
-- ==== Proof.InPQ.lean ====
/- The input projection of the prompt rows: the query heads it stores are the reference's. -/
module

public import proofs.«01_k».proof.Proof.InPPre

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-- One query head: its rows divided by the root of their mean square, weighted and scaled. -/
def headOf (s : FVec Ideal S512x128 .f32) (g : Vec Ideal S1x128 .f32) : FVec Ideal S512x128 .bf16 :=
  have v19 : FVec Ideal S512x128 .f32 := mulf s s
  have v20 : FVec Ideal S512 .f32 := multiReduction .add [1] S512 v19 0x00000000#32 reduces_S512x128_S512 (.inl rfl) rfl
  have v23 : FVec Ideal S512x1 .f32 := divf (shapeCast S512x1 v20 shapeCasts_S512_S512x1) (broadcast S512x1 (Scalar.ofBits .f32 0x43000000#32))
  have v26 : FVec Ideal S512x1 .f32 := rsqrt (addf v23 (broadcast S512x1 (Scalar.ofBits .f32 0x358637BD#32)))
  have v28 : FVec Ideal S512x128 .f32 := mulf s (broadcastTo S512x128 v26 broadcasts_S512x1_S512x128)
  have v32 : FVec Ideal S512x128 .f32 := mulf v28 (broadcastTo S512x128 (shapeCast S1x128 g shapeCasts_S1x128_S1x128) broadcasts_S1x128_S512x128)
  truncf .bf16 (mulf v32 (broadcast S512x128 (Scalar.ofBits .f32 0x3DB504F3#32))) bitsLt_bf16_f32

/-- A head of the projection's rows, normalised as the reference does it. -/
theorem head_at (c : Dev nD) (t : Fin cfg0.N) (n : Fin 8) (s : FVec Ideal S512x128 .f32)
    (hs : ∀ x : S512x128.Idx, s x = val_main_v65 (F := Ideal) (A0 m c) (A1 m c) (A2 m c) (ix3 (grow t (x 0)) n (x 1))) (x : S512x128.Idx) :
    headOf s (iblk m c 4 t) x = val_main_v81 (F := Ideal) (A0 m c) (A1 m c) (A2 m c) (A6 m c) (ix3 (grow t (x 0)) n (x 1)) := by
  unfold headOf
  pointwise [hs, val_main_v66, val_main_v67, val_main_cst_10, val_main_v68, val_main_v69, val_main_cst_11, val_main_v70, val_main_v71, val_main_cst_12, val_main_v72, val_main_v73, val_main_v74, val_main_v75, val_main_v76, val_main_v77, val_main_v78, val_main_v79, val_main_cst_13, val_main_v80, val_main_v81]
  blk_point [iblk, V, idx t]

/-- The columns of head `n` in a block of the projection. -/
theorem head_cols (c : Dev nD) (t : Fin cfg0.N) (n : Fin 8) (b : ℕ) (hb : b + 512 ≤ 4736) (z : FVec Ideal S512x512 .f32) (hz : IsZ m c t b hb z)
    (o : ℕ) (ho : o + 128 ≤ 512) (e : b + o = 2048 + n.val * 128) (hs) (x : S512x128.Idx) :
    extractStridedSlice S512x128 ![0, o] z hs x = val_main_v65 (F := Ideal) (A0 m c) (A1 m c) (A2 m c) (ix3 (grow t (x 0)) n (x 1)) := by
  have h0 : (x 0).val < 512 := (x 0).isLt
  have h1 : (x 1).val < 128 := (x 1).isLt
  have hn : n.val < 8 := n.isLt
  rw [val_main_v65_apply, val_main_v64_apply]
  refine (cols_at z o ho hs x).trans ((hz _).trans (congrArg _ (funext fun a => Fin.ext ?_)))
  match a with
  | ⟨0, _⟩ => show t.val / 5 * 512 + (x 0).val = (((t.val / 5 * 512 + (x 0).val) * 8 + n.val) * 128 + (x 1).val) / 1024; omega
  | ⟨1, _⟩ => show b + (o + (x 1).val) = 2048 + (((t.val / 5 * 512 + (x 0).val) * 8 + n.val) * 128 + (x 1).val) % 1024; omega

/-- What a head's piece holds, at the entry of the block it is stored at. -/
theorem head_piece (c : Dev nD) (t : Fin cfg0.N) (n : Fin 8) (b : ℕ) (hb : b + 512 ≤ 4736) (z : FVec Ideal S512x512 .f32) (hz : IsZ m c t b hb z)
    (o : ℕ) (ho : o + 128 ≤ 512) (e : b + o = 2048 + n.val * 128) (hs) (x : S512x128.Idx) (y : S512x1024.Idx)
    (e0 : (y 0).val = 0 + 1 * (x 0).val) (e1 : (y 1).val = n.val * 128 + 1 * (x 1).val) :
    headOf (extractStridedSlice S512x128 ![0, o] z hs) (iblk m c 4 t) x = val_main_v92 (F := Ideal) (A0 m c) (A1 m c) (A2 m c) (A6 m c) (ix2 (grow t (y 0)) (y 1)) := by
  have h0 : (x 0).val < 512 := (x 0).isLt
  have h1 : (x 1).val < 128 := (x 1).isLt
  have hn : n.val < 8 := n.isLt
  refine (head_at m c t n _ (head_cols m c t n b hb z hz o ho e hs) x).trans ?_
  pointwise [val_main_v92, val_main_v91]
  refine congrArg _ (funext fun a => Fin.ext ?_)
  match a with
  | ⟨0, _⟩ => show t.val / 5 * 512 + (x 0).val = t.val / 5 * 512 + (y 0).val; omega
  | ⟨1, _⟩ => show n.val = (y 1).val / 128; omega
  | ⟨2, _⟩ => show (x 1).val = (y 1).val % 128; omega

/-- The query heads stored are the reference's. -/
theorem qOut_at (c : Dev nD) (t : Fin cfg0.N) (h : t.val % 5 = 2) (y : S512x1024.Idx) :
    qOut m c t h y = val_main_v92 (F := Ideal) (A0 m c) (A1 m c) (A2 m c) (A6 m c) (ix2 (grow t (y 0)) (y 1)) := by
  unfold qOut R2
  have hn := kept_at m c t
  generalize hTile m c (tile t 0 (by decide)) (tile_mod t 0 (by decide)) = x17 at hn ⊢
  frame_out
  simp only [rd0]
  have hz0 := zblk m c t x17 hn 2048 (by omega) 0 inb_S1024x2048_S512x2048_0_0 (by omega)
  have hz1 := zblk m c t x17 hn 2560 (by omega) 512 inb_S1024x2048_S512x2048_512_0 (by omega)
  refine View.canon_apply_of_pieces (fun y : S512x1024.Idx => val_main_v92 (F := Ideal) (A0 m c) (A1 m c) (A2 m c) (A6 m c) (ix2 (grow t (y 0)) (y 1))) _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩⟩⟩⟩⟩) y
    (View.cover_of_tiledL _ ![512, 128] (by sl_kernel_rfl) y)
  · exact head_piece m c t 7 2560 (by omega) _ hz1 384 (by omega) rfl slices_S512x512_o0_384_S512x128 x _ rfl rfl
  · exact head_piece m c t 6 2560 (by omega) _ hz1 256 (by omega) rfl slices_S512x512_o0_256_S512x128 x _ rfl rfl
  · exact head_piece m c t 5 2560 (by omega) _ hz1 128 (by omega) rfl slices_S512x512_o0_128_S512x128 x _ rfl rfl
  · exact head_piece m c t 4 2560 (by omega) _ hz1 0 (by omega) rfl slices_S512x512_o0_0_S512x128 x _ rfl rfl
  · exact head_piece m c t 3 2048 (by omega) _ hz0 384 (by omega) rfl slices_S512x512_o0_384_S512x128 x _ rfl rfl
  · exact head_piece m c t 2 2048 (by omega) _ hz0 256 (by omega) rfl slices_S512x512_o0_256_S512x128 x _ rfl rfl
  · exact head_piece m c t 1 2048 (by omega) _ hz0 128 (by omega) rfl slices_S512x512_o0_128_S512x128 x _ rfl rfl
  · exact head_piece m c t 0 2048 (by omega) _ hz0 0 (by omega) rfl slices_S512x512_o0_0_S512x128 x _ rfl rfl

end Cert.InPIdeal.Value

end
-- ==== Proof.InPGate.lean ====
/- The input projection of the prompt rows: the gates it stores are the reference's. -/
module

public import proofs.«01_k».proof.Proof.InPPre

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-- The gates of the first 128 columns. -/
theorem sig_at (c : Dev nD) (t : Fin cfg0.N) (h : t.val % 5 = 4) (x17 : Vec Ideal S512x2048 .bf16) (hn : IsNorm m c t x17) (x : S512x128.Idx) :
    k0_pay20 (F := Ideal) x17 (View.ld (iblk m c 2 t) (Rect.unit ![512, 0] ![128, 2048] inb_S1024x2048_S128x2048_512_0)) x
      = val_main_v88 (F := Ideal) (A0 m c) (A1 m c) (A2 m c) (ix2 (grow t (x 0)) (x 1)) := by
  unfold IsNorm at hn
  unfold k0_pay20
  pointwise [hn, val_main_v88, val_main_v87, val_main_cst_15, val_main_v86, val_main_v85, val_main_cst_14, val_main_v84, val_main_v83, val_main_v82, val_main_v18, val_main_v17, val_main_v16, val_main_v15]
  rw [zero_sub]
  refine congrArg (fun s => Ideal.div 1 (1 + Ideal.exp (-s))) (Finset.sum_congr rfl fun k _ => congrArg₂ (· * ·) rfl ?_)
  blk_point [iblk, V, idx t]

/-- The reference's joined gates: the first 128 columns. -/
theorem joined_lo (c : Dev nD) (r : Fin 8192) (k : Fin 128) :
    val_main_v101 (F := Ideal) (A0 m c) (A1 m c) (A2 m c) (ix2 r ⟨k.val, by omega⟩) = val_main_v88 (F := Ideal) (A0 m c) (A1 m c) (A2 m c) (ix2 r k) := by
  unfold val_main_v101
  pointwise [val_main_v99, val_main_v100]

/-- The reference's joined gates: the last 128 columns are the first, twelve further on and around. -/
theorem joined_hi (c : Dev nD) (r : Fin 8192) (k : Fin 128) :
    val_main_v101 (F := Ideal) (A0 m c) (A1 m c) (A2 m c) (ix2 r ⟨128 + k.val, by omega⟩) = val_main_v88 (F := Ideal) (A0 m c) (A1 m c) (A2 m c) (ix2 r ⟨(k.val + 128 - 116) % 128, Nat.mod_lt _ (by decide)⟩) := by
  have hk := k.isLt
  unfold val_main_v101
  pointwise [val_main_v99, val_main_v100]
  by_cases h : k.val < 116
  · refine (dif_pos h).trans (congrArg _ (congrArg (ix2 r) (Fin.ext ?_)))
    show 12 + k.val = (k.val + 128 - 116) % 128; omega
  · refine (dif_neg h).trans (congrArg _ (congrArg (ix2 r) (Fin.ext ?_)))
    show k.val - 116 = (k.val + 128 - 116) % 128; omega

/-- The gates stored are the reference's. -/
theorem gateOut_at (c : Dev nD) (t : Fin cfg0.N) (h : t.val % 5 = 4) (y : S512x256.Idx) :
    gateOut m c t h y = val_main_v101 (F := Ideal) (A0 m c) (A1 m c) (A2 m c) (ix2 (grow t (y 0)) (y 1)) := by
  unfold gateOut R4
  have hn := kept_at m c t
  generalize hTile m c (tile t 0 (by decide)) (tile_mod t 0 (by decide)) = x17 at hn ⊢
  frame_out
  simp only [rd0]
  refine View.canon_apply_of_pieces (fun y : S512x256.Idx => val_main_v101 (F := Ideal) (A0 m c) (A1 m c) (A2 m c) (ix2 (grow t (y 0)) (y 1))) _
    (List.forall_mem_cons.2 ⟨fun x => ?_, List.forall_mem_cons.2 ⟨fun x => ?_, fun _ e => absurd e List.not_mem_nil⟩⟩) y
    (View.cover_of_tiledL _ ![512, 128] (by sl_kernel_rfl) y)
  · refine Eq.trans ?_ ((joined_hi m c (grow t (x 0)) (x 1)).symm.trans (congrArg _ (congrArg₂ ix2 (Fin.ext ?_) (Fin.ext ?_))))
    · show dynamicRotate 1 116#32 none (k0_pay20 (F := Ideal) x17 _) rotates_S512x128_d1 x = _
      pointwise []
      exact sig_at m c t h x17 hn _
    · show t.val / 5 * 512 + (x 0).val = t.val / 5 * 512 + (0 + 1 * (x 0).val); omega
    · show 128 + (x 1).val = 128 + 1 * (x 1).val; omega
  · refine (sig_at m c t h x17 hn x).trans ((joined_lo m c (grow t (x 0)) (x 1)).symm.trans (congrArg _ (congrArg₂ ix2 (Fin.ext ?_) (Fin.ext ?_))))
    · show t.val / 5 * 512 + (x 0).val = t.val / 5 * 512 + (0 + 1 * (x 0).val); omega
    · show (x 1).val = 0 + 1 * (x 1).val; omega

end Cert.InPIdeal.Value

end
-- ==== Proof.InPV.lean ====
/- The input projection of the prompt rows: the normalised branch it stores is the reference's. -/
module

public import proofs.«01_k».proof.Proof.InPPre

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-- A sum over 1024 places as two sums over 512. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- The first half of the mixed branch's activation. -/
theorem act0 (c : Dev nD) (t : Fin cfg0.N) (h : t.val % 5 = 1) (x17 : Vec Ideal S512x2048 .bf16) (hn : IsNorm m c t x17) :
    IsGelu m c t 1024 (by omega) (k0_pay28 (F := Ideal) x17 (View.ld (iblk m c 2 t) (Rect.unit ![0, 0] ![512, 2048] inb_S1024x2048_S512x2048_0_0))) := by
  intro x
  rw [← gelu_at m _ c t 1024 (by omega) (zblk m c t x17 hn 1024 (by omega) 0 inb_S1024x2048_S512x2048_0_0 (by omega)) x]
  exact congrFun (shapeCast_self _ _).symm x

/-- The second half. -/
theorem act1 (c : Dev nD) (t : Fin cfg0.N) (h : t.val % 5 = 1) (x17 : Vec Ideal S512x2048 .bf16) (hn : IsNorm m c t x17) :
    IsGelu m c t 1536 (by omega) (k0_pay29 (F := Ideal) x17 (View.ld (iblk m c 2 t) (Rect.unit ![512, 0] ![512, 2048] inb_S1024x2048_S512x2048_512_0))) := by
  intro x
  rw [← gelu_at m _ c t 1536 (by omega) (zblk m c t x17 hn 1536 (by omega) 512 inb_S1024x2048_S512x2048_512_0 (by omega)) x]
  exact congrFun (shapeCast_self _ _).symm x

/-- The reciprocal root mean square over both halves. -/
theorem rstd_at (c : Dev nD) (t : Fin cfg0.N) (x17 w0 w1 : Vec Ideal S512x2048 .bf16)
    (h0 : IsGelu m c t 1024 (by omega) (k0_pay28 (F := Ideal) x17 w0)) (h1 : IsGelu m c t 1536 (by omega) (k0_pay29 (F := Ideal) x17 w1)) (x : S512x1.Idx) :
    k0_pay31 (F := Ideal) (k0_pay30 (F := Ideal) x17 w0 x17 w1) (FloatOps.ofBits FTy.f32 1149239296#32) x
      = val_main_v43 (F := Ideal) (A0 m c) (A1 m c) (A2 m c) (ix2 (grow t (x 0)) 0) := by
  unfold IsGelu at h0 h1
  unfold k0_pay31 k0_pay30
  generalize k0_pay28 (F := Ideal) x17 w0 = g0 at h0 ⊢
  generalize k0_pay29 (F := Ideal) x17 w1 = g1 at h1 ⊢
  pointwise [h0, h1, val_main_v43, val_main_v42, val_main_v41, val_main_cst_8, val_main_v40, val_main_v39, val_main_cst_7, val_main_v38, val_main_v37, val_main_cst_6, val_main_v36, val_main_v34]
  rw [sum_halves]
  refine congrArg (fun s => Ideal.rsqrt (Ideal.div s _ + _)) (congrArg₂ (· + ·) rfl (Finset.sum_congr rfl fun k _ => ?_))
  exact congrArg (fun j => val_main_v32 (F := Ideal) (A0 m c) (A1 m c) (A2 m c) (ix2 (grow t (x 0)) j) * val_main_v32 (F := Ideal) (A0 m c) (A1 m c) (A2 m c) (ix2 (grow t (x 0)) j))
    (Fin.ext (by show 1536 + k.val = 1024 + (512 + k.val); omega))

/-- A half of the normalised branch, once the root mean square is known. -/
theorem half_at (c : Dev nD) (t : Fin cfg0.N) (b : ℕ) (hb : b + 512 ≤ 1024) (g : FVec Ideal S512x512 .f32) (hg : IsGelu m c t (1024 + b) (by omega) g)
    (r : FVec Ideal S512x1 .f32) (hr : ∀ x : S512x1.Idx, r x = val_main_v43 (F := Ideal) (A0 m c) (A1 m c) (A2 m c) (ix2 (grow t (x 0)) 0)) (inb) (x : S512x512.Idx)
    (y : S512x1024.Idx) (e0 : (y 0).val = 0 + 1 * (x 0).val) (e1 : (y 1).val = b + 1 * (x 1).val) :
    k0_pay58 (F := Ideal) g r (View.ld (iblk m c 3 t) (Rect.unit ![0, b] ![1, 512] inb)) x
      = val_main_v48 (F := Ideal) (A0 m c) (A1 m c) (A2 m c) (A3 m c) (ix2 (grow t (y 0)) (y 1)) := by
  unfold IsGelu at hg
  unfold k0_pay58
  pointwise [hg, hr, val_main_v48, val_main_v47, val_main_v46, val_main_v45, val_main_v44, val_main_v35, val_main_v34]
  refine congrArg₂ (· * ·) (congrArg₂ (· * ·) (congrArg _ (congrArg₂ ix2 (Fin.ext ?_) (Fin.ext ?_))) (congrArg _ (congrArg (ix2 · 0) (Fin.ext ?_)))) ?_
  · show t.val / 5 * 512 + (x 0).val = t.val / 5 * 512 + (y 0).val; omega
  · show 1024 + b + (x 1).val = 1024 + (y 1).val; omega
  · show t.val / 5 * 512 + (x 0).val = t.val / 5 * 512 + (y 0).val; omega
  · refine Eq.trans ?_ (congrArg (A3 m c) (congrArg (ix2 0) (show (⟨b + (x 1).val, by have : (x 1).val < 512 := (x 1).isLt; omega⟩ : Fin 1024) = y 1 from Fin.ext (by show b + (x 1).val = (y 1).val; omega))))
    blk_point [iblk, V, idx t]

/-- The normalised branch stored is the reference's. -/
theorem vOut_at (c : Dev nD) (t : Fin cfg0.N) (h : t.val % 5 = 1) (y : S512x1024.Idx) :
    vOut m c t h y = val_main_v48 (F := Ideal) (A0 m c) (A1 m c) (A2 m c) (A3 m c) (ix2 (grow t (y 0)) (y 1)) := by
  unfold vOut R1
  have hn := kept_at m c t
  generalize hTile m c (tile t 0 (by decide)) (tile_mod t 0 (by decide)) = x17 at hn ⊢
  generalize uTile m c (tile t 0 (by decide)) (tile_mod t 0 (by decide)) = x18
  frame_out
  simp only [rd0]
  have h0 := act0 m c t h x17 hn
  have h1 := act1 m c t h x17 hn
  have hr := rstd_at m c t x17 _ _ h0 h1
  refine View.canon_apply_of_pieces (fun y : S512x1024.Idx => val_main_v48 (F := Ideal) (A0 m c) (A1 m c) (A2 m c) (A3 m c) (ix2 (grow t (y 0)) (y 1))) _
    (List.forall_mem_cons.2 ⟨fun x => ?_, List.forall_mem_cons.2 ⟨fun x => ?_, fun _ e => absurd e List.not_mem_nil⟩⟩) y
    (View.cover_of_tiledL _ ![512, 512] (by sl_kernel_rfl) y)
  · exact half_at m c t 512 (by omega) _ h1 _ hr inb_S1x1024_S1x512_0_512 x _ rfl rfl
  · exact half_at m c t 0 (by omega) _ h0 _ hr inb_S1x1024_S1x512_0_0 x _ rfl rfl

end Cert.InPIdeal.Value

end
-- ==== Proof.InPMix.lean ====
/- The input projection of the prompt rows: the mixed branch it stores is the reference's. -/
module

public import proofs.«01_k».proof.Proof.InPV

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-- One mixed piece: a chunk's rows of one head against the head's lower triangle, offset and gated. -/
def mixOf (v : FVec Ideal S128x128 .f32) (w : Vec Ideal S1x128x128 .f32) (b u : Vec Ideal S128x128 .f32) : FVec Ideal S128x128 .bf16 :=
  have v68 : IVec S128x128 1 := cmpi .sge (iota .tc S128x128 32 [0] iota_S128x128_d0_w32) (iota .tc S128x128 32 [1] iota_S128x128_d1_w32)
  have v72 : FVec Ideal S128x128 .f32 := select v68 (shapeCast S128x128 w shapeCasts_S1x128x128_S128x128) (broadcast S128x128 (Scalar.ofBits .f32 0x00000000#32))
  have v76 : FVec Ideal S128x128 .f32 := matmul dot_S128x128_S128x128_S128x128_1_0_0_1_n_n none (truncf .bf16 v72 bitsLt_bf16_f32) (truncf .bf16 v bitsLt_bf16_f32) (constant S128x128 .f32 0x00000000#32)
  truncf .bf16 (mulf u (addf v76 (shapeCast S128x128 b shapeCasts_S128x128_S128x128))) bitsLt_bf16_f32

/-- Such a piece against the reference's mixing of the chunks. -/
theorem mix_at (c : Dev nD) (q : Fin 64) (g : Fin 8) (v : FVec Ideal S128x128 .f32) (w : Vec Ideal S1x128x128 .f32) (b u : Vec Ideal S128x128 .f32)
    (hv : ∀ x : S128x128.Idx, v x = val_main_v53 (F := Ideal) (A0 m c) (A1 m c) (A2 m c) (A3 m c) (ix4 q (x 0) g (x 1)))
    (hw : ∀ i j : Fin 128, w (ix3 0 i j) = A4 m c (ix4 0 g i j))
    (hb : ∀ x : S128x128.Idx, b x = A5 m c (ix3 0 g (x 0))) (x : S128x128.Idx) :
    mixOf v w b u x = u x * val_main_v61 (F := Ideal) (A0 m c) (A1 m c) (A2 m c) (A3 m c) (A4 m c) (A5 m c) (ix4 q (x 0) g (x 1)) := by
  unfold mixOf
  pointwise [hv, hw, hb, val_main_v61, val_main_v60, val_main_v59, val_main_v58, val_main_v57, val_main_v56, val_main_v55, val_main_v54, val_main_v52, val_main_call1_v0, val_main_call1_v1, val_main_call1_v2, val_main_cst_9, val_main_v51, val_main_v50, val_main_call0_v0, val_main_call0_c, val_main_call0_v1, val_main_call0_v2, val_main_call0_v3, val_main_call0_v4, val_main_call0_c_0, val_main_call0_v5, val_main_v49, val_main_c]
  refine congrArg (fun s => u x * (s + A5 m c (ix3 0 g (x 0)))) (Finset.sum_congr rfl fun k _ => ?_)
  rw [show IntOp.addi (BitVec.ofNat 32 (x 0).val) 0#32 = BitVec.ofNat 32 (x 0).val from BitVec.add_zero _]
  generalize IntOp.cmpi CmpIPredicate.sge (BitVec.ofNat 32 (x 0).val) (BitVec.ofNat 32 k.val) = p
  have hp : p = 0#1 ∨ p = 1#1 := by revert p; decide
  rcases hp with rfl | rfl
  · show (0 : EReal) = _ * Ideal.ofBits .f32 0x00000000#32
    rw [Ideal.ofBits_zero_f32, mul_zero]
  · exact mul_comm _ _

/-- The offsets as the kernel is given them: each head's, repeated over its columns. -/
theorem blk6 (c : Dev nD) (t : Fin cfg0.N) (y : S128x1024.Idx) :
    (iblk m c 6 t : Vec Ideal S128x1024 .f32) y = A5 m c (ix3 0 ⟨(y 1).val / 128, by have : (y 1).val < 1024 := (y 1).isLt; omega⟩ (y 0)) := by
  blk_point [iblk, V, idx t]

/-- The mixing weights as the kernel is given them. -/
theorem blk5 (c : Dev nD) (t : Fin cfg0.N) (y : S8x128x128.Idx) :
    (iblk m c 5 t : Vec Ideal S8x128x128 .f32) y = A4 m c (ix4 0 (y 0) (y 1) (y 2)) := by
  blk_point [iblk, V, idx t]

/-- A head's offsets. -/
theorem bias_at (c : Dev nD) (t : Fin cfg0.N) (g : Fin 8) (o : ℕ) (e : o = g.val * 128) (inb) (x : S128x128.Idx) :
    (View.ld (iblk m c 6 t) (Rect.unit ![0, o] ![128, 128] inb) : Vec Ideal S128x128 .f32) x = A5 m c (ix3 0 g (x 0)) := by
  have h1 : (x 1).val < 128 := (x 1).isLt
  have hg := g.isLt
  refine (blk6 m c t _).trans (congrArg _ (congrArg₂ (ix3 0) (Fin.ext ?_) (Fin.ext ?_)))
  · show (o + 1 * (x 1).val) / 128 = g.val; omega
  · show 0 + 1 * (x 0).val = (x 0).val; omega

/-- A head's mixing weights. -/
theorem wts_at (c : Dev nD) (t : Fin cfg0.N) (g : Fin 8) (o : ℕ) (e : o = g.val) (inb) (i j : Fin 128) :
    (View.ld (iblk m c 5 t) (Rect.unit ![o, 0, 0] ![1, 128, 128] inb) : Vec Ideal S1x128x128 .f32) (ix3 0 i j) = A4 m c (ix4 0 g i j) := by
  refine (blk5 m c t _).trans (congrArg _ (funext fun a => Fin.ext ?_))
  match a with
  | ⟨0, _⟩ => rfl
  | ⟨1, _⟩ => show o + 1 * 0 = g.val; omega
  | ⟨2, _⟩ => show 0 + 1 * i.val = i.val; omega
  | ⟨3, _⟩ => show 0 + 1 * j.val = j.val; omega

/-- The rows of a chunk in one head, in a half of the normalised branch. -/
theorem chunk_at (c : Dev nD) (t : Fin cfg0.N) (b : ℕ) (hb : b + 512 ≤ 1024) (z : FVec Ideal S512x512 .f32)
    (hz : ∀ x : S512x512.Idx, z x = val_main_v48 (F := Ideal) (A0 m c) (A1 m c) (A2 m c) (A3 m c) (ix2 (grow t (x 0)) ⟨b + (x 1).val, by have : (x 1).val < 512 := (x 1).isLt; omega⟩))
    (k : Fin 4) (g : Fin 8) (ro co : ℕ) (er : ro = k.val * 128) (ec : b + co = g.val * 128) (hc : co + 128 ≤ 512) (hs) (x : S128x128.Idx) :
    extractStridedSlice S128x128 ![ro, co] z hs x
      = val_main_v53 (F := Ideal) (A0 m c) (A1 m c) (A2 m c) (A3 m c) (ix4 ⟨t.val / 5 * 4 + k.val, by have := lt80 t; omega⟩ (x 0) g (x 1)) := by
  have h0 : (x 0).val < 128 := (x 0).isLt
  have h1 : (x 1).val < 128 := (x 1).isLt
  have hk := k.isLt
  have hg := g.isLt
  have ht := lt80 t
  refine (extractStridedSlice_apply _ _ hs x (ix2 ⟨ro + (x 0).val, by omega⟩ ⟨co + (x 1).val, by omega⟩) (fun a => match a with
    | ⟨0, _⟩ => rfl
    | ⟨1, _⟩ => rfl)).trans ((hz _).trans ?_)
  rw [val_main_v53_apply]
  refine congrArg _ (funext fun a => Fin.ext ?_)
  match a with
  | ⟨0, _⟩ => show t.val / 5 * 512 + (ro + (x 0).val) = ((((t.val / 5 * 4 + k.val) * 128 + (x 0).val) * 8 + g.val) * 128 + (x 1).val) / 1024; omega
  | ⟨1, _⟩ => show b + (co + (x 1).val) = ((((t.val / 5 * 4 + k.val) * 128 + (x 0).val) * 8 + g.val) * 128 + (x 1).val) % 1024; omega

/-- What a mixed piece holds, at the entry of the block it is stored at. -/
theorem mix_piece (c : Dev nD) (t : Fin cfg0.N) (b : ℕ) (hb : b + 512 ≤ 1024) (z : FVec Ideal S512x512 .f32)
    (hz : ∀ x : S512x512.Idx, z x = val_main_v48 (F := Ideal) (A0 m c) (A1 m c) (A2 m c) (A3 m c) (ix2 (grow t (x 0)) ⟨b + (x 1).val, by have : (x 1).val < 512 := (x 1).isLt; omega⟩))
    (x18 : Vec Ideal S512x1024 .f32) (hu : ∀ y : S512x1024.Idx, x18 y = val_main_v33 (F := Ideal) (A0 m c) (A1 m c) (A2 m c) (ix2 (grow t (y 0)) (y 1)))
    (k : Fin 4) (g : Fin 8) (ro co go : ℕ) (er : ro = k.val * 128) (ec : b + co = g.val * 128) (hc : co + 128 ≤ 512) (eg : go = g.val * 128)
    (n : ℕ) (en : n = g.val) (hs i5 i6 i18) (x : S128x128.Idx) :
    mixOf (extractStridedSlice S128x128 ![ro, co] z hs) (View.ld (iblk m c 5 t) (Rect.unit ![n, 0, 0] ![1, 128, 128] i5))
        (View.ld (iblk m c 6 t) (Rect.unit ![0, go] ![128, 128] i6)) (View.ld x18 (Rect.unit ![ro, go] ![128, 128] i18)) x
      = val_main_v90 (F := Ideal) (A0 m c) (A1 m c) (A2 m c) (A3 m c) (A4 m c) (A5 m c)
          (ix2 (grow t ((Rect.unit (s := S512x1024) ![ro, go] ![128, 128] i18).emb x 0)) ((Rect.unit (s := S512x1024) ![ro, go] ![128, 128] i18).emb x 1)) := by
  have h0 : (x 0).val < 128 := (x 0).isLt
  have h1 : (x 1).val < 128 := (x 1).isLt
  have hk := k.isLt
  have hg := g.isLt
  have ht := lt80 t
  refine (mix_at m c ⟨t.val / 5 * 4 + k.val, by omega⟩ g _ _ _ _ (chunk_at m c t b hb z hz k g ro co er ec hc hs)
    (wts_at m c t g n en i5) (bias_at m c t g go eg i6) x).trans ?_
  show x18 ((Rect.unit (s := S512x1024) ![ro, go] ![128, 128] i18).emb x) * _ = _
  rw [hu]
  generalize hy : (Rect.unit (s := S512x1024) ![ro, go] ![128, 128] i18).emb x = y
  have y0 : (y 0).val = ro + 1 * (x 0).val := by rw [← hy]; rfl
  have y1 : (y 1).val = go + 1 * (x 1).val := by rw [← hy]; rfl
  pointwise [val_main_v90, val_main_v63]
  refine congrArg₂ (· * ·) rfl ?_
  rw [val_main_v62_apply]
  refine congrArg _ (funext fun a => Fin.ext ?_)
  match a with
  | ⟨0, _⟩ => show t.val / 5 * 4 + k.val = ((t.val / 5 * 512 + (y 0).val) * 1024 + (y 1).val) / 131072; omega
  | ⟨1, _⟩ => show (x 0).val = ((t.val / 5 * 512 + (y 0).val) * 1024 + (y 1).val) / 1024 % 128; omega
  | ⟨2, _⟩ => show g.val = ((t.val / 5 * 512 + (y 0).val) * 1024 + (y 1).val) / 128 % 8; omega
  | ⟨3, _⟩ => show (x 1).val = ((t.val / 5 * 512 + (y 0).val) * 1024 + (y 1).val) % 128; omega

set_option maxHeartbeats 2000000 in
/-- The mixed branch stored is the reference's. -/
theorem oaOut_at (c : Dev nD) (t : Fin cfg0.N) (h : t.val % 5 = 1) (y : S512x1024.Idx) :
    oaOut m c t h y = val_main_v90 (F := Ideal) (A0 m c) (A1 m c) (A2 m c) (A3 m c) (A4 m c) (A5 m c) (ix2 (grow t (y 0)) (y 1)) := by
  unfold oaOut R1
  have hn := kept_at m c t
  have hu := ukept_at m c t
  generalize hTile m c (tile t 0 (by decide)) (tile_mod t 0 (by decide)) = x17 at hn ⊢
  generalize uTile m c (tile t 0 (by decide)) (tile_mod t 0 (by decide)) = x18 at hu ⊢
  frame_out
  simp only [rd0, rd1]
  have h0 := act0 m c t h x17 hn
  have h1 := act1 m c t h x17 hn
  have hr := rstd_at m c t x17 _ _ h0 h1
  have hz0 := fun x => half_at m c t 0 (by omega) _ h0 _ hr inb_S1x1024_S1x512_0_0 x (ix2 (x 0) ⟨0 + (x 1).val, by have : (x 1).val < 512 := (x 1).isLt; omega⟩) (by show (x 0).val = 0 + 1 * (x 0).val; omega) (by show 0 + (x 1).val = 0 + 1 * (x 1).val; omega)
  have hz1 := fun x => half_at m c t 512 (by omega) _ h1 _ hr inb_S1x1024_S1x512_0_512 x (ix2 (x 0) ⟨512 + (x 1).val, by have : (x 1).val < 512 := (x 1).isLt; omega⟩) (by show (x 0).val = 0 + 1 * (x 0).val; omega) (by show 512 + (x 1).val = 512 + 1 * (x 1).val; omega)
  refine View.canon_apply_of_pieces (fun y : S512x1024.Idx => val_main_v90 (F := Ideal) (A0 m c) (A1 m c) (A2 m c) (A3 m c) (A4 m c) (A5 m c) (ix2 (grow t (y 0)) (y 1))) _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ e => absurd e List.not_mem_nil⟩⟩⟩⟩⟩⟩⟩⟩⟩⟩⟩⟩⟩⟩⟩⟩⟩⟩⟩⟩⟩⟩⟩⟩⟩⟩⟩⟩⟩⟩⟩⟩) y
    (View.cover_of_tiledL _ ![128, 128] (by sl_kernel_rfl) y)
  · exact mix_piece m c t 512 (by omega) _ hz1 x18 hu 3 7 384 384 896 rfl rfl (by omega) rfl 7 rfl slices_S512x512_o384_384_S128x128 inb_S8x128x128_S1x128x128_7_0_0 inb_S128x1024_S128x128_0_896 inb_S512x1024_S128x128_384_896 x
  · exact mix_piece m c t 512 (by omega) _ hz1 x18 hu 2 7 256 384 896 rfl rfl (by omega) rfl 7 rfl slices_S512x512_o256_384_S128x128 inb_S8x128x128_S1x128x128_7_0_0 inb_S128x1024_S128x128_0_896 inb_S512x1024_S128x128_256_896 x
  · exact mix_piece m c t 512 (by omega) _ hz1 x18 hu 1 7 128 384 896 rfl rfl (by omega) rfl 7 rfl slices_S512x512_o128_384_S128x128 inb_S8x128x128_S1x128x128_7_0_0 inb_S128x1024_S128x128_0_896 inb_S512x1024_S128x128_128_896 x
  · exact mix_piece m c t 512 (by omega) _ hz1 x18 hu 0 7 0 384 896 rfl rfl (by omega) rfl 7 rfl slices_S512x512_o0_384_S128x128 inb_S8x128x128_S1x128x128_7_0_0 inb_S128x1024_S128x128_0_896 inb_S512x1024_S128x128_0_896 x
  · exact mix_piece m c t 512 (by omega) _ hz1 x18 hu 3 6 384 256 768 rfl rfl (by omega) rfl 6 rfl slices_S512x512_o384_256_S128x128 inb_S8x128x128_S1x128x128_6_0_0 inb_S128x1024_S128x128_0_768 inb_S512x1024_S128x128_384_768 x
  · exact mix_piece m c t 512 (by omega) _ hz1 x18 hu 2 6 256 256 768 rfl rfl (by omega) rfl 6 rfl slices_S512x512_o256_256_S128x128 inb_S8x128x128_S1x128x128_6_0_0 inb_S128x1024_S128x128_0_768 inb_S512x1024_S128x128_256_768 x
  · exact mix_piece m c t 512 (by omega) _ hz1 x18 hu 1 6 128 256 768 rfl rfl (by omega) rfl 6 rfl slices_S512x512_o128_256_S128x128 inb_S8x128x128_S1x128x128_6_0_0 inb_S128x1024_S128x128_0_768 inb_S512x1024_S128x128_128_768 x
  · exact mix_piece m c t 512 (by omega) _ hz1 x18 hu 0 6 0 256 768 rfl rfl (by omega) rfl 6 rfl slices_S512x512_o0_256_S128x128 inb_S8x128x128_S1x128x128_6_0_0 inb_S128x1024_S128x128_0_768 inb_S512x1024_S128x128_0_768 x
  · exact mix_piece m c t 512 (by omega) _ hz1 x18 hu 3 5 384 128 640 rfl rfl (by omega) rfl 5 rfl slices_S512x512_o384_128_S128x128 inb_S8x128x128_S1x128x128_5_0_0 inb_S128x1024_S128x128_0_640 inb_S512x1024_S128x128_384_640 x
  · exact mix_piece m c t 512 (by omega) _ hz1 x18 hu 2 5 256 128 640 rfl rfl (by omega) rfl 5 rfl slices_S512x512_o256_128_S128x128 inb_S8x128x128_S1x128x128_5_0_0 inb_S128x1024_S128x128_0_640 inb_S512x1024_S128x128_256_640 x
  · exact mix_piece m c t 512 (by omega) _ hz1 x18 hu 1 5 128 128 640 rfl rfl (by omega) rfl 5 rfl slices_S512x512_o128_128_S128x128 inb_S8x128x128_S1x128x128_5_0_0 inb_S128x1024_S128x128_0_640 inb_S512x1024_S128x128_128_640 x
  · exact mix_piece m c t 512 (by omega) _ hz1 x18 hu 0 5 0 128 640 rfl rfl (by omega) rfl 5 rfl slices_S512x512_o0_128_S128x128 inb_S8x128x128_S1x128x128_5_0_0 inb_S128x1024_S128x128_0_640 inb_S512x1024_S128x128_0_640 x
  · exact mix_piece m c t 512 (by omega) _ hz1 x18 hu 3 4 384 0 512 rfl rfl (by omega) rfl 4 rfl slices_S512x512_o384_0_S128x128 inb_S8x128x128_S1x128x128_4_0_0 inb_S128x1024_S128x128_0_512 inb_S512x1024_S128x128_384_512 x
  · exact mix_piece m c t 512 (by omega) _ hz1 x18 hu 2 4 256 0 512 rfl rfl (by omega) rfl 4 rfl slices_S512x512_o256_0_S128x128 inb_S8x128x128_S1x128x128_4_0_0 inb_S128x1024_S128x128_0_512 inb_S512x1024_S128x128_256_512 x
  · exact mix_piece m c t 512 (by omega) _ hz1 x18 hu 1 4 128 0 512 rfl rfl (by omega) rfl 4 rfl slices_S512x512_o128_0_S128x128 inb_S8x128x128_S1x128x128_4_0_0 inb_S128x1024_S128x128_0_512 inb_S512x1024_S128x128_128_512 x
  · exact mix_piece m c t 512 (by omega) _ hz1 x18 hu 0 4 0 0 512 rfl rfl (by omega) rfl 4 rfl slices_S512x512_o0_0_S128x128 inb_S8x128x128_S1x128x128_4_0_0 inb_S128x1024_S128x128_0_512 inb_S512x1024_S128x128_0_512 x
  · exact mix_piece m c t 0 (by omega) _ hz0 x18 hu 3 3 384 384 384 rfl rfl (by omega) rfl 3 rfl slices_S512x512_o384_384_S128x128 inb_S8x128x128_S1x128x128_3_0_0 inb_S128x1024_S128x128_0_384 inb_S512x1024_S128x128_384_384 x
  · exact mix_piece m c t 0 (by omega) _ hz0 x18 hu 2 3 256 384 384 rfl rfl (by omega) rfl 3 rfl slices_S512x512_o256_384_S128x128 inb_S8x128x128_S1x128x128_3_0_0 inb_S128x1024_S128x128_0_384 inb_S512x1024_S128x128_256_384 x
  · exact mix_piece m c t 0 (by omega) _ hz0 x18 hu 1 3 128 384 384 rfl rfl (by omega) rfl 3 rfl slices_S512x512_o128_384_S128x128 inb_S8x128x128_S1x128x128_3_0_0 inb_S128x1024_S128x128_0_384 inb_S512x1024_S128x128_128_384 x
  · exact mix_piece m c t 0 (by omega) _ hz0 x18 hu 0 3 0 384 384 rfl rfl (by omega) rfl 3 rfl slices_S512x512_o0_384_S128x128 inb_S8x128x128_S1x128x128_3_0_0 inb_S128x1024_S128x128_0_384 inb_S512x1024_S128x128_0_384 x
  · exact mix_piece m c t 0 (by omega) _ hz0 x18 hu 3 2 384 256 256 rfl rfl (by omega) rfl 2 rfl slices_S512x512_o384_256_S128x128 inb_S8x128x128_S1x128x128_2_0_0 inb_S128x1024_S128x128_0_256 inb_S512x1024_S128x128_384_256 x
  · exact mix_piece m c t 0 (by omega) _ hz0 x18 hu 2 2 256 256 256 rfl rfl (by omega) rfl 2 rfl slices_S512x512_o256_256_S128x128 inb_S8x128x128_S1x128x128_2_0_0 inb_S128x1024_S128x128_0_256 inb_S512x1024_S128x128_256_256 x
  · exact mix_piece m c t 0 (by omega) _ hz0 x18 hu 1 2 128 256 256 rfl rfl (by omega) rfl 2 rfl slices_S512x512_o128_256_S128x128 inb_S8x128x128_S1x128x128_2_0_0 inb_S128x1024_S128x128_0_256 inb_S512x1024_S128x128_128_256 x
  · exact mix_piece m c t 0 (by omega) _ hz0 x18 hu 0 2 0 256 256 rfl rfl (by omega) rfl 2 rfl slices_S512x512_o0_256_S128x128 inb_S8x128x128_S1x128x128_2_0_0 inb_S128x1024_S128x128_0_256 inb_S512x1024_S128x128_0_256 x
  · exact mix_piece m c t 0 (by omega) _ hz0 x18 hu 3 1 384 128 128 rfl rfl (by omega) rfl 1 rfl slices_S512x512_o384_128_S128x128 inb_S8x128x128_S1x128x128_1_0_0 inb_S128x1024_S128x128_0_128 inb_S512x1024_S128x128_384_128 x
  · exact mix_piece m c t 0 (by omega) _ hz0 x18 hu 2 1 256 128 128 rfl rfl (by omega) rfl 1 rfl slices_S512x512_o256_128_S128x128 inb_S8x128x128_S1x128x128_1_0_0 inb_S128x1024_S128x128_0_128 inb_S512x1024_S128x128_256_128 x
  · exact mix_piece m c t 0 (by omega) _ hz0 x18 hu 1 1 128 128 128 rfl rfl (by omega) rfl 1 rfl slices_S512x512_o128_128_S128x128 inb_S8x128x128_S1x128x128_1_0_0 inb_S128x1024_S128x128_0_128 inb_S512x1024_S128x128_128_128 x
  · exact mix_piece m c t 0 (by omega) _ hz0 x18 hu 0 1 0 128 128 rfl rfl (by omega) rfl 1 rfl slices_S512x512_o0_128_S128x128 inb_S8x128x128_S1x128x128_1_0_0 inb_S128x1024_S128x128_0_128 inb_S512x1024_S128x128_0_128 x
  · exact mix_piece m c t 0 (by omega) _ hz0 x18 hu 3 0 384 0 0 rfl rfl (by omega) rfl 0 rfl slices_S512x512_o384_0_S128x128 inb_S8x128x128_S1x128x128_0_0_0 inb_S128x1024_S128x128_0_0 inb_S512x1024_S128x128_384_0 x
  · exact mix_piece m c t 0 (by omega) _ hz0 x18 hu 2 0 256 0 0 rfl rfl (by omega) rfl 0 rfl slices_S512x512_o256_0_S128x128 inb_S8x128x128_S1x128x128_0_0_0 inb_S128x1024_S128x128_0_0 inb_S512x1024_S128x128_256_0 x
  · exact mix_piece m c t 0 (by omega) _ hz0 x18 hu 1 0 128 0 0 rfl rfl (by omega) rfl 0 rfl slices_S512x512_o128_0_S128x128 inb_S8x128x128_S1x128x128_0_0_0 inb_S128x1024_S128x128_0_0 inb_S512x1024_S128x128_128_0 x
  · exact mix_piece m c t 0 (by omega) _ hz0 x18 hu 0 0 0 0 0 rfl rfl (by omega) rfl 0 rfl slices_S512x512_o0_0_S128x128 inb_S8x128x128_S1x128x128_0_0_0 inb_S128x1024_S128x128_0_0 inb_S512x1024_S128x128_0_0 x

end Cert.InPIdeal.Value

end
-- ==== Proof.InPValue.lean ====
/- The input projection of the prompt rows: its eight result arrays as the reference's values. -/
module

public import proofs.«01_k».proof.Proof.InPKv
public import proofs.«01_k».proof.Proof.InPQ
public import proofs.«01_k».proof.Proof.InPGate
public import proofs.«01_k».proof.Proof.InPMix

@[expose] public section

set_option maxRecDepth 16384

noncomputable section

open Idealize.ShloMosaic Idealize.ShloMosaic.TcCoe Idealize.SL.Sem
open Idealize.ShloMosaic.Pipeline (Dat)

namespace Cert.InPIdeal.Value

open Cert.InPIdeal Cert.InPIdeal.Gen Cert.InPIdeal.Body
open Cert.InPRefIdeal.Read

variable (m : (ℓ : Loc nD τ sig) → Buf (Elt Ideal) ℓ)

/-! Each result array, once every row tile has been through its five steps. -/

/-- The normalised rows, narrowed. -/
theorem final7 (c : Dev nD) : (dats m 0 c).arrAt 7 (cfgs 0).N = val_main_v89 (F := Ideal) (A0 m c) (A1 m c) := by
  refine (dats m 0 c).arrAt_eq_of_covers 7 _ (by decide +kernel) fun t _ y => ?_
  blk_simp
  rw [after0_7]
  refine (hOut_at m c _ _ y).trans ?_
  show _ = val_main_v14 (F := Ideal) (A0 m c) (A1 m c) _
  generalize val_main_v14 (F := Ideal) (A0 m c) (A1 m c) = f
  have h5 : (5 * (t.val / 5) + 0) / 5 = t.val / 5 := by omega
  blk_ext [idx t, h5]

/-- The normalised branch. -/
theorem final8 (c : Dev nD) : (dats m 0 c).arrAt 8 (cfgs 0).N = val_main_v48 (F := Ideal) (A0 m c) (A1 m c) (A2 m c) (A3 m c) := by
  refine (dats m 0 c).arrAt_eq_of_covers 8 _ (by decide +kernel) fun t _ y => ?_
  blk_simp
  rw [after0_8]
  refine (vOut_at m c _ _ y).trans ?_
  generalize val_main_v48 (F := Ideal) (A0 m c) (A1 m c) (A2 m c) (A3 m c) = f
  have h5 : (5 * (t.val / 5) + 1) / 5 = t.val / 5 := by omega
  blk_ext [idx t, h5]

/-- The mixed branch. -/
theorem final9 (c : Dev nD) : (dats m 0 c).arrAt 9 (cfgs 0).N = val_main_v90 (F := Ideal) (A0 m c) (A1 m c) (A2 m c) (A3 m c) (A4 m c) (A5 m c) := by
  refine (dats m 0 c).arrAt_eq_of_covers 9 _ (by decide +kernel) fun t _ y => ?_
  blk_simp
  rw [after0_9]
  refine (oaOut_at m c _ _ y).trans ?_
  generalize val_main_v90 (F := Ideal) (A0 m c) (A1 m c) (A2 m c) (A3 m c) (A4 m c) (A5 m c) = f
  have h5 : (5 * (t.val / 5) + 1) / 5 = t.val / 5 := by omega
  blk_ext [idx t, h5]

/-- The heads' normalised queries. -/
theorem final10 (c : Dev nD) : (dats m 0 c).arrAt 10 (cfgs 0).N = val_main_v92 (F := Ideal) (A0 m c) (A1 m c) (A2 m c) (A6 m c) := by
  refine (dats m 0 c).arrAt_eq_of_covers 10 _ (by decide +kernel) fun t _ y => ?_
  blk_simp
  rw [after0_10]
  refine (qOut_at m c _ _ y).trans ?_
  generalize val_main_v92 (F := Ideal) (A0 m c) (A1 m c) (A2 m c) (A6 m c) = f
  have h5 : (5 * (t.val / 5) + 2) / 5 = t.val / 5 := by omega
  blk_ext [idx t, h5]

/-- The compressed branch's keys and values. -/
theorem final11 (c : Dev nD) : (dats m 0 c).arrAt 11 (cfgs 0).N = val_main_v94 (F := Ideal) (A0 m c) (A1 m c) (A2 m c) := by
  refine (dats m 0 c).arrAt_eq_of_covers 11 _ (by decide +kernel) fun t _ y => ?_
  blk_simp
  rw [after0_11]
  refine (kcOut_at m c _ _ y).trans ?_
  generalize val_main_v94 (F := Ideal) (A0 m c) (A1 m c) (A2 m c) = f
  have h5 : (5 * (t.val / 5) + 3) / 5 = t.val / 5 := by omega
  blk_ext [idx t, h5]

/-- The selected branch's keys and values. -/
theorem final12 (c : Dev nD) : (dats m 0 c).arrAt 12 (cfgs 0).N = val_main_v96 (F := Ideal) (A0 m c) (A1 m c) (A2 m c) := by
  refine (dats m 0 c).arrAt_eq_of_covers 12 _ (by decide +kernel) fun t _ y => ?_
  blk_simp
  rw [after0_12]
  refine (ksOut_at m c _ _ y).trans ?_
  generalize val_main_v96 (F := Ideal) (A0 m c) (A1 m c) (A2 m c) = f
  have h5 : (5 * (t.val / 5) + 3) / 5 = t.val / 5 := by omega
  blk_ext [idx t, h5]

/-- The window branch's keys and values. -/
theorem final13 (c : Dev nD) : (dats m 0 c).arrAt 13 (cfgs 0).N = val_main_v98 (F := Ideal) (A0 m c) (A1 m c) (A2 m c) := by
  refine (dats m 0 c).arrAt_eq_of_covers 13 _ (by decide +kernel) fun t _ y => ?_
  blk_simp
  rw [after0_13]
  refine (kwOut_at m c _ _ y).trans ?_
  generalize val_main_v98 (F := Ideal) (A0 m c) (A1 m c) (A2 m c) = f
  have h5 : (5 * (t.val / 5) + 4) / 5 = t.val / 5 := by omega
  blk_ext [idx t, h5]

/-- The gates. -/
theorem final14 (c : Dev nD) : (dats m 0 c).arrAt 14 (cfgs 0).N = val_main_v101 (F := Ideal) (A0 m c) (A1 m c) (A2 m c) := by
  refine (dats m 0 c).arrAt_eq_of_covers 14 _ (by decide +kernel) fun t _ y => ?_
  blk_simp
  rw [after0_14]
  refine (gateOut_at m c _ _ y).trans ?_
  generalize val_main_v101 (F := Ideal) (A0 m c) (A1 m c) (A2 m c) = f
  have h5 : (5 * (t.val / 5) + 4) / 5 = t.val / 5 := by omega
  blk_ext [idx t, h5]

/-- Every run ends with each result at the reference's last stage and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v12_0) = val_main_v89 (F := Ideal) (A0 m c) (A1 m c)
      ∧ r.2.mem ((c.tc : Thread nD τ).loc main_v12_1) = val_main_v48 (F := Ideal) (A0 m c) (A1 m c) (A2 m c) (A3 m c)
      ∧ r.2.mem ((c.tc : Thread nD τ).loc main_v12_2) = val_main_v90 (F := Ideal) (A0 m c) (A1 m c) (A2 m c) (A3 m c) (A4 m c) (A5 m c)
      ∧ r.2.mem ((c.tc : Thread nD τ).loc main_v12_3) = val_main_v92 (F := Ideal) (A0 m c) (A1 m c) (A2 m c) (A6 m c)
      ∧ r.2.mem ((c.tc : Thread nD τ).loc main_v12_4) = val_main_v94 (F := Ideal) (A0 m c) (A1 m c) (A2 m c)
      ∧ r.2.mem ((c.tc : Thread nD τ).loc main_v12_5) = val_main_v96 (F := Ideal) (A0 m c) (A1 m c) (A2 m c)
      ∧ r.2.mem ((c.tc : Thread nD τ).loc main_v12_6) = val_main_v98 (F := Ideal) (A0 m c) (A1 m c) (A2 m c)
      ∧ r.2.mem ((c.tc : Thread nD τ).loc main_v12_7) = val_main_v101 (F := Ideal) (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 7).trans (final7 m c), ((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2 c⟩)
    (θ_run_and (run_main m ρ) (unchanged m ρ))

end Cert.InPIdeal.Value

end
-- ==== Proof.InPClaim.lean ====
/- The input projection of the prompt rows: the runs its claims are about. -/
module

public import proofs.«01_k».proof.Proof.Gen.InP
public import proofs.«01_k».proof.Proof.Gen.InPRefIdeal
public import proofs.«01_k».proof.Proof.Gen.InPRefIdeal.Run
public import proofs.«01_k».proof.Proof.Gen.InPRefIdeal.Read
public import proofs.«01_k».proof.Proof.InPBody

@[expose] public section

set_option maxRecDepth 16384

noncomputable section

open Idealize.ShloMosaic Idealize.ShloMosaic.TcCoe Idealize.SL.Sem

namespace Cert.InPIdeal.Claims

set_option maxHeartbeats 4000000 in
/-- The program and its idealization have one text: one table of bodies. -/
theorem bodies_same : @Cert.InP.defs₀ Bits _ _ = @Cert.InPIdeal.defs₀ Bits _ _ := by
  unfold Cert.InP.defs₀ Cert.InPIdeal.defs₀
  refine congrArg (Defs.onTc (nD := Cert.InPIdeal.nD) (τ := Cert.InPIdeal.τ) (Λ := Cert.InPIdeal.Λ₀) (sig := Cert.InPIdeal.sig) (Val := Elt Bits)) ?_
  funext l a
  match l, a with
  | 0, (t, s) => rfl
  | ⟨_ + 1, h⟩, _ => exact absurd h (Nat.not_lt.2 (Nat.le_add_left _ _))

theorem defs_same : @Cert.InP.defs Bits _ _ = @Cert.InPIdeal.defs Bits _ _ :=
  congrArg (Pipeline.defs Cert.InPIdeal.pcfgs) bodies_same

/-- The program's frame at the machine's words, from the run stated for either float values. -/
theorem frame_bits (m : (ℓ : Loc Cert.InP.nD Cert.InP.τ Cert.InP.sig) → Buf (Elt Bits) ℓ) (g : Dev Cert.InP.nD → PrngReg) :
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0) := by
  have h := Cert.InPIdeal.Body.frame (F := Bits) m g
  rw [← defs_same] at h
  exact h

end Cert.InPIdeal.Claims

namespace Cert.InPRefIdeal.Claims

open Cert.InPRefIdeal Cert.InPRefIdeal.Gen Cert.InPRefIdeal.Read

/-- The reference ends with each result at its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = val_main_v89 (F := Ideal) (m ((c.tc : Thread nD τ).loc main_arg0)) (m ((c.tc : Thread nD τ).loc main_arg1))
      ∧ r.2.mem ((c.tc : Thread nD τ).loc main_v48) = val_main_v48 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v90) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v92) = val_main_v92 (F := Ideal) (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v94) = val_main_v94 (F := Ideal) (m ((c.tc : Thread nD τ).loc main_arg0)) (m ((c.tc : Thread nD τ).loc main_arg1)) (m ((c.tc : Thread nD τ).loc main_arg2))
      ∧ r.2.mem ((c.tc : Thread nD τ).loc main_v96) = val_main_v96 (F := Ideal) (m ((c.tc : Thread nD τ).loc main_arg0)) (m ((c.tc : Thread nD τ).loc main_arg1)) (m ((c.tc : Thread nD τ).loc main_arg2))
      ∧ r.2.mem ((c.tc : Thread nD τ).loc main_v98) = val_main_v98 (F := Ideal) (m ((c.tc : Thread nD τ).loc main_arg0)) (m ((c.tc : Thread nD τ).loc main_arg1)) (m ((c.tc : Thread nD τ).loc main_arg2))
      ∧ r.2.mem ((c.tc : Thread nD τ).loc main_v101) = val_main_v101 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h3, h4, h5, h6, h7, ha⟩ := h c
    exact ⟨h0.trans (val_main_v89_eq _ _), h1.trans (val_main_v48_eq m c), h2.trans (val_main_v90_eq m c), h3.trans (val_main_v92_eq m c), h4.trans (val_main_v94_eq _ _ _), h5.trans (val_main_v96_eq _ _ _), h6.trans (val_main_v98_eq _ _ _), h7.trans (val_main_v101_eq m c), ha⟩)
    (Cert.InPRefIdeal.Value.run m ρ)

/-- The same, of arguments given another name. -/
theorem run_at (m : (ℓ : Loc nD τ sig) → Buf (Elt Ideal) ℓ) (ρ : Dev nD → PrngReg)
    (a0 : (c : Dev nD) → Buf (Elt Ideal) ((c.tc : Thread nD τ).loc main_arg0))
    (a1 : (c : Dev nD) → Buf (Elt Ideal) ((c.tc : Thread nD τ).loc main_arg1))
    (a2 : (c : Dev nD) → Buf (Elt Ideal) ((c.tc : Thread nD τ).loc main_arg2))
    (a3 : (c : Dev nD) → Buf (Elt Ideal) ((c.tc : Thread nD τ).loc main_arg3))
    (a4 : (c : Dev nD) → Buf (Elt Ideal) ((c.tc : Thread nD τ).loc main_arg4))
    (a5 : (c : Dev nD) → Buf (Elt Ideal) ((c.tc : Thread nD τ).loc main_arg5))
    (a6 : (c : Dev nD) → Buf (Elt Ideal) ((c.tc : Thread nD τ).loc main_arg6))
    (e : ∀ c : Dev nD, m ((c.tc : Thread nD τ).loc main_arg0) = a0 c ∧ m ((c.tc : Thread nD τ).loc main_arg1) = a1 c ∧ m ((c.tc : Thread nD τ).loc main_arg2) = a2 c ∧ m ((c.tc : Thread nD τ).loc main_arg3) = a3 c ∧ m ((c.tc : Thread nD τ).loc main_arg4) = a4 c ∧ m ((c.tc : Thread nD τ).loc main_arg5) = a5 c ∧ m ((c.tc : Thread nD τ).loc main_arg6) = a6 c) :
    θ_run defs (onTc (τ := τ) (main (F := Ideal))) ⟨m, fun _ => 0, ρ⟩ fun r => ∀ c : Dev nD,
      r.2.mem ((c.tc : Thread nD τ).loc main_v89) = val_main_v89 (F := Ideal) (a0 c) (a1 c)
      ∧ r.2.mem ((c.tc : Thread nD τ).loc main_v48) = val_main_v48 (F := Ideal) (a0 c) (a1 c) (a2 c) (a3 c)
      ∧ r.2.mem ((c.tc : Thread nD τ).loc main_v90) = val_main_v90 (F := Ideal) (a0 c) (a1 c) (a2 c) (a3 c) (a4 c) (a5 c)
      ∧ r.2.mem ((c.tc : Thread nD τ).loc main_v92) = val_main_v92 (F := Ideal) (a0 c) (a1 c) (a2 c) (a6 c)
      ∧ r.2.mem ((c.tc : Thread nD τ).loc main_v94) = val_main_v94 (F := Ideal) (a0 c) (a1 c) (a2 c)
      ∧ r.2.mem ((c.tc : Thread nD τ).loc main_v96) = val_main_v96 (F := Ideal) (a0 c) (a1 c) (a2 c)
      ∧ r.2.mem ((c.tc : Thread nD τ).loc main_v98) = val_main_v98 (F := Ideal) (a0 c) (a1 c) (a2 c)
      ∧ r.2.mem ((c.tc : Thread nD τ).loc main_v101) = val_main_v101 (F := Ideal) (a0 c) (a1 c) (a2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨e0, e1, e2, e3, e4, e5, e6⟩ := e c
    rw [← e0, ← e1, ← e2, ← e3, ← e4, ← e5, ← e6]
    exact h c) (run m ρ)

end Cert.InPRefIdeal.Claims

end
-- ==== Proof.lean ====
/- The certificate: for each program its run, then the five claims of each call. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelRefIdeal
public import proofs.«01_k».proof.Proof.Gen.KernelRefIdeal.Run
public import proofs.«01_k».proof.Proof.Gen.OutS
public import proofs.«01_k».proof.Proof.Gen.OutS.Frame
public import proofs.«01_k».proof.Proof.Gen.OutSIdeal
public import proofs.«01_k».proof.Proof.Gen.OutSIdeal.Frame
public import proofs.«01_k».proof.Proof.Gen.OutSRefIdeal
public import proofs.«01_k».proof.Proof.Gen.OutSRefIdeal.Run
public import proofs.«01_k».proof.Proof.Gen.FfnS
public import proofs.«01_k».proof.Proof.Gen.FfnS.Frame
public import proofs.«01_k».proof.Proof.Gen.FfnSIdeal
public import proofs.«01_k».proof.Proof.Gen.FfnSIdeal.Frame
public import proofs.«01_k».proof.Proof.Gen.FfnSRefIdeal
public import proofs.«01_k».proof.Proof.Gen.FfnSRefIdeal.Run
public import proofs.«01_k».proof.Proof.Gen.InS
public import proofs.«01_k».proof.Proof.Gen.InSIdeal
public import proofs.«01_k».proof.Proof.Gen.InSRefIdeal
public import proofs.«01_k».proof.Proof.Gen.InSRefIdeal.Run
public import proofs.«01_k».proof.Proof.Gen.InP
public import proofs.«01_k».proof.Proof.Gen.InPIdeal
public import proofs.«01_k».proof.Proof.Gen.InPRefIdeal
public import proofs.«01_k».proof.Proof.Gen.InPRefIdeal.Run
public import proofs.«01_k».proof.Proof.Gen.KvP
public import proofs.«01_k».proof.Proof.Gen.KvP.Frame
public import proofs.«01_k».proof.Proof.Gen.KvPIdeal
public import proofs.«01_k».proof.Proof.Gen.KvPIdeal.Frame
public import proofs.«01_k».proof.Proof.Gen.KvPRefIdeal
public import proofs.«01_k».proof.Proof.Gen.KvPRefIdeal.Run
public import proofs.«01_k».proof.Proof.Gen.CmpP
public import proofs.«01_k».proof.Proof.Gen.CmpP.Frame
public import proofs.«01_k».proof.Proof.Gen.CmpPIdeal
public import proofs.«01_k».proof.Proof.Gen.CmpPIdeal.Frame
public import proofs.«01_k».proof.Proof.Gen.CmpPRefIdeal
public import proofs.«01_k».proof.Proof.Gen.CmpPRefIdeal.Run
public import proofs.«01_k».proof.Proof.Gen.MergeP
public import proofs.«01_k».proof.Proof.Gen.MergeP.Frame
public import proofs.«01_k».proof.Proof.Gen.MergePIdeal
public import proofs.«01_k».proof.Proof.Gen.MergePIdeal.Frame
public import proofs.«01_k».proof.Proof.Gen.MergePRefIdeal
public import proofs.«01_k».proof.Proof.Gen.MergePRefIdeal.Run
public import proofs.«01_k».proof.Proof.Gen.OutP
public import proofs.«01_k».proof.Proof.Gen.OutP.Frame
public import proofs.«01_k».proof.Proof.Gen.OutPIdeal
public import proofs.«01_k».proof.Proof.Gen.OutPIdeal.Frame
public import proofs.«01_k».proof.Proof.Gen.OutPRefIdeal
public import proofs.«01_k».proof.Proof.Gen.OutPRefIdeal.Run
public import proofs.«01_k».proof.Proof.Gen.FfnP
public import proofs.«01_k».proof.Proof.Gen.FfnP.Frame
public import proofs.«01_k».proof.Proof.Gen.FfnPIdeal
public import proofs.«01_k».proof.Proof.Gen.FfnPIdeal.Frame
public import proofs.«01_k».proof.Proof.Gen.FfnPRefIdeal
public import proofs.«01_k».proof.Proof.Gen.FfnPRefIdeal.Run
public import proofs.«01_k».proof.Proof.Gen.Pre_finite_rows
public import proofs.«01_k».proof.Proof.MergeValue
public import proofs.«01_k».proof.Proof.OutSample
public import proofs.«01_k».proof.Proof.FfnSample
public import proofs.«01_k».proof.Proof.KvPrep
public import proofs.«01_k».proof.Proof.Compress
public import proofs.«01_k».proof.Proof.CmpI
public import proofs.«01_k».proof.Proof.CmpL
public import proofs.«01_k».proof.Proof.MergePrompt
public import proofs.«01_k».proof.Proof.OutPrompt
public import proofs.«01_k».proof.Proof.FfnPrompt
public import proofs.«01_k».proof.Proof.InSValue
public import proofs.«01_k».proof.Proof.InSClaim
public import proofs.«01_k».proof.Proof.InPValue
public import proofs.«01_k».proof.Proof.InPClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! ## The sample group's merge -/

theorem frame_merge_sample : Cert.quiescent_Kernel := by
  intro m g _
  exact Cert.Kernel.Gen.frame m g

theorem frame_merge_sample_ideal : Cert.quiescent_KernelIdeal := by
  intro m g _
  exact Cert.KernelIdeal.Gen.frame m g

theorem frame_merge_sample_ref : Cert.quiescent_KernelRefIdeal := by
  intro m g _
  exact (θ_run _ _ _).mono (fun r h => ⟨fun c => (h c).2.2.2.2.2, sem_eq_zero_of_no_sems (by decide) r.2⟩)
    (Cert.KernelRefIdeal.Value.run m g)

/-- What the call leaves in its results is the reference's. -/
theorem value_merge_sample : Cert.algebraic_KernelIdeal_KernelRefIdeal := by
  pair_intro
  · run_from Cert.KernelIdeal.Gen.run_main m g
  · run_from Cert.KernelRefIdeal.Value.run m' g'
    · exact (Cert.KernelIdeal.Merge.final7 m c).symm
    · exact (Cert.KernelIdeal.Merge.final8 m c).symm
    · exact (Cert.KernelIdeal.Merge.final9 m c).symm
    · exact (Cert.KernelIdeal.Merge.final10 m c).symm
    · exact (Cert.KernelIdeal.Merge.final11 m c).symm

/-! ## The sample group's output projection -/

theorem frame_outproj_sample : Cert.quiescent_OutS := by
  intro m g _
  exact Cert.OutS.Gen.frame m g

theorem frame_outproj_sample_ideal : Cert.quiescent_OutSIdeal := by
  intro m g _
  exact Cert.OutSIdeal.Gen.frame m g

theorem frame_outproj_sample_ref : Cert.quiescent_OutSRefIdeal := by
  intro m g _
  exact (θ_run _ _ _).mono (fun r h => ⟨fun c => (h c).2.2.2, sem_eq_zero_of_no_sems (by decide) r.2⟩)
    (Cert.OutSRefIdeal.Value.run m g)

/-- What the call leaves in its results is the reference's. -/
theorem value_outproj_sample : Cert.algebraic_OutSIdeal_OutSRefIdeal := by
  pair_intro
  · run_from Cert.OutSIdeal.Gen.run_main m g
  · run_from Cert.OutSRefIdeal.Value.run m' g'
    · exact (Cert.OutSIdeal.OutSample.final4 m c).symm
    · exact (Cert.OutSIdeal.OutSample.final5 m c).symm
    · exact (Cert.OutSIdeal.OutSample.final6 m c).symm

/-! ## The sample group's feed-forward block -/

theorem frame_ffn_sample : Cert.quiescent_FfnS := by
  intro m g _
  exact Cert.FfnS.Gen.frame m g

theorem frame_ffn_sample_ideal : Cert.quiescent_FfnSIdeal := by
  intro m g _
  exact Cert.FfnSIdeal.Gen.frame m g

theorem frame_ffn_sample_ref : Cert.quiescent_FfnSRefIdeal := by
  intro m g _
  exact (θ_run _ _ _).mono (fun r h => ⟨fun c => (h c).2.2.2, sem_eq_zero_of_no_sems (by decide) r.2⟩)
    (Cert.FfnSRefIdeal.Value.run m g)

/-- What the call leaves in its results is the reference's. -/
theorem value_ffn_sample : Cert.algebraic_FfnSIdeal_FfnSRefIdeal := by
  pair_intro
  · run_from Cert.FfnSIdeal.Gen.run_main m g
  · run_from Cert.FfnSRefIdeal.Value.run m' g'
    · exact (Cert.FfnSIdeal.FfnSample.final4 m c).symm
    · exact (Cert.FfnSIdeal.FfnSample.final5 m c).symm
    · exact (Cert.FfnSIdeal.FfnSample.final6 m c).symm

/-! ## The sample group's input projection -/

theorem frame_inproj_sample : Cert.quiescent_InS := by
  intro m g _
  exact Cert.InSIdeal.Claims.frame_bits m g

theorem frame_inproj_sample_ideal : Cert.quiescent_InSIdeal := by
  intro m g _
  exact Cert.InSIdeal.Body.frame m g

theorem frame_inproj_sample_ref : Cert.quiescent_InSRefIdeal := by
  intro m g _
  exact (θ_run _ _ _).mono (fun r h => ⟨fun c => (h c).2.2.2.2.2.2.2.2.2, sem_eq_zero_of_no_sems (by decide) r.2⟩)
    (Cert.InSRefIdeal.Value.run m g)

/-- What the call leaves in its results is the reference's. -/
theorem value_inproj_sample : Cert.algebraic_InSIdeal_InSRefIdeal := by
  pair_intro
  · exact Cert.InSIdeal.Value.run m g
  · exact Cert.InSRefIdeal.Claims.run_at m' g' _ _ _ _ _ _ _ hagree

/-! ## The prompt group's input projection -/

theorem frame_inproj_prompt : Cert.quiescent_InP := by
  intro m g _
  exact Cert.InPIdeal.Claims.frame_bits m g

theorem frame_inproj_prompt_ideal : Cert.quiescent_InPIdeal := by
  intro m g _
  exact Cert.InPIdeal.Body.frame m g

theorem frame_inproj_prompt_ref : Cert.quiescent_InPRefIdeal := by
  intro m g _
  exact (θ_run _ _ _).mono (fun r h => ⟨fun c => (h c).2.2.2.2.2.2.2.2, sem_eq_zero_of_no_sems (by decide) r.2⟩)
    (Cert.InPRefIdeal.Value.run m g)

/-- What the call leaves in its results is the reference's. -/
theorem value_inproj_prompt : Cert.algebraic_InPIdeal_InPRefIdeal := by
  pair_intro
  · exact Cert.InPIdeal.Value.run m g
  · exact Cert.InPRefIdeal.Claims.run_at m' g' _ _ _ _ _ _ _ hagree

/-! ## The prompt group's key preparation -/

theorem frame_kvprep_prompt : Cert.quiescent_KvP := by
  intro m g _
  exact Cert.KvP.Gen.frame m g

theorem frame_kvprep_prompt_ideal : Cert.quiescent_KvPIdeal := by
  intro m g _
  exact Cert.KvPIdeal.Gen.frame m g

theorem frame_kvprep_prompt_ref : Cert.quiescent_KvPRefIdeal := by
  intro m g _
  exact (θ_run _ _ _).mono (fun r h => ⟨fun c => (h c).2.2.2.2, sem_eq_zero_of_no_sems (by decide) r.2⟩)
    (Cert.KvPRefIdeal.Value.run m g)

/-- What the call leaves in its results is the reference's. -/
theorem value_kvprep_prompt : Cert.algebraic_KvPIdeal_KvPRefIdeal := by
  pair_intro
  · run_from Cert.KvPIdeal.Gen.run_main m g
  · run_from Cert.KvPRefIdeal.Value.run m' g'
    · first
      | exact (Cert.KvPIdeal.KvPrep.final3 m c).symm
      | exact (congrArg₂ (Cert.KvPRefIdeal.Read.val_main_v75 (F := Ideal)) (hagree c).1 (hagree c).2.2).trans (Cert.KvPIdeal.KvPrep.final3 m c).symm
      | exact (congrArg (Cert.KvPRefIdeal.Read.val_main_v75 (F := Ideal) (m (c.tc.loc Cert.KvPIdeal.main_arg0))) (hagree c).2.2).trans (Cert.KvPIdeal.KvPrep.final3 m c).symm
      | exact (congrArg (fun x => Cert.KvPRefIdeal.Read.val_main_v75 (F := Ideal) x (m (c.tc.loc Cert.KvPIdeal.main_arg2))) (hagree c).1).trans (Cert.KvPIdeal.KvPrep.final3 m c).symm
    · first
      | exact (Cert.KvPIdeal.KvPrep.final4 m c).symm
      | exact (congrArg (Cert.KvPRefIdeal.Read.val_main_v76 (F := Ideal)) (hagree c).1).trans (Cert.KvPIdeal.KvPrep.final4 m c).symm
    · first
      | exact (Cert.KvPIdeal.KvPrep.final5 m c).symm
      | exact (congrArg₂ (Cert.KvPRefIdeal.Read.val_main_v77 (F := Ideal)) (hagree c).2.1 (hagree c).2.2).trans (Cert.KvPIdeal.KvPrep.final5 m c).symm
      | exact (congrArg (Cert.KvPRefIdeal.Read.val_main_v77 (F := Ideal) (m (c.tc.loc Cert.KvPIdeal.main_arg1))) (hagree c).2.2).trans (Cert.KvPIdeal.KvPrep.final5 m c).symm
      | exact (congrArg (fun x => Cert.KvPRefIdeal.Read.val_main_v77 (F := Ideal) x (m (c.tc.loc Cert.KvPIdeal.main_arg2))) (hagree c).2.1).trans (Cert.KvPIdeal.KvPrep.final5 m c).symm
    · first
      | exact (Cert.KvPIdeal.KvPrep.final6 m c).symm
      | exact (congrArg (Cert.KvPRefIdeal.Read.val_main_v78 (F := Ideal)) (hagree c).2.1).trans (Cert.KvPIdeal.KvPrep.final6 m c).symm

/-! ## The prompt group's compression -/

theorem frame_compress_prompt : Cert.quiescent_CmpP := by
  intro m g _
  exact Cert.CmpP.Gen.frame m g

theorem frame_compress_prompt_ideal : Cert.quiescent_CmpPIdeal := by
  intro m g _
  exact Cert.CmpPIdeal.Gen.frame m g

/-- The same of the finite arguments. -/
theorem frame_compress_prompt_ideal_finite : Cert.quiescent_CmpPIdeal_pre_finite_rows (hPre_finite_rows := Cert.Pre_finite_rows.Gen.facts) := by
  intro m g _
  exact Cert.CmpPIdeal.Gen.frame m g

theorem frame_compress_prompt_ref : Cert.quiescent_CmpPRefIdeal := by
  intro m g _
  exact (θ_run _ _ _).mono (fun r h => ⟨fun c => (h c).2.2, sem_eq_zero_of_no_sems (by decide) r.2⟩)
    (Cert.CmpPRefIdeal.Value.run m g)

/-- The same of the finite arguments. -/
theorem frame_compress_prompt_ref_finite : Cert.quiescent_CmpPRefIdeal_pre_finite_rows (hPre_finite_rows := Cert.Pre_finite_rows.Gen.facts) := by
  intro m g _
  exact (θ_run _ _ _).mono (fun r h => ⟨fun c => (h c).2.2, sem_eq_zero_of_no_sems (by decide) r.2⟩)
    (Cert.CmpPRefIdeal.Value.run m g)

/-- What the call leaves in its results is the reference's, where the rows, the matrices and the positions are finite. -/
theorem value_compress_prompt : Cert.algebraic_CmpPIdeal_CmpPRefIdeal_pre_finite_rows (hPre_finite_rows := Cert.Pre_finite_rows.Gen.facts) := by
  have real := fun (m : (ℓ : Loc Cert.CmpPIdeal.nD Cert.CmpPIdeal.τ Cert.CmpPIdeal.sig) → Buf (Elt Ideal) ℓ) (h : Cert.Pre_CmpPIdeal_finite_rows (hPre_finite_rows := Cert.Pre_finite_rows.Gen.facts) m) (c : Dev Cert.CmpPIdeal.nD) =>
    @Cert.CmpPIdeal.Compress.finite_of Cert.Pre_finite_rows.Gen.facts _ _ _ _ _ _ (h c)
  pair_intro
  · run_from Cert.CmpPIdeal.Gen.run_main m g
  · exact (θ_run _ _ _).mono (fun r h c => ⟨(h c).1.trans (Cert.CmpPIdeal.Compress.final5 m c (real m hpre c).1 (real m hpre c).2.1 (real m hpre c).2.2.1).symm,
      (h c).2.1.trans (Cert.CmpPIdeal.Compress.final6 m c (real m hpre c).1 (real m hpre c).2.2.2.1 (real m hpre c).2.2.2.2).symm, (h c).2.2⟩)
      (Cert.CmpPRefIdeal.Claims.run_at m' g' _ _ _ _ _ _ hagree)

/-! ## The prompt group's merge -/

theorem frame_merge_prompt : Cert.quiescent_MergeP := by
  intro m g _
  exact Cert.MergeP.Gen.frame m g

theorem frame_merge_prompt_ideal : Cert.quiescent_MergePIdeal := by
  intro m g _
  exact Cert.MergePIdeal.Gen.frame m g

theorem frame_merge_prompt_ref : Cert.quiescent_MergePRefIdeal := by
  intro m g _
  exact (θ_run _ _ _).mono (fun r h => ⟨fun c => (h c).2, sem_eq_zero_of_no_sems (by decide) r.2⟩)
    (Cert.MergePRefIdeal.Value.run m g)

/-- What the call leaves in its results is the reference's. -/
theorem value_merge_prompt : Cert.algebraic_MergePIdeal_MergePRefIdeal := by
  pair_intro
  · run_from Cert.MergePIdeal.Gen.run_main m g
  · run_from Cert.MergePRefIdeal.Value.run m' g'
    exact (Cert.MergePIdeal.MergePrompt.final7 m c).symm

/-! ## The prompt group's output projection -/

theorem frame_outproj_prompt : Cert.quiescent_OutP := by
  intro m g _
  exact Cert.OutP.Gen.frame m g

theorem frame_outproj_prompt_ideal : Cert.quiescent_OutPIdeal := by
  intro m g _
  exact Cert.OutPIdeal.Gen.frame m g

theorem frame_outproj_prompt_ref : Cert.quiescent_OutPRefIdeal := by
  intro m g _
  exact (θ_run _ _ _).mono (fun r h => ⟨fun c => (h c).2.2, sem_eq_zero_of_no_sems (by decide) r.2⟩)
    (Cert.OutPRefIdeal.Value.run m g)

/-- What the call leaves in its results is the reference's. -/
theorem value_outproj_prompt : Cert.algebraic_OutPIdeal_OutPRefIdeal := by
  pair_intro
  · run_from Cert.OutPIdeal.Gen.run_main m g
  · run_from Cert.OutPRefIdeal.Value.run m' g'
    · exact (Cert.OutPIdeal.OutPrompt.final4 m c).symm
    · exact (Cert.OutPIdeal.OutPrompt.final5 m c).symm

/-! ## The prompt group's feed-forward block -/

theorem frame_ffn_prompt : Cert.quiescent_FfnP := by
  intro m g _
  exact Cert.FfnP.Gen.frame m g

theorem frame_ffn_prompt_ideal : Cert.quiescent_FfnPIdeal := by
  intro m g _
  exact Cert.FfnPIdeal.Gen.frame m g

theorem frame_ffn_prompt_ref : Cert.quiescent_FfnPRefIdeal := by
  intro m g _
  exact (θ_run _ _ _).mono (fun r h => ⟨fun c => (h c).2, sem_eq_zero_of_no_sems (by decide) r.2⟩)
    (Cert.FfnPRefIdeal.Value.run m g)

/-- What the call leaves in its results is the reference's. -/
theorem value_ffn_prompt : Cert.algebraic_FfnPIdeal_FfnPRefIdeal := by
  pair_intro
  · run_from Cert.FfnPIdeal.Gen.run_main m g
  · run_from Cert.FfnPRefIdeal.Value.run m' g'
    exact (Cert.FfnPIdeal.FfnPrompt.final4 m c).symm

theorem claim : Cert.Claim :=
  ⟨Cert.Kernel.Gen.facts, Cert.KernelIdeal.Gen.facts, Cert.KernelRefIdeal.Gen.facts,
    Cert.OutS.Gen.facts, Cert.OutSIdeal.Gen.facts, Cert.OutSRefIdeal.Gen.facts,
    Cert.FfnS.Gen.facts, Cert.FfnSIdeal.Gen.facts, Cert.FfnSRefIdeal.Gen.facts,
    Cert.InS.Gen.facts, Cert.InSIdeal.Gen.facts, Cert.InSRefIdeal.Gen.facts,
    Cert.InP.Gen.facts, Cert.InPIdeal.Gen.facts, Cert.InPRefIdeal.Gen.facts,
    Cert.KvP.Gen.facts, Cert.KvPIdeal.Gen.facts, Cert.KvPRefIdeal.Gen.facts,
    Cert.CmpP.Gen.facts, Cert.CmpPIdeal.Gen.facts, Cert.CmpPRefIdeal.Gen.facts,
    Cert.MergeP.Gen.facts, Cert.MergePIdeal.Gen.facts, Cert.MergePRefIdeal.Gen.facts,
    Cert.OutP.Gen.facts, Cert.OutPIdeal.Gen.facts, Cert.OutPRefIdeal.Gen.facts,
    Cert.FfnP.Gen.facts, Cert.FfnPIdeal.Gen.facts, Cert.FfnPRefIdeal.Gen.facts,
    Cert.Pre_finite_rows.Gen.facts,
    frame_merge_sample, frame_merge_sample_ideal, frame_merge_sample_ref,
    frame_outproj_sample, frame_outproj_sample_ideal, frame_outproj_sample_ref,
    frame_ffn_sample, frame_ffn_sample_ideal, frame_ffn_sample_ref,
    frame_inproj_sample, frame_inproj_sample_ideal, frame_inproj_sample_ref,
    frame_inproj_prompt, frame_inproj_prompt_ideal, frame_inproj_prompt_ref,
    frame_kvprep_prompt, frame_kvprep_prompt_ideal, frame_kvprep_prompt_ref,
    frame_compress_prompt, frame_compress_prompt_ideal, frame_compress_prompt_ideal_finite,
    frame_compress_prompt_ref, frame_compress_prompt_ref_finite,
    frame_merge_prompt, frame_merge_prompt_ideal, frame_merge_prompt_ref,
    frame_outproj_prompt, frame_outproj_prompt_ideal, frame_outproj_prompt_ref,
    frame_ffn_prompt, frame_ffn_prompt_ideal, frame_ffn_prompt_ref,
    trivial, value_merge_sample, trivial, value_outproj_sample,
    trivial, value_ffn_sample, trivial, value_inproj_sample,
    trivial, value_inproj_prompt, trivial, value_kvprep_prompt,
    trivial, value_compress_prompt, trivial, value_merge_prompt,
    trivial, value_outproj_prompt, trivial, value_ffn_prompt⟩

end Cert.Proof

end
